-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)) (v3 : (c : Dev Cert.KernelIdeal.nD) → Buf (Elt Ideal) ((c.tc : Thread Cert.KernelIdeal.nD Cert.KernelIdeal.τ).loc Cert.KernelIdeal.main_v45_3)) (v4 : (c : Dev Cert.KernelIdeal.nD) → Buf (Elt Ideal) ((c.tc : Thread Cert.KernelIdeal.nD Cert.KernelIdeal.τ).loc Cert.KernelIdeal.main_v45_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_v45_3) = v3 c
          ∧ r.2.mem ((c.tc : Thread Cert.KernelIdeal.nD Cert.KernelIdeal.τ).loc Cert.KernelIdeal.main_v45_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v10) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v36) = v0 c
          ∧ r.2.mem ((c.tc : Thread Cert.Reference18Ideal.nD Cert.Reference18Ideal.τ).loc Cert.Reference18Ideal.main_v38) = v1 c
          ∧ r.2.mem ((c.tc : Thread Cert.Reference18Ideal.nD Cert.Reference18Ideal.τ).loc Cert.Reference18Ideal.main_v39) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v13) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v16) = v0 c
          ∧ r.2.mem ((c.tc : Thread Cert.Reference22Ideal.nD Cert.Reference22Ideal.τ).loc Cert.Reference22Ideal.main_v17) = v1 c
          ∧ r.2.mem ((c.tc : Thread Cert.Reference22Ideal.nD Cert.Reference22Ideal.τ).loc Cert.Reference22Ideal.main_v18) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S4224x2048 : Shape := ⟨2, ![4224, 2048]⟩
abbrev S16x4224 : Shape := ⟨2, ![16, 4224]⟩
abbrev S_ : Shape := ⟨0, ![]⟩

class Facts : Prop where
  bcast_S_S4224x2048 : S_.BroadcastsInDim S4224x2048 (![] : Fin 0 → Fin S4224x2048.rank)
  reducesTo_S4224x2048_S_d0_1 : S4224x2048.ReducesTo [0, 1] S_
  h_S_ : 0 < S_.numel
  bcast_S_S16x4224 : S_.BroadcastsInDim S16x4224 (![] : Fin 0 → Fin S16x4224.rank)
  reducesTo_S16x4224_S_d0_1 : S16x4224.ReducesTo [0, 1] S_

variable [Facts]

def fn_part1 {F : FTy → Type} [FloatOps F] (main_arg4 : FVec F S4224x2048 .f32) (main_v13 : IVec S_ 1) (main_v16 : IVec S16x4224 1) : IVec S_ 1 :=
  let main_c_5 : IVec S_ 1 := constantI S_ 1 1#1
  let main_v17 : IVec S_ 1 := (fun x v => Host.reduce IntOp.andi x v reducesTo_S16x4224_S_d0_1 h_S_) main_v16 main_c_5
  let main_v18 : IVec S_ 1 := andi main_v13 main_v17
  let main_v19 : FVec F S4224x2048 .f32 := Host.absf main_arg4
  let main_cst_6 : FVec F S_ .f32 := constant S_ .f32 0x7F800000#32
  let main_v20 : FVec F S4224x2048 .f32 := broadcastInDim S4224x2048 ![] bcast_S_S4224x2048 main_cst_6
  let main_v21 : IVec S4224x2048 1 := cmpf .olt main_v19 main_v20
  let main_c_7 : IVec S_ 1 := constantI S_ 1 1#1
  let main_v22 : IVec S_ 1 := (fun x v => Host.reduce IntOp.andi x v reducesTo_S4224x2048_S_d0_1 h_S_) main_v21 main_c_7
  let main_v23 : IVec S_ 1 := andi main_v18 main_v22
  main_v23

def fn {F : FTy → Type} [FloatOps F] (main_arg0 : FVec F S4224x2048 .f32) (main_arg1 : FVec F S4224x2048 .f32) (main_arg2 : FVec F S4224x2048 .f32) (main_arg3 : FVec F S16x4224 .f32) (main_arg4 : FVec F S4224x2048 .f32) : IVec S_ 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_c : IVec S_ 1 := constantI S_ 1 1#1
  let main_v3 : IVec S_ 1 := (fun x v => Host.reduce IntOp.andi x v reducesTo_S4224x2048_S_d0_1 h_S_) main_v2 main_c
  let main_v4 : FVec F S4224x2048 .f32 := Host.absf main_arg1
  let main_cst_0 : FVec F S_ .f32 := constant S_ .f32 0x7F800000#32
  let main_v5 : FVec F S4224x2048 .f32 := broadcastInDim S4224x2048 ![] bcast_S_S4224x2048 main_cst_0
  let main_v6 : IVec S4224x2048 1 := cmpf .olt main_v4 main_v5
  let main_c_1 : IVec S_ 1 := constantI S_ 1 1#1
  let main_v7 : IVec S_ 1 := (fun x v => Host.reduce IntOp.andi x v reducesTo_S4224x2048_S_d0_1 h_S_) main_v6 main_c_1
  let main_v8 : IVec S_ 1 := andi main_v3 main_v7
  let main_v9 : FVec F S4224x2048 .f32 := Host.absf main_arg2
  let main_cst_2 : FVec F S_ .f32 := constant S_ .f32 0x7F800000#32
  let main_v10 : FVec F S4224x2048 .f32 := broadcastInDim S4224x2048 ![] bcast_S_S4224x2048 main_cst_2
  let main_v11 : IVec S4224x2048 1 := cmpf .olt main_v9 main_v10
  let main_c_3 : IVec S_ 1 := constantI S_ 1 1#1
  let main_v12 : IVec S_ 1 := (fun x v => Host.reduce IntOp.andi x v reducesTo_S4224x2048_S_d0_1 h_S_) main_v11 main_c_3
  let main_v13 : IVec S_ 1 := andi main_v8 main_v12
  let main_v14 : FVec F S16x4224 .f32 := Host.absf main_arg3
  let main_cst_4 : FVec F S_ .f32 := constant S_ .f32 0x7F800000#32
  let main_v15 : FVec F S16x4224 .f32 := broadcastInDim S16x4224 ![] bcast_S_S16x4224 main_cst_4
  let main_v16 : IVec S16x4224 1 := cmpf .olt main_v14 main_v15
  fn_part1 (F := F) main_arg4 main_v13 main_v16
-- ==== Pre_finite5.lean ====
abbrev S4224x2048 : Shape := ⟨2, ![4224, 2048]⟩
abbrev S8x2048x1408 : Shape := ⟨3, ![8, 2048, 1408]⟩
abbrev S_ : Shape := ⟨0, ![]⟩

class Facts : Prop where
  bitsLt_bf16_f32 : FTy.bits .bf16 < FTy.bits .f32
  bcast_S_S4224x2048 : S_.BroadcastsInDim S4224x2048 (![] : Fin 0 → Fin S4224x2048.rank)
  reducesTo_S4224x2048_S_d0_1 : S4224x2048.ReducesTo [0, 1] S_
  h_S_ : 0 < S_.numel
  bcast_S_S8x2048x1408 : S_.BroadcastsInDim S8x2048x1408 (![] : Fin 0 → Fin S8x2048x1408.rank)
  reducesTo_S8x2048x1408_S_d0_1_2 : S8x2048x1408.ReducesTo [0, 1, 2] S_

variable [Facts]

def fn {F : FTy → Type} [FloatOps F] (main_arg0 : FVec F S4224x2048 .bf16) (main_arg1 : FVec F S8x2048x1408 .bf16) : IVec S_ 1 :=
  let main_v0 : FVec F S4224x2048 .f32 := (extf .f32 · bitsLt_bf16_f32) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_c : IVec S_ 1 := constantI S_ 1 1#1
  let main_v4 : IVec S_ 1 := (fun x v => Host.reduce IntOp.andi x v reducesTo_S4224x2048_S_d0_1 h_S_) main_v3 main_c
  let main_v5 : FVec F S8x2048x1408 .f32 := (extf .f32 · bitsLt_bf16_f32) main_arg1
  let main_v6 : FVec F S8x2048x1408 .f32 := Host.absf main_v5
  let main_cst_0 : FVec F S_ .f32 := constant S_ .f32 0x7F800000#32
  let main_v7 : FVec F S8x2048x1408 .f32 := broadcastInDim S8x2048x1408 ![] bcast_S_S8x2048x1408 main_cst_0
  let main_v8 : IVec S8x2048x1408 1 := cmpf .olt main_v6 main_v7
  let main_c_1 : IVec S_ 1 := constantI S_ 1 1#1
  let main_v9 : IVec S_ 1 := (fun x v => Host.reduce IntOp.andi x v reducesTo_S8x2048x1408_S_d0_1_2 h_S_) main_v8 main_c_1
  let main_v10 : IVec S_ 1 := andi main_v4 main_v9
  main_v10
-- ==== Pre_finite6.lean ====
abbrev S4224x2048 : Shape := ⟨2, ![4224, 2048]⟩
abbrev S1x5632x2048 : Shape := ⟨3, ![1, 5632, 2048]⟩
abbrev S4224x5632 : Shape := ⟨2, ![4224, 5632]⟩
abbrev S_ : Shape := ⟨0, ![]⟩

class Facts : Prop where
  bitsLt_bf16_f32 : FTy.bits .bf16 < FTy.bits .f32
  bcast_S_S4224x2048 : S_.BroadcastsInDim S4224x2048 (![] : Fin 0 → Fin S4224x2048.rank)
  reducesTo_S4224x2048_S_d0_1 : S4224x2048.ReducesTo [0, 1] S_
  h_S_ : 0 < S_.numel
  bcast_S_S1x5632x2048 : S_.BroadcastsInDim S1x5632x2048 (![] : Fin 0 → Fin S1x5632x2048.rank)
  reducesTo_S1x5632x2048_S_d0_1_2 : S1x5632x2048.ReducesTo [0, 1, 2] S_
  bcast_S_S4224x5632 : S_.BroadcastsInDim S4224x5632 (![] : Fin 0 → Fin S4224x5632.rank)
  reducesTo_S4224x5632_S_d0_1 : S4224x5632.ReducesTo [0, 1] S_

variable [Facts]

def fn_part1 {F : FTy → Type} [FloatOps F] (main_v4 : IVec S_ 1) (main_v9 : IVec S_ 1) (main_v13 : IVec S_ 1) (main_v16 : IVec S4224x5632 1) : IVec S_ 1 :=
  let main_c_5 : IVec S_ 1 := constantI S_ 1 1#1
  let main_v17 : IVec S_ 1 := (fun x v => Host.reduce IntOp.andi x v reducesTo_S4224x5632_S_d0_1 h_S_) main_v16 main_c_5
  let main_v18 : IVec S_ 1 := andi main_v4 main_v9
  let main_v19 : IVec S_ 1 := andi main_v18 main_v13
  let main_v20 : IVec S_ 1 := andi main_v19 main_v17
  main_v20

def fn {F : FTy → Type} [FloatOps F] (main_arg0 : FVec F S4224x2048 .bf16) (main_arg1 : FVec F S1x5632x2048 .bf16) (main_arg2 : FVec F S4224x5632 .f32) (main_arg3 : FVec F S4224x5632 .f32) : IVec S_ 1 :=
  let main_v0 : FVec F S4224x2048 .f32 := (extf .f32 · bitsLt_bf16_f32) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_c : IVec S_ 1 := constantI S_ 1 1#1
  let main_v4 : IVec S_ 1 := (fun x v => Host.reduce IntOp.andi x v reducesTo_S4224x2048_S_d0_1 h_S_) main_v3 main_c
  let main_v5 : FVec F S1x5632x2048 .f32 := (extf .f32 · bitsLt_bf16_f32) main_arg1
  let main_v6 : FVec F S1x5632x2048 .f32 := Host.absf main_v5
  let main_cst_0 : FVec F S_ .f32 := constant S_ .f32 0x7F800000#32
  let main_v7 : FVec F S1x5632x2048 .f32 := broadcastInDim S1x5632x2048 ![] bcast_S_S1x5632x2048 main_cst_0
  let main_v8 : IVec S1x5632x2048 1 := cmpf .olt main_v6 main_v7
  let main_c_1 : IVec S_ 1 := constantI S_ 1 1#1
  let main_v9 : IVec S_ 1 := (fun x v => Host.reduce IntOp.andi x v reducesTo_S1x5632x2048_S_d0_1_2 h_S_) main_v8 main_c_1
  let main_v10 : FVec F S4224x5632 .f32 := Host.absf main_arg2
  let main_cst_2 : FVec F S_ .f32 := constant S_ .f32 0x7F800000#32
  let main_v11 : FVec F S4224x5632 .f32 := broadcastInDim S4224x5632 ![] bcast_S_S4224x5632 main_cst_2
  let main_v12 : IVec S4224x5632 1 := cmpf .olt main_v10 main_v11
  let main_c_3 : IVec S_ 1 := constantI S_ 1 1#1
  let main_v13 : IVec S_ 1 := (fun x v => Host.reduce IntOp.andi x v reducesTo_S4224x5632_S_d0_1 h_S_) main_v12 main_c_3
  let main_v14 : FVec F S4224x5632 .f32 := Host.absf main_arg3
  let main_cst_4 : FVec F S_ .f32 := constant S_ .f32 0x7F800000#32
  let main_v15 : FVec F S4224x5632 .f32 := broadcastInDim S4224x5632 ![] bcast_S_S4224x5632 main_cst_4
  let main_v16 : IVec S4224x5632 1 := cmpf .olt main_v14 main_v15
  fn_part1 (F := F) main_v4 main_v9 main_v13 main_v16
-- ==== Kernel.lean ====
abbrev S4224x2048 : Shape := ⟨2, ![4224, 2048]⟩
abbrev S16x4224 : Shape := ⟨2, ![16, 4224]⟩
abbrev S4224x16x128 : Shape := ⟨3, ![4224, 16, 128]⟩
abbrev S4112x16x128 : Shape := ⟨3, ![4112, 16, 128]⟩
abbrev S16x4112x4224 : Shape := ⟨3, ![16, 4112, 4224]⟩
abbrev S16x1x4224 : Shape := ⟨3, ![16, 1, 4224]⟩
abbrev S4224 : Shape := ⟨1, ![4224]⟩
abbrev S1x4224 : Shape := ⟨2, ![1, 4224]⟩
abbrev S4112 : Shape := ⟨1, ![4112]⟩
abbrev S4112x1 : Shape := ⟨2, ![4112, 1]⟩
abbrev S4112x4224 : Shape := ⟨2, ![4112, 4224]⟩
abbrev S_ : Shape := ⟨0, ![]⟩
abbrev S1x4112x4224 : Shape := ⟨3, ![1, 4112, 4224]⟩
abbrev S16x4112 : Shape := ⟨2, ![16, 4112]⟩
abbrev S16x4112x1 : Shape := ⟨3, ![16, 4112, 1]⟩
abbrev S16x128x4112 : Shape := ⟨3, ![16, 128, 4112]⟩
abbrev S4112x2048 : Shape := ⟨2, ![4112, 2048]⟩
abbrev S16x11x1x384 : Shape := ⟨4, ![16, 11, 1, 384]⟩
abbrev S16x4224x1 : Shape := ⟨3, ![16, 4224, 1]⟩
abbrev S4224x256 : Shape := ⟨2, ![4224, 256]⟩
abbrev S384x256 : Shape := ⟨2, ![384, 256]⟩
abbrev S2x11x1x384 : Shape := ⟨4, ![2, 11, 1, 384]⟩
abbrev S2x384x1 : Shape := ⟨3, ![2, 384, 1]⟩
abbrev S8x128 : Shape := ⟨2, ![8, 128]⟩
abbrev S384x128 : Shape := ⟨2, ![384, 128]⟩
abbrev S8x384 : Shape := ⟨2, ![8, 384]⟩
abbrev S1x384 : Shape := ⟨2, ![1, 384]⟩
abbrev S1x1x1x384 : Shape := ⟨4, ![1, 1, 1, 384]⟩
abbrev S1x384x1 : Shape := ⟨3, ![1, 384, 1]⟩
abbrev S384x1 : Shape := ⟨2, ![384, 1]⟩
abbrev S384x384 : Shape := ⟨2, ![384, 384]⟩
abbrev S384 : Shape := ⟨1, ![384]⟩

abbrev nBuf : Space → Nat
  | .hbm => 66
  | .vmem => 25
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S16x4224, .f32⟩
  | .hbm, ⟨4, _⟩ => ⟨S4224x2048, .f32⟩
  | .hbm, ⟨5, _⟩ => ⟨S4224x16x128, .f32⟩
  | .hbm, ⟨6, _⟩ => ⟨S4112x16x128, .f32⟩
  | .hbm, ⟨7, _⟩ => ⟨S4224x16x128, .f32⟩
  | .hbm, ⟨8, _⟩ => ⟨S16x4112x4224, .f32⟩
  | .hbm, ⟨9, _⟩ => ⟨S16x1x4224, .f32⟩
  | .hbm, ⟨10, _⟩ => ⟨S16x4112x4224, .f32⟩
  | .hbm, ⟨11, _⟩ => ⟨S16x4112x4224, .f32⟩
  | .hbm, ⟨12, _⟩ => ⟨S4224, .i32⟩
  | .hbm, ⟨13, _⟩ => ⟨S1x4224, .i32⟩
  | .hbm, ⟨14, _⟩ => ⟨S4112, .i32⟩
  | .hbm, ⟨15, _⟩ => ⟨S4112x1, .i32⟩
  | .hbm, ⟨16, _⟩ => ⟨S4112x4224, .i32⟩
  | .hbm, ⟨17, _⟩ => ⟨S4112x4224, .i32⟩
  | .hbm, ⟨18, _⟩ => ⟨S4112x4224, .i1⟩
  | .hbm, ⟨19, _⟩ => ⟨S1x4224, .i32⟩
  | .hbm, ⟨20, _⟩ => ⟨S_, .i32⟩
  | .hbm, ⟨21, _⟩ => ⟨S1x4224, .i32⟩
  | .hbm, ⟨22, _⟩ => ⟨S1x4224, .i1⟩
  | .hbm, ⟨23, _⟩ => ⟨S4112x4224, .i1⟩
  | .hbm, ⟨24, _⟩ => ⟨S4112x4224, .i1⟩
  | .hbm, ⟨25, _⟩ => ⟨S1x4112x4224, .i1⟩
  | .hbm, ⟨26, _⟩ => ⟨S_, .f32⟩
  | .hbm, ⟨27, _⟩ => ⟨S_, .f32⟩
  | .hbm, ⟨28, _⟩ => ⟨S16x4112x4224, .i1⟩
  | .hbm, ⟨29, _⟩ => ⟨S16x4112x4224, .f32⟩
  | .hbm, ⟨30, _⟩ => ⟨S16x4112x4224, .f32⟩
  | .hbm, ⟨31, _⟩ => ⟨S_, .f32⟩
  | .hbm, ⟨32, _⟩ => ⟨S16x4112, .f32⟩
  | .hbm, ⟨33, _⟩ => ⟨S16x4112x1, .f32⟩
  | .hbm, ⟨34, _⟩ => ⟨S16x4112x4224, .f32⟩
  | .hbm, ⟨35, _⟩ => ⟨S16x4112x4224, .f32⟩
  | .hbm, ⟨36, _⟩ => ⟨S16x4112x4224, .f32⟩
  | .hbm, ⟨37, _⟩ => ⟨S_, .f32⟩
  | .hbm, ⟨38, _⟩ => ⟨S16x4112, .f32⟩
  | .hbm, ⟨39, _⟩ => ⟨S16x4112x1, .f32⟩
  | .hbm, ⟨40, _⟩ => ⟨S16x4112x4224, .f32⟩
  | .hbm, ⟨41, _⟩ => ⟨S16x4112x4224, .f32⟩
  | .hbm, ⟨42, _⟩ => ⟨S4224x16x128, .f32⟩
  | .hbm, ⟨43, _⟩ => ⟨S16x128x4112, .f32⟩
  | .hbm, ⟨44, _⟩ => ⟨S4112x16x128, .f32⟩
  | .hbm, ⟨45, _⟩ => ⟨S4112x2048, .f32⟩
  | .hbm, ⟨46, _⟩ => ⟨S_, .i32⟩
  | .hbm, ⟨47, _⟩ => ⟨S_, .f32⟩
  | .hbm, ⟨48, _⟩ => ⟨S4224x2048, .f32⟩
  | .hbm, ⟨49, _⟩ => ⟨S16x4112x1, .f32⟩
  | .hbm, ⟨50, _⟩ => ⟨S16x4112x1, .f32⟩
  | .hbm, ⟨51, _⟩ => ⟨S16x4112, .f32⟩
  | .hbm, ⟨52, _⟩ => ⟨S_, .i32⟩
  | .hbm, ⟨53, _⟩ => ⟨S_, .f32⟩
  | .hbm, ⟨54, _⟩ => ⟨S16x4224, .f32⟩
  | .hbm, ⟨55, _⟩ => ⟨S4224x2048, .bf16⟩
  | .hbm, ⟨56, _⟩ => ⟨S4224x2048, .bf16⟩
  | .hbm, ⟨57, _⟩ => ⟨S4224x2048, .bf16⟩
  | .hbm, ⟨58, _⟩ => ⟨S4224x2048, .bf16⟩
  | .hbm, ⟨59, _⟩ => ⟨S16x11x1x384, .f32⟩
  | .hbm, ⟨60, _⟩ => ⟨S16x4224x1, .f32⟩
  | .hbm, ⟨61, _⟩ => ⟨S4224x2048, .f32⟩
  | .hbm, ⟨62, _⟩ => ⟨S4224x2048, .f32⟩
  | .hbm, ⟨63, _⟩ => ⟨S4224x2048, .f32⟩
  | .hbm, ⟨64, _⟩ => ⟨S16x4224x1, .f32⟩
  | .hbm, ⟨65, _⟩ => ⟨S16x11x1x384, .f32⟩
  | .local _ .vmem, ⟨0, _⟩ => ⟨S4224x256, .bf16⟩
  | .local _ .vmem, ⟨1, _⟩ => ⟨S4224x256, .bf16⟩
  | .local _ .vmem, ⟨2, _⟩ => ⟨S384x256, .bf16⟩
  | .local _ .vmem, ⟨3, _⟩ => ⟨S384x256, .bf16⟩
  | .local _ .vmem, ⟨4, _⟩ => ⟨S384x256, .bf16⟩
  | .local _ .vmem, ⟨5, _⟩ => ⟨S384x256, .bf16⟩
  | .local _ .vmem, ⟨6, _⟩ => ⟨S4224x256, .f32⟩
  | .local _ .vmem, ⟨7, _⟩ => ⟨S4224x256, .f32⟩
  | .local _ .vmem, ⟨8, _⟩ => ⟨S4224x256, .bf16⟩
  | .local _ .vmem, ⟨9, _⟩ => ⟨S4224x256, .bf16⟩
  | .local _ .vmem, ⟨10, _⟩ => ⟨S2x11x1x384, .f32⟩
  | .local _ .vmem, ⟨11, _⟩ => ⟨S2x11x1x384, .f32⟩
  | .local _ .vmem, ⟨12, _⟩ => ⟨S2x384x1, .f32⟩
  | .local _ .vmem, ⟨13, _⟩ => ⟨S2x384x1, .f32⟩
  | .local _ .vmem, ⟨14, _⟩ => ⟨S4224x256, .f32⟩
  | .local _ .vmem, ⟨15, _⟩ => ⟨S4224x256, .f32⟩
  | .local _ .vmem, ⟨16, _⟩ => ⟨S384x256, .f32⟩
  | .local _ .vmem, ⟨17, _⟩ => ⟨S384x256, .f32⟩
  | .local _ .vmem, ⟨18, _⟩ => ⟨S384x256, .f32⟩
  | .local _ .vmem, ⟨19, _⟩ => ⟨S384x256, .f32⟩
  | .local _ .vmem, ⟨20, _⟩ => ⟨S2x384x1, .f32⟩
  | .local _ .vmem, ⟨21, _⟩ => ⟨S2x384x1, .f32⟩
  | .local _ .vmem, ⟨22, _⟩ => ⟨S2x11x1x384, .f32⟩
  | .local _ .vmem, ⟨23, _⟩ => ⟨S2x11x1x384, .f32⟩
  | .local _ .vmem, ⟨24, _⟩ => ⟨S2x11x1x384, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_2 : Ref sig .tc := ⟨.hbm, 46, rfl⟩
abbrev main_call1_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_3 : Ref sig .tc := ⟨.hbm, 52, rfl⟩
abbrev main_call2_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev main_v45_3 : Ref sig .tc := ⟨.hbm, 64, rfl⟩
abbrev main_v45_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c384_i32_17 : BitVec 32 := 384#32
  let v29 : BitVec 32 := Scalar.muli arg1 c384_i32_17
  v29
def k0_off1 (i : grid0.Coords) : Fin 2 → Nat :=
  let arg1 : BitVec 32 := BitVec.ofNat 32 (i 1).val
  let c384_i32_17 : BitVec 32 := 384#32
  let v29 : BitVec 32 := Scalar.muli arg1 c384_i32_17
  let v30 : BitVec 32 := v29
  let v31 : Index := Scalar.indexCast v30
  let c0_18 : Index := 0#32
  ![v31.toNat, 0]
def k0_off2 (i : grid0.Coords) : Fin 4 → Nat :=
  let c0_23 : Index := 0#32
  let arg1 : BitVec 32 := BitVec.ofNat 32 (i 1).val
  let v52 : Index := Scalar.indexCast arg1
  let c0_24 : Index := 0#32
  let c0_25 : Index := 0#32
  ![0, v52.toNat, 0, 0]
def k0_off3 (i : grid0.Coords) : Fin 2 → Nat :=
  let arg1 : BitVec 32 := BitVec.ofNat 32 (i 1).val
  let c384_i32_17 : BitVec 32 := 384#32
  let v29 : BitVec 32 := Scalar.muli arg1 c384_i32_17
  let v30 : BitVec 32 := v29
  let v94 : Index := Scalar.indexCast v30
  let c128_42 : Index := 128#32
  ![v94.toNat, 128]
def k0_off4 (i : grid0.Coords) : Fin 4 → Nat :=
  let c1_48 : Index := 1#32
  let arg1 : BitVec 32 := BitVec.ofNat 32 (i 1).val
  let v115 : Index := Scalar.indexCast arg1
  let c0_49 : Index := 0#32
  let c0_50 : Index := 0#32
  ![1, v115.toNat, 0, 0]
def k0_cond2 (i : grid0.Coords) : BitVec 1 :=
  let arg1 : BitVec 32 := BitVec.ofNat 32 (i 1).val
  let c0_i32_67 : BitVec 32 := 0#32
  let v157 : BitVec 1 := Scalar.cmpi .eq arg1 c0_i32_67
  let v158 : BitVec 32 := Scalar.extui v157
  let c0_i32_68 : BitVec 32 := 0#32
  let v159 : BitVec 1 := Scalar.cmpi .ne v158 c0_i32_68
  v159

@[reducible] def k0_t1_loop (i : grid0.Coords) : Scf.Loop 32 :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_86 : BitVec 32 := 1#32
  ⟨v175, v180, c1_i32_86⟩
def k0_mult2 (i : grid0.Coords) (k0_t1 : Fin (k0_t1_loop i).trips) : BitVec 32 :=
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t1
  let c384_i32_88 : BitVec 32 := 384#32
  let v183 : BitVec 32 := Scalar.muli arg15 c384_i32_88
  v183
def k0_off5 (i : grid0.Coords) (k0_t1 : Fin (k0_t1_loop i).trips) : Fin 2 → Nat :=
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t1
  let c384_i32_88 : BitVec 32 := 384#32
  let v183 : BitVec 32 := Scalar.muli arg15 c384_i32_88
  let v184 : BitVec 32 := v183
  let v185 : Index := Scalar.indexCast v184
  let c0_89 : Index := 0#32
  ![v185.toNat, 0]
def k0_off6 (i : grid0.Coords) (k0_t1 : Fin (k0_t1_loop i).trips) : Fin 4 → Nat :=
  let c0_95 : Index := 0#32
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t1
  let v206 : Index := Scalar.indexCast arg15
  let c0_96 : Index := 0#32
  let c0_97 : Index := 0#32
  ![0, v206.toNat, 0, 0]
def k0_off7 (i : grid0.Coords) (k0_t1 : Fin (k0_t1_loop i).trips) : Fin 2 → Nat :=
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t1
  let c384_i32_88 : BitVec 32 := 384#32
  let v183 : BitVec 32 := Scalar.muli arg15 c384_i32_88
  let v184 : BitVec 32 := v183
  let v248 : Index := Scalar.indexCast v184
  let c128_114 : Index := 128#32
  ![v248.toNat, 128]
def k0_off8 (i : grid0.Coords) (k0_t1 : Fin (k0_t1_loop i).trips) : Fin 4 → Nat :=
  let c1_120 : Index := 1#32
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t1
  let v269 : Index := Scalar.indexCast arg15
  let c0_121 : Index := 0#32
  let c0_122 : Index := 0#32
  ![1, v269.toNat, 0, 0]
@[reducible] def k0_t2_loop (i : grid0.Coords) : Scf.Loop 32 :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let v177 : BitVec 32 := Scalar.addi v175 v176
  let c1_i32_87 : BitVec 32 := 1#32
  ⟨v180, v177, c1_i32_87⟩
def k0_mult3 (i : grid0.Coords) (k0_t2 : Fin (k0_t2_loop i).trips) : BitVec 32 :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t2
  let c384_i32_88 : BitVec 32 := 384#32
  let v183 : BitVec 32 := Scalar.muli arg15 c384_i32_88
  v183
def k0_off9 (i : grid0.Coords) (k0_t2 : Fin (k0_t2_loop i).trips) : Fin 2 → Nat :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t2
  let c384_i32_88 : BitVec 32 := 384#32
  let v183 : BitVec 32 := Scalar.muli arg15 c384_i32_88
  let v184 : BitVec 32 := v183
  let v185 : Index := Scalar.indexCast v184
  let c0_89 : Index := 0#32
  ![v185.toNat, 0]
def k0_off10 (i : grid0.Coords) (k0_t2 : Fin (k0_t2_loop i).trips) : Fin 4 → Nat :=
  let c0_95 : Index := 0#32
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t2
  let v206 : Index := Scalar.indexCast arg15
  let c0_96 : Index := 0#32
  let c0_97 : Index := 0#32
  ![0, v206.toNat, 0, 0]
def k0_off11 (i : grid0.Coords) (k0_t2 : Fin (k0_t2_loop i).trips) : Fin 2 → Nat :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t2
  let c384_i32_88 : BitVec 32 := 384#32
  let v183 : BitVec 32 := Scalar.muli arg15 c384_i32_88
  let v184 : BitVec 32 := v183
  let v248 : Index := Scalar.indexCast v184
  let c128_114 : Index := 128#32
  ![v248.toNat, 128]
def k0_off12 (i : grid0.Coords) (k0_t2 : Fin (k0_t2_loop i).trips) : Fin 4 → Nat :=
  let c1_120 : Index := 1#32
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t2
  let v269 : Index := Scalar.indexCast arg15
  let c0_121 : Index := 0#32
  let c0_122 : Index := 0#32
  ![1, v269.toNat, 0, 0]
@[reducible] def k0_t3_loop (i : grid0.Coords) : Scf.Loop 32 :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_86 : BitVec 32 := 1#32
  ⟨v175, v180, c1_i32_86⟩
def k0_mult4 (i : grid0.Coords) (k0_t3 : Fin (k0_t3_loop i).trips) : BitVec 32 :=
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t3
  let c384_i32_88 : BitVec 32 := 384#32
  let v183 : BitVec 32 := Scalar.muli arg15 c384_i32_88
  v183
def k0_off13 (i : grid0.Coords) (k0_t3 : Fin (k0_t3_loop i).trips) : Fin 2 → Nat :=
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t3
  let c384_i32_88 : BitVec 32 := 384#32
  let v183 : BitVec 32 := Scalar.muli arg15 c384_i32_88
  let v184 : BitVec 32 := v183
  let v185 : Index := Scalar.indexCast v184
  let c0_89 : Index := 0#32
  ![v185.toNat, 0]
def k0_off14 (i : grid0.Coords) (k0_t3 : Fin (k0_t3_loop i).trips) : Fin 4 → Nat :=
  let c0_92 : Index := 0#32
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t3
  let v193 : Index := Scalar.indexCast arg15
  let c0_93 : Index := 0#32
  let c0_94 : Index := 0#32
  ![0, v193.toNat, 0, 0]
def k0_off15 (i : grid0.Coords) (k0_t3 : Fin (k0_t3_loop i).trips) : Fin 2 → Nat :=
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t3
  let c384_i32_88 : BitVec 32 := 384#32
  let v183 : BitVec 32 := Scalar.muli arg15 c384_i32_88
  let v184 : BitVec 32 := v183
  let v235 : Index := Scalar.indexCast v184
  let c128_111 : Index := 128#32
  ![v235.toNat, 128]
def k0_off16 (i : grid0.Coords) (k0_t3 : Fin (k0_t3_loop i).trips) : Fin 4 → Nat :=
  let c1_114 : Index := 1#32
  let arg1 : BitVec 32 := BitVec.ofNat 32 (i 1).val
  let c1_i32 : BitVec 32 := 1#32
  let v175 : BitVec 32 := Scalar.addi arg1 c1_i32
  let c1_i32_86 : BitVec 32 := 1#32
  let arg15 : BitVec 32 := Scf.iv v175 c1_i32_86 k0_t3
  let v243 : Index := Scalar.indexCast arg15
  let c0_115 : Index := 0#32
  let c0_116 : Index := 0#32
  ![1, v243.toNat, 0, 0]
@[reducible] def k0_t4_loop (i : grid0.Coords) : Scf.Loop 32 :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let v177 : BitVec 32 := Scalar.addi v175 v176
  let c1_i32_87 : BitVec 32 := 1#32
  ⟨v180, v177, c1_i32_87⟩
def k0_mult5 (i : grid0.Coords) (k0_t4 : Fin (k0_t4_loop i).trips) : BitVec 32 :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t4
  let c384_i32_88 : BitVec 32 := 384#32
  let v183 : BitVec 32 := Scalar.muli arg15 c384_i32_88
  v183
def k0_off17 (i : grid0.Coords) (k0_t4 : Fin (k0_t4_loop i).trips) : Fin 2 → Nat :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t4
  let c384_i32_88 : BitVec 32 := 384#32
  let v183 : BitVec 32 := Scalar.muli arg15 c384_i32_88
  let v184 : BitVec 32 := v183
  let v185 : Index := Scalar.indexCast v184
  let c0_89 : Index := 0#32
  ![v185.toNat, 0]
def k0_off18 (i : grid0.Coords) (k0_t4 : Fin (k0_t4_loop i).trips) : Fin 4 → Nat :=
  let c0_92 : Index := 0#32
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t4
  let v193 : Index := Scalar.indexCast arg15
  let c0_93 : Index := 0#32
  let c0_94 : Index := 0#32
  ![0, v193.toNat, 0, 0]
def k0_off19 (i : grid0.Coords) (k0_t4 : Fin (k0_t4_loop i).trips) : Fin 2 → Nat :=
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t4
  let c384_i32_88 : BitVec 32 := 384#32
  let v183 : BitVec 32 := Scalar.muli arg15 c384_i32_88
  let v184 : BitVec 32 := v183
  let v235 : Index := Scalar.indexCast v184
  let c128_111 : Index := 128#32
  ![v235.toNat, 128]
def k0_off20 (i : grid0.Coords) (k0_t4 : Fin (k0_t4_loop i).trips) : Fin 4 → Nat :=
  let c1_114 : Index := 1#32
  let arg1 : BitVec 32 := BitVec.ofNat 32 (i 1).val
  let c1_i32 : BitVec 32 := 1#32
  let v175 : BitVec 32 := Scalar.addi arg1 c1_i32
  let c11_i32 : BitVec 32 := 11#32
  let v176 : BitVec 32 := Scalar.subi c11_i32 v175
  let c1_i32_85 : BitVec 32 := 1#32
  let v178 : BitVec 32 := Scalar.divsi v176 c1_i32_85
  let v179 : BitVec 32 := Scalar.muli v178 c1_i32_85
  let v180 : BitVec 32 := Scalar.addi v175 v179
  let c1_i32_87 : BitVec 32 := 1#32
  let arg15 : BitVec 32 := Scf.iv v180 c1_i32_87 k0_t4
  let v243 : Index := Scalar.indexCast arg15
  let c0_115 : Index := 0#32
  let c0_116 : Index := 0#32
  ![1, v243.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4224x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x11x1x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x384x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4224x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x384x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x11x1x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4224x2048 : Shape := ⟨2, ![4224, 2048]⟩
abbrev S16x4224 : Shape := ⟨2, ![16, 4224]⟩
abbrev S4224x16x128 : Shape := ⟨3, ![4224, 16, 128]⟩
abbrev S4112x16x128 : Shape := ⟨3, ![4112, 16, 128]⟩
abbrev S16x4112x4224 : Shape := ⟨3, ![16, 4112, 4224]⟩
abbrev S16x4112 : Shape := ⟨2, ![16, 4112]⟩
abbrev S16x4112x1 : Shape := ⟨3, ![16, 4112, 1]⟩
abbrev S16x1x4224 : Shape := ⟨3, ![16, 1, 4224]⟩
abbrev S4224 : Shape := ⟨1, ![4224]⟩
abbrev S1x4224 : Shape := ⟨2, ![1, 4224]⟩
abbrev S4112 : Shape := ⟨1, ![4112]⟩
abbrev S4112x1 : Shape := ⟨2, ![4112, 1]⟩
abbrev S4112x4224 : Shape := ⟨2, ![4112, 4224]⟩
abbrev S_ : Shape := ⟨0, ![]⟩
abbrev S1x4112x4224 : Shape := ⟨3, ![1, 4112, 4224]⟩
abbrev S16x128x4112 : Shape := ⟨3, ![16, 128, 4112]⟩
abbrev S16x128x4224 : Shape := ⟨3, ![16, 128, 4224]⟩
abbrev S16x4224x128 : Shape := ⟨3, ![16, 4224, 128]⟩
abbrev S16x4112x128 : Shape := ⟨3, ![16, 4112, 128]⟩
abbrev S16x4224x1 : Shape := ⟨3, ![16, 4224, 1]⟩
abbrev S16x11x1x384 : Shape := ⟨4, ![16, 11, 1, 384]⟩

abbrev nBuf : Space → Nat
  | .hbm => 125
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S16x4224, .f32⟩
  | .hbm, ⟨4, _⟩ => ⟨S4224x2048, .f32⟩
  | .hbm, ⟨5, _⟩ => ⟨S4224x16x128, .f32⟩
  | .hbm, ⟨6, _⟩ => ⟨S4224x16x128, .f32⟩
  | .hbm, ⟨7, _⟩ => ⟨S4224x16x128, .f32⟩
  | .hbm, ⟨8, _⟩ => ⟨S4112x16x128, .f32⟩
  | .hbm, ⟨9, _⟩ => ⟨S16x4112x4224, .f32⟩
  | .hbm, ⟨10, _⟩ => ⟨S16x4112, .f32⟩
  | .hbm, ⟨11, _⟩ => ⟨S16x4112x1, .f32⟩
  | .hbm, ⟨12, _⟩ => ⟨S16x1x4224, .f32⟩
  | .hbm, ⟨13, _⟩ => ⟨S16x4112x4224, .f32⟩
  | .hbm, ⟨14, _⟩ => ⟨S16x4112x4224, .f32⟩
  | .hbm, ⟨15, _⟩ => ⟨S16x4112x4224, .f32⟩
  | .hbm, ⟨16, _⟩ => ⟨S16x4112x4224, .f32⟩
  | .hbm, ⟨17, _⟩ => ⟨S4224, .i32⟩
  | .hbm, ⟨18, _⟩ => ⟨S1x4224, .i32⟩
  | .hbm, ⟨19, _⟩ => ⟨S4112, .i32⟩
  | .hbm, ⟨20, _⟩ => ⟨S4112x1, .i32⟩
  | .hbm, ⟨21, _⟩ => ⟨S4112x4224, .i32⟩
  | .hbm, ⟨22, _⟩ => ⟨S4112x4224, .i32⟩
  | .hbm, ⟨23, _⟩ => ⟨S4112x4224, .i1⟩
  | .hbm, ⟨24, _⟩ => ⟨S1x4224, .i32⟩
  | .hbm, ⟨25, _⟩ => ⟨S_, .i32⟩
  | .hbm, ⟨26, _⟩ => ⟨S1x4224, .i32⟩
  | .hbm, ⟨27, _⟩ => ⟨S1x4224, .i1⟩
  | .hbm, ⟨28, _⟩ => ⟨S4112x4224, .i1⟩
  | .hbm, ⟨29, _⟩ => ⟨S4112x4224, .i1⟩
  | .hbm, ⟨30, _⟩ => ⟨S1x4112x4224, .i1⟩
  | .hbm, ⟨31, _⟩ => ⟨S_, .f32⟩
  | .hbm, ⟨32, _⟩ => ⟨S_, .f32⟩
  | .hbm, ⟨33, _⟩ => ⟨S16x4112x4224, .i1⟩
  | .hbm, ⟨34, _⟩ => ⟨S16x4112x4224, .f32⟩
  | .hbm, ⟨35, _⟩ => ⟨S16x4112x4224, .f32⟩
  | .hbm, ⟨36, _⟩ => ⟨S_, .f32⟩
  | .hbm, ⟨37, _⟩ => ⟨S16x4112x4224, .f32⟩
  | .hbm, ⟨38, _⟩ => ⟨S_, .f32⟩
  | .hbm, ⟨39, _⟩ => ⟨S16x4112, .f32⟩
  | .hbm, ⟨40, _⟩ => ⟨S16x4112x1, .f32⟩
  | .hbm, ⟨41, _⟩ => ⟨S16x4112x4224, .f32⟩
  | .hbm, ⟨42, _⟩ => ⟨S16x4112x4224, .i1⟩
  | .hbm, ⟨43, _⟩ => ⟨S16x4112x4224, .f32⟩
  | .hbm, ⟨44, _⟩ => ⟨S_, .f32⟩
  | .hbm, ⟨45, _⟩ => ⟨S16x4112, .f32⟩
  | .hbm, ⟨46, _⟩ => ⟨S_, .f32⟩
  | .hbm, ⟨47, _⟩ => ⟨S16x4112, .f32⟩
  | .hbm, ⟨48, _⟩ => ⟨S16x4112, .f32⟩
  | .hbm, ⟨49, _⟩ => ⟨S_, .f32⟩
  | .hbm, ⟨50, _⟩ => ⟨S16x4112, .f32⟩
  | .hbm, ⟨51, _⟩ => ⟨S16x4112, .i1⟩
  | .hbm, ⟨52, _⟩ => ⟨S_, .f32⟩
  | .hbm, ⟨53, _⟩ => ⟨S16x4112, .f32⟩
  | .hbm, ⟨54, _⟩ => ⟨S16x4112, .i1⟩
  | .hbm, ⟨55, _⟩ => ⟨S_, .f32⟩
  | .hbm, ⟨56, _⟩ => ⟨S16x4112, .f32⟩
  | .hbm, ⟨57, _⟩ => ⟨S_, .f32⟩
  | .hbm, ⟨58, _⟩ => ⟨S16x4112, .f32⟩
  | .hbm, ⟨59, _⟩ => ⟨S_, .f32⟩
  | .hbm, ⟨60, _⟩ => ⟨S16x4112, .f32⟩
  | .hbm, ⟨61, _⟩ => ⟨S16x4112, .f32⟩
  | .hbm, ⟨62, _⟩ => ⟨S16x4112, .f32⟩
  | .hbm, ⟨63, _⟩ => ⟨S16x4112x1, .f32⟩
  | .hbm, ⟨64, _⟩ => ⟨S16x4112x4224, .f32⟩
  | .hbm, ⟨65, _⟩ => ⟨S16x4112x4224, .f32⟩
  | .hbm, ⟨66, _⟩ => ⟨S16x4112x4224, .f32⟩
  | .hbm, ⟨67, _⟩ => ⟨S_, .f32⟩
  | .hbm, ⟨68, _⟩ => ⟨S16x4112, .f32⟩
  | .hbm, ⟨69, _⟩ => ⟨S16x4112x1, .f32⟩
  | .hbm, ⟨70, _⟩ => ⟨S16x4112x4224, .f32⟩
  | .hbm, ⟨71, _⟩ => ⟨S16x4112x4224, .f32⟩
  | .hbm, ⟨72, _⟩ => ⟨S16x4112x1, .f32⟩
  | .hbm, ⟨73, _⟩ => ⟨S_, .f32⟩
  | .hbm, ⟨74, _⟩ => ⟨S16x4112x1, .f32⟩
  | .hbm, ⟨75, _⟩ => ⟨S16x4112x1, .f32⟩
  | .hbm, ⟨76, _⟩ => ⟨S16x128x4112, .f32⟩
  | .hbm, ⟨77, _⟩ => ⟨S4112x16x128, .f32⟩
  | .hbm, ⟨78, _⟩ => ⟨S4224x16x128, .f32⟩
  | .hbm, ⟨79, _⟩ => ⟨S4112x16x128, .f32⟩
  | .hbm, ⟨80, _⟩ => ⟨S16x128x4112, .f32⟩
  | .hbm, ⟨81, _⟩ => ⟨S16x4112x4224, .f32⟩
  | .hbm, ⟨82, _⟩ => ⟨S16x128x4224, .f32⟩
  | .hbm, ⟨83, _⟩ => ⟨S4224x16x128, .f32⟩
  | .hbm, ⟨84, _⟩ => ⟨S16x4112x4224, .f32⟩
  | .hbm, ⟨85, _⟩ => ⟨S16x4112x4224, .f32⟩
  | .hbm, ⟨86, _⟩ => ⟨S16x4112x4224, .f32⟩
  | .hbm, ⟨87, _⟩ => ⟨S_, .f32⟩
  | .hbm, ⟨88, _⟩ => ⟨S16x4112, .f32⟩
  | .hbm, ⟨89, _⟩ => ⟨S16x4112x1, .f32⟩
  | .hbm, ⟨90, _⟩ => ⟨S16x4112x1, .f32⟩
  | .hbm, ⟨91, _⟩ => ⟨S16x4112x4224, .f32⟩
  | .hbm, ⟨92, _⟩ => ⟨S16x4112x4224, .f32⟩
  | .hbm, ⟨93, _⟩ => ⟨S_, .f32⟩
  | .hbm, ⟨94, _⟩ => ⟨S16x4112, .f32⟩
  | .hbm, ⟨95, _⟩ => ⟨S16x4112x4224, .f32⟩
  | .hbm, ⟨96, _⟩ => ⟨S16x4112x4224, .f32⟩
  | .hbm, ⟨97, _⟩ => ⟨S16x4112x4224, .f32⟩
  | .hbm, ⟨98, _⟩ => ⟨S_, .f32⟩
  | .hbm, ⟨99, _⟩ => ⟨S16x4112x4224, .f32⟩
  | .hbm, ⟨100, _⟩ => ⟨S16x4112x4224, .f32⟩
  | .hbm, ⟨101, _⟩ => ⟨S_, .f32⟩
  | .hbm, ⟨102, _⟩ => ⟨S16x4112, .f32⟩
  | .hbm, ⟨103, _⟩ => ⟨S16x4112x1, .f32⟩
  | .hbm, ⟨104, _⟩ => ⟨S16x4112x4224, .f32⟩
  | .hbm, ⟨105, _⟩ => ⟨S_, .f32⟩
  | .hbm, ⟨106, _⟩ => ⟨S16x4224, .f32⟩
  | .hbm, ⟨107, _⟩ => ⟨S16x1x4224, .f32⟩
  | .hbm, ⟨108, _⟩ => ⟨S_, .f32⟩
  | .hbm, ⟨109, _⟩ => ⟨S16x4224, .f32⟩
  | .hbm, ⟨110, _⟩ => ⟨S_, .f32⟩
  | .hbm, ⟨111, _⟩ => ⟨S16x4112, .f32⟩
  | .hbm, ⟨112, _⟩ => ⟨S_, .f32⟩
  | .hbm, ⟨113, _⟩ => ⟨S16x4224, .f32⟩
  | .hbm, ⟨114, _⟩ => ⟨S16x4224x128, .f32⟩
  | .hbm, ⟨115, _⟩ => ⟨S4224x16x128, .f32⟩
  | .hbm, ⟨116, _⟩ => ⟨S16x4112x128, .f32⟩
  | .hbm, ⟨117, _⟩ => ⟨S4112x16x128, .f32⟩
  | .hbm, ⟨118, _⟩ => ⟨S_, .f32⟩
  | .hbm, ⟨119, _⟩ => ⟨S4224x16x128, .f32⟩
  | .hbm, ⟨120, _⟩ => ⟨S4224x2048, .f32⟩
  | .hbm, ⟨121, _⟩ => ⟨S4224x2048, .f32⟩
  | .hbm, ⟨122, _⟩ => ⟨S4224x2048, .f32⟩
  | .hbm, ⟨123, _⟩ => ⟨S16x4224x1, .f32⟩
  | .hbm, ⟨124, _⟩ => ⟨S16x11x1x384, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_call0_v0 : Ref sig .tc := ⟨.hbm, 32, rfl⟩
abbrev main_v25_1 : Ref sig .tc := ⟨.hbm, 33, rfl⟩
abbrev main_call0_v2 : Ref sig .tc := ⟨.hbm, 34, rfl⟩
abbrev main_v25_0 : Ref sig .tc := ⟨.hbm, 35, rfl⟩
abbrev main_call0_cst : Ref sig .tc := ⟨.hbm, 36, rfl⟩
abbrev main_v25_2 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_cst_14 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]

def κ : String → Option EReal := fun
  | "mask" => some ⊥
  | _ => none
-- ==== Kernel2.lean ====
abbrev S4224x2048 : Shape := ⟨2, ![4224, 2048]⟩
abbrev S2x4224x5632 : Shape := ⟨3, ![2, 4224, 5632]⟩
abbrev S8x2048x1408 : Shape := ⟨3, ![8, 2048, 1408]⟩
abbrev S4224x512 : Shape := ⟨2, ![4224, 512]⟩
abbrev S1x4224x1408 : Shape := ⟨3, ![1, 4224, 1408]⟩
abbrev S1x512x1408 : Shape := ⟨3, ![1, 512, 1408]⟩
abbrev S4224x1408 : Shape := ⟨2, ![4224, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S8x2048x1408, .bf16⟩
  | .local _ .vmem, ⟨0, _⟩ => ⟨S4224x512, .bf16⟩
  | .local _ .vmem, ⟨1, _⟩ => ⟨S4224x512, .bf16⟩
  | .local _ .vmem, ⟨2, _⟩ => ⟨S1x4224x1408, .bf16⟩
  | .local _ .vmem, ⟨3, _⟩ => ⟨S1x4224x1408, .bf16⟩
  | .local _ .vmem, ⟨4, _⟩ => ⟨S1x512x1408, .bf16⟩
  | .local _ .vmem, ⟨5, _⟩ => ⟨S1x512x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4224x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4224x2048 : Shape := ⟨2, ![4224, 2048]⟩
abbrev S2x4224x5632 : Shape := ⟨3, ![2, 4224, 5632]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4224x11264 : Shape := ⟨2, ![4224, 11264]⟩
abbrev S4224x5632 : Shape := ⟨2, ![4224, 5632]⟩
abbrev S1x4224x5632 : Shape := ⟨3, ![1, 4224, 5632]⟩
abbrev S11264x2048 : Shape := ⟨2, ![11264, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S2x4224x5632, .f32⟩
  | .hbm, ⟨3, _⟩ => ⟨S_, .f32⟩
  | .hbm, ⟨4, _⟩ => ⟨S8x2048x1408, .f32⟩
  | .hbm, ⟨5, _⟩ => ⟨S4224x2048, .f32⟩
  | .hbm, ⟨6, _⟩ => ⟨S2048x8x1408, .f32⟩
  | .hbm, ⟨7, _⟩ => ⟨S2048x11264, .f32⟩
  | .hbm, ⟨8, _⟩ => ⟨S4224x11264, .f32⟩
  | .hbm, ⟨9, _⟩ => ⟨S4224x5632, .f32⟩
  | .hbm, ⟨10, _⟩ => ⟨S4224x5632, .f32⟩
  | .hbm, ⟨11, _⟩ => ⟨S1x4224x5632, .f32⟩
  | .hbm, ⟨12, _⟩ => ⟨S4224x5632, .f32⟩
  | .hbm, ⟨13, _⟩ => ⟨S1x4224x5632, .f32⟩
  | .hbm, ⟨14, _⟩ => ⟨S4224x5632, .f32⟩
  | .hbm, ⟨15, _⟩ => ⟨S4224x11264, .f32⟩
  | .hbm, ⟨16, _⟩ => ⟨S11264x2048, .f32⟩
  | .hbm, ⟨17, _⟩ => ⟨S2048x11264, .f32⟩
  | .hbm, ⟨18, _⟩ => ⟨S2048x8x1408, .f32⟩
  | .hbm, ⟨19, _⟩ => ⟨S8x2048x1408, .f32⟩
  | .hbm, ⟨20, _⟩ => ⟨S8x2048x1408, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel3.lean ====
abbrev S4224x5632 : Shape := ⟨2, ![4224, 5632]⟩
abbrev S4224x2048 : Shape := ⟨2, ![4224, 2048]⟩
abbrev S1x4224x2048 : Shape := ⟨3, ![1, 4224, 2048]⟩
abbrev S1x5632x2048 : Shape := ⟨3, ![1, 5632, 2048]⟩
abbrev S4224x512 : Shape := ⟨2, ![4224, 512]⟩
abbrev S1x4224x1024 : Shape := ⟨3, ![1, 4224, 1024]⟩
abbrev S1x512x1024 : Shape := ⟨3, ![1, 512, 1024]⟩
abbrev S4224x1024 : Shape := ⟨2, ![4224, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S1x4224x2048, .bf16⟩
  | .hbm, ⟨3, _⟩ => ⟨S1x5632x2048, .bf16⟩
  | .local _ .vmem, ⟨0, _⟩ => ⟨S4224x512, .bf16⟩
  | .local _ .vmem, ⟨1, _⟩ => ⟨S4224x512, .bf16⟩
  | .local _ .vmem, ⟨2, _⟩ => ⟨S1x4224x1024, .bf16⟩
  | .local _ .vmem, ⟨3, _⟩ => ⟨S1x4224x1024, .bf16⟩
  | .local _ .vmem, ⟨4, _⟩ => ⟨S1x512x1024, .bf16⟩
  | .local _ .vmem, ⟨5, _⟩ => ⟨S1x512x1024, .bf16⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S_, .f32⟩
  | .hbm, ⟨3, _⟩ => ⟨S5632x2048, .f32⟩
  | .hbm, ⟨4, _⟩ => ⟨S4224x5632, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S1x5632x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2x4224x5632 : Shape := ⟨3, ![2, 4224, 5632]⟩
abbrev S8x2048x1408 : Shape := ⟨3, ![8, 2048, 1408]⟩
abbrev S4224x2048 : Shape := ⟨2, ![4224, 2048]⟩
abbrev S1x1056x2816 : Shape := ⟨3, ![1, 1056, 2816]⟩
abbrev S2x1024x1408 : Shape := ⟨3, ![2, 1024, 1408]⟩
abbrev S1056x1024 : Shape := ⟨2, ![1056, 1024]⟩
abbrev S1x1056x1408 : Shape := ⟨3, ![1, 1056, 1408]⟩
abbrev S1056x1408 : Shape := ⟨2, ![1056, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4224x5632, .bf16⟩
  | .hbm, ⟨1, _⟩ => ⟨S8x2048x1408, .bf16⟩
  | .hbm, ⟨2, _⟩ => ⟨S4224x2048, .f32⟩
  | .local _ .vmem, ⟨0, _⟩ => ⟨S1x1056x2816, .bf16⟩
  | .local _ .vmem, ⟨1, _⟩ => ⟨S1x1056x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S2x4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4224x5632 : Shape := ⟨3, ![2, 4224, 5632]⟩
abbrev S8x2048x1408 : Shape := ⟨3, ![8, 2048, 1408]⟩
abbrev S_ : Shape := ⟨0, ![]⟩
abbrev S4224x2048 : Shape := ⟨2, ![4224, 2048]⟩
abbrev S2048x8x1408 : Shape := ⟨3, ![2048, 8, 1408]⟩
abbrev S2048x11264 : Shape := ⟨2, ![2048, 11264]⟩
abbrev S4224x11264 : Shape := ⟨2, ![4224, 11264]⟩
abbrev S4224x5632 : Shape := ⟨2, ![4224, 5632]⟩
abbrev S1x4224x5632 : Shape := ⟨3, ![1, 4224, 5632]⟩

abbrev nBuf : Space → Nat
  | .hbm => 17
  | .vmem => 0
  | .smem => 0
  | _ => 0

abbrev bufTy : (tb : Table) → Fin (tcTables nBuf tb) → BufTy
  | .hbm, ⟨0, _⟩ => ⟨S2x4224x5632, .bf16⟩
  | .hbm, ⟨1, _⟩ => ⟨S8x2048x1408, .bf16⟩
  | .hbm, ⟨2, _⟩ => ⟨S2x4224x5632, .f32⟩
  | .hbm, ⟨3, _⟩ => ⟨S_, .f32⟩
  | .hbm, ⟨4, _⟩ => ⟨S4224x2048, .f32⟩
  | .hbm, ⟨5, _⟩ => ⟨S8x2048x1408, .f32⟩
  | .hbm, ⟨6, _⟩ => ⟨S2048x8x1408, .f32⟩
  | .hbm, ⟨7, _⟩ => ⟨S2048x11264, .f32⟩
  | .hbm, ⟨8, _⟩ => ⟨S4224x11264, .f32⟩
  | .hbm, ⟨9, _⟩ => ⟨S4224x5632, .f32⟩
  | .hbm, ⟨10, _⟩ => ⟨S4224x5632, .f32⟩
  | .hbm, ⟨11, _⟩ => ⟨S1x4224x5632, .f32⟩
  | .hbm, ⟨12, _⟩ => ⟨S4224x5632, .f32⟩
  | .hbm, ⟨13, _⟩ => ⟨S1x4224x5632, .f32⟩
  | .hbm, ⟨14, _⟩ => ⟨S4224x5632, .f32⟩
  | .hbm, ⟨15, _⟩ => ⟨S4224x11264, .f32⟩
  | .hbm, ⟨16, _⟩ => ⟨S4224x2048, .f32⟩
  | _, _ => ⟨S2x4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S4224x2048 : Shape := ⟨2, ![4224, 2048]⟩
abbrev S8x2048x1408 : Shape := ⟨3, ![8, 2048, 1408]⟩
abbrev S4224x5632 : Shape := ⟨2, ![4224, 5632]⟩
abbrev S528x2048 : Shape := ⟨2, ![528, 2048]⟩
abbrev S1x2048x1408 : Shape := ⟨3, ![1, 2048, 1408]⟩
abbrev S528x1408 : Shape := ⟨2, ![528, 1408]⟩
abbrev S2048x1408 : Shape := ⟨2, ![2048, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4224x2048, .bf16⟩
  | .hbm, ⟨1, _⟩ => ⟨S8x2048x1408, .bf16⟩
  | .hbm, ⟨2, _⟩ => ⟨S4224x5632, .bf16⟩
  | .hbm, ⟨3, _⟩ => ⟨S4224x5632, .bf16⟩
  | .hbm, ⟨4, _⟩ => ⟨S4224x5632, .bf16⟩
  | .local _ .vmem, ⟨0, _⟩ => ⟨S528x2048, .bf16⟩
  | .local _ .vmem, ⟨1, _⟩ => ⟨S528x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S528x1408, .bf16⟩
  | .local _ .vmem, ⟨5, _⟩ => ⟨S528x1408, .bf16⟩
  | .local _ .vmem, ⟨6, _⟩ => ⟨S528x1408, .bf16⟩
  | .local _ .vmem, ⟨7, _⟩ => ⟨S528x1408, .bf16⟩
  | .local _ .vmem, ⟨8, _⟩ => ⟨S528x1408, .bf16⟩
  | .local _ .vmem, ⟨9, _⟩ => ⟨S528x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S528x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S528x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4224x2048 : Shape := ⟨2, ![4224, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4224x11264 : Shape := ⟨2, ![4224, 11264]⟩
abbrev S4224x5632 : Shape := ⟨2, ![4224, 5632]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S8x2048x1408, .bf16⟩
  | .hbm, ⟨2, _⟩ => ⟨S4224x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4224x11264, .f32⟩
  | .hbm, ⟨7, _⟩ => ⟨S4224x5632, .f32⟩
  | .hbm, ⟨8, _⟩ => ⟨S4224x5632, .f32⟩
  | .hbm, ⟨9, _⟩ => ⟨S4224x5632, .f32⟩
  | .hbm, ⟨10, _⟩ => ⟨S4224x5632, .f32⟩
  | .hbm, ⟨11, _⟩ => ⟨S_, .f32⟩
  | .hbm, ⟨12, _⟩ => ⟨S4224x5632, .f32⟩
  | .hbm, ⟨13, _⟩ => ⟨S4224x5632, .f32⟩
  | .hbm, ⟨14, _⟩ => ⟨S_, .f32⟩
  | .hbm, ⟨15, _⟩ => ⟨S4224x5632, .f32⟩
  | .hbm, ⟨16, _⟩ => ⟨S4224x5632, .f32⟩
  | .hbm, ⟨17, _⟩ => ⟨S_, .f32⟩
  | .hbm, ⟨18, _⟩ => ⟨S4224x5632, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x5632, .f32⟩
  | .hbm, ⟨23, _⟩ => ⟨S_, .f32⟩
  | .hbm, ⟨24, _⟩ => ⟨S4224x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x5632, .f32⟩
  | .hbm, ⟨29, _⟩ => ⟨S4224x5632, .f32⟩
  | .hbm, ⟨30, _⟩ => ⟨S4224x5632, .f32⟩
  | .hbm, ⟨31, _⟩ => ⟨S4224x5632, .bf16⟩
  | .hbm, ⟨32, _⟩ => ⟨S4224x5632, .bf16⟩
  | .hbm, ⟨33, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v7_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v7_1 : Ref sig .tc := ⟨.hbm, 20, rfl⟩
abbrev main_v7_0 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel6.lean ====
abbrev S4224x2048 : Shape := ⟨2, ![4224, 2048]⟩
abbrev S1x5632x2048 : Shape := ⟨3, ![1, 5632, 2048]⟩
abbrev S4224x5632 : Shape := ⟨2, ![4224, 5632]⟩
abbrev S_ : Shape := ⟨0, ![]⟩
abbrev S2x4224x5632 : Shape := ⟨3, ![2, 4224, 5632]⟩
abbrev S1056x2048 : Shape := ⟨2, ![1056, 2048]⟩
abbrev S1x512x2048 : Shape := ⟨3, ![1, 512, 2048]⟩
abbrev S1056x512 : Shape := ⟨2, ![1056, 512]⟩
abbrev S2x1056x512 : Shape := ⟨3, ![2, 1056, 512]⟩
abbrev S512x2048 : Shape := ⟨2, ![512, 2048]⟩
abbrev S1x1056x512 : Shape := ⟨3, ![1, 1056, 512]⟩

abbrev nBuf : Space → Nat
  | .hbm => 29
  | .vmem => 10
  | .smem => 0
  | _ => 0

abbrev bufTy : (tb : Table) → Fin (tcTables nBuf tb) → BufTy
  | .hbm, ⟨0, _⟩ => ⟨S4224x2048, .bf16⟩
  | .hbm, ⟨1, _⟩ => ⟨S1x5632x2048, .bf16⟩
  | .hbm, ⟨2, _⟩ => ⟨S4224x5632, .f32⟩
  | .hbm, ⟨3, _⟩ => ⟨S4224x5632, .f32⟩
  | .hbm, ⟨4, _⟩ => ⟨S4224x5632, .f32⟩
  | .hbm, ⟨5, _⟩ => ⟨S4224x5632, .f32⟩
  | .hbm, ⟨6, _⟩ => ⟨S_, .f32⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x5632, .f32⟩
  | .hbm, ⟨17, _⟩ => ⟨S4224x5632, .f32⟩
  | .hbm, ⟨18, _⟩ => ⟨S_, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x5632, .f32⟩
  | .hbm, ⟨23, _⟩ => ⟨S4224x5632, .f32⟩
  | .hbm, ⟨24, _⟩ => ⟨S4224x5632, .f32⟩
  | .hbm, ⟨25, _⟩ => ⟨S4224x5632, .f32⟩
  | .hbm, ⟨26, _⟩ => ⟨S4224x5632, .bf16⟩
  | .hbm, ⟨27, _⟩ => ⟨S4224x5632, .bf16⟩
  | .hbm, ⟨28, _⟩ => ⟨S2x4224x5632, .bf16⟩
  | .local _ .vmem, ⟨0, _⟩ => ⟨S1056x2048, .bf16⟩
  | .local _ .vmem, ⟨1, _⟩ => ⟨S1056x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1056x512, .bf16⟩
  | .local _ .vmem, ⟨5, _⟩ => ⟨S1056x512, .bf16⟩
  | .local _ .vmem, ⟨6, _⟩ => ⟨S1056x512, .bf16⟩
  | .local _ .vmem, ⟨7, _⟩ => ⟨S1056x512, .bf16⟩
  | .local _ .vmem, ⟨8, _⟩ => ⟨S2x1056x512, .bf16⟩
  | .local _ .vmem, ⟨9, _⟩ => ⟨S2x1056x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4224x2048 : Shape := ⟨2, ![4224, 2048]⟩
abbrev S1x5632x2048 : Shape := ⟨3, ![1, 5632, 2048]⟩
abbrev S4224x5632 : Shape := ⟨2, ![4224, 5632]⟩
abbrev S_ : Shape := ⟨0, ![]⟩
abbrev S5632x2048 : Shape := ⟨2, ![5632, 2048]⟩
abbrev S1x4224x5632 : Shape := ⟨3, ![1, 4224, 5632]⟩
abbrev S2x4224x5632 : Shape := ⟨3, ![2, 4224, 5632]⟩

abbrev nBuf : Space → Nat
  | .hbm => 33
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S1x5632x2048, .bf16⟩
  | .hbm, ⟨2, _⟩ => ⟨S4224x5632, .f32⟩
  | .hbm, ⟨3, _⟩ => ⟨S4224x5632, .f32⟩
  | .hbm, ⟨4, _⟩ => ⟨S4224x5632, .f32⟩
  | .hbm, ⟨5, _⟩ => ⟨S4224x5632, .f32⟩
  | .hbm, ⟨6, _⟩ => ⟨S_, .f32⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x5632, .f32⟩
  | .hbm, ⟨17, _⟩ => ⟨S4224x5632, .f32⟩
  | .hbm, ⟨18, _⟩ => ⟨S5632x2048, .bf16⟩
  | .hbm, ⟨19, _⟩ => ⟨S5632x2048, .f32⟩
  | .hbm, ⟨20, _⟩ => ⟨S4224x2048, .f32⟩
  | .hbm, ⟨21, _⟩ => ⟨S4224x2048, .f32⟩
  | .hbm, ⟨22, _⟩ => ⟨S4224x5632, .f32⟩
  | .hbm, ⟨23, _⟩ => ⟨S4224x5632, .f32⟩
  | .hbm, ⟨24, _⟩ => ⟨S4224x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x5632, .f32⟩
  | .hbm, ⟨29, _⟩ => ⟨S1x4224x5632, .f32⟩
  | .hbm, ⟨30, _⟩ => ⟨S1x4224x5632, .f32⟩
  | .hbm, ⟨31, _⟩ => ⟨S2x4224x5632, .f32⟩
  | .hbm, ⟨32, _⟩ => ⟨S2x4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel7.lean ====
abbrev S4224x5632 : Shape := ⟨2, ![4224, 5632]⟩
abbrev S1x5632x2048 : Shape := ⟨3, ![1, 5632, 2048]⟩
abbrev S4224x2048 : Shape := ⟨2, ![4224, 2048]⟩
abbrev S528x5632 : Shape := ⟨2, ![528, 5632]⟩
abbrev S1x5632x1024 : Shape := ⟨3, ![1, 5632, 1024]⟩
abbrev S528x1024 : Shape := ⟨2, ![528, 1024]⟩
abbrev S5632x1024 : Shape := ⟨2, ![5632, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x5632, .bf16⟩
  | .hbm, ⟨1, _⟩ => ⟨S1x5632x2048, .bf16⟩
  | .hbm, ⟨2, _⟩ => ⟨S4224x2048, .f32⟩
  | .hbm, ⟨3, _⟩ => ⟨S4224x2048, .f32⟩
  | .local _ .vmem, ⟨0, _⟩ => ⟨S528x5632, .bf16⟩
  | .local _ .vmem, ⟨1, _⟩ => ⟨S528x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | .local _ .vmem, ⟨7, _⟩ => ⟨S528x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4224x5632 : Shape := ⟨2, ![4224, 5632]⟩
abbrev S1x5632x2048 : Shape := ⟨3, ![1, 5632, 2048]⟩
abbrev S4224x2048 : Shape := ⟨2, ![4224, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S1x5632x2048, .bf16⟩
  | .hbm, ⟨2, _⟩ => ⟨S4224x2048, .f32⟩
  | .hbm, ⟨3, _⟩ => ⟨S4224x5632, .f32⟩
  | .hbm, ⟨4, _⟩ => ⟨S5632x2048, .bf16⟩
  | .hbm, ⟨5, _⟩ => ⟨S5632x2048, .f32⟩
  | .hbm, ⟨6, _⟩ => ⟨S4224x2048, .f32⟩
  | .hbm, ⟨7, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4224x2048 : Shape := ⟨2, ![4224, 2048]⟩
abbrev S8x2048x768 : Shape := ⟨3, ![8, 2048, 768]⟩
abbrev S4224x6144 : Shape := ⟨2, ![4224, 6144]⟩
abbrev S1056x2048 : Shape := ⟨2, ![1056, 2048]⟩
abbrev S1x2048x768 : Shape := ⟨3, ![1, 2048, 768]⟩
abbrev S1056x768 : Shape := ⟨2, ![1056, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S8x2048x768, .bf16⟩
  | .hbm, ⟨2, _⟩ => ⟨S4224x6144, .f32⟩
  | .local _ .vmem, ⟨0, _⟩ => ⟨S1056x2048, .bf16⟩
  | .local _ .vmem, ⟨1, _⟩ => ⟨S1056x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1056x768, .f32⟩
  | .local _ .vmem, ⟨5, _⟩ => ⟨S1056x768, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x2048 : Shape := ⟨2, ![4224, 2048]⟩
abbrev S8x2048x768 : Shape := ⟨3, ![8, 2048, 768]⟩
abbrev S2048x8x768 : Shape := ⟨3, ![2048, 8, 768]⟩
abbrev S2048x6144 : Shape := ⟨2, ![2048, 6144]⟩
abbrev S4224x6144 : Shape := ⟨2, ![4224, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S8x2048x768, .bf16⟩
  | .hbm, ⟨2, _⟩ => ⟨S4224x2048, .f32⟩
  | .hbm, ⟨3, _⟩ => ⟨S8x2048x768, .f32⟩
  | .hbm, ⟨4, _⟩ => ⟨S2048x8x768, .f32⟩
  | .hbm, ⟨5, _⟩ => ⟨S2048x6144, .f32⟩
  | .hbm, ⟨6, _⟩ => ⟨S4224x6144, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4224x2048 : Shape := ⟨2, ![4224, 2048]⟩
abbrev S4224x6144 : Shape := ⟨2, ![4224, 6144]⟩
abbrev S1x4224x6144 : Shape := ⟨3, ![1, 4224, 6144]⟩
abbrev S8x2048x768 : Shape := ⟨3, ![8, 2048, 768]⟩
abbrev S4224x512 : Shape := ⟨2, ![4224, 512]⟩
abbrev S1x4224x768 : Shape := ⟨3, ![1, 4224, 768]⟩
abbrev S1x512x768 : Shape := ⟨3, ![1, 512, 768]⟩
abbrev S4224x768 : Shape := ⟨2, ![4224, 768]⟩
abbrev S512x768 : Shape := ⟨2, ![512, 768]⟩

abbrev nBuf : Space → Nat
  | .hbm => 4
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x6144, .bf16⟩
  | .hbm, ⟨2, _⟩ => ⟨S1x4224x6144, .bf16⟩
  | .hbm, ⟨3, _⟩ => ⟨S8x2048x768, .bf16⟩
  | .local _ .vmem, ⟨0, _⟩ => ⟨S4224x512, .bf16⟩
  | .local _ .vmem, ⟨1, _⟩ => ⟨S4224x512, .bf16⟩
  | .local _ .vmem, ⟨2, _⟩ => ⟨S1x4224x768, .bf16⟩
  | .local _ .vmem, ⟨3, _⟩ => ⟨S1x4224x768, .bf16⟩
  | .local _ .vmem, ⟨4, _⟩ => ⟨S1x512x768, .bf16⟩
  | .local _ .vmem, ⟨5, _⟩ => ⟨S1x512x768, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4224x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4224x2048 : Shape := ⟨2, ![4224, 2048]⟩
abbrev S4224x6144 : Shape := ⟨2, ![4224, 6144]⟩
abbrev S_ : Shape := ⟨0, ![]⟩
abbrev S8x2048x768 : Shape := ⟨3, ![8, 2048, 768]⟩
abbrev S2048x8x768 : Shape := ⟨3, ![2048, 8, 768]⟩
abbrev S2048x6144 : Shape := ⟨2, ![2048, 6144]⟩
abbrev S6144x2048 : Shape := ⟨2, ![6144, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x6144, .bf16⟩
  | .hbm, ⟨2, _⟩ => ⟨S_, .f32⟩
  | .hbm, ⟨3, _⟩ => ⟨S8x2048x768, .f32⟩
  | .hbm, ⟨4, _⟩ => ⟨S4224x2048, .f32⟩
  | .hbm, ⟨5, _⟩ => ⟨S2048x8x768, .f32⟩
  | .hbm, ⟨6, _⟩ => ⟨S2048x6144, .f32⟩
  | .hbm, ⟨7, _⟩ => ⟨S4224x6144, .f32⟩
  | .hbm, ⟨8, _⟩ => ⟨S4224x6144, .f32⟩
  | .hbm, ⟨9, _⟩ => ⟨S6144x2048, .f32⟩
  | .hbm, ⟨10, _⟩ => ⟨S2048x6144, .f32⟩
  | .hbm, ⟨11, _⟩ => ⟨S2048x8x768, .f32⟩
  | .hbm, ⟨12, _⟩ => ⟨S8x2048x768, .f32⟩
  | .hbm, ⟨13, _⟩ => ⟨S8x2048x768, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel10.lean ====
abbrev S4224x6144 : Shape := ⟨2, ![4224, 6144]⟩
abbrev S8x2048x768 : Shape := ⟨3, ![8, 2048, 768]⟩
abbrev S1x4224x6144 : Shape := ⟨3, ![1, 4224, 6144]⟩
abbrev S4224x2048 : Shape := ⟨2, ![4224, 2048]⟩
abbrev S1x1056x3072 : Shape := ⟨3, ![1, 1056, 3072]⟩
abbrev S4x1024x768 : Shape := ⟨3, ![4, 1024, 768]⟩
abbrev S1056x1024 : Shape := ⟨2, ![1056, 1024]⟩
abbrev S1x1056x768 : Shape := ⟨3, ![1, 1056, 768]⟩
abbrev S1056x768 : Shape := ⟨2, ![1056, 768]⟩
abbrev S1x1024x768 : Shape := ⟨3, ![1, 1024, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4224x6144, .bf16⟩
  | .hbm, ⟨1, _⟩ => ⟨S8x2048x768, .bf16⟩
  | .hbm, ⟨2, _⟩ => ⟨S1x4224x6144, .bf16⟩
  | .hbm, ⟨3, _⟩ => ⟨S4224x2048, .f32⟩
  | .local _ .vmem, ⟨0, _⟩ => ⟨S1x1056x3072, .bf16⟩
  | .local _ .vmem, ⟨1, _⟩ => ⟨S1x1056x3072, .bf16⟩
  | .local _ .vmem, ⟨2, _⟩ => ⟨S4x1024x768, .bf16⟩
  | .local _ .vmem, ⟨3, _⟩ => ⟨S4x1024x768, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_23 : BitVec 32 := 0#32
  let v31 : BitVec 1 := Scalar.cmpi .ne v30 c0_i32_23
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x6144 : Shape := ⟨2, ![4224, 6144]⟩
abbrev S8x2048x768 : Shape := ⟨3, ![8, 2048, 768]⟩
abbrev S_ : Shape := ⟨0, ![]⟩
abbrev S4224x2048 : Shape := ⟨2, ![4224, 2048]⟩
abbrev S2048x8x768 : Shape := ⟨3, ![2048, 8, 768]⟩
abbrev S2048x6144 : Shape := ⟨2, ![2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S4224x6144, .bf16⟩
  | .hbm, ⟨1, _⟩ => ⟨S8x2048x768, .bf16⟩
  | .hbm, ⟨2, _⟩ => ⟨S_, .f32⟩
  | .hbm, ⟨3, _⟩ => ⟨S4224x2048, .f32⟩
  | .hbm, ⟨4, _⟩ => ⟨S8x2048x768, .f32⟩
  | .hbm, ⟨5, _⟩ => ⟨S2048x8x768, .f32⟩
  | .hbm, ⟨6, _⟩ => ⟨S2048x6144, .f32⟩
  | .hbm, ⟨7, _⟩ => ⟨S4224x6144, .f32⟩
  | .hbm, ⟨8, _⟩ => ⟨S4224x6144, .f32⟩
  | .hbm, ⟨9, _⟩ => ⟨S4224x2048, .f32⟩
  | _, _ => ⟨S4224x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4224x2048 : Shape := ⟨2, ![4224, 2048]⟩
abbrev S1x4224x2048 : Shape := ⟨3, ![1, 4224, 2048]⟩
abbrev S1x2048x2048 : Shape := ⟨3, ![1, 2048, 2048]⟩
abbrev S4224x512 : Shape := ⟨2, ![4224, 512]⟩
abbrev S1x4224x1024 : Shape := ⟨3, ![1, 4224, 1024]⟩
abbrev S1x512x1024 : Shape := ⟨3, ![1, 512, 1024]⟩
abbrev S4224x1024 : Shape := ⟨2, ![4224, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S1x4224x2048, .bf16⟩
  | .hbm, ⟨3, _⟩ => ⟨S1x2048x2048, .bf16⟩
  | .local _ .vmem, ⟨0, _⟩ => ⟨S4224x512, .bf16⟩
  | .local _ .vmem, ⟨1, _⟩ => ⟨S4224x512, .bf16⟩
  | .local _ .vmem, ⟨2, _⟩ => ⟨S1x4224x1024, .bf16⟩
  | .local _ .vmem, ⟨3, _⟩ => ⟨S1x4224x1024, .bf16⟩
  | .local _ .vmem, ⟨4, _⟩ => ⟨S1x512x1024, .bf16⟩
  | .local _ .vmem, ⟨5, _⟩ => ⟨S1x512x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4224x2048 : Shape := ⟨2, ![4224, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4224x2048 : Shape := ⟨2, ![4224, 2048]⟩
abbrev S1x2048x2048 : Shape := ⟨3, ![1, 2048, 2048]⟩
abbrev S1056x2048 : Shape := ⟨2, ![1056, 2048]⟩
abbrev S1x2048x1024 : Shape := ⟨3, ![1, 2048, 1024]⟩
abbrev S1056x1024 : Shape := ⟨2, ![1056, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S1x2048x2048, .bf16⟩
  | .hbm, ⟨2, _⟩ => ⟨S4224x2048, .f32⟩
  | .hbm, ⟨3, _⟩ => ⟨S4224x2048, .f32⟩
  | .local _ .vmem, ⟨0, _⟩ => ⟨S1056x2048, .bf16⟩
  | .local _ .vmem, ⟨1, _⟩ => ⟨S1056x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4224x2048 : Shape := ⟨2, ![4224, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S1x2048x2048, .bf16⟩
  | .hbm, ⟨2, _⟩ => ⟨S4224x2048, .f32⟩
  | .hbm, ⟨3, _⟩ => ⟨S4224x2048, .f32⟩
  | .hbm, ⟨4, _⟩ => ⟨S2048x2048, .bf16⟩
  | .hbm, ⟨5, _⟩ => ⟨S2048x2048, .f32⟩
  | .hbm, ⟨6, _⟩ => ⟨S4224x2048, .f32⟩
  | .hbm, ⟨7, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4224x2048 : Shape := ⟨2, ![4224, 2048]⟩
abbrev S1x2048x2048 : Shape := ⟨3, ![1, 2048, 2048]⟩
abbrev S1056x2048 : Shape := ⟨2, ![1056, 2048]⟩
abbrev S1x2048x1024 : Shape := ⟨3, ![1, 2048, 1024]⟩
abbrev S1056x1024 : Shape := ⟨2, ![1056, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S1x2048x2048, .bf16⟩
  | .hbm, ⟨2, _⟩ => ⟨S4224x2048, .f32⟩
  | .local _ .vmem, ⟨0, _⟩ => ⟨S1056x2048, .bf16⟩
  | .local _ .vmem, ⟨1, _⟩ => ⟨S1056x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1056x1024, .f32⟩
  | .local _ .vmem, ⟨5, _⟩ => ⟨S1056x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4224x2048 : Shape := ⟨2, ![4224, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S1x2048x2048, .bf16⟩
  | .hbm, ⟨2, _⟩ => ⟨S4224x2048, .f32⟩
  | .hbm, ⟨3, _⟩ => ⟨S2048x2048, .bf16⟩
  | .hbm, ⟨4, _⟩ => ⟨S2048x2048, .f32⟩
  | .hbm, ⟨5, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4224x2048 : Shape := ⟨2, ![4224, 2048]⟩
abbrev S1x2048x2048 : Shape := ⟨3, ![1, 2048, 2048]⟩
abbrev S1x4224x2048 : Shape := ⟨3, ![1, 4224, 2048]⟩
abbrev S1x1056x2048 : Shape := ⟨3, ![1, 1056, 2048]⟩
abbrev S1x1024x2048 : Shape := ⟨3, ![1, 1024, 2048]⟩
abbrev S1056x1024 : Shape := ⟨2, ![1056, 1024]⟩
abbrev S1056x2048 : Shape := ⟨2, ![1056, 2048]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S1x2048x2048, .bf16⟩
  | .hbm, ⟨2, _⟩ => ⟨S1x4224x2048, .bf16⟩
  | .hbm, ⟨3, _⟩ => ⟨S4224x2048, .f32⟩
  | .local _ .vmem, ⟨0, _⟩ => ⟨S1x1056x2048, .bf16⟩
  | .local _ .vmem, ⟨1, _⟩ => ⟨S1x1056x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1056x1024, .f32⟩
  | .local _ .vmem, ⟨5, _⟩ => ⟨S1056x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4224x2048 : Shape := ⟨2, ![4224, 2048]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S1x2048x2048, .bf16⟩
  | .hbm, ⟨2, _⟩ => ⟨S_, .f32⟩
  | .hbm, ⟨3, _⟩ => ⟨S4224x2048, .f32⟩
  | .hbm, ⟨4, _⟩ => ⟨S2048x2048, .bf16⟩
  | .hbm, ⟨5, _⟩ => ⟨S2048x2048, .f32⟩
  | .hbm, ⟨6, _⟩ => ⟨S4224x2048, .f32⟩
  | .hbm, ⟨7, _⟩ => ⟨S4224x2048, .f32⟩
  | .hbm, ⟨8, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4224x2048 : Shape := ⟨2, ![4224, 2048]⟩
abbrev S8x2048x512 : Shape := ⟨3, ![8, 2048, 512]⟩
abbrev S4224x4096 : Shape := ⟨2, ![4224, 4096]⟩
abbrev S1056x2048 : Shape := ⟨2, ![1056, 2048]⟩
abbrev S1x2048x512 : Shape := ⟨3, ![1, 2048, 512]⟩
abbrev S1056x512 : Shape := ⟨2, ![1056, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S8x2048x512, .bf16⟩
  | .hbm, ⟨2, _⟩ => ⟨S4224x4096, .f32⟩
  | .local _ .vmem, ⟨0, _⟩ => ⟨S1056x2048, .bf16⟩
  | .local _ .vmem, ⟨1, _⟩ => ⟨S1056x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1056x512, .f32⟩
  | .local _ .vmem, ⟨5, _⟩ => ⟨S1056x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4224x2048 : Shape := ⟨2, ![4224, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4224x4096 : Shape := ⟨2, ![4224, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S8x2048x512, .bf16⟩
  | .hbm, ⟨2, _⟩ => ⟨S4224x2048, .f32⟩
  | .hbm, ⟨3, _⟩ => ⟨S8x2048x512, .f32⟩
  | .hbm, ⟨4, _⟩ => ⟨S2048x8x512, .f32⟩
  | .hbm, ⟨5, _⟩ => ⟨S2048x4096, .f32⟩
  | .hbm, ⟨6, _⟩ => ⟨S4224x4096, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S4224x2048 : Shape := ⟨2, ![4224, 2048]⟩
abbrev S4224x4096 : Shape := ⟨2, ![4224, 4096]⟩
abbrev S1x4224x4096 : Shape := ⟨3, ![1, 4224, 4096]⟩
abbrev S8x2048x512 : Shape := ⟨3, ![8, 2048, 512]⟩
abbrev S4224x512 : Shape := ⟨2, ![4224, 512]⟩
abbrev S1x4224x512 : Shape := ⟨3, ![1, 4224, 512]⟩
abbrev S1x512x512 : Shape := ⟨3, ![1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x4096, .bf16⟩
  | .hbm, ⟨2, _⟩ => ⟨S1x4224x4096, .bf16⟩
  | .hbm, ⟨3, _⟩ => ⟨S8x2048x512, .bf16⟩
  | .local _ .vmem, ⟨0, _⟩ => ⟨S4224x512, .bf16⟩
  | .local _ .vmem, ⟨1, _⟩ => ⟨S4224x512, .bf16⟩
  | .local _ .vmem, ⟨2, _⟩ => ⟨S1x4224x512, .bf16⟩
  | .local _ .vmem, ⟨3, _⟩ => ⟨S1x4224x512, .bf16⟩
  | .local _ .vmem, ⟨4, _⟩ => ⟨S1x512x512, .bf16⟩
  | .local _ .vmem, ⟨5, _⟩ => ⟨S1x512x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4224x2048 : Shape := ⟨2, ![4224, 2048]⟩
abbrev S4224x4096 : Shape := ⟨2, ![4224, 4096]⟩
abbrev S_ : Shape := ⟨0, ![]⟩
abbrev S8x2048x512 : Shape := ⟨3, ![8, 2048, 512]⟩
abbrev S2048x8x512 : Shape := ⟨3, ![2048, 8, 512]⟩
abbrev S2048x4096 : Shape := ⟨2, ![2048, 4096]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x4096, .bf16⟩
  | .hbm, ⟨2, _⟩ => ⟨S_, .f32⟩
  | .hbm, ⟨3, _⟩ => ⟨S8x2048x512, .f32⟩
  | .hbm, ⟨4, _⟩ => ⟨S4224x2048, .f32⟩
  | .hbm, ⟨5, _⟩ => ⟨S2048x8x512, .f32⟩
  | .hbm, ⟨6, _⟩ => ⟨S2048x4096, .f32⟩
  | .hbm, ⟨7, _⟩ => ⟨S4224x4096, .f32⟩
  | .hbm, ⟨8, _⟩ => ⟨S4224x4096, .f32⟩
  | .hbm, ⟨9, _⟩ => ⟨S4096x2048, .f32⟩
  | .hbm, ⟨10, _⟩ => ⟨S2048x4096, .f32⟩
  | .hbm, ⟨11, _⟩ => ⟨S2048x8x512, .f32⟩
  | .hbm, ⟨12, _⟩ => ⟨S8x2048x512, .f32⟩
  | .hbm, ⟨13, _⟩ => ⟨S8x2048x512, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel17.lean ====
abbrev S4224x4096 : Shape := ⟨2, ![4224, 4096]⟩
abbrev S8x2048x512 : Shape := ⟨3, ![8, 2048, 512]⟩
abbrev S4224x2048 : Shape := ⟨2, ![4224, 2048]⟩
abbrev S1x4224x4096 : Shape := ⟨3, ![1, 4224, 4096]⟩
abbrev S1x1056x2048 : Shape := ⟨3, ![1, 1056, 2048]⟩
abbrev S4x1024x512 : Shape := ⟨3, ![4, 1024, 512]⟩
abbrev S1056x1024 : Shape := ⟨2, ![1056, 1024]⟩
abbrev S1x1056x512 : Shape := ⟨3, ![1, 1056, 512]⟩
abbrev S1056x512 : Shape := ⟨2, ![1056, 512]⟩
abbrev S1x1024x512 : Shape := ⟨3, ![1, 1024, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S4224x4096, .bf16⟩
  | .hbm, ⟨1, _⟩ => ⟨S8x2048x512, .bf16⟩
  | .hbm, ⟨2, _⟩ => ⟨S4224x2048, .f32⟩
  | .hbm, ⟨3, _⟩ => ⟨S1x4224x4096, .bf16⟩
  | .hbm, ⟨4, _⟩ => ⟨S4224x2048, .f32⟩
  | .local _ .vmem, ⟨0, _⟩ => ⟨S1x1056x2048, .bf16⟩
  | .local _ .vmem, ⟨1, _⟩ => ⟨S1x1056x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | .local _ .vmem, ⟨8, _⟩ => ⟨S1056x1024, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_23 : BitVec 32 := 0#32
  let v31 : BitVec 1 := Scalar.cmpi .ne v30 c0_i32_23
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4224x4096 : Shape := ⟨2, ![4224, 4096]⟩
abbrev S8x2048x512 : Shape := ⟨3, ![8, 2048, 512]⟩
abbrev S4224x2048 : Shape := ⟨2, ![4224, 2048]⟩
abbrev S_ : Shape := ⟨0, ![]⟩
abbrev S2048x8x512 : Shape := ⟨3, ![2048, 8, 512]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S8x2048x512, .bf16⟩
  | .hbm, ⟨2, _⟩ => ⟨S4224x2048, .f32⟩
  | .hbm, ⟨3, _⟩ => ⟨S_, .f32⟩
  | .hbm, ⟨4, _⟩ => ⟨S4224x2048, .f32⟩
  | .hbm, ⟨5, _⟩ => ⟨S8x2048x512, .f32⟩
  | .hbm, ⟨6, _⟩ => ⟨S2048x8x512, .f32⟩
  | .hbm, ⟨7, _⟩ => ⟨S2048x4096, .f32⟩
  | .hbm, ⟨8, _⟩ => ⟨S4224x4096, .f32⟩
  | .hbm, ⟨9, _⟩ => ⟨S4224x4096, .f32⟩
  | .hbm, ⟨10, _⟩ => ⟨S4224x2048, .f32⟩
  | .hbm, ⟨11, _⟩ => ⟨S4224x2048, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel18.lean ====
abbrev S4224x2048 : Shape := ⟨2, ![4224, 2048]⟩
abbrev S2048 : Shape := ⟨1, ![2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 8
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S2048, .f32⟩
  | .hbm, ⟨3, _⟩ => ⟨S4224x2048, .f32⟩
  | .hbm, ⟨4, _⟩ => ⟨S1x2048, .f32⟩
  | .hbm, ⟨5, _⟩ => ⟨S4224x2048, .f32⟩
  | .hbm, ⟨6, _⟩ => ⟨S4224x2048, .bf16⟩
  | .hbm, ⟨7, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S384x2048, .f32⟩
  | .local _ .vmem, ⟨3, _⟩ => ⟨S384x2048, .f32⟩
  | .local _ .vmem, ⟨4, _⟩ => ⟨S1x2048, .f32⟩
  | .local _ .vmem, ⟨5, _⟩ => ⟨S384x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .f32⟩
  | .local _ .vmem, ⟨9, _⟩ => ⟨S384x2048, .bf16⟩
  | .local _ .vmem, ⟨10, _⟩ => ⟨S384x2048, .bf16⟩
  | .local _ .vmem, ⟨11, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S4224x2048 : Shape := ⟨2, ![4224, 2048]⟩
abbrev S2048 : Shape := ⟨1, ![2048]⟩
abbrev S_ : Shape := ⟨0, ![]⟩
abbrev S4224 : Shape := ⟨1, ![4224]⟩
abbrev S4224x1 : Shape := ⟨2, ![4224, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S2048, .f32⟩
  | .hbm, ⟨3, _⟩ => ⟨S4224x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S1x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S2048, .f32⟩
  | .hbm, ⟨32, _⟩ => ⟨S4224x2048, .f32⟩
  | .hbm, ⟨33, _⟩ => ⟨S_, .f32⟩
  | .hbm, ⟨34, _⟩ => ⟨S4224, .f32⟩
  | .hbm, ⟨35, _⟩ => ⟨S4224x1, .f32⟩
  | .hbm, ⟨36, _⟩ => ⟨S4224x2048, .f32⟩
  | .hbm, ⟨37, _⟩ => ⟨S4224x2048, .f32⟩
  | .hbm, ⟨38, _⟩ => ⟨S4224x1, .f32⟩
  | .hbm, ⟨39, _⟩ => ⟨S_, .f32⟩
  | .hbm, ⟨40, _⟩ => ⟨S4224x1, .f32⟩
  | .hbm, ⟨41, _⟩ => ⟨S4224x1, .f32⟩
  | .hbm, ⟨42, _⟩ => ⟨S_, .f32⟩
  | .hbm, ⟨43, _⟩ => ⟨S4224, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S4224x2048, .f32⟩
  | .hbm, ⟨51, _⟩ => ⟨S4224x2048, .bf16⟩
  | .hbm, ⟨52, _⟩ => ⟨S1x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel19.lean ====
abbrev S4224x2048 : Shape := ⟨2, ![4224, 2048]⟩
abbrev S2048 : Shape := ⟨1, ![2048]⟩
abbrev S1x2048 : Shape := ⟨2, ![1, 2048]⟩
abbrev S528x2048 : Shape := ⟨2, ![528, 2048]⟩
abbrev S528 : Shape := ⟨1, ![528]⟩
abbrev S528x1 : Shape := ⟨2, ![528, 1]⟩

abbrev nBuf : Space → Nat
  | .hbm => 4
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S2048, .f32⟩
  | .hbm, ⟨2, _⟩ => ⟨S1x2048, .f32⟩
  | .hbm, ⟨3, _⟩ => ⟨S4224x2048, .bf16⟩
  | .local _ .vmem, ⟨0, _⟩ => ⟨S528x2048, .f32⟩
  | .local _ .vmem, ⟨1, _⟩ => ⟨S528x2048, .f32⟩
  | .local _ .vmem, ⟨2, _⟩ => ⟨S1x2048, .f32⟩
  | .local _ .vmem, ⟨3, _⟩ => ⟨S528x2048, .bf16⟩
  | .local _ .vmem, ⟨4, _⟩ => ⟨S528x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S528x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S4224x2048 : Shape := ⟨2, ![4224, 2048]⟩
abbrev S2048 : Shape := ⟨1, ![2048]⟩
abbrev S_ : Shape := ⟨0, ![]⟩
abbrev S4224 : Shape := ⟨1, ![4224]⟩
abbrev S4224x1 : Shape := ⟨2, ![4224, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048, .f32⟩
  | .hbm, ⟨2, _⟩ => ⟨S4224x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x2048, .f32⟩
  | .hbm, ⟨14, _⟩ => ⟨S4224x2048, .f32⟩
  | .hbm, ⟨15, _⟩ => ⟨S1x2048, .f32⟩
  | .hbm, ⟨16, _⟩ => ⟨S4224x2048, .f32⟩
  | .hbm, ⟨17, _⟩ => ⟨S4224x2048, .f32⟩
  | .hbm, ⟨18, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel20.lean ====
abbrev S8x24x2048 : Shape := ⟨3, ![8, 24, 2048]⟩
abbrev S24x2048 : Shape := ⟨2, ![24, 2048]⟩
abbrev S1x24x2048 : Shape := ⟨3, ![1, 24, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x24x2048, .f32⟩
  | .hbm, ⟨1, _⟩ => ⟨S24x2048, .f32⟩
  | .hbm, ⟨2, _⟩ => ⟨S24x2048, .f32⟩
  | .hbm, ⟨3, _⟩ => ⟨S24x2048, .f32⟩
  | .hbm, ⟨4, _⟩ => ⟨S24x2048, .f32⟩
  | .hbm, ⟨5, _⟩ => ⟨S24x2048, .f32⟩
  | .hbm, ⟨6, _⟩ => ⟨S24x2048, .f32⟩
  | .hbm, ⟨7, _⟩ => ⟨S24x2048, .f32⟩
  | .local _ .vmem, ⟨0, _⟩ => ⟨S8x24x2048, .f32⟩
  | .local _ .vmem, ⟨1, _⟩ => ⟨S24x2048, .f32⟩
  | .local _ .vmem, ⟨2, _⟩ => ⟨S24x2048, .f32⟩
  | .local _ .vmem, ⟨3, _⟩ => ⟨S24x2048, .f32⟩
  | .local _ .vmem, ⟨4, _⟩ => ⟨S24x2048, .f32⟩
  | .local _ .vmem, ⟨5, _⟩ => ⟨S24x2048, .f32⟩
  | .local _ .vmem, ⟨6, _⟩ => ⟨S24x2048, .f32⟩
  | .local _ .vmem, ⟨7, _⟩ => ⟨S24x2048, .f32⟩
  | _, _ => ⟨S8x24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x24x2048 : Shape := ⟨3, ![8, 24, 2048]⟩
abbrev S24x2048 : Shape := ⟨2, ![24, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x24x2048, .f32⟩
  | .hbm, ⟨1, _⟩ => ⟨S24x2048, .f32⟩
  | .hbm, ⟨2, _⟩ => ⟨S24x2048, .f32⟩
  | .hbm, ⟨3, _⟩ => ⟨S24x2048, .f32⟩
  | .hbm, ⟨4, _⟩ => ⟨S_, .f32⟩
  | .hbm, ⟨5, _⟩ => ⟨S24x2048, .f32⟩
  | .hbm, ⟨6, _⟩ => ⟨S_, .f32⟩
  | .hbm, ⟨7, _⟩ => ⟨S24x2048, .f32⟩
  | .hbm, ⟨8, _⟩ => ⟨S24x2048, .f32⟩
  | .hbm, ⟨9, _⟩ => ⟨S_, .f32⟩
  | .hbm, ⟨10, _⟩ => ⟨S24x2048, .f32⟩
  | .hbm, ⟨11, _⟩ => ⟨S24x2048, .f32⟩
  | .hbm, ⟨12, _⟩ => ⟨S24x2048, .f32⟩
  | .hbm, ⟨13, _⟩ => ⟨S_, .f32⟩
  | .hbm, ⟨14, _⟩ => ⟨S24x2048, .f32⟩
  | .hbm, ⟨15, _⟩ => ⟨S24x2048, .f32⟩
  | .hbm, ⟨16, _⟩ => ⟨S24x2048, .f32⟩
  | .hbm, ⟨17, _⟩ => ⟨S_, .f32⟩
  | .hbm, ⟨18, _⟩ => ⟨S24x2048, .f32⟩
  | .hbm, ⟨19, _⟩ => ⟨S24x2048, .f32⟩
  | .hbm, ⟨20, _⟩ => ⟨S24x2048, .f32⟩
  | .hbm, ⟨21, _⟩ => ⟨S_, .f32⟩
  | .hbm, ⟨22, _⟩ => ⟨S24x2048, .f32⟩
  | .hbm, ⟨23, _⟩ => ⟨S24x2048, .f32⟩
  | .hbm, ⟨24, _⟩ => ⟨S_, .f32⟩
  | .hbm, ⟨25, _⟩ => ⟨S24x2048, .f32⟩
  | .hbm, ⟨26, _⟩ => ⟨S24x2048, .f32⟩
  | .hbm, ⟨27, _⟩ => ⟨S24x2048, .f32⟩
  | .hbm, ⟨28, _⟩ => ⟨S_, .f32⟩
  | .hbm, ⟨29, _⟩ => ⟨S24x2048, .f32⟩
  | .hbm, ⟨30, _⟩ => ⟨S24x2048, .f32⟩
  | .hbm, ⟨31, _⟩ => ⟨S24x2048, .f32⟩
  | .hbm, ⟨32, _⟩ => ⟨S_, .f32⟩
  | .hbm, ⟨33, _⟩ => ⟨S24x2048, .f32⟩
  | .hbm, ⟨34, _⟩ => ⟨S24x2048, .f32⟩
  | .hbm, ⟨35, _⟩ => ⟨S24x2048, .f32⟩
  | .hbm, ⟨36, _⟩ => ⟨S_, .f32⟩
  | .hbm, ⟨37, _⟩ => ⟨S24x2048, .f32⟩
  | .hbm, ⟨38, _⟩ => ⟨S24x2048, .f32⟩
  | _, _ => ⟨S8x24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x48x256 : Shape := ⟨3, ![8, 48, 256]⟩
abbrev S48x256 : Shape := ⟨2, ![48, 256]⟩
abbrev S1x48x256 : Shape := ⟨3, ![1, 48, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x48x256, .f32⟩
  | .hbm, ⟨1, _⟩ => ⟨S48x256, .f32⟩
  | .hbm, ⟨2, _⟩ => ⟨S48x256, .f32⟩
  | .hbm, ⟨3, _⟩ => ⟨S48x256, .f32⟩
  | .hbm, ⟨4, _⟩ => ⟨S48x256, .f32⟩
  | .hbm, ⟨5, _⟩ => ⟨S48x256, .f32⟩
  | .hbm, ⟨6, _⟩ => ⟨S48x256, .f32⟩
  | .hbm, ⟨7, _⟩ => ⟨S48x256, .f32⟩
  | .local _ .vmem, ⟨0, _⟩ => ⟨S8x48x256, .f32⟩
  | .local _ .vmem, ⟨1, _⟩ => ⟨S48x256, .f32⟩
  | .local _ .vmem, ⟨2, _⟩ => ⟨S48x256, .f32⟩
  | .local _ .vmem, ⟨3, _⟩ => ⟨S48x256, .f32⟩
  | .local _ .vmem, ⟨4, _⟩ => ⟨S48x256, .f32⟩
  | .local _ .vmem, ⟨5, _⟩ => ⟨S48x256, .f32⟩
  | .local _ .vmem, ⟨6, _⟩ => ⟨S48x256, .f32⟩
  | .local _ .vmem, ⟨7, _⟩ => ⟨S48x256, .f32⟩
  | _, _ => ⟨S8x48x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x48x256 : Shape := ⟨3, ![8, 48, 256]⟩
abbrev S48x256 : Shape := ⟨2, ![48, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x48x256, .f32⟩
  | .hbm, ⟨1, _⟩ => ⟨S48x256, .f32⟩
  | .hbm, ⟨2, _⟩ => ⟨S48x256, .f32⟩
  | .hbm, ⟨3, _⟩ => ⟨S48x256, .f32⟩
  | .hbm, ⟨4, _⟩ => ⟨S_, .f32⟩
  | .hbm, ⟨5, _⟩ => ⟨S48x256, .f32⟩
  | .hbm, ⟨6, _⟩ => ⟨S_, .f32⟩
  | .hbm, ⟨7, _⟩ => ⟨S48x256, .f32⟩
  | .hbm, ⟨8, _⟩ => ⟨S48x256, .f32⟩
  | .hbm, ⟨9, _⟩ => ⟨S_, .f32⟩
  | .hbm, ⟨10, _⟩ => ⟨S48x256, .f32⟩
  | .hbm, ⟨11, _⟩ => ⟨S48x256, .f32⟩
  | .hbm, ⟨12, _⟩ => ⟨S48x256, .f32⟩
  | .hbm, ⟨13, _⟩ => ⟨S_, .f32⟩
  | .hbm, ⟨14, _⟩ => ⟨S48x256, .f32⟩
  | .hbm, ⟨15, _⟩ => ⟨S48x256, .f32⟩
  | .hbm, ⟨16, _⟩ => ⟨S48x256, .f32⟩
  | .hbm, ⟨17, _⟩ => ⟨S_, .f32⟩
  | .hbm, ⟨18, _⟩ => ⟨S48x256, .f32⟩
  | .hbm, ⟨19, _⟩ => ⟨S48x256, .f32⟩
  | .hbm, ⟨20, _⟩ => ⟨S48x256, .f32⟩
  | .hbm, ⟨21, _⟩ => ⟨S_, .f32⟩
  | .hbm, ⟨22, _⟩ => ⟨S48x256, .f32⟩
  | .hbm, ⟨23, _⟩ => ⟨S48x256, .f32⟩
  | .hbm, ⟨24, _⟩ => ⟨S_, .f32⟩
  | .hbm, ⟨25, _⟩ => ⟨S48x256, .f32⟩
  | .hbm, ⟨26, _⟩ => ⟨S48x256, .f32⟩
  | .hbm, ⟨27, _⟩ => ⟨S48x256, .f32⟩
  | .hbm, ⟨28, _⟩ => ⟨S_, .f32⟩
  | .hbm, ⟨29, _⟩ => ⟨S48x256, .f32⟩
  | .hbm, ⟨30, _⟩ => ⟨S48x256, .f32⟩
  | .hbm, ⟨31, _⟩ => ⟨S48x256, .f32⟩
  | .hbm, ⟨32, _⟩ => ⟨S_, .f32⟩
  | .hbm, ⟨33, _⟩ => ⟨S48x256, .f32⟩
  | .hbm, ⟨34, _⟩ => ⟨S48x256, .f32⟩
  | .hbm, ⟨35, _⟩ => ⟨S48x256, .f32⟩
  | .hbm, ⟨36, _⟩ => ⟨S_, .f32⟩
  | .hbm, ⟨37, _⟩ => ⟨S48x256, .f32⟩
  | .hbm, ⟨38, _⟩ => ⟨S48x256, .f32⟩
  | _, _ => ⟨S8x48x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S4224x2048 : Shape := ⟨2, ![4224, 2048]⟩
abbrev S4096x2048 : Shape := ⟨2, ![4096, 2048]⟩
abbrev S8x128 : Shape := ⟨2, ![8, 128]⟩
abbrev S128x2048 : Shape := ⟨2, ![128, 2048]⟩
abbrev S1x128x2048 : Shape := ⟨3, ![1, 128, 2048]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4224x2048, .f32⟩
  | .hbm, ⟨1, _⟩ => ⟨S4096x2048, .f32⟩
  | .hbm, ⟨2, _⟩ => ⟨S4224x2048, .f32⟩
  | .hbm, ⟨3, _⟩ => ⟨S4224x2048, .bf16⟩
  | .hbm, ⟨4, _⟩ => ⟨S8x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | .local _ .vmem, ⟨8, _⟩ => ⟨S8x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference22Ideal.lean ====
abbrev S4224x2048 : Shape := ⟨2, ![4224, 2048]⟩
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 30
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4224x2048, .f32⟩
  | .hbm, ⟨28, _⟩ => ⟨S4224x2048, .bf16⟩
  | .hbm, ⟨29, _⟩ => ⟨S8x128, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel23.lean ====
abbrev S4224x2048 : Shape := ⟨2, ![4224, 2048]⟩
abbrev S1x2048x128 : Shape := ⟨3, ![1, 2048, 128]⟩
abbrev S4224x128 : Shape := ⟨2, ![4224, 128]⟩
abbrev S1056x2048 : Shape := ⟨2, ![1056, 2048]⟩
abbrev S1056x128 : Shape := ⟨2, ![1056, 128]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .bf16⟩
  | .hbm, ⟨1, _⟩ => ⟨S1x2048x128, .bf16⟩
  | .hbm, ⟨2, _⟩ => ⟨S4224x128, .f32⟩
  | .local _ .vmem, ⟨0, _⟩ => ⟨S1056x2048, .bf16⟩
  | .local _ .vmem, ⟨1, _⟩ => ⟨S1056x2048, .bf16⟩
  | .local _ .vmem, ⟨2, _⟩ => ⟨S1x2048x128, .bf16⟩
  | .local _ .vmem, ⟨3, _⟩ => ⟨S1056x128, .f32⟩
  | .local _ .vmem, ⟨4, _⟩ => ⟨S1056x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4224x2048 : Shape := ⟨2, ![4224, 2048]⟩
abbrev S1x2048x128 : Shape := ⟨3, ![1, 2048, 128]⟩
abbrev S2048x128 : Shape := ⟨2, ![2048, 128]⟩
abbrev S4224x128 : Shape := ⟨2, ![4224, 128]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S1x2048x128, .bf16⟩
  | .hbm, ⟨2, _⟩ => ⟨S4224x2048, .f32⟩
  | .hbm, ⟨3, _⟩ => ⟨S2048x128, .bf16⟩
  | .hbm, ⟨4, _⟩ => ⟨S2048x128, .f32⟩
  | .hbm, ⟨5, _⟩ => ⟨S4224x128, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S4224x128 : Shape := ⟨2, ![4224, 128]⟩
abbrev S4224x2048 : Shape := ⟨2, ![4224, 2048]⟩
abbrev S1x4224x2048 : Shape := ⟨3, ![1, 4224, 2048]⟩
abbrev S1x128x2048 : Shape := ⟨3, ![1, 128, 2048]⟩
abbrev S1x4224x1024 : Shape := ⟨3, ![1, 4224, 1024]⟩
abbrev S1x128x1024 : Shape := ⟨3, ![1, 128, 1024]⟩
abbrev S4224x1024 : Shape := ⟨2, ![4224, 1024]⟩
abbrev S128x1024 : Shape := ⟨2, ![128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4224x128, .bf16⟩
  | .hbm, ⟨1, _⟩ => ⟨S4224x2048, .bf16⟩
  | .hbm, ⟨2, _⟩ => ⟨S1x4224x2048, .bf16⟩
  | .hbm, ⟨3, _⟩ => ⟨S1x128x2048, .f32⟩
  | .local _ .vmem, ⟨0, _⟩ => ⟨S4224x128, .bf16⟩
  | .local _ .vmem, ⟨1, _⟩ => ⟨S1x4224x1024, .bf16⟩
  | .local _ .vmem, ⟨2, _⟩ => ⟨S1x4224x1024, .bf16⟩
  | .local _ .vmem, ⟨3, _⟩ => ⟨S1x128x1024, .f32⟩
  | .local _ .vmem, ⟨4, _⟩ => ⟨S1x128x1024, .f32⟩
  | _, _ => ⟨S4224x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4224x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4224x128 : Shape := ⟨2, ![4224, 128]⟩
abbrev S4224x2048 : Shape := ⟨2, ![4224, 2048]⟩
abbrev S_ : Shape := ⟨0, ![]⟩
abbrev S2048x128 : Shape := ⟨2, ![2048, 128]⟩
abbrev S128x2048 : Shape := ⟨2, ![128, 2048]⟩
abbrev S1x128x2048 : Shape := ⟨3, ![1, 128, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x128, .bf16⟩
  | .hbm, ⟨1, _⟩ => ⟨S4224x2048, .bf16⟩
  | .hbm, ⟨2, _⟩ => ⟨S_, .f32⟩
  | .hbm, ⟨3, _⟩ => ⟨S2048x128, .f32⟩
  | .hbm, ⟨4, _⟩ => ⟨S4224x2048, .f32⟩
  | .hbm, ⟨5, _⟩ => ⟨S4224x128, .f32⟩
  | .hbm, ⟨6, _⟩ => ⟨S4224x128, .f32⟩
  | .hbm, ⟨7, _⟩ => ⟨S128x2048, .f32⟩
  | .hbm, ⟨8, _⟩ => ⟨S2048x128, .f32⟩
  | .hbm, ⟨9, _⟩ => ⟨S128x2048, .f32⟩
  | .hbm, ⟨10, _⟩ => ⟨S1x128x2048, .f32⟩
  | _, _ => ⟨S4224x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel25.lean ====
abbrev S4224x128 : Shape := ⟨2, ![4224, 128]⟩
abbrev S1x2048x128 : Shape := ⟨3, ![1, 2048, 128]⟩
abbrev S1x4224x128 : Shape := ⟨3, ![1, 4224, 128]⟩
abbrev S4224x2048 : Shape := ⟨2, ![4224, 2048]⟩
abbrev S1x1056x128 : Shape := ⟨3, ![1, 1056, 128]⟩
abbrev S1x1024x128 : Shape := ⟨3, ![1, 1024, 128]⟩
abbrev S1056x1024 : Shape := ⟨2, ![1056, 1024]⟩
abbrev S1056x128 : Shape := ⟨2, ![1056, 128]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S4224x128, .bf16⟩
  | .hbm, ⟨1, _⟩ => ⟨S1x2048x128, .bf16⟩
  | .hbm, ⟨2, _⟩ => ⟨S1x4224x128, .bf16⟩
  | .hbm, ⟨3, _⟩ => ⟨S4224x2048, .f32⟩
  | .local _ .vmem, ⟨0, _⟩ => ⟨S1x1056x128, .bf16⟩
  | .local _ .vmem, ⟨1, _⟩ => ⟨S1x1056x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1056x1024, .f32⟩
  | .local _ .vmem, ⟨5, _⟩ => ⟨S1056x1024, .f32⟩
  | _, _ => ⟨S4224x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1056x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4224x128 : Shape := ⟨2, ![4224, 128]⟩
abbrev S1x2048x128 : Shape := ⟨3, ![1, 2048, 128]⟩
abbrev S_ : Shape := ⟨0, ![]⟩
abbrev S4224x2048 : Shape := ⟨2, ![4224, 2048]⟩
abbrev S2048x128 : Shape := ⟨2, ![2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S4224x128, .bf16⟩
  | .hbm, ⟨1, _⟩ => ⟨S1x2048x128, .bf16⟩
  | .hbm, ⟨2, _⟩ => ⟨S_, .f32⟩
  | .hbm, ⟨3, _⟩ => ⟨S4224x2048, .f32⟩
  | .hbm, ⟨4, _⟩ => ⟨S2048x128, .bf16⟩
  | .hbm, ⟨5, _⟩ => ⟨S2048x128, .f32⟩
  | .hbm, ⟨6, _⟩ => ⟨S4224x128, .f32⟩
  | .hbm, ⟨7, _⟩ => ⟨S4224x128, .f32⟩
  | .hbm, ⟨8, _⟩ => ⟨S4224x2048, .f32⟩
  | _, _ => ⟨S4224x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The scalar the kernel's first branch tests: key block 0. -/
abbrev cond1 (i : grid0.Coords) : BitVec 1 :=
  Scalar.cmpi .ne (Scalar.extui (Scalar.cmpi .eq (BitVec.ofNat 32 (i 1).val) 0#32) : BitVec 32) 0#32

/-- The two stores of a key block's result tile it. -/
theorem cover_tile (p0 p1 : Vec F S384x128 .f32) (y : S384x256.Idx) :
    ∃ pc ∈ ([⟨Rect.unit (s := S384x256) ![0, 128] S384x128.size inb_S384x256_S384x128_0_128, p1⟩,
      ⟨Rect.unit (s := S384x256) ![0, 0] S384x128.size inb_S384x256_S384x128_0_0, p0⟩] : List (View.Piece (Elt F) S384x256 .f32)), y ∈ pc.1.set :=
  View.cover_of_tiled [⟨Rect.unit (s := S384x256) ![0, 128] S384x128.size inb_S384x256_S384x128_0_128, p1⟩,
    ⟨Rect.unit (s := S384x256) ![0, 0] S384x128.size inb_S384x256_S384x128_0_0, p0⟩] S384x128.size (by rfl) y

/-- The two stores of a key block's column sums tile them. -/
theorem cover_col (p0 p1 : Vec F S1x384x1 .f32) (y : S2x384x1.Idx) :
    ∃ pc ∈ ([⟨Rect.unit (s := S2x384x1) ![1, 0, 0] S1x384x1.size inb_S2x384x1_S1x384x1_1_0_0, p1⟩,
      ⟨Rect.unit (s := S2x384x1) ![0, 0, 0] S1x384x1.size inb_S2x384x1_S1x384x1_0_0_0, p0⟩] : List (View.Piece (Elt F) S2x384x1 .f32)), y ∈ pc.1.set :=
  View.cover_of_tiled [⟨Rect.unit (s := S2x384x1) ![1, 0, 0] S1x384x1.size inb_S2x384x1_S1x384x1_1_0_0, p1⟩,
    ⟨Rect.unit (s := S2x384x1) ![0, 0, 0] S1x384x1.size inb_S2x384x1_S1x384x1_0_0_0, p0⟩] S1x384x1.size (by rfl) y

set_option maxHeartbeats 2000000 in
/-- The body at a point of key block 0, run: what it leaves in the five results and the scratch is found by the run. -/
noncomputable def runFirst (c : Dev nD) (i : grid0.Coords) (hc1 : cond1 i = 1#1) (hc2 : k0_cond2 i = 1#1)
    (M2 : Memref sig .tc .vmem S4224x256 .bf16) (h2 : M2.IsWhole) (M3 : Memref sig .tc .vmem S384x256 .bf16) (h3 : M3.IsWhole) (M4 : Memref sig .tc .vmem S384x256 .bf16) (h4 : M4.IsWhole) (M5 : Memref sig .tc .vmem S4224x256 .f32) (h5 : M5.IsWhole) (M6 : Memref sig .tc .vmem S4224x256 .bf16) (h6 : M6.IsWhole) (M7 : Memref sig .tc .vmem S2x11x1x384 .f32) (h7 : M7.IsWhole) (M8 : Memref sig .tc .vmem S2x384x1 .f32) (h8 : M8.IsWhole) (M9 : Memref sig .tc .vmem S4224x256 .f32) (h9 : M9.IsWhole) (M10 : Memref sig .tc .vmem S384x256 .f32) (h10 : M10.IsWhole) (M11 : Memref sig .tc .vmem S384x256 .f32) (h11 : M11.IsWhole) (M12 : Memref sig .tc .vmem S2x384x1 .f32) (h12 : M12.IsWhole) (M13 : Memref sig .tc .vmem S2x11x1x384 .f32) (h13 : M13.IsWhole) (M14 : Memref sig .tc .vmem S2x11x1x384 .f32) (h14 : M14.IsWhole)
    (x2 : Vec F S4224x256 .bf16) (x3 : Vec F S384x256 .bf16) (x4 : Vec F S384x256 .bf16) (x5 : Vec F S4224x256 .f32) (x6 : Vec F S4224x256 .bf16) (x7 : Vec F S2x11x1x384 .f32) (x8 : Vec F S2x384x1 .f32) :
    Σ' (Y9 : Vec F S4224x256 .f32) (Y10 : Vec F S384x256 .f32) (Y11 : Vec F S384x256 .f32) (Y12 : Vec F S2x384x1 .f32) (Y13 : Vec F S2x11x1x384 .f32), { Y14 : Vec F S2x11x1x384 .f32 //
      ∀ (E : Set ℕ) (K : PUnit → sProp 𝕄),
        iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ (∃ d, owns (c : Thread nD τ) M9 fullShare d) ∗ (∃ d, owns (c : Thread nD τ) M10 fullShare d) ∗ (∃ d, owns (c : Thread nD τ) M11 fullShare d) ∗ (∃ d, owns (c : Thread nD τ) M12 fullShare d) ∗ (∃ d, owns (c : Thread nD τ) M13 fullShare d) ∗ (∃ d, owns (c : Thread nD τ) M14 fullShare d)
            ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare Y9 ∗ owns (c : Thread nD τ) M10 fullShare Y10 ∗ owns (c : Thread nD τ) M11 fullShare Y11 ∗ owns (c : Thread nD τ) M12 fullShare Y12 ∗ owns (c : Thread nD τ) M13 fullShare Y13 ∗ owns (c : Thread nD τ) M14 fullShare Y14) -∗ K ⟨⟩))
          ⊢ wp frame (wpE (defs₀ (F := F)) Variants.none c none) E (cc0_dattn i M2 h2 M3 h3 M4 h4 M5 h5 M6 h6 M7 h7 M8 h8 M9 h9 M10 h10 M11 h11 M12 h12 M13 h13 M14 h14) K } := by
  refine ⟨?_, ?_, ?_, ?_, ?_, ?_, fun E K => ?run⟩
  case run =>
    simp only [cc0_dattn_eq_skeleton]; unfold cc0_dattn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
    sl_exec (disch := first | sl_exact hc1 | sl_exact hc2)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; swap; · iexact H9
      ipureintro; rfl
    isplitl [H10]
    · iexists _; isplitr; swap; · iexact H10
      ipureintro; exact View.read_writes_eq_canon _ _ _ (cover_tile (F := F) _ _)
    isplitl [H11]
    · iexists _; isplitr; swap; · iexact H11
      ipureintro; exact View.read_writes_eq_canon _ _ _ (cover_tile (F := F) _ _)
    isplitl [H12]
    · iexists _; isplitr; swap; · iexact H12
      ipureintro; exact View.read_writes_eq_canon _ _ _ (cover_col (F := F) _ _)
    isplitl [H13]
    · iexists _; isplitr; swap; · iexact H13
      ipureintro; rfl
    iexists _; isplitr; swap; · iexact H14
    ipureintro; rfl

set_option maxHeartbeats 2000000 in
/-- The body at a point of a later key block, run from the accumulators' contents there. -/
noncomputable def runLater (c : Dev nD) (i : grid0.Coords) (hc1 : ¬ cond1 i = 1#1) (hc2 : ¬ k0_cond2 i = 1#1)
    (M2 : Memref sig .tc .vmem S4224x256 .bf16) (h2 : M2.IsWhole) (M3 : Memref sig .tc .vmem S384x256 .bf16) (h3 : M3.IsWhole) (M4 : Memref sig .tc .vmem S384x256 .bf16) (h4 : M4.IsWhole) (M5 : Memref sig .tc .vmem S4224x256 .f32) (h5 : M5.IsWhole) (M6 : Memref sig .tc .vmem S4224x256 .bf16) (h6 : M6.IsWhole) (M7 : Memref sig .tc .vmem S2x11x1x384 .f32) (h7 : M7.IsWhole) (M8 : Memref sig .tc .vmem S2x384x1 .f32) (h8 : M8.IsWhole) (M9 : Memref sig .tc .vmem S4224x256 .f32) (h9 : M9.IsWhole) (M10 : Memref sig .tc .vmem S384x256 .f32) (h10 : M10.IsWhole) (M11 : Memref sig .tc .vmem S384x256 .f32) (h11 : M11.IsWhole) (M12 : Memref sig .tc .vmem S2x384x1 .f32) (h12 : M12.IsWhole) (M13 : Memref sig .tc .vmem S2x11x1x384 .f32) (h13 : M13.IsWhole) (M14 : Memref sig .tc .vmem S2x11x1x384 .f32) (h14 : M14.IsWhole)
    (x2 : Vec F S4224x256 .bf16) (x3 : Vec F S384x256 .bf16) (x4 : Vec F S384x256 .bf16) (x5 : Vec F S4224x256 .f32) (x6 : Vec F S4224x256 .bf16) (x7 : Vec F S2x11x1x384 .f32) (x8 : Vec F S2x384x1 .f32) (x9 : Vec F S4224x256 .f32) (x13 : Vec F S2x11x1x384 .f32) (x14 : Vec F S2x11x1x384 .f32) :
    Σ' (Y9 : Vec F S4224x256 .f32) (Y10 : Vec F S384x256 .f32) (Y11 : Vec F S384x256 .f32) (Y12 : Vec F S2x384x1 .f32) (Y13 : Vec F S2x11x1x384 .f32), { Y14 : Vec F S2x11x1x384 .f32 //
      ∀ (E : Set ℕ) (K : PUnit → sProp 𝕄),
        iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ (∃ d, owns (c : Thread nD τ) M10 fullShare d) ∗ (∃ d, owns (c : Thread nD τ) M11 fullShare d) ∗ (∃ d, owns (c : Thread nD τ) M12 fullShare d) ∗ owns (c : Thread nD τ) M13 fullShare x13 ∗ owns (c : Thread nD τ) M14 fullShare x14
            ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare Y9 ∗ owns (c : Thread nD τ) M10 fullShare Y10 ∗ owns (c : Thread nD τ) M11 fullShare Y11 ∗ owns (c : Thread nD τ) M12 fullShare Y12 ∗ owns (c : Thread nD τ) M13 fullShare Y13 ∗ owns (c : Thread nD τ) M14 fullShare Y14) -∗ K ⟨⟩))
          ⊢ wp frame (wpE (defs₀ (F := F)) Variants.none c none) E (cc0_dattn i M2 h2 M3 h3 M4 h4 M5 h5 M6 h6 M7 h7 M8 h8 M9 h9 M10 h10 M11 h11 M12 h12 M13 h13 M14 h14) K } := by
  refine ⟨?_, ?_, ?_, ?_, ?_, ?_, fun E K => ?run⟩
  case run =>
    simp only [cc0_dattn_eq_skeleton]; unfold cc0_dattn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h13.eq_unread hf13; obtain rfl := h14.eq_unread hf14
    sl_exec (disch := first | sl_exact hc1 | sl_exact hc2)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; swap; · iexact H9
      ipureintro; rfl
    isplitl [H10]
    · iexists _; isplitr; swap; · iexact H10
      ipureintro; exact View.read_writes_eq_canon _ _ _ (cover_tile (F := F) _ _)
    isplitl [H11]
    · iexists _; isplitr; swap; · iexact H11
      ipureintro; exact View.read_writes_eq_canon _ _ _ (cover_tile (F := F) _ _)
    isplitl [H12]
    · iexists _; isplitr; swap; · iexact H12
      ipureintro; exact View.read_writes_eq_canon _ _ _ (cover_col (F := F) _ _)
    isplitl [H13]
    · iexists _; isplitr; swap; · iexact H13
      ipureintro; rfl
    iexists _; isplitr; swap; · iexact H14
    ipureintro; rfl

end Cert.Proof.AttnIdeal

end
-- ==== Proof.Frame.lean ====
module

public import proofs.«01_k».proof.Proof.Body
public import Idealize.ShloMosaic.Lib.Claim

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] runFirst runLater

/-! ## What the body leaves, point by point -/

/-- Whether a point's key block is block 0, as the kernel's two branches test it. -/
theorem cond1_iff : ∀ t : Fin grid0.N, cond1 (grid0.coords t) = 1#1 ↔ t.val % 11 = 0 := by decide +kernel
theorem cond2_iff : ∀ t : Fin grid0.N, k0_cond2 (grid0.coords t) = 1#1 ↔ t.val % 11 = 0 := by decide +kernel

/-- The contents of the five result buffers and of the scratch after a point. -/
structure Left (F : FTy → Type) where
  dq : Vec F S4224x256 .f32
  dk : Vec F S384x256 .f32
  dv : Vec F S384x256 .f32
  dck : Vec F S2x384x1 .f32
  dcq : Vec F S2x11x1x384 .f32
  delta : Vec F S2x11x1x384 .f32

/-- What a point of key block 0 leaves. -/
def leftFirst (c : Dev nD) (t : Fin cfg0.N) (h : t.val % 11 = 0) : Left F :=
  let r := runFirst (F := F) c (grid0.coords t) ((cond1_iff t).mpr h) ((cond2_iff t).mpr h) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t)
  ⟨r.1, r.2.1, r.2.2.1, r.2.2.2.1, r.2.2.2.2.1, r.2.2.2.2.2.1⟩

/-- What a point of a later key block leaves, from what the point before left. -/
def leftLater (c : Dev nD) (t : Fin cfg0.N) (h : ¬ t.val % 11 = 0) (p : Left F) : Left F :=
  let r := runLater (F := F) c (grid0.coords t) (fun e => h ((cond1_iff t).mp e)) (fun e => h ((cond2_iff t).mp e)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t) p.dq p.dcq p.delta
  ⟨r.1, r.2.1, r.2.2.1, r.2.2.2.1, r.2.2.2.2.1, r.2.2.2.2.2.1⟩

/-- One point's step. -/
def leftStep (c : Dev nD) (t : Fin cfg0.N) (p : Left F) : Left F :=
  if h : t.val % 11 = 0 then leftFirst m c t h else leftLater m c t h p

/-- What is left after point `n`: the steps in order. -/
def left (c : Dev nD) : (n : ℕ) → n < cfg0.N → Left F
  | 0, h => leftFirst m c ⟨0, h⟩ rfl
  | n + 1, h => leftStep m c ⟨n + 1, h⟩ (left c n (Nat.lt_of_succ_lt h))

theorem left_first (c : Dev nD) (n : ℕ) (h : n < cfg0.N) (hn : n % 11 = 0) : left m c n h = leftFirst m c ⟨n, h⟩ hn := by
  cases n with
  | zero => rw [left]
  | succ n => rw [left, leftStep, dif_pos hn]

theorem left_later (c : Dev nD) (n : ℕ) (h : n + 1 < cfg0.N) (hn : ¬ (n + 1) % 11 = 0) :
    left m c (n + 1) h = leftLater m c ⟨n + 1, h⟩ hn (left m c n (Nat.lt_of_succ_lt h)) := by
  rw [left, leftStep, dif_neg hn]

/-! ## The pipeline's proof data -/

/-- The invariant between points: the scratch at anything before point 0, at what the last point left after it; the
    generator register at something. -/
def inv (c : Dev nD) (n : Fin (cfg0.N + 1)) : sProp 𝕄 :=
  match n with
  | ⟨0, _⟩ => Pipeline.ΦA spec0 c
  | ⟨n + 1, h⟩ => iprop(owns (c : Thread nD τ) (Memref.whole cc0_scratch0) fullShare (left m c n (Nat.lt_of_succ_lt_succ h)).delta ∗ ∃ r, prngReg c r)

/-- The proof data: the arrays as the region finds them; after the body each input's buffer at its block and each result's
    at `left`; the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t.val t.isLt).dq
    | ⟨8, _⟩ => (left m c t.val t.isLt).dk
    | ⟨9, _⟩ => (left m c t.val t.isLt).dv
    | ⟨10, _⟩ => (left m c t.val t.isLt).dck
    | ⟨11, _⟩ => (left m c t.val t.isLt).dcq
  Φ n := inv m c n
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (left m c t.val t.isLt).dq := by dsimp only [dats]
theorem after0_8 (c : Dev nD) (t : Fin cfg0.N) : (dats m 0 c).after 8 t = (left m c t.val t.isLt).dk := by dsimp only [dats]
theorem after0_9 (c : Dev nD) (t : Fin cfg0.N) : (dats m 0 c).after 9 t = (left m c t.val t.isLt).dv := by dsimp only [dats]
theorem after0_10 (c : Dev nD) (t : Fin cfg0.N) : (dats m 0 c).after 10 t = (left m c t.val t.isLt).dck := by dsimp only [dats]
theorem after0_11 (c : Dev nD) (t : Fin cfg0.N) : (dats m 0 c).after 11 t = (left m c t.val t.isLt).dcq := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- The accumulating result 7 finds at a later key block what the point before left. -/
theorem before0_7 (c : Dev nD) (n : ℕ) (h : n + 1 < cfg0.N) (hn : ¬ (n + 1) % 11 = 0) (d) :
    (dats m 0 c).before 7 ⟨n + 1, h⟩ d = (left m c n (Nat.lt_of_succ_lt h)).dq := by
  rw [(dats m 0 c).before_out_kept 7 rfl ⟨n + 1, h⟩ (Nat.succ_ne_zero n)
    (by
      rw [Bool.eq_false_iff]; intro e
      have := (flush0_7 ⟨n, Nat.lt_of_succ_lt h⟩).mp e
      simp only at this; omega) (fun _ => rfl) (fun _ _ => rfl)]
  rw [after0_7]; rfl
/-- The accumulating result 11 finds at a later key block what the point before left. -/
theorem before0_11 (c : Dev nD) (n : ℕ) (h : n + 1 < cfg0.N) (hn : ¬ (n + 1) % 11 = 0) (d) :
    (dats m 0 c).before 11 ⟨n + 1, h⟩ d = (left m c n (Nat.lt_of_succ_lt h)).dcq := by
  rw [(dats m 0 c).before_out_kept 11 rfl ⟨n + 1, h⟩ (Nat.succ_ne_zero n)
    (by
      rw [Bool.eq_false_iff]; intro e
      have := (flush0_11 ⟨n, Nat.lt_of_succ_lt h⟩).mp e
      simp only at this; omega) (fun _ => rfl) (fun _ _ => rfl)]
  rw [after0_11]; rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_first (c : Dev nD) (t : Fin cfg0.N) (hn : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10, after0_11]
  have hΦ : (dats m 0 c).Φ t.castSucc ⊢ (iprop((∃ d, owns (c : Thread nD τ) (Memref.whole cc0_scratch0) fullShare d) ∗ ∃ r, prngReg c r) : sProp 𝕄) := by
    rw [show (dats m 0 c).Φ t.castSucc = inv m c t.castSucc from rfl]
    obtain ⟨n, hlt⟩ := t
    cases n with
    | zero =>
      show Pipeline.ΦA spec0 c ⊢ _
      unfold Pipeline.ΦA; rw [scopedRest0_eq]; simp only [owns_whole]
      iintro ⟨H, Hr⟩; isplitl [H]; · iexact H
      iexact Hr
    | succ n =>
      show iprop(owns (c : Thread nD τ) (Memref.whole cc0_scratch0) fullShare (left m c n (Nat.lt_of_succ_lt_succ (Nat.lt_succ_of_lt hlt))).delta ∗ ∃ r, prngReg c r) ⊢ _
      iintro ⟨H, Hr⟩; isplitl [H]; · iexists _; iexact H
      iexact Hr
  rw [show (dats m 0 c).Φ t.succ = iprop(owns (c : Thread nD τ) (Memref.whole cc0_scratch0) fullShare (left m c t.val t.isLt).delta ∗ ∃ r, prngReg c r) from rfl]
  rw [left_first m c t.val t.isLt hn]
  unfold leftFirst; dsimp only
  refine (sep_mono_left hΦ).trans ?_
  iintro ⟨⟨⟨%d14, H14⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runFirst (F := F) c (grid0.coords t) ((cond1_iff t).mpr hn) ((cond2_iff t).mpr hn) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (iblk m c 0 t) (iblk m c 1 t) (iblk m c 2 t) (iblk m c 3 t) (iblk m c 4 t) (iblk m c 5 t) (iblk m c 6 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H14]; · iexists _; iexact H14
  iintro ⟨H0, H1, H2, H3, H4, H5, H6, H7, H8, H9, H10, H11, H14⟩
  isplitl [H14 Hr]
  · isplitl [H14]; · iexact H14
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem sound_later (c : Dev nD) (n : ℕ) (h : n + 1 < cfg0.N) (hn : ¬ (n + 1) % 11 = 0) :
    bodyPre m c ⟨n + 1, h⟩ ⊢ wp frame (wpE (defs₀ (F := F)) Variants.none c none) Set.univ (bodyAt0 ⟨n + 1, h⟩) (fun _ => bodyPost m c ⟨n + 1, h⟩) := by
  unfold bodyPre bodyPost bodyAt0
  simp only [before0_0, before0_1, before0_2, before0_3, before0_4, before0_5, before0_6, before0_7 m c n h hn, before0_11 m c n h hn]
  rw [show (dats m 0 c).owesAt () (Fin.succ ⟨n + 1, h⟩) = (dats m 0 c).owesAt () (Fin.castSucc ⟨n + 1, h⟩) from rfl,
    after0_0, after0_1, after0_2, after0_3, after0_4, after0_5, after0_6, after0_7, after0_8, after0_9, after0_10, after0_11]
  rw [show (dats m 0 c).Φ (Fin.castSucc ⟨n + 1, h⟩) = iprop(owns (c : Thread nD τ) (Memref.whole cc0_scratch0) fullShare (left m c n (Nat.lt_of_succ_lt h)).delta ∗ ∃ r, prngReg c r) from rfl,
    show (dats m 0 c).Φ (Fin.succ ⟨n + 1, h⟩) = iprop(owns (c : Thread nD τ) (Memref.whole cc0_scratch0) fullShare (left m c (n + 1) h).delta ∗ ∃ r, prngReg c r) from rfl]
  rw [left_later m c n h hn]
  generalize left m c n (Nat.lt_of_succ_lt h) = p
  unfold leftLater; dsimp only
  iintro ⟨⟨H14, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runLater (F := F) c (grid0.coords ⟨n + 1, h⟩) (fun e => hn ((cond1_iff ⟨n + 1, h⟩).mp e)) (fun e => hn ((cond2_iff ⟨n + 1, h⟩).mp e)) (win0_0.stage (cfg0.slots ⟨n + 1, h⟩ 0)) (hstage0_0 ((cfg0.slots ⟨n + 1, h⟩ 0).cast nbuf0_0)) (win0_1.stage (cfg0.slots ⟨n + 1, h⟩ 1)) (hstage0_1 ((cfg0.slots ⟨n + 1, h⟩ 1).cast nbuf0_1)) (win0_2.stage (cfg0.slots ⟨n + 1, h⟩ 2)) (hstage0_2 ((cfg0.slots ⟨n + 1, h⟩ 2).cast nbuf0_2)) (win0_3.stage (cfg0.slots ⟨n + 1, h⟩ 3)) (hstage0_3 ((cfg0.slots ⟨n + 1, h⟩ 3).cast nbuf0_3)) (win0_4.stage (cfg0.slots ⟨n + 1, h⟩ 4)) (hstage0_4 ((cfg0.slots ⟨n + 1, h⟩ 4).cast nbuf0_4)) (win0_5.stage (cfg0.slots ⟨n + 1, h⟩ 5)) (hstage0_5 ((cfg0.slots ⟨n + 1, h⟩ 5).cast nbuf0_5)) (win0_6.stage (cfg0.slots ⟨n + 1, h⟩ 6)) (hstage0_6 ((cfg0.slots ⟨n + 1, h⟩ 6).cast nbuf0_6)) (win0_7.stage (cfg0.slots ⟨n + 1, h⟩ 7)) (hstage0_7 ((cfg0.slots ⟨n + 1, h⟩ 7).cast nbuf0_7)) (win0_8.stage (cfg0.slots ⟨n + 1, h⟩ 8)) (hstage0_8 ((cfg0.slots ⟨n + 1, h⟩ 8).cast nbuf0_8)) (win0_9.stage (cfg0.slots ⟨n + 1, h⟩ 9)) (hstage0_9 ((cfg0.slots ⟨n + 1, h⟩ 9).cast nbuf0_9)) (win0_10.stage (cfg0.slots ⟨n + 1, h⟩ 10)) (hstage0_10 ((cfg0.slots ⟨n + 1, h⟩ 10).cast nbuf0_10)) (win0_11.stage (cfg0.slots ⟨n + 1, h⟩ 11)) (hstage0_11 ((cfg0.slots ⟨n + 1, h⟩ 11).cast nbuf0_11)) (Memref.whole cc0_scratch0) (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) p.dq p.dcq p.delta).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H14]; · iexact H14
  iintro ⟨H0, H1, H2, H3, H4, H5, H6, H7, H8, H9, H10, H11, H14⟩
  isplitl [H14 Hr]
  · isplitl [H14]; · iexact H14
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem sound_body (c : Dev nD) (t : Fin cfg0.N) :
    bodyPre m c t ⊢ wp frame (wpE (defs₀ (F := F)) Variants.none c none) Set.univ (bodyAt0 t) (fun _ => bodyPost m c t) := by
  by_cases hn : t.val % 11 = 0
  · exact sound_first m c t hn
  · obtain ⟨n, h⟩ := t
    cases n with
    | zero => exact absurd rfl hn
    | succ n => exact sound_later m c n h hn

/-- The body table's row at point `t`'s slots is the body on the point's staging buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_out (c : Dev nD) : inv m c (Fin.last cfg0.N) ⊢ (Pipeline.ΦA spec0 c : sProp 𝕄) := by
  show iprop(owns (c : Thread nD τ) (Memref.whole cc0_scratch0) fullShare (left m c 87 (by decide)).delta ∗ ∃ r, prngReg c r) ⊢ _
  unfold Pipeline.ΦA; rw [scopedRest0_eq]; simp only [owns_whole]
  iintro ⟨H, Hr⟩; isplitl [H]; · iexists _; iexact H
  iexact Hr

set_option backward.isDefEq.respectTransparency.types false in
/-- Every weakly fair execution of @main terminates with every array of the pipeline at what the proof data give it, every
    other unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun c => inv_out m c)

theorem run_main : θ_run defs (onTc (τ := τ) (main (F := F))) (s₀ m ρ) (Pipeline.FramePost cfgs (dats m) 0 (V m)) :=
  (θ_run defs _ _).mono (fun _ h => h.1) (run_main_quiescent m ρ)

/-- The frame at any arithmetic: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.AttnIdeal

end
-- ==== Proof.Rest.lean ====
/- The reference's frame and the ledger of the named constant. -/
module

public import proofs.«01_k».proof.Defs
public import proofs.«01_k».proof.Proof.Gen.ReferenceIdeal.Run
public import Idealize.ShloMosaic.Adequacy
public import Idealize.ShloMosaic.Lib.Quiescent
public import Idealize.ShloMosaic.Init

@[expose] public section

noncomputable section

namespace Cert.Proof.Attn

open Idealize.ShloMosaic Idealize.SL.Sem

/-- The reference's program runs, leaves its arguments as they are, and has no semaphores to leave raised. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The kernel's mask constant is named, and the name's value at `Ideal` is −∞. -/
theorem preserves : Cert.preserves_Kernel_KernelIdeal :=
  IdealRules.named_const.statement Cert.KernelIdeal.κ "mask" .f32 0xF149F2CA#32 ⊥ rfl

end Cert.Proof.Attn
-- ==== Proof.Step.lean ====
module

public import proofs.«01_k».proof.Proof.Gen.KernelIdeal.Skeleton
public import proofs.«01_k».proof.Proof.Gen.KernelIdeal.Loops

@[expose] public section

set_option maxRecDepth 16384

noncomputable section

namespace Cert.Proof.AttnIdeal

open Cert.KernelIdeal Cert.KernelIdeal.Gen
open Idealize.ShloMosaic

variable {F : FTy → Type} [FloatOps F] [Named F]

/-! ## One head's step over one block of queries -/

/-- The scores of a key block (rows) against a query block (columns), less the keys' offsets. -/
def scoreB (kb : FVec F S384x128 .bf16) (cb : FVec F S384x384 .f32) (qb : Vec F S384x128 .bf16) : FVec F S384x384 .f32 :=
  subf (matmul dot_S384x128_S384x128_S384x384_1_1_0_0_n_n none kb (shapeCast S384x128 qb shapeCasts_S384x128_S384x128) (constant S384x384 .f32 0x00000000#32)) cb

/-- The scores with the invisible pairs at the mask's value. -/
def maskB (krow : IVec S384x1 32) (qi : BitVec 32) (s : FVec F S384x384 .f32) : FVec F S384x384 .f32 :=
  select (k0_pay55 krow qi) s k0_pay56

/-- The probabilities: the exponential of the score less the query's log-sum. -/
def probB (s : FVec F S384x384 .f32) (l : Vec F S1x1x1x384 .f32) : FVec F S384x384 .f32 :=
  exp (subf s (broadcastTo S384x384 (shapeCast S1x384 l shapeCasts_S1x1x1x384_S1x384) broadcasts_S1x384_S384x384))

/-- The cotangent of the scores. -/
def dsB (p : FVec F S384x384 .f32) (vb : FVec F S384x128 .bf16) (dob : Vec F S384x128 .f32) (dl : Vec F S1x1x1x384 .f32) : FVec F S384x384 .f32 :=
  mulf p (subf (matmul dot_S384x128_S384x128_S384x384_1_1_0_0_n_n none vb (truncf .bf16 dob bitsLt_bf16_f32) (constant S384x384 .f32 0x00000000#32))
    (broadcastTo S384x384 (shapeCast S1x384 dl shapeCasts_S1x1x1x384_S1x384) broadcasts_S1x384_S384x384))

/-- The keys' cotangent with the block's part added. -/
def dkB (acc : FVec F S384x128 .f32) (ds : FVec F S384x384 .f32) (qb : Vec F S384x128 .bf16) : FVec F S384x128 .f32 :=
  addf acc (matmul dot_S384x384_S384x128_S384x128_1_0_0_1_n_n none (truncf .bf16 ds bitsLt_bf16_f32) (shapeCast S384x128 qb shapeCasts_S384x128_S384x128) (constant S384x128 .f32 0x00000000#32))

/-- The values' cotangent with the block's part added. -/
def dvB (acc : FVec F S384x128 .f32) (p : FVec F S384x384 .f32) (dob : Vec F S384x128 .f32) : FVec F S384x128 .f32 :=
  addf acc (matmul dot_S384x384_S384x128_S384x128_1_0_0_1_n_n none (truncf .bf16 p bitsLt_bf16_f32) (truncf .bf16 dob bitsLt_bf16_f32) (constant S384x128 .f32 0x00000000#32))

/-- The queries' cotangent rows with the block's part added. -/
def dqB (old : Vec F S384x128 .f32) (ds : FVec F S384x384 .f32) (kb : FVec F S384x128 .bf16) : FVec F S384x128 .f32 :=
  addf (shapeCast S384x128 old shapeCasts_S384x128_S384x128) (matmul dot_S384x384_S384x128_S384x128_0_0_1_1_n_n none (truncf .bf16 ds bitsLt_bf16_f32) kb (constant S384x128 .f32 0x00000000#32))

/-- A block of keys of one head's half of the window, -/
abbrev half (x : Vec F S384x128 .bf16) : FVec F S384x128 .bf16 := shapeCast S384x128 x shapeCasts_S384x128_S384x128

/-- and a key block's offsets, one per row, along the columns. -/
abbrev offs (x : Vec F S1x384x1 .f32) : FVec F S384x384 .f32 :=
  broadcastTo S384x384 (shapeCast S384x1 (shapeCast S384x1 x shapeCasts_S1x384x1_S384x1) shapeCasts_S384x1_S384x1) broadcasts_S384x1_S384x384

/-- The rows' numbers of key block `kc`. -/
abbrev rowsOf (kc : BitVec 32) : IVec S384x1 32 :=
  addi (broadcast S384x1 (Scalar.muli kc 384#32)) (iota .tc S384x1 32 [0] iota_S384x1_d0_w32)

/-- The three carried sums of the two heads. -/
abbrev Car (F : FTy → Type) := FVec F S384x128 .f32 × FVec F S384x128 .f32 × FVec F S384x128 .f32 × FVec F S384x128 .f32 × FVec F S384x128 .f32 × FVec F S384x128 .f32

section
variable (M2 : Memref sig .tc .vmem S4224x256 .bf16) (M5 : Memref sig .tc .vmem S4224x256 .f32) (M7 M14 : Memref sig .tc .vmem S2x11x1x384 .f32)
variable (X2 : BufTy.Contents (Elt F) M2.view.ty) (X5 : BufTy.Contents (Elt F) M5.view.ty) (X7 : BufTy.Contents (Elt F) M7.view.ty) (X14 : BufTy.Contents (Elt F) M14.view.ty)
variable {o : Fin 2 → ℕ} (ho : ∀ a, o a + S384x128.size a ≤ S4224x256.size a) {w : Fin 4 → ℕ} (hw : ∀ a, w a + S1x1x1x384.size a ≤ S2x11x1x384.size a)

/-- A query block of one head at offset `o`, -/
abbrev blk2 {e : EltTy} (M : Memref sig .tc .vmem S4224x256 e) (X : BufTy.Contents (Elt F) M.view.ty) {o : Fin 2 → ℕ} (ho : ∀ a, o a + S384x128.size a ≤ S4224x256.size a) : Vec F S384x128 e :=
  View.readAt (Elt F) M.view (Rect.unit (s := S4224x256) o S384x128.size ho).toLoadRect X

/-- and a row of one head at offset `w`. -/
abbrev row4 (M : Memref sig .tc .vmem S2x11x1x384 .f32) (X : BufTy.Contents (Elt F) M.view.ty) {w : Fin 4 → ℕ} (hw : ∀ a, w a + S1x1x1x384.size a ≤ S2x11x1x384.size a) : Vec F S1x1x1x384 .f32 :=
  View.readAt (Elt F) M.view (Rect.unit (s := S2x11x1x384) w S1x1x1x384.size hw).toLoadRect X

/-- The probabilities of a block, the scores masked by `mk`. -/
def headP (mk : FVec F S384x384 .f32 → FVec F S384x384 .f32) (kb : FVec F S384x128 .bf16) (cb : FVec F S384x384 .f32) : FVec F S384x384 .f32 :=
  probB (mk (scoreB kb cb (blk2 M2 X2 ho))) (row4 M7 X7 hw)

/-- The cotangent of the scores of a block. -/
def headS (p : FVec F S384x384 .f32) (vb : FVec F S384x128 .bf16) : FVec F S384x384 .f32 :=
  dsB p vb (blk2 M5 X5 ho) (row4 M14 X14 hw)
end

/-- A piece of the queries' cotangent: the rows found with the block's part added. -/
abbrev pieceQ {o : Fin 2 → ℕ} (ho : ∀ a, o a + S384x128.size a ≤ S4224x256.size a) (old : Vec F S384x128 .f32) (ds : FVec F S384x384 .f32) (kb : FVec F S384x128 .bf16) : View.Piece (Elt F) S4224x256 .f32 :=
  ⟨Rect.unit (s := S4224x256) o S384x128.size ho, dqB old ds kb⟩

/-- A piece of the query offsets' cotangent: the row found with the block's column sums added. -/
abbrev pieceC {w : Fin 4 → ℕ} (hw : ∀ a, w a + S1x1x1x384.size a ≤ S2x11x1x384.size a) (old : Vec F S1x1x1x384 .f32) (ds : FVec F S384x384 .f32) : View.Piece (Elt F) S2x11x1x384 .f32 :=
  ⟨Rect.unit (s := S2x11x1x384) w S1x1x1x384.size hw, k0_pay4 ds old⟩

/-- The carried sums after a block. -/
abbrev stepCar (acc : Car F) (p0 p1 s0 s1 : FVec F S384x384 .f32) (q0 q1 : Vec F S384x128 .bf16) (do0 do1 : Vec F S384x128 .f32) : Car F :=
  (dkB acc.1 s0 q0, dvB acc.2.1 p0 do0, k0_pay5 acc.2.2.1 s0, dkB acc.2.2.2.1 s1 q1, dvB acc.2.2.2.2.1 p1 do1, k0_pay5 acc.2.2.2.2.2 s1)

section
variable (c : Dev nD) (i : grid0.Coords) (M2 : Memref sig .tc .vmem S4224x256 .bf16) (h2 : M2.IsWhole) (M3 : Memref sig .tc .vmem S384x256 .bf16) (h3 : M3.IsWhole) (M4 : Memref sig .tc .vmem S384x256 .bf16) (h4 : M4.IsWhole) (M5 : Memref sig .tc .vmem S4224x256 .f32) (h5 : M5.IsWhole) (M6 : Memref sig .tc .vmem S4224x256 .bf16) (h6 : M6.IsWhole) (M7 : Memref sig .tc .vmem S2x11x1x384 .f32) (h7 : M7.IsWhole) (M8 : Memref sig .tc .vmem S2x384x1 .f32) (h8 : M8.IsWhole) (M9 : Memref sig .tc .vmem S4224x256 .f32) (h9 : M9.IsWhole) (M10 : Memref sig .tc .vmem S384x256 .f32) (h10 : M10.IsWhole) (M11 : Memref sig .tc .vmem S384x256 .f32) (h11 : M11.IsWhole) (M12 : Memref sig .tc .vmem S2x384x1 .f32) (h12 : M12.IsWhole) (M13 : Memref sig .tc .vmem S2x11x1x384 .f32) (h13 : M13.IsWhole) (M14 : Memref sig .tc .vmem S2x11x1x384 .f32) (h14 : M14.IsWhole)
variable (v4 v6 v8 v10 : FVec F S384x128 .bf16) (v14 v18 : FVec F S384x384 .f32)
variable (X2 : BufTy.Contents (Elt F) M2.view.ty) (X5 : BufTy.Contents (Elt F) M5.view.ty) (X7 : BufTy.Contents (Elt F) M7.view.ty) (X14 : BufTy.Contents (Elt F) M14.view.ty)
variable (acc : Car F) (f9 : BufTy.Contents (Elt F) M9.view.ty) (f13 : BufTy.Contents (Elt F) M13.view.ty)

/-! ### A trip of loop 1 -/

/-- What a trip carries on, -/
theorem trip1_car (v22 : IVec S384x1 32) (hc : k0_cond2 i = 1#1) (v175 : BitVec 32) (k : Fin (k0_t1_loop i).trips) :
    (trip_k0_t1 (F := F) Variants.none c none i M2 h2 M3 h3 M4 h4 M5 h5 M6 h6 M7 h7 M8 h8 M9 h9 M10 h10 M11 h11 M12 h12 M13 h13 M14 h14 v4 v6 v8 v10 v14 v18 v22 hc v175 X2 X5 X7 X14 k).1 acc f9 f13 = stepCar acc (headP M2 M7 X2 X7 (k0_off5_inb i k hc) (k0_off6_inb i k hc) (maskB v22 (Scf.iv v175 1#32 k)) v4 v14) (headP M2 M7 X2 X7 (k0_off7_inb i k hc) (k0_off8_inb i k hc) (maskB v22 (Scf.iv v175 1#32 k)) v6 v18) (headS M5 M14 X5 X14 (k0_off5_inb i k hc) (k0_off6_inb i k hc) (headP M2 M7 X2 X7 (k0_off5_inb i k hc) (k0_off6_inb i k hc) (maskB v22 (Scf.iv v175 1#32 k)) v4 v14) v8) (headS M5 M14 X5 X14 (k0_off7_inb i k hc) (k0_off8_inb i k hc) (headP M2 M7 X2 X7 (k0_off7_inb i k hc) (k0_off8_inb i k hc) (maskB v22 (Scf.iv v175 1#32 k)) v6 v18) v10) (blk2 M2 X2 (k0_off5_inb i k hc)) (blk2 M2 X2 (k0_off7_inb i k hc)) (blk2 M5 X5 (k0_off5_inb i k hc)) (blk2 M5 X5 (k0_off7_inb i k hc)) := by
  unfold trip_k0_t1; rfl

/-- what it writes of the queries' cotangent, -/
theorem trip1_q (v22 : IVec S384x1 32) (hc : k0_cond2 i = 1#1) (v175 : BitVec 32) (k : Fin (k0_t1_loop i).trips) :
    (trip_k0_t1 (F := F) Variants.none c none i M2 h2 M3 h3 M4 h4 M5 h5 M6 h6 M7 h7 M8 h8 M9 h9 M10 h10 M11 h11 M12 h12 M13 h13 M14 h14 v4 v6 v8 v10 v14 v18 v22 hc v175 X2 X5 X7 X14 k).2.1 acc f9 f13 = [pieceQ (k0_off7_inb i k hc) (blk2 M9 f9 (k0_off7_inb i k hc)) (headS M5 M14 X5 X14 (k0_off7_inb i k hc) (k0_off8_inb i k hc) (headP M2 M7 X2 X7 (k0_off7_inb i k hc) (k0_off8_inb i k hc) (maskB v22 (Scf.iv v175 1#32 k)) v6 v18) v10) v6, pieceQ (k0_off5_inb i k hc) (blk2 M9 f9 (k0_off5_inb i k hc)) (headS M5 M14 X5 X14 (k0_off5_inb i k hc) (k0_off6_inb i k hc) (headP M2 M7 X2 X7 (k0_off5_inb i k hc) (k0_off6_inb i k hc) (maskB v22 (Scf.iv v175 1#32 k)) v4 v14) v8) v4] := by
  unfold trip_k0_t1; rfl

/-- and what it writes of the query offsets' cotangent. -/
theorem trip1_c (v22 : IVec S384x1 32) (hc : k0_cond2 i = 1#1) (v175 : BitVec 32) (k : Fin (k0_t1_loop i).trips) :
    (trip_k0_t1 (F := F) Variants.none c none i M2 h2 M3 h3 M4 h4 M5 h5 M6 h6 M7 h7 M8 h8 M9 h9 M10 h10 M11 h11 M12 h12 M13 h13 M14 h14 v4 v6 v8 v10 v14 v18 v22 hc v175 X2 X5 X7 X14 k).2.2.1 acc f9 f13 = [pieceC (k0_off8_inb i k hc) (row4 M13 f13 (k0_off8_inb i k hc)) (headS M5 M14 X5 X14 (k0_off7_inb i k hc) (k0_off8_inb i k hc) (headP M2 M7 X2 X7 (k0_off7_inb i k hc) (k0_off8_inb i k hc) (maskB v22 (Scf.iv v175 1#32 k)) v6 v18) v10), pieceC (k0_off6_inb i k hc) (row4 M13 f13 (k0_off6_inb i k hc)) (headS M5 M14 X5 X14 (k0_off5_inb i k hc) (k0_off6_inb i k hc) (headP M2 M7 X2 X7 (k0_off5_inb i k hc) (k0_off6_inb i k hc) (maskB v22 (Scf.iv v175 1#32 k)) v4 v14) v8)] := by
  unfold trip_k0_t1; rfl

/-! ### A trip of loop 3 -/

/-- What a trip carries on, -/
theorem trip3_car (hc : ¬k0_cond2 i = 1#1) (v175 : BitVec 32) (k : Fin (k0_t3_loop i).trips) :
    (trip_k0_t3 (F := F) Variants.none c none i M2 h2 M3 h3 M4 h4 M5 h5 M6 h6 M7 h7 M8 h8 M9 h9 M10 h10 M11 h11 M12 h12 M13 h13 M14 h14 v4 v6 v8 v10 v14 v18 hc v175 X2 X5 X7 X14 k).1 acc f9 f13 = stepCar acc (headP M2 M7 X2 X7 (k0_off13_inb i k hc) (k0_off14_inb i k hc) id v4 v14) (headP M2 M7 X2 X7 (k0_off15_inb i k hc) (k0_off16_inb i k hc) id v6 v18) (headS M5 M14 X5 X14 (k0_off13_inb i k hc) (k0_off14_inb i k hc) (headP M2 M7 X2 X7 (k0_off13_inb i k hc) (k0_off14_inb i k hc) id v4 v14) v8) (headS M5 M14 X5 X14 (k0_off15_inb i k hc) (k0_off16_inb i k hc) (headP M2 M7 X2 X7 (k0_off15_inb i k hc) (k0_off16_inb i k hc) id v6 v18) v10) (blk2 M2 X2 (k0_off13_inb i k hc)) (blk2 M2 X2 (k0_off15_inb i k hc)) (blk2 M5 X5 (k0_off13_inb i k hc)) (blk2 M5 X5 (k0_off15_inb i k hc)) := by
  unfold trip_k0_t3; rfl

/-- what it writes of the queries' cotangent, -/
theorem trip3_q (hc : ¬k0_cond2 i = 1#1) (v175 : BitVec 32) (k : Fin (k0_t3_loop i).trips) :
    (trip_k0_t3 (F := F) Variants.none c none i M2 h2 M3 h3 M4 h4 M5 h5 M6 h6 M7 h7 M8 h8 M9 h9 M10 h10 M11 h11 M12 h12 M13 h13 M14 h14 v4 v6 v8 v10 v14 v18 hc v175 X2 X5 X7 X14 k).2.1 acc f9 f13 = [pieceQ (k0_off15_inb i k hc) (blk2 M9 f9 (k0_off15_inb i k hc)) (headS M5 M14 X5 X14 (k0_off15_inb i k hc) (k0_off16_inb i k hc) (headP M2 M7 X2 X7 (k0_off15_inb i k hc) (k0_off16_inb i k hc) id v6 v18) v10) v6, pieceQ (k0_off13_inb i k hc) (blk2 M9 f9 (k0_off13_inb i k hc)) (headS M5 M14 X5 X14 (k0_off13_inb i k hc) (k0_off14_inb i k hc) (headP M2 M7 X2 X7 (k0_off13_inb i k hc) (k0_off14_inb i k hc) id v4 v14) v8) v4] := by
  unfold trip_k0_t3; rfl

/-- and what it writes of the query offsets' cotangent. -/
theorem trip3_c (hc : ¬k0_cond2 i = 1#1) (v175 : BitVec 32) (k : Fin (k0_t3_loop i).trips) :
    (trip_k0_t3 (F := F) Variants.none c none i M2 h2 M3 h3 M4 h4 M5 h5 M6 h6 M7 h7 M8 h8 M9 h9 M10 h10 M11 h11 M12 h12 M13 h13 M14 h14 v4 v6 v8 v10 v14 v18 hc v175 X2 X5 X7 X14 k).2.2.1 acc f9 f13 = [pieceC (k0_off16_inb i k hc) (row4 M13 f13 (k0_off16_inb i k hc)) (headS M5 M14 X5 X14 (k0_off15_inb i k hc) (k0_off16_inb i k hc) (headP M2 M7 X2 X7 (k0_off15_inb i k hc) (k0_off16_inb i k hc) id v6 v18) v10), pieceC (k0_off14_inb i k hc) (row4 M13 f13 (k0_off14_inb i k hc)) (headS M5 M14 X5 X14 (k0_off13_inb i k hc) (k0_off14_inb i k hc) (headP M2 M7 X2 X7 (k0_off13_inb i k hc) (k0_off14_inb i k hc) id v4 v14) v8)] := by
  unfold trip_k0_t3; rfl

end

end Cert.Proof.AttnIdeal
-- ==== Proof.Forms.lean ====
module

public import proofs.«01_k».proof.Proof.Step
public import Idealize.ShloMosaic.Lib.Pointwise
public import Idealize.ShloMosaic.Lib.WordCmp
public import Idealize.ShloMosaic.Lib.WritesUnit
public import Idealize.ShloMosaic.PureOps.Ideal.Laws

@[expose] public section

set_option maxRecDepth 16384

noncomputable section

namespace Cert.Proof.AttnIdeal

open Cert.KernelIdeal Cert.KernelIdeal.Gen
open Idealize.ShloMosaic
open Finset (range)

/-! ## Arrays of real numbers

The entries of an array, read as extended reals, are real numbers given by a function of the coordinates. -/

/-- The entries of a rank-2 array are the real numbers `f`. -/
def Re2 {a b : ℕ} (x : (⟨2, ![a, b]⟩ : Shape).Idx → EReal) (f : ℕ → ℕ → ℝ) : Prop :=
  ∀ y, x y = ((f (y 0).val (y 1).val : ℝ) : EReal)

/-- The entries of a rank-3 array whose last axis is of length one are the real numbers `f` of the first two. -/
def Re3 {a b : ℕ} (x : (⟨3, ![a, b, 1]⟩ : Shape).Idx → EReal) (f : ℕ → ℕ → ℝ) : Prop :=
  ∀ y, x y = ((f (y 0).val (y 1).val : ℝ) : EReal)

/-- The entries of a rank-4 array of rows of 384 are the real numbers `f` of the first coordinate and the place in its rows, laid end to end. -/
def Re4 {a b : ℕ} (x : (⟨4, ![a, b, 1, 384]⟩ : Shape).Idx → EReal) (f : ℕ → ℕ → ℝ) : Prop :=
  ∀ y, x y = ((f (y 0).val (384 * (y 1).val + (y 3).val) : ℝ) : EReal)

/-- A finite sum of real numbers is the same sum among the extended reals. -/
theorem coe_sum {n : ℕ} (f : ℕ → ℝ) : ∑ k : Fin n, ((f k.val : ℝ) : EReal) = ((∑ k ∈ range n, f k : ℝ) : EReal) := by
  rw [Finset.sum_range]
  exact (map_sum (⟨⟨fun r : ℝ => (r : EReal), EReal.coe_zero⟩, EReal.coe_add⟩ : ℝ →+ EReal) _ _).symm

theorem re2_congr {a b : ℕ} {x : (⟨2, ![a, b]⟩ : Shape).Idx → EReal} {f g : ℕ → ℕ → ℝ} (h : Re2 x f)
    (hfg : ∀ r < a, ∀ l < b, f r l = g r l) : Re2 x g := fun y => by
  rw [h y, hfg _ (y 0).isLt _ (y 1).isLt]

/-- Products summed, among the reals. -/
theorem sum_mul {n : ℕ} (f g : ℕ → ℝ) :
    ∑ k : Fin n, ((f k.val : ℝ) : EReal) * ((g k.val : ℝ) : EReal) = ((∑ k ∈ range n, f k * g k : ℝ) : EReal) := by
  rw [← coe_sum]; exact Finset.sum_congr rfl fun k _ => (EReal.coe_mul _ _).symm

theorem zero_word : (FloatOps.ofBits (F := Ideal) .f32 0x00000000#32 : EReal) = ((0 : ℝ) : EReal) := by
  show Ideal.ofBits .f32 0x00000000#32 = _
  rw [Ideal.ofBits_zero_f32]; rfl

/-! ## The block operations read at real arguments -/

theorem re2_mm_nt {φ : FTy} {a b : FVec Ideal S384x128 φ} {A B : ℕ → ℕ → ℝ} (ha : Re2 a A) (hb : Re2 b B) :
    Re2 (matmul dot_S384x128_S384x128_S384x384_1_1_0_0_n_n none a b (constant S384x384 .f32 0x00000000#32))
      (fun r n => ∑ d ∈ range 128, A r d * B n d) := fun y => by
  refine Eq.trans ?_ (sum_mul (n := 128) (fun k => A (y 0).val k) (fun k => B (y 1).val k))
  pointwise
  exact Finset.sum_congr rfl fun k _ => by rw [ha _, hb _]; rfl

theorem re2_mm_nn {φ : FTy} {a : FVec Ideal S384x384 φ} {b : FVec Ideal S384x128 φ} {A B : ℕ → ℕ → ℝ} (ha : Re2 a A) (hb : Re2 b B) :
    Re2 (matmul dot_S384x384_S384x128_S384x128_1_0_0_1_n_n none a b (constant S384x128 .f32 0x00000000#32))
      (fun r d => ∑ n ∈ range 384, A r n * B n d) := fun y => by
  refine Eq.trans ?_ (sum_mul (n := 384) (fun k => A (y 0).val k) (fun k => B k (y 1).val))
  pointwise
  exact Finset.sum_congr rfl fun k _ => by rw [ha _, hb _]; rfl

theorem re2_mm_tn {φ : FTy} {a : FVec Ideal S384x384 φ} {b : FVec Ideal S384x128 φ} {A B : ℕ → ℕ → ℝ} (ha : Re2 a A) (hb : Re2 b B) :
    Re2 (matmul dot_S384x384_S384x128_S384x128_0_0_1_1_n_n none a b (constant S384x128 .f32 0x00000000#32))
      (fun n d => ∑ r ∈ range 384, A r n * B r d) := fun y => by
  refine Eq.trans ?_ (sum_mul (n := 384) (fun k => A k (y 0).val) (fun k => B k (y 1).val))
  pointwise
  exact Finset.sum_congr rfl fun k _ => by rw [ha _, hb _]; rfl

theorem re2_addf {s t : ℕ} {x y : FVec Ideal ⟨2, ![s, t]⟩ .f32} {f g : ℕ → ℕ → ℝ} (hx : Re2 x f) (hy : Re2 y g) :
    Re2 (addf x y) (fun r l => f r l + g r l) := fun j => by
  show x j + y j = _
  rw [hx j, hy j, EReal.coe_add]

theorem re2_subf {s t : ℕ} {x y : FVec Ideal ⟨2, ![s, t]⟩ .f32} {f g : ℕ → ℕ → ℝ} (hx : Re2 x f) (hy : Re2 y g) :
    Re2 (subf x y) (fun r l => f r l - g r l) := fun j => by
  show x j - y j = _
  rw [hx j, hy j, EReal.coe_sub]

theorem re2_mulf {s t : ℕ} {x y : FVec Ideal ⟨2, ![s, t]⟩ .f32} {f g : ℕ → ℕ → ℝ} (hx : Re2 x f) (hy : Re2 y g) :
    Re2 (mulf x y) (fun r l => f r l * g r l) := fun j => by
  show x j * y j = _
  rw [hx j, hy j, EReal.coe_mul]

theorem re2_exp {s t : ℕ} {x : FVec Ideal ⟨2, ![s, t]⟩ .f32} {f : ℕ → ℕ → ℝ} (hx : Re2 x f) :
    Re2 (exp x) (fun r l => Real.exp (f r l)) := fun j => by
  show Ideal.exp (x j) = _
  rw [hx j, Ideal.exp_coe]

theorem re2_truncf {s t : ℕ} {x : FVec Ideal ⟨2, ![s, t]⟩ .f32} {f : ℕ → ℕ → ℝ} (hx : Re2 x f) :
    Re2 (truncf .bf16 x bitsLt_bf16_f32) f := fun j => hx j

theorem re2_extf {s t : ℕ} {x : FVec Ideal ⟨2, ![s, t]⟩ .bf16} {f : ℕ → ℕ → ℝ} (hx : Re2 x f) :
    Re2 (extf .f32 x bitsLt_bf16_f32) f := fun j => hx j

theorem re2_half {φ : FTy} {x : FVec Ideal S384x128 φ} {f : ℕ → ℕ → ℝ} (hx : Re2 x f) :
    Re2 (shapeCast S384x128 x shapeCasts_S384x128_S384x128) f := fun j => by
  pointwise; exact hx j

/-- A row laid along the rows of a block. -/
theorem re2_row {x : FVec Ideal S1x1x1x384 .f32} {f : ℕ → ℝ} (hx : ∀ y, x y = ((f (y 3).val : ℝ) : EReal)) :
    Re2 (broadcastTo S384x384 (shapeCast S1x384 x shapeCasts_S1x1x1x384_S1x384) broadcasts_S1x384_S384x384) (fun _ n => f n) := fun j => by
  pointwise; rw [hx]; rfl

/-- A column of offsets laid along the columns of a block. -/
theorem re2_offs {x : FVec Ideal S1x384x1 .f32} {f : ℕ → ℝ} (hx : ∀ y, x y = ((f (y 1).val : ℝ) : EReal)) :
    Re2 (offs (F := Ideal) x) (fun r _ => f r) := fun j => by
  unfold offs
  pointwise; rw [hx]; rfl

/-- The three slices of 128 columns taken off a carried block: each row's total falls by the row's sum. -/
theorem re2_part {acc : FVec Ideal S384x128 .f32} {ds : FVec Ideal S384x384 .f32} {f g : ℕ → ℕ → ℝ} (ha : Re2 acc f) (hd : Re2 ds g) :
    Re2 (k0_pay5 acc ds) (fun r l => f r l - (g r l + g r (128 + l) + g r (256 + l))) := fun j => by
  unfold k0_pay5
  pointwise
  rw [ha, hd, hd, hd]
  simp only [← EReal.coe_add, ← EReal.coe_sub]
  rfl

/-- The row of column sums added to the row found. -/
theorem re4_col {old : FVec Ideal S1x1x1x384 .f32} {ds : FVec Ideal S384x384 .f32} {f : ℕ → ℝ} {g : ℕ → ℕ → ℝ}
    (ho : ∀ y, old y = ((f (y 3).val : ℝ) : EReal)) (hd : Re2 ds g) :
    ∀ y, k0_pay4 ds old y = ((f (y 3).val + ∑ r ∈ range 384, g r (y 3).val : ℝ) : EReal) := fun j => by
  unfold k0_pay4
  pointwise
  rw [EReal.coe_add, ← coe_sum, ho]
  exact congrArg _ (Finset.sum_congr rfl fun k _ => hd _)

theorem re2_scoreB {kb : FVec Ideal S384x128 .bf16} {cb : FVec Ideal S384x384 .f32} {qb : Vec Ideal S384x128 .bf16} {K Q : ℕ → ℕ → ℝ} {C : ℕ → ℝ}
    (hk : Re2 kb K) (hc : Re2 cb (fun r _ => C r)) (hq : Re2 (a := 384) (b := 128) qb Q) :
    Re2 (scoreB (F := Ideal) kb cb qb) (fun r n => ∑ d ∈ range 128, K r d * Q n d - C r) :=
  re2_subf (re2_mm_nt hk (re2_half (φ := .bf16) hq)) hc

theorem re2_probB {s : FVec Ideal S384x384 .f32} {l : Vec Ideal S1x1x1x384 .f32} {S : ℕ → ℕ → ℝ} {L : ℕ → ℝ}
    (hs : Re2 s S) (hl : ∀ y, l y = ((L (y 3).val : ℝ) : EReal)) :
    Re2 (probB (F := Ideal) s l) (fun r n => Real.exp (S r n - L n)) :=
  re2_exp (re2_subf hs (re2_row hl))

/-- The place of a pair of a key block and a query block among the visible ones: the key at or before the query, and no padding row. -/
theorem mask_iff (kc qi : ℕ) (hk : kc < 11) (hq : qi < 11) (y : S384x384.Idx) :
    k0_pay55 (rowsOf (BitVec.ofNat 32 kc)) (BitVec.ofNat 32 qi) y = 1#1 ↔
      (384 * kc + (y 0).val ≤ 384 * qi + (y 1).val ∧ 112 ≤ 384 * kc + (y 0).val) := by
  unfold k0_pay55 rowsOf
  pointwise
  have e : ∀ a b : ℕ, IntOp.addi (Scalar.muli (BitVec.ofNat 32 a) 384#32) (BitVec.ofNat 32 b) = BitVec.ofNat 32 (384 * a + b) := fun a b => by
    show BitVec.ofNat 32 a * BitVec.ofNat 32 384 + BitVec.ofNat 32 b = _
    rw [← BitVec.ofNat_mul, ← BitVec.ofNat_add, Nat.mul_comm]
  have h0 : (y 0).val < 384 := (y 0).isLt
  have h1 : (y 1).val < 384 := (y 1).isLt
  rw [e, e, IntOp.andi_eq_one, show (112#32 : BitVec 32) = BitVec.ofNat 32 112 from rfl,
    WordCmp.cmpi_sle_ofNat_eq_one_iff (by omega) (by omega), WordCmp.cmpi_sge_ofNat_eq_one_iff (by omega) (by omega)]

theorem masked_word : ∀ y, k0_pay56 (F := Ideal) y = ⊥ := fun y => by
  unfold k0_pay56
  pointwise
  rfl

theorem re2_probM {s : FVec Ideal S384x384 .f32} {l : Vec Ideal S1x1x1x384 .f32} {S : ℕ → ℕ → ℝ} {L : ℕ → ℝ} (kc qi : ℕ) (hk : kc < 11) (hq : qi < 11)
    (hs : Re2 s S) (hl : ∀ y, l y = ((L (y 3).val : ℝ) : EReal)) :
    Re2 (probB (F := Ideal) (maskB (rowsOf (BitVec.ofNat 32 kc)) (BitVec.ofNat 32 qi) s) l)
      (fun r n => if 384 * kc + r ≤ 384 * qi + n ∧ 112 ≤ 384 * kc + r then Real.exp (S r n - L n) else 0) := fun y => by
  have hb := re2_row (x := l) hl y
  have hm : maskB (F := Ideal) (rowsOf (BitVec.ofNat 32 kc)) (BitVec.ofNat 32 qi) s y
      = if 384 * kc + (y 0).val ≤ 384 * qi + (y 1).val ∧ 112 ≤ 384 * kc + (y 0).val then s y else ⊥ := by
    show (if k0_pay55 (rowsOf (BitVec.ofNat 32 kc)) (BitVec.ofNat 32 qi) y = 1#1 then s y else k0_pay56 (F := Ideal) y) = _
    rw [masked_word]
    exact if_congr (mask_iff kc qi hk hq y) rfl rfl
  show Ideal.exp (maskB (F := Ideal) _ _ s y - (broadcastTo S384x384 (shapeCast S1x384 l shapeCasts_S1x1x1x384_S1x384) broadcasts_S1x384_S384x384) y) = _
  rw [hb, hm]
  by_cases h : 384 * kc + (y 0).val ≤ 384 * qi + (y 1).val ∧ 112 ≤ 384 * kc + (y 0).val
  · simp only [if_pos h]
    rw [hs y, ← EReal.coe_sub, Ideal.exp_coe]
  · simp only [if_neg h]
    rw [EReal.bot_sub, Ideal.exp_bot]; exact EReal.coe_zero.symm

theorem re2_dsB {p : FVec Ideal S384x384 .f32} {vb : FVec Ideal S384x128 .bf16} {dob : Vec Ideal S384x128 .f32} {dl : Vec Ideal S1x1x1x384 .f32}
    {P V O : ℕ → ℕ → ℝ} {D : ℕ → ℝ} (hp : Re2 p P) (hv : Re2 vb V) (ho : Re2 (a := 384) (b := 128) dob O) (hd : ∀ y, dl y = ((D (y 3).val : ℝ) : EReal)) :
    Re2 (dsB (F := Ideal) p vb dob dl) (fun r n => P r n * (∑ d ∈ range 128, V r d * O n d - D n)) :=
  re2_mulf hp (re2_subf (re2_mm_nt hv (re2_truncf ho)) (re2_row hd))

theorem re2_dkB {acc : FVec Ideal S384x128 .f32} {ds : FVec Ideal S384x384 .f32} {qb : Vec Ideal S384x128 .bf16} {A S Q : ℕ → ℕ → ℝ}
    (ha : Re2 acc A) (hs : Re2 ds S) (hq : Re2 (a := 384) (b := 128) qb Q) :
    Re2 (dkB (F := Ideal) acc ds qb) (fun r d => A r d + ∑ n ∈ range 384, S r n * Q n d) :=
  re2_addf ha (re2_mm_nn (re2_truncf hs) (re2_half (φ := .bf16) hq))

theorem re2_dvB {acc : FVec Ideal S384x128 .f32} {p : FVec Ideal S384x384 .f32} {dob : Vec Ideal S384x128 .f32} {A P O : ℕ → ℕ → ℝ}
    (ha : Re2 acc A) (hp : Re2 p P) (ho : Re2 (a := 384) (b := 128) dob O) :
    Re2 (dvB (F := Ideal) acc p dob) (fun r d => A r d + ∑ n ∈ range 384, P r n * O n d) :=
  re2_addf ha (re2_mm_nn (re2_truncf hp) (re2_truncf ho))

theorem re2_dqB {old : Vec Ideal S384x128 .f32} {ds : FVec Ideal S384x384 .f32} {kb : FVec Ideal S384x128 .bf16} {A S K : ℕ → ℕ → ℝ}
    (ha : Re2 (a := 384) (b := 128) old A) (hs : Re2 ds S) (hk : Re2 kb K) :
    Re2 (dqB (F := Ideal) old ds kb) (fun n d => A n d + ∑ r ∈ range 384, S r n * K r d) :=
  re2_addf (re2_half (φ := .f32) ha) (re2_mm_tn (re2_truncf hs) hk)

end Cert.Proof.AttnIdeal
-- ==== Proof.Block.lean ====
module

public import proofs.«01_k».proof.Proof.Forms

@[expose] public section

set_option maxRecDepth 16384

noncomputable section

namespace Cert.Proof.AttnIdeal

open Cert.KernelIdeal Cert.KernelIdeal.Gen
open Idealize.ShloMosaic
open Finset (range Ico)

/-! ## One point of the grid, among the reals -/

/-- The real numbers a point works on: its key block `kc`; the two heads' queries `Q` and cotangents `O` of the outputs at a row and
    a lane of 256; the block's keys `K` and values `V`; the log-sums `L` and the row products `D` of a head at a query; the offsets `C` of a head's
    keys of the block. -/
structure Pt where
  kc : ℕ
  Q : ℕ → ℕ → ℝ
  K : ℕ → ℕ → ℝ
  V : ℕ → ℕ → ℝ
  O : ℕ → ℕ → ℝ
  L : ℕ → ℕ → ℝ
  D : ℕ → ℕ → ℝ
  C : ℕ → ℕ → ℝ

namespace Pt
variable (p : Pt)

/-- The probability of key `r` of the block at query `n`, head `a`. -/
def P (a r n : ℕ) : ℝ :=
  if 384 * p.kc + r ≤ n ∧ 112 ≤ 384 * p.kc + r then
    Real.exp (∑ d ∈ range 128, p.K r (128 * a + d) * p.Q n (128 * a + d) - p.C a r - p.L a n) else 0

/-- The cotangent of the score. -/
def S (a r n : ℕ) : ℝ := p.P a r n * (∑ d ∈ range 128, p.V r (128 * a + d) * p.O n (128 * a + d) - p.D a n)

/-- The queries' cotangent `A` with the block's part added for the query blocks before `m`. -/
def addQ (A : ℕ → ℕ → ℝ) (m n j : ℕ) : ℝ :=
  A n j + if 384 * p.kc ≤ n ∧ n < 384 * m then ∑ r ∈ range 384, p.S (j / 128) r n * p.K r j else 0

/-- The query offsets' cotangent `A` with the block's part added for the query blocks before `m`. -/
def addC (A : ℕ → ℕ → ℝ) (m a n : ℕ) : ℝ :=
  A a n + if 384 * p.kc ≤ n ∧ n < 384 * m then ∑ r ∈ range 384, p.S a r n else 0

/-- The carried sums of head `a` hold the parts of the query blocks from `kc` to before `m`. -/
structure Sums (a m : ℕ) (dk dv dck : FVec Ideal S384x128 .f32) : Prop where
  dk : Re2 dk (fun r d => ∑ n ∈ Ico (384 * p.kc) (384 * m), p.S a r n * p.Q n (128 * a + d))
  dv : Re2 dv (fun r d => ∑ n ∈ Ico (384 * p.kc) (384 * m), p.P a r n * p.O n (128 * a + d))
  dck : ∃ G : ℕ → ℕ → ℝ, Re2 dck G ∧ ∀ r, ∑ l ∈ range 128, G r l = - ∑ n ∈ Ico (384 * p.kc) (384 * m), p.S a r n

end Pt

/-- A sum up to block `m` and the sum of block `m`. -/
theorem sum_block {k m : ℕ} (h : k ≤ m) (f : ℕ → ℝ) :
    ∑ n ∈ Ico (384 * k) (384 * (m + 1)), f n = ∑ n ∈ Ico (384 * k) (384 * m), f n + ∑ j ∈ range 384, f (384 * m + j) := by
  rw [← Finset.sum_Ico_consecutive f (show 384 * k ≤ 384 * m by omega) (show 384 * m ≤ 384 * (m + 1) by omega)]
  congr 1
  rw [Finset.sum_Ico_eq_sum_range]
  exact Finset.sum_congr (by congr 1; omega) fun _ _ => rfl

/-- A row of 384 summed lane by lane of 128. -/
theorem sum_lanes (f : ℕ → ℝ) : ∑ l ∈ range 128, (f l + f (128 + l) + f (256 + l)) = ∑ j ∈ range 384, f j := by
  rw [Finset.sum_add_distrib, Finset.sum_add_distrib, show (384 : ℕ) = 128 + 128 + 128 from rfl, Finset.sum_range_add, Finset.sum_range_add]

/-! ## Blocks read and written -/

/-- A block read at an index is the whole read at the index shifted. -/
theorem blk2_at {e : EltTy} (M : Memref sig .tc .vmem S4224x256 e) (X : BufTy.Contents (Elt Ideal) M.view.ty) {o : Fin 2 → ℕ}
    (ho : ∀ a, o a + S384x128.size a ≤ S4224x256.size a) {A B : ℕ} (eo : o = ![A, B]) (y : S384x128.Idx) :
    ∃ z : S4224x256.Idx, (z 0).val = A + (y 0).val ∧ (z 1).val = B + (y 1).val ∧ blk2 (F := Ideal) M X ho y = View.read (Elt Ideal) M.view X z := by
  subst eo
  refine ⟨(Rect.unit (s := S4224x256) ![A, B] S384x128.size ho).emb y, ?_, ?_, rfl⟩
  · show A + 1 * _ = _; rw [Nat.one_mul]
  · show B + 1 * _ = _; rw [Nat.one_mul]

theorem blk2_re {M : Memref sig .tc .vmem S4224x256 .f32} {X : BufTy.Contents (Elt Ideal) M.view.ty} {o : Fin 2 → ℕ}
    (ho : ∀ a, o a + S384x128.size a ≤ S4224x256.size a) {A B : ℕ} (eo : o = ![A, B]) {f : ℕ → ℕ → ℝ}
    (h : Re2 (a := 4224) (b := 256) (View.read (Elt Ideal) M.view X) f) :
    Re2 (a := 384) (b := 128) (blk2 (F := Ideal) M X ho) (fun j d => f (A + j) (B + d)) := fun y => by
  obtain ⟨z, e0, e1, e⟩ := blk2_at M X ho eo y
  rw [e, h z, e0, e1]

theorem blk2_re16 {M : Memref sig .tc .vmem S4224x256 .bf16} {X : BufTy.Contents (Elt Ideal) M.view.ty} {o : Fin 2 → ℕ}
    (ho : ∀ a, o a + S384x128.size a ≤ S4224x256.size a) {A B : ℕ} (eo : o = ![A, B]) {f : ℕ → ℕ → ℝ}
    (h : Re2 (a := 4224) (b := 256) (View.read (Elt Ideal) M.view X) f) :
    Re2 (a := 384) (b := 128) (blk2 (F := Ideal) M X ho) (fun j d => f (A + j) (B + d)) := fun y => by
  obtain ⟨z, e0, e1, e⟩ := blk2_at M X ho eo y
  rw [e, h z, e0, e1]

theorem row4_re {M : Memref sig .tc .vmem S2x11x1x384 .f32} {X : BufTy.Contents (Elt Ideal) M.view.ty} {w : Fin 4 → ℕ}
    (hw : ∀ a, w a + S1x1x1x384.size a ≤ S2x11x1x384.size a) {A B : ℕ} (ew : w = ![A, B, 0, 0]) {f : ℕ → ℕ → ℝ}
    (h : Re4 (a := 2) (b := 11) (View.read (Elt Ideal) M.view X) f) :
    ∀ y, row4 (F := Ideal) M X hw y = ((f A (384 * B + (y 3).val) : ℝ) : EReal) := fun y => by
  subst ew
  have h0 : (y 0).val < 1 := (y 0).isLt
  have h1 : (y 1).val < 1 := (y 1).isLt
  rw [show row4 (F := Ideal) M X hw y = View.read (Elt Ideal) M.view X ((Rect.unit (s := S2x11x1x384) ![A, B, 0, 0] S1x1x1x384.size hw).emb y) from rfl, h]
  have e0 : (((Rect.unit (s := S2x11x1x384) ![A, B, 0, 0] S1x1x1x384.size hw).emb y) 0).val = A := by
    show A + 1 * (y 0).val = A; omega
  have e1 : (((Rect.unit (s := S2x11x1x384) ![A, B, 0, 0] S1x1x1x384.size hw).emb y) 1).val = B := by
    show B + 1 * (y 1).val = B; omega
  have e3 : (((Rect.unit (s := S2x11x1x384) ![A, B, 0, 0] S1x1x1x384.size hw).emb y) 3).val = (y 3).val := by
    show 0 + 1 * (y 3).val = _; omega
  rw [e0, e1, e3]

/-- A block written holds what was there with the block's part added, where the payload is what was there plus the part. -/
theorem write2_re {M : Memref sig .tc .vmem S4224x256 .f32} {X : BufTy.Contents (Elt Ideal) M.view.ty} {L : List (View.Piece (Elt Ideal) S4224x256 .f32)} {o : Fin 2 → ℕ}
    (ho : ∀ a, o a + S384x128.size a ≤ S4224x256.size a) {A B : ℕ} (eo : o = ![A, B]) {pay : Vec Ideal S384x128 .f32} {f t : ℕ → ℕ → ℝ}
    (h : Re2 (a := 4224) (b := 256) (View.read (Elt Ideal) M.view (M.view.writes (Elt Ideal) X L)) f)
    (hp : Re2 (a := 384) (b := 128) pay (fun j d => f (A + j) (B + d) + t (A + j) (B + d))) :
    Re2 (a := 4224) (b := 256) (View.read (Elt Ideal) M.view (M.view.writes (Elt Ideal) X (⟨Rect.unit (s := S4224x256) o S384x128.size ho, pay⟩ :: L)))
      (fun n j => f n j + if (A ≤ n ∧ n < A + 384) ∧ (B ≤ j ∧ j < B + 128) then t n j else 0) := fun y => by
  by_cases hy : (A ≤ (y 0).val ∧ (y 0).val < A + 384) ∧ (B ≤ (y 1).val ∧ (y 1).val < B + 128)
  · have hx : ∀ a : Fin 2, (y a).val = (![A, B] : Fin 2 → ℕ) a + ((ix2 ⟨(y 0).val - A, by omega⟩ ⟨(y 1).val - B, by omega⟩ : S384x128.Idx) a).val := by
      intro a
      fin_cases a
      · show (y 0).val = A + ((y 0).val - A); omega
      · show (y 1).val = B + ((y 1).val - B); omega
    rw [View.read_writes_cons_unit_of_mem M.view X ho pay L y (ix2 ⟨(y 0).val - A, by omega⟩ ⟨(y 1).val - B, by omega⟩) eo hx, hp]
    have e0 : A + ((y 0).val - A) = (y 0).val := by omega
    have e1 : B + ((y 1).val - B) = (y 1).val := by omega
    show ((f (A + ((y 0).val - A)) (B + ((y 1).val - B)) + t (A + ((y 0).val - A)) (B + ((y 1).val - B)) : ℝ) : EReal) = _
    simp only [e0, e1, if_pos hy]
  · simp only [if_neg hy, add_zero]
    rcases not_and_or.mp hy with h0 | h1
    · rw [View.read_writes_cons_unit_of_not_mem M.view X ho pay L y eo 0 (by show _ < A ∨ A + 384 ≤ _; omega), h]
    · rw [View.read_writes_cons_unit_of_not_mem M.view X ho pay L y eo 1 (by show _ < B ∨ B + 128 ≤ _; omega), h]

/-- The same of a row written. -/
theorem write4_re {M : Memref sig .tc .vmem S2x11x1x384 .f32} {X : BufTy.Contents (Elt Ideal) M.view.ty} {L : List (View.Piece (Elt Ideal) S2x11x1x384 .f32)} {w : Fin 4 → ℕ}
    (hw : ∀ a, w a + S1x1x1x384.size a ≤ S2x11x1x384.size a) {A B : ℕ} (ew : w = ![A, B, 0, 0]) {pay : Vec Ideal S1x1x1x384 .f32} {f t : ℕ → ℕ → ℝ}
    (h : Re4 (a := 2) (b := 11) (View.read (Elt Ideal) M.view (M.view.writes (Elt Ideal) X L)) f)
    (hp : ∀ y, pay y = ((f A (384 * B + (y 3).val) + t A (384 * B + (y 3).val) : ℝ) : EReal)) :
    Re4 (a := 2) (b := 11) (View.read (Elt Ideal) M.view (M.view.writes (Elt Ideal) X (⟨Rect.unit (s := S2x11x1x384) w S1x1x1x384.size hw, pay⟩ :: L)))
      (fun a n => f a n + if a = A ∧ (384 * B ≤ n ∧ n < 384 * B + 384) then t a n else 0) := fun y => by
  have h2 : (y 2).val < 1 := (y 2).isLt
  have h3 : (y 3).val < 384 := (y 3).isLt
  by_cases hy : (y 0).val = A ∧ (y 1).val = B
  · have hx : ∀ a : Fin 4, (y a).val = (![A, B, 0, 0] : Fin 4 → ℕ) a + ((ix4 0 0 0 (y 3) : S1x1x1x384.Idx) a).val := by
      intro a
      fin_cases a
      · show (y 0).val = A + 0; omega
      · show (y 1).val = B + 0; omega
      · show (y 2).val = 0 + 0; omega
      · show (y 3).val = 0 + (y 3).val; omega
    rw [View.read_writes_cons_unit_of_mem M.view X hw pay L y (ix4 0 0 0 (y 3)) ew hx, hp]
    show ((f A (384 * B + (y 3).val) + t A (384 * B + (y 3).val) : ℝ) : EReal) = _
    have hc : (y 0).val = A ∧ (384 * B ≤ 384 * (y 1).val + (y 3).val ∧ 384 * (y 1).val + (y 3).val < 384 * B + 384) := by omega
    simp only [if_pos hc]
    rw [hy.1, hy.2]
  · have hc : ¬ ((y 0).val = A ∧ (384 * B ≤ 384 * (y 1).val + (y 3).val ∧ 384 * (y 1).val + (y 3).val < 384 * B + 384)) := by omega
    simp only [if_neg hc, add_zero]
    rcases not_and_or.mp hy with h0 | h1
    · rw [View.read_writes_cons_unit_of_not_mem M.view X hw pay L y ew 0 (by show _ < A ∨ A + 1 ≤ _; omega), h]
    · rw [View.read_writes_cons_unit_of_not_mem M.view X hw pay L y ew 1 (by show _ < B ∨ B + 1 ≤ _; omega), h]

/-! ## A query block's step -/

section Step
variable (p : Pt) {m : ℕ} {a : ℕ}

/-- The probabilities of a masked block, -/
theorem headP_masked {M2 : Memref sig .tc .vmem S4224x256 .bf16} {M7 : Memref sig .tc .vmem S2x11x1x384 .f32}
    {X2 : BufTy.Contents (Elt Ideal) M2.view.ty} {X7 : BufTy.Contents (Elt Ideal) M7.view.ty} {o : Fin 2 → ℕ}
    (ho : ∀ a, o a + S384x128.size a ≤ S4224x256.size a) {w : Fin 4 → ℕ} (hw : ∀ a, w a + S1x1x1x384.size a ≤ S2x11x1x384.size a)
    (eo : o = ![384 * m, 128 * a]) (ew : w = ![a, m, 0, 0]) (hk : p.kc < 11) (hm : m < 11)
    {kb : FVec Ideal S384x128 .bf16} {cb : FVec Ideal S384x384 .f32}
    (hkb : Re2 kb (fun r d => p.K r (128 * a + d))) (hcb : Re2 cb (fun r _ => p.C a r))
    (h2 : Re2 (a := 4224) (b := 256) (View.read (Elt Ideal) M2.view X2) p.Q) (h7 : Re4 (a := 2) (b := 11) (View.read (Elt Ideal) M7.view X7) p.L) :
    Re2 (headP (F := Ideal) M2 M7 X2 X7 ho hw (maskB (rowsOf (BitVec.ofNat 32 p.kc)) (BitVec.ofNat 32 m)) kb cb) (fun r j => p.P a r (384 * m + j)) := by
  refine re2_congr (re2_probM p.kc m hk hm (re2_scoreB hkb hcb (blk2_re16 ho eo h2)) (L := fun j => p.L a (384 * m + j)) (row4_re hw ew h7)) fun r _ l _ => ?_
  rw [Pt.P]

/-- and of a block all of whose pairs are visible. -/
theorem headP_plain {M2 : Memref sig .tc .vmem S4224x256 .bf16} {M7 : Memref sig .tc .vmem S2x11x1x384 .f32}
    {X2 : BufTy.Contents (Elt Ideal) M2.view.ty} {X7 : BufTy.Contents (Elt Ideal) M7.view.ty} {o : Fin 2 → ℕ}
    (ho : ∀ a, o a + S384x128.size a ≤ S4224x256.size a) {w : Fin 4 → ℕ} (hw : ∀ a, w a + S1x1x1x384.size a ≤ S2x11x1x384.size a)
    (eo : o = ![384 * m, 128 * a]) (ew : w = ![a, m, 0, 0]) (hk : 0 < p.kc) (hm : p.kc < m)
    {kb : FVec Ideal S384x128 .bf16} {cb : FVec Ideal S384x384 .f32}
    (hkb : Re2 kb (fun r d => p.K r (128 * a + d))) (hcb : Re2 cb (fun r _ => p.C a r))
    (h2 : Re2 (a := 4224) (b := 256) (View.read (Elt Ideal) M2.view X2) p.Q) (h7 : Re4 (a := 2) (b := 11) (View.read (Elt Ideal) M7.view X7) p.L) :
    Re2 (headP (F := Ideal) M2 M7 X2 X7 ho hw id kb cb) (fun r j => p.P a r (384 * m + j)) := by
  refine re2_congr (re2_probB (re2_scoreB hkb hcb (blk2_re16 ho eo h2)) (L := fun j => p.L a (384 * m + j)) (row4_re hw ew h7)) fun r hr l hl => ?_
  rw [Pt.P, if_pos ⟨by omega, by omega⟩]

/-- The cotangents of a block's scores. -/
theorem headS_re {M5 : Memref sig .tc .vmem S4224x256 .f32} {M14 : Memref sig .tc .vmem S2x11x1x384 .f32}
    {X5 : BufTy.Contents (Elt Ideal) M5.view.ty} {X14 : BufTy.Contents (Elt Ideal) M14.view.ty} {o : Fin 2 → ℕ}
    (ho : ∀ a, o a + S384x128.size a ≤ S4224x256.size a) {w : Fin 4 → ℕ} (hw : ∀ a, w a + S1x1x1x384.size a ≤ S2x11x1x384.size a)
    (eo : o = ![384 * m, 128 * a]) (ew : w = ![a, m, 0, 0])
    {P : FVec Ideal S384x384 .f32} {vb : FVec Ideal S384x128 .bf16}
    (hP : Re2 P (fun r j => p.P a r (384 * m + j))) (hvb : Re2 vb (fun r d => p.V r (128 * a + d)))
    (h5 : Re2 (a := 4224) (b := 256) (View.read (Elt Ideal) M5.view X5) p.O) (h14 : Re4 (a := 2) (b := 11) (View.read (Elt Ideal) M14.view X14) p.D) :
    Re2 (headS (F := Ideal) M5 M14 X5 X14 ho hw P vb) (fun r j => p.S a r (384 * m + j)) :=
  re2_dsB hP hvb (blk2_re ho eo h5) (row4_re hw ew h14)

/-- The carried sums after a block. -/
theorem sums_step (hkm : p.kc ≤ m) {dk dv dck : FVec Ideal S384x128 .f32} (h : p.Sums a m dk dv dck)
    {P S : FVec Ideal S384x384 .f32} {qb : Vec Ideal S384x128 .bf16} {dob : Vec Ideal S384x128 .f32}
    (hP : Re2 P (fun r j => p.P a r (384 * m + j))) (hS : Re2 S (fun r j => p.S a r (384 * m + j)))
    (hq : Re2 (a := 384) (b := 128) qb (fun j d => p.Q (384 * m + j) (128 * a + d))) (hd : Re2 (a := 384) (b := 128) dob (fun j d => p.O (384 * m + j) (128 * a + d))) :
    p.Sums a (m + 1) (dkB (F := Ideal) dk S qb) (dvB (F := Ideal) dv P dob) (k0_pay5 (F := Ideal) dck S) where
  dk := re2_congr (re2_dkB h.dk hS hq) fun r _ l _ => (sum_block hkm _).symm
  dv := re2_congr (re2_dvB h.dv hP hd) fun r _ l _ => (sum_block hkm _).symm
  dck := by
    obtain ⟨G, hG, hs⟩ := h.dck
    refine ⟨_, re2_part hG hS, fun r => ?_⟩
    rw [Finset.sum_sub_distrib, hs r, sum_block hkm, neg_add, sub_eq_add_neg]
    congr 2
    exact sum_lanes (fun j => p.S a r (384 * m + j))

/-- The sums before the first block are empty. -/
theorem sums_zero {z : FVec Ideal S384x128 .f32} (hz : ∀ y, z y = ((0 : ℝ) : EReal)) : p.Sums a p.kc z z z where
  dk := fun y => by rw [hz y]; simp
  dv := fun y => by rw [hz y]; simp
  dck := ⟨fun _ _ => 0, fun y => hz y, fun r => by simp⟩

/-- The queries' cotangent after both heads' pieces of a block, -/
theorem write_q (hkm : p.kc ≤ m) {A : ℕ → ℕ → ℝ} {M : Memref sig .tc .vmem S4224x256 .f32} {X : BufTy.Contents (Elt Ideal) M.view.ty} {L : List (View.Piece (Elt Ideal) S4224x256 .f32)}
    {o0 o1 : Fin 2 → ℕ} (ho0 : ∀ a, o0 a + S384x128.size a ≤ S4224x256.size a) (ho1 : ∀ a, o1 a + S384x128.size a ≤ S4224x256.size a)
    (eo0 : o0 = ![384 * m, 0]) (eo1 : o1 = ![384 * m, 128])
    (h : Re2 (a := 4224) (b := 256) (View.read (Elt Ideal) M.view (M.view.writes (Elt Ideal) X L)) (p.addQ A m))
    {old0 old1 : Vec Ideal S384x128 .f32} {s0 s1 : FVec Ideal S384x384 .f32} {k0 k1 : FVec Ideal S384x128 .bf16}
    (hold0 : Re2 (a := 384) (b := 128) old0 (fun j d => p.addQ A m (384 * m + j) (0 + d)))
    (hold1 : Re2 (a := 384) (b := 128) old1 (fun j d => p.addQ A m (384 * m + j) (128 + d)))
    (hs0 : Re2 s0 (fun r j => p.S 0 r (384 * m + j))) (hs1 : Re2 s1 (fun r j => p.S 1 r (384 * m + j)))
    (hk0 : Re2 k0 (fun r d => p.K r (128 * 0 + d))) (hk1 : Re2 k1 (fun r d => p.K r (128 * 1 + d))) :
    Re2 (a := 4224) (b := 256) (View.read (Elt Ideal) M.view (M.view.writes (Elt Ideal) X (pieceQ ho1 old1 s1 k1 :: pieceQ ho0 old0 s0 k0 :: L))) (p.addQ A (m + 1)) := by
  have w0 := write2_re (t := fun n j => ∑ r ∈ range 384, p.S 0 r n * p.K r j) ho0 eo0 h
    (re2_congr (re2_dqB hold0 hs0 hk0) fun r _ l _ => by simp only [Nat.mul_zero, Nat.zero_add])
  have w1 := write2_re (t := fun n j => ∑ r ∈ range 384, p.S 1 r n * p.K r j) ho1 eo1 w0
    (re2_congr (re2_dqB hold1 hs1 hk1) fun r _ l _ => by
      rw [if_neg (by omega), add_zero])
  refine re2_congr w1 fun n hn j hj => ?_
  unfold Pt.addQ
  by_cases hb : 384 * m ≤ n ∧ n < 384 * m + 384
  · rw [if_neg (show ¬ (384 * p.kc ≤ n ∧ n < 384 * m) by omega), if_pos (show 384 * p.kc ≤ n ∧ n < 384 * (m + 1) by omega), add_zero]
    by_cases hj' : j < 128
    · rw [if_pos ⟨hb, by omega, by omega⟩, if_neg (by omega), add_zero, Nat.div_eq_of_lt hj']
    · rw [if_neg (by omega), if_pos ⟨hb, by omega, by omega⟩, add_zero, show j / 128 = 1 by omega]
  · rw [if_neg (show ¬ ((384 * m ≤ n ∧ n < 384 * m + 384) ∧ (0 ≤ j ∧ j < 0 + 128)) from fun hc => hb hc.1), if_neg (show ¬ ((384 * m ≤ n ∧ n < 384 * m + 384) ∧ (128 ≤ j ∧ j < 128 + 128)) from fun hc => hb hc.1), add_zero, add_zero]
    congr 1
    exact if_congr (by omega) rfl rfl

/-- and the query offsets' cotangent. -/
theorem write_c (hkm : p.kc ≤ m) {A : ℕ → ℕ → ℝ} {M : Memref sig .tc .vmem S2x11x1x384 .f32} {X : BufTy.Contents (Elt Ideal) M.view.ty} {L : List (View.Piece (Elt Ideal) S2x11x1x384 .f32)}
    {w0 w1 : Fin 4 → ℕ} (hw0 : ∀ a, w0 a + S1x1x1x384.size a ≤ S2x11x1x384.size a) (hw1 : ∀ a, w1 a + S1x1x1x384.size a ≤ S2x11x1x384.size a)
    (ew0 : w0 = ![0, m, 0, 0]) (ew1 : w1 = ![1, m, 0, 0])
    (h : Re4 (a := 2) (b := 11) (View.read (Elt Ideal) M.view (M.view.writes (Elt Ideal) X L)) (p.addC A m))
    {old0 old1 : Vec Ideal S1x1x1x384 .f32} {s0 s1 : FVec Ideal S384x384 .f32}
    (hold0 : ∀ y, old0 y = ((p.addC A m 0 (384 * m + (y 3).val) : ℝ) : EReal))
    (hold1 : ∀ y, old1 y = ((p.addC A m 1 (384 * m + (y 3).val) : ℝ) : EReal))
    (hs0 : Re2 s0 (fun r j => p.S 0 r (384 * m + j))) (hs1 : Re2 s1 (fun r j => p.S 1 r (384 * m + j))) :
    Re4 (a := 2) (b := 11) (View.read (Elt Ideal) M.view (M.view.writes (Elt Ideal) X (pieceC hw1 old1 s1 :: pieceC hw0 old0 s0 :: L))) (p.addC A (m + 1)) := by
  have v0 := write4_re (t := fun a n => ∑ r ∈ range 384, p.S a r n) hw0 ew0 h (re4_col (f := fun j => p.addC A m 0 (384 * m + j)) hold0 hs0)
  have v1 := write4_re (t := fun a n => ∑ r ∈ range 384, p.S a r n) hw1 ew1 v0
    (fun y => (re4_col (f := fun j => p.addC A m 1 (384 * m + j)) hold1 hs1 y).trans (by rw [if_neg (by omega), add_zero]))
  intro y
  rw [v1 y]
  congr 1
  have h0 : (y 0).val < 2 := (y 0).isLt
  generalize 384 * (y 1).val + (y 3).val = n
  generalize (y 0).val = a at h0
  unfold Pt.addC
  beta_reduce
  by_cases hb : 384 * m ≤ n ∧ n < 384 * m + 384
  · rw [if_neg (show ¬ (384 * p.kc ≤ n ∧ n < 384 * m) by omega), if_pos (show 384 * p.kc ≤ n ∧ n < 384 * (m + 1) by omega), add_zero]
    by_cases ha : a = 0
    · rw [if_pos ⟨ha, hb⟩, if_neg (by omega), add_zero]
    · rw [if_neg (by omega), if_pos ⟨by omega, hb⟩, add_zero]
  · rw [if_neg (show ¬ (a = 0 ∧ (384 * m ≤ n ∧ n < 384 * m + 384)) from fun hc => hb hc.2), if_neg (show ¬ (a = 1 ∧ (384 * m ≤ n ∧ n < 384 * m + 384)) from fun hc => hb hc.2), add_zero, add_zero]
    congr 1
    exact if_congr (by omega) rfl rfl

end Step

end Cert.Proof.AttnIdeal
-- ==== Proof.Net.lean ====
module

public import proofs.«01_k».proof.Proof.Block

@[expose] public section

set_option maxRecDepth 16384

noncomputable section

namespace Cert.Proof.AttnIdeal

open Idealize.ShloMosaic
open Finset (range Ico)

/-! ## The whole backward pass over the real numbers

`Q`, `K`, `V`, `O`, `W` are indexed by position and lane (2048 lanes, 128 to a head): queries, keys, values, the output's
cotangent and the output. `L` and `C` are indexed by head and position: the log of the softmax denominator and the keys' offsets. -/

/-- The arrays of the backward pass. -/
structure Net where
  Q : ℕ → ℕ → ℝ
  K : ℕ → ℕ → ℝ
  V : ℕ → ℕ → ℝ
  O : ℕ → ℕ → ℝ
  W : ℕ → ℕ → ℝ
  L : ℕ → ℕ → ℝ
  C : ℕ → ℕ → ℝ

namespace Net
variable (N : Net)

/-- The output's cotangent against the output, head by head. -/
def D (h n : ℕ) : ℝ := ∑ d ∈ range 128, N.O n (128 * h + d) * N.W n (128 * h + d)

/-- The probability of key `r` at query `n`, head `h`. -/
def P (h r n : ℕ) : ℝ :=
  if r ≤ n ∧ 112 ≤ r then
    Real.exp (∑ d ∈ range 128, N.K r (128 * h + d) * N.Q n (128 * h + d) - N.C h r - N.L h n) else 0

/-- The cotangent of the score. -/
def S (h r n : ℕ) : ℝ := N.P h r n * (∑ d ∈ range 128, N.V r (128 * h + d) * N.O n (128 * h + d) - N.D h n)

/-- The part of heads `2 * g` and `2 * g + 1` and of key block `kc`. -/
def pt (g kc : ℕ) : Pt where
  kc := kc
  Q n j := N.Q n (256 * g + j)
  K r j := N.K (384 * kc + r) (256 * g + j)
  V r j := N.V (384 * kc + r) (256 * g + j)
  O n j := N.O n (256 * g + j)
  L a n := N.L (2 * g + a) n
  D a n := N.D (2 * g + a) n
  C a r := N.C (2 * g + a) (384 * kc + r)

theorem lane (g a d : ℕ) : 256 * g + (128 * a + d) = 128 * (2 * g + a) + d := by omega

theorem pt_P (g kc a r n : ℕ) : (N.pt g kc).P a r n = N.P (2 * g + a) (384 * kc + r) n := by
  simp only [Pt.P, P, pt, lane]

theorem pt_S (g kc a r n : ℕ) : (N.pt g kc).S a r n = N.S (2 * g + a) (384 * kc + r) n := by
  simp only [Pt.S, S, pt_P]
  simp only [pt, lane]

/-- A later key has no part in an earlier query. -/
theorem S_zero (h r n : ℕ) (hn : n < r) : N.S h r n = 0 := by
  rw [S, P, if_neg (by omega), zero_mul]

theorem P_zero (h r n : ℕ) (hn : n < r) : N.P h r n = 0 := by
  rw [P, if_neg (by omega)]

/-- The queries' cotangent from the keys before `m`. -/
def dq (m g n j : ℕ) : ℝ := ∑ r ∈ range m, N.S (2 * g + j / 128) r n * N.K r (256 * g + j)

/-- The query offsets' cotangent from the keys before `m`. -/
def dcq (m g a n : ℕ) : ℝ := ∑ r ∈ range m, N.S (2 * g + a) r n

theorem sum_next (kc : ℕ) (f : ℕ → ℝ) :
    ∑ r ∈ range (384 * (kc + 1)), f r = ∑ r ∈ range (384 * kc), f r + ∑ r ∈ range 384, f (384 * kc + r) := by
  rw [show 384 * (kc + 1) = 384 * kc + 384 by ring, Finset.sum_range_add]

theorem addQ_next (g kc n j : ℕ) (hn : n < 4224) :
    (N.pt g kc).addQ (N.dq (384 * kc) g) 11 n j = N.dq (384 * (kc + 1)) g n j := by
  rw [Pt.addQ, dq, dq, sum_next]
  congr 1
  split
  · exact Finset.sum_congr rfl fun r _ => by rw [pt_S]; rfl
  · rename_i h
    refine (Finset.sum_eq_zero fun r _ => ?_).symm
    have : n < 384 * kc := by
      by_contra h'; exact h ⟨by simpa [pt] using h', by omega⟩
    rw [N.S_zero _ _ _ (by omega), zero_mul]

theorem addC_next (g kc a n : ℕ) (hn : n < 4224) :
    (N.pt g kc).addC (N.dcq (384 * kc) g) 11 a n = N.dcq (384 * (kc + 1)) g a n := by
  rw [Pt.addC, dcq, dcq, sum_next]
  congr 1
  split
  · exact Finset.sum_congr rfl fun r _ => by rw [pt_S]
  · rename_i h
    refine (Finset.sum_eq_zero fun r _ => ?_).symm
    have : n < 384 * kc := by
      by_contra h'; exact h ⟨by simpa [pt] using h', by omega⟩
    rw [N.S_zero _ _ _ (by omega)]

/-- A sum over all queries has no part from the queries before the key's block. -/
theorem sum_from {kc r : ℕ} (hkc : kc < 11) (f : ℕ → ℝ) (hf : ∀ n, n < 384 * kc → f n = 0) :
    ∑ n ∈ Ico (384 * kc) (384 * 11), f n = ∑ n ∈ range 4224, f n := by
  rw [show range 4224 = Ico 0 (384 * 11) by rw [Finset.range_eq_Ico], ← Finset.sum_Ico_consecutive f (Nat.zero_le (384 * kc)) (show 384 * kc ≤ 384 * 11 by omega),
    Finset.sum_eq_zero (s := Ico 0 (384 * kc)) (fun n hn => hf n (Finset.mem_Ico.mp hn).2), zero_add]

/-! The five results. -/

/-- The queries' cotangent. -/
def rq (n j : ℕ) : ℝ := ∑ r ∈ range 4224, N.S (j / 128) r n * N.K r j
/-- The keys' cotangent. -/
def rk (r j : ℕ) : ℝ := ∑ n ∈ range 4224, N.S (j / 128) r n * N.Q n j
/-- The values' cotangent. -/
def rv (r j : ℕ) : ℝ := ∑ n ∈ range 4224, N.P (j / 128) r n * N.O n j
/-- The key offsets' cotangent. -/
def rck (h r : ℕ) : ℝ := - ∑ n ∈ range 4224, N.S h r n
/-- The query offsets' cotangent. -/
def rcq (h n : ℕ) : ℝ := ∑ r ∈ range 4224, N.S h r n

theorem head (g j : ℕ) : 2 * g + j / 128 = (256 * g + j) / 128 := by omega

theorem dk_eq (g kc r j : ℕ) (hkc : kc < 11) :
    ∑ n ∈ Ico (384 * kc) (384 * 11), (N.pt g kc).S (j / 128) r n * (N.pt g kc).Q n j = N.rk (384 * kc + r) (256 * g + j) := by
  rw [rk, ← head, ← sum_from (r := r) hkc]
  · exact Finset.sum_congr rfl fun n _ => by rw [pt_S]; rfl
  · exact fun n hn => by rw [N.S_zero _ _ _ (by omega), zero_mul]

theorem dv_eq (g kc r j : ℕ) (hkc : kc < 11) :
    ∑ n ∈ Ico (384 * kc) (384 * 11), (N.pt g kc).P (j / 128) r n * (N.pt g kc).O n j = N.rv (384 * kc + r) (256 * g + j) := by
  rw [rv, ← head, ← sum_from (r := r) hkc]
  · exact Finset.sum_congr rfl fun n _ => by rw [pt_P]; rfl
  · exact fun n hn => by rw [N.P_zero _ _ _ (by omega), zero_mul]

theorem dck_eq (g kc a r : ℕ) (hkc : kc < 11) :
    - ∑ n ∈ Ico (384 * kc) (384 * 11), (N.pt g kc).S a r n = N.rck (2 * g + a) (384 * kc + r) := by
  rw [rck, ← sum_from (r := r) hkc]
  · exact congrArg _ (Finset.sum_congr rfl fun n _ => by rw [pt_S])
  · exact fun n hn => N.S_zero _ _ _ (by omega)

theorem dq_eq (g n j : ℕ) : N.dq 4224 g n j = N.rq n (256 * g + j) := by
  rw [dq, rq, ← head]

end Net

end Cert.Proof.AttnIdeal

end
-- ==== Proof.Soft.lean ====
module

public import proofs.«01_k».proof.Proof.Net

@[expose] public section

set_option maxRecDepth 16384

noncomputable section

namespace Cert.Proof.AttnIdeal

open Finset (range Ico)

/-! ## The softmax over the real numbers

Queries are counted from position 112 on: query `i` is position `112 + i`. -/

/-- The five arguments. -/
structure Five where
  Q : ℕ → ℕ → ℝ
  K : ℕ → ℕ → ℝ
  V : ℕ → ℕ → ℝ
  C : ℕ → ℕ → ℝ
  O : ℕ → ℕ → ℝ

namespace Five
variable (x : Five)

/-- The query at `112 + i` sees key `r`. -/
abbrev live (i r : ℕ) : Prop := r ≤ 112 + i ∧ 112 ≤ r

/-- The score, but for the query's offset. -/
def sc (h i r : ℕ) : ℝ := ∑ d ∈ range 128, x.Q (112 + i) (128 * h + d) * x.K r (128 * h + d) - x.C h r
/-- Its exponential, zero where the key is not seen. -/
def ex (h i r : ℕ) : ℝ := if live i r then Real.exp (x.sc h i r) else 0
/-- The denominator. -/
def Z (h i : ℕ) : ℝ := ∑ r ∈ range 4224, x.ex h i r
/-- The probability. -/
def pr (h i r : ℕ) : ℝ := x.ex h i r / x.Z h i
/-- The probability's cotangent. -/
def dp (h i r : ℕ) : ℝ := ∑ d ∈ range 128, x.O (112 + i) (128 * h + d) * x.V r (128 * h + d)
/-- The score's cotangent. -/
def ds (h i r : ℕ) : ℝ := x.pr h i r * (x.dp h i r - ∑ k ∈ range 4224, x.dp h i k * x.pr h i k)

/-- The arrays the backward pass is given. -/
def net : Net where
  Q := x.Q
  K := x.K
  V := x.V
  O := x.O
  W n j := if n < 112 then 0 else ∑ r ∈ range 4224, x.V r j * x.pr (j / 128) (n - 112) r
  L h n := if n < 112 then 0 else Real.log (x.Z h (n - 112))
  C := x.C

theorem ex_nonneg (h i r : ℕ) : 0 ≤ x.ex h i r := by
  unfold ex; split
  · exact (Real.exp_pos _).le
  · exact le_refl 0

theorem Z_pos (h i : ℕ) : 0 < x.Z h i := by
  refine Finset.sum_pos' (fun r _ => x.ex_nonneg h i r) ⟨112, Finset.mem_range.mpr (by decide), ?_⟩
  unfold ex
  rw [if_pos (show live i 112 from ⟨by omega, le_refl _⟩)]
  exact Real.exp_pos _

theorem net_P (h r i : ℕ) : x.net.P h r (112 + i) = x.pr h i r := by
  rw [Net.P, pr, ex]
  split
  · rename_i hl
    rw [show x.net.L h (112 + i) = Real.log (x.Z h i) by simp [net], Real.exp_sub, Real.exp_log (x.Z_pos h i)]
    congr 2
    rw [sc]
    congr 1
    exact Finset.sum_congr rfl fun d _ => mul_comm _ _
  · rw [zero_div]

theorem net_P_pad (h r n : ℕ) (hn : n < 112) : x.net.P h r n = 0 := by
  rw [Net.P, if_neg (by omega)]

theorem net_S_pad (h r n : ℕ) (hn : n < 112) : x.net.S h r n = 0 := by
  rw [Net.S, net_P_pad _ _ _ _ hn, zero_mul]

theorem net_D (h i : ℕ) : x.net.D h (112 + i) = ∑ r ∈ range 4224, x.dp h i r * x.pr h i r := by
  rw [Net.D]
  simp only [dp, Finset.sum_mul]
  rw [Finset.sum_comm]
  refine Finset.sum_congr rfl fun d hd => ?_
  rw [show x.net.W (112 + i) (128 * h + d) = ∑ r ∈ range 4224, x.V r (128 * h + d) * x.pr h i r by
    simp only [net]
    rw [if_neg (by omega), show (128 * h + d) / 128 = h by have := Finset.mem_range.mp hd; omega, show 112 + i - 112 = i by omega]]
  rw [Finset.mul_sum]
  exact Finset.sum_congr rfl fun r _ => (mul_assoc _ _ _).symm

theorem net_S (h r i : ℕ) : x.net.S h r (112 + i) = x.ds h i r := by
  rw [Net.S, net_P, ds, net_D, dp]
  congr 2
  exact Finset.sum_congr rfl fun d _ => mul_comm _ _

/-- A sum over the positions whose first 112 terms are zero. -/
theorem sum_pad (f : ℕ → ℝ) (hf : ∀ n, n < 112 → f n = 0) :
    ∑ n ∈ range 4224, f n = ∑ i ∈ range 4112, f (112 + i) := by
  rw [show 4224 = 112 + 4112 from rfl, Finset.sum_range_add, Finset.sum_eq_zero (fun n hn => hf n (Finset.mem_range.mp hn)), zero_add]

theorem rq_eq (i j : ℕ) : x.net.rq (112 + i) j = ∑ r ∈ range 4224, x.ds (j / 128) i r * x.K r j := by
  rw [Net.rq]
  exact Finset.sum_congr rfl fun r _ => by rw [net_S]; rfl

theorem rq_pad (n j : ℕ) (hn : n < 112) : x.net.rq n j = 0 := by
  rw [Net.rq]
  exact Finset.sum_eq_zero fun r _ => by rw [net_S_pad _ _ _ _ hn, zero_mul]

theorem rk_eq (r j : ℕ) : x.net.rk r j = ∑ i ∈ range 4112, x.ds (j / 128) i r * x.Q (112 + i) j := by
  rw [Net.rk, sum_pad _ fun n hn => by rw [net_S_pad _ _ _ _ hn, zero_mul]]
  exact Finset.sum_congr rfl fun i _ => by rw [net_S]; rfl

theorem rv_eq (r j : ℕ) : x.net.rv r j = ∑ i ∈ range 4112, x.pr (j / 128) i r * x.O (112 + i) j := by
  rw [Net.rv, sum_pad _ fun n hn => by rw [net_P_pad _ _ _ _ hn, zero_mul]]
  exact Finset.sum_congr rfl fun i _ => by rw [net_P]; rfl

theorem rck_eq (h r : ℕ) : x.net.rck h r = - ∑ i ∈ range 4112, x.ds h i r := by
  rw [Net.rck, sum_pad _ fun n hn => net_S_pad _ _ _ _ hn]
  exact congrArg _ (Finset.sum_congr rfl fun i _ => by rw [net_S])

theorem rcq_eq (h i : ℕ) : x.net.rcq h (112 + i) = ∑ r ∈ range 4224, x.ds h i r := by
  rw [Net.rcq]
  exact Finset.sum_congr rfl fun r _ => by rw [net_S]

theorem rcq_pad (h n : ℕ) (hn : n < 112) : x.net.rcq h n = 0 := by
  rw [Net.rcq]
  exact Finset.sum_eq_zero fun r _ => net_S_pad _ _ _ _ hn

/-! A softmax taken after a shift of a query's scores by `u`. -/

theorem ex_shift (h i r : ℕ) (u : ℝ) :
    (if live i r then Real.exp (x.sc h i r + u) else 0) = x.ex h i r * Real.exp u := by
  rw [ex]
  split
  · rw [Real.exp_add]
  · rw [zero_mul]

theorem sum_shift (h i : ℕ) (u : ℝ) : ∑ r ∈ range 4224, x.ex h i r * Real.exp u = x.Z h i * Real.exp u := by
  rw [Z, Finset.sum_mul]

theorem pr_shift (h i r : ℕ) (u : ℝ) : x.ex h i r * Real.exp u / (x.Z h i * Real.exp u) = x.pr h i r := by
  rw [pr, mul_div_mul_right _ _ (Real.exp_pos u).ne']

theorem ds_shift (h i r : ℕ) (u : ℝ) :
    (x.dp h i r / (x.Z h i * Real.exp u)
      + -(∑ k ∈ range 4224, x.dp h i k * (1 / (x.Z h i * Real.exp u * (x.Z h i * Real.exp u))) * (x.ex h i k * Real.exp u)))
      * (x.ex h i r * Real.exp u) = x.ds h i r := by
  have hz := (x.Z_pos h i).ne'
  have hu := (Real.exp_pos u).ne'
  have e : ∑ k ∈ range 4224, x.dp h i k * (1 / (x.Z h i * Real.exp u * (x.Z h i * Real.exp u))) * (x.ex h i k * Real.exp u)
      = (∑ k ∈ range 4224, x.dp h i k * x.pr h i k) / (x.Z h i * Real.exp u) := by
    rw [Finset.sum_div]
    refine Finset.sum_congr rfl fun k _ => ?_
    rw [pr]; field_simp
  rw [e, ds]
  generalize ∑ k ∈ range 4224, x.dp h i k * x.pr h i k = t
  rw [pr]; field_simp; ring

/-- Where the key is not seen nothing flows back. -/
theorem ds_dead (h i r : ℕ) (hl : ¬ live i r) : x.ds h i r = 0 := by
  rw [ds, pr, ex, if_neg hl, zero_div, zero_mul]

end Five

end Cert.Proof.AttnIdeal

end
-- ==== Proof.Sides.lean ====
module

public import proofs.«01_k».proof.Proof.Soft
public import proofs.«01_k».proof.Proof.Forms
public import proofs.«01_k».proof.Proof.Gen.ReferenceIdeal

@[expose] public section

set_option maxRecDepth 16384

noncomputable section

namespace Cert.Proof.Sides

open Cert.ReferenceIdeal Cert.ReferenceIdeal.Gen
open Idealize.ShloMosaic
open Cert.Proof.AttnIdeal
open Finset (range)

/-! ## The softmax's operations and their entries -/

/-- The entries of a rank-3 array are the real numbers `f`. -/
def R3 {a b d : ℕ} (x : (⟨3, ![a, b, d]⟩ : Shape).Idx → EReal) (f : ℕ → ℕ → ℕ → ℝ) : Prop :=
  ∀ y, x y = ((f (y 0).val (y 1).val (y 2).val : ℝ) : EReal)

/-- The lanes of each position, head by head. -/
def heads (x : FVec Ideal S4224x2048 .f32) : FVec Ideal S4224x16x128 .f32 := shapeCast _ x shapeCasts_S4224x2048_S4224x16x128

theorem heads_re {x : FVec Ideal S4224x2048 .f32} {f : ℕ → ℕ → ℝ} (hx : Re2 (a := 4224) (b := 2048) x f) :
    R3 (a := 4224) (b := 16) (d := 128) (heads x) (fun n h d => f n (128 * h + d)) := fun y => by
  unfold heads
  pointwise
  rw [hx]
  show ((f (y 0).val ((y 1).val * 128 + (y 2).val) : ℝ) : EReal) = _
  rw [Nat.mul_comm]

/-- The positions from 112 on. -/
def late (x : FVec Ideal S4224x2048 .f32) : FVec Ideal S4112x16x128 .f32 :=
  extractStridedSlice S4112x16x128 ![112, 0, 0] (heads x) slices_S4224x16x128_S4112x16x128_112_0_0

theorem late_re {x : FVec Ideal S4224x2048 .f32} {f : ℕ → ℕ → ℝ} (hx : Re2 (a := 4224) (b := 2048) x f) :
    R3 (a := 4112) (b := 16) (d := 128) (late x) (fun i h d => f (112 + i) (128 * h + d)) := fun y => by
  unfold late
  pointwise
  rw [heads_re hx]
  rfl

/-- Every query against every key. -/
def sdot (q k : FVec Ideal S4224x2048 .f32) : FVec Ideal S16x4112x4224 .f32 :=
  Host.dotGeneral dot_S4112x16x128_S4224x16x128_S16x4112x4224_2_2_0_0_1_1 none (late q) (heads k)

theorem sdot_re {q k : FVec Ideal S4224x2048 .f32} {Q K : ℕ → ℕ → ℝ} (hq : Re2 (a := 4224) (b := 2048) q Q) (hk : Re2 (a := 4224) (b := 2048) k K) :
    R3 (a := 16) (b := 4112) (d := 4224) (sdot q k) (fun h i r => ∑ d ∈ range 128, Q (112 + i) (128 * h + d) * K r (128 * h + d)) := fun y => by
  refine Eq.trans ?_ (sum_mul (n := 128) (fun d => Q (112 + (y 1).val) (128 * (y 0).val + d)) (fun d => K (y 2).val (128 * (y 0).val + d)))
  unfold sdot
  pointwise
  exact Finset.sum_congr rfl fun k _ => by rw [late_re hq _, heads_re hk _]; rfl

/-- The offsets laid along the keys. -/
def alongKeys (c : FVec Ideal S16x4224 .f32) : FVec Ideal S16x4112x4224 .f32 :=
  broadcastInDim S16x4112x4224 ![0, 1, 2] bcast_S16x1x4224_S16x4112x4224_0_1_2 (broadcastInDim S16x1x4224 ![0, 2] bcast_S16x4224_S16x1x4224_0_2 c)

theorem alongKeys_re {c : FVec Ideal S16x4224 .f32} {C : ℕ → ℕ → ℝ} (hc : Re2 (a := 16) (b := 4224) c C) :
    R3 (a := 16) (b := 4112) (d := 4224) (alongKeys c) (fun h i r => C h r) := fun y => by
  unfold alongKeys
  pointwise
  rw [hc]
  rfl

/-- A number for each query laid along its keys. -/
def spread (x : FVec Ideal S16x4112 .f32) : FVec Ideal S16x4112x4224 .f32 :=
  broadcastInDim S16x4112x4224 ![0, 1, 2] bcast_S16x4112x1_S16x4112x4224_0_1_2 (broadcastInDim S16x4112x1 ![0, 1] bcast_S16x4112_S16x4112x1_0_1 x)

theorem spread_re {x : FVec Ideal S16x4112 .f32} {f : ℕ → ℕ → ℝ} (hx : Re2 (a := 16) (b := 4112) x f) :
    R3 (a := 16) (b := 4112) (d := 4224) (spread x) (fun h i _ => f h i) := fun y => by
  unfold spread
  pointwise
  rw [hx]
  rfl

/-- Which keys each query sees. -/
def mask : IVec S16x4112x4224 1 :=
  broadcastInDim S16x4112x4224 ![0, 1, 2] bcast_S1x4112x4224_S16x4112x4224_0_1_2 (broadcastInDim S1x4112x4224 ![1, 2] bcast_S4112x4224_S1x4112x4224_1_2 (andi (cmpi .sle (broadcastInDim S4112x4224 ![0, 1] bcast_S1x4224_S4112x4224_0_1 (broadcastInDim S1x4224 ![1] bcast_S4224_S1x4224_1 (iotaInDim S4224 32 0))) (broadcastInDim S4112x4224 ![0, 1] bcast_S4112x1_S4112x4224_0_1 (broadcastInDim S4112x1 ![0] bcast_S4112_S4112x1_0 (extractStridedSlice S4112 ![112] (iotaInDim S4224 32 0) slices_S4224_S4112_112)))) (broadcastInDim S4112x4224 ![0, 1] bcast_S1x4224_S4112x4224_0_1 (cmpi .sge (broadcastInDim S1x4224 ![1] bcast_S4224_S1x4224_1 (iotaInDim S4224 32 0)) (broadcastInDim S1x4224 ![] bcast_S_S1x4224 (constantI S_ 32 112#32))))))

theorem mask_eq (y : S16x4112x4224.Idx) : mask y = if Five.live (y 1).val (y 2).val then 1#1 else 0#1 := by
  unfold mask
  pointwise
  have h1 : (y 1).val < 4112 := (y 1).isLt
  have h2 : (y 2).val < 4224 := (y 2).isLt
  have e : IntOp.andi (IntOp.cmpi .sle (BitVec.ofNat 32 (y 2).val) (BitVec.ofNat 32 (112 + (y 1).val))) (IntOp.cmpi .sge (BitVec.ofNat 32 (y 2).val) 112#32) = 1#1
      ↔ Five.live (y 1).val (y 2).val := by
    rw [IntOp.andi_eq_one, show (112#32 : BitVec 32) = BitVec.ofNat 32 112 from rfl,
      WordCmp.cmpi_sle_ofNat_eq_one_iff (by omega) (by omega), WordCmp.cmpi_sge_ofNat_eq_one_iff (by omega) (by omega)]
  split
  · rename_i h; exact e.mpr h
  · rename_i h
    have := fun h' => h (e.mp h')
    revert this
    generalize IntOp.andi (IntOp.cmpi .sle (BitVec.ofNat 32 (y 2).val) (BitVec.ofNat 32 (112 + (y 1).val))) (IntOp.cmpi .sge (BitVec.ofNat 32 (y 2).val) 112#32) = w
    revert w
    decide

theorem bot_word : Ideal.ofBits .f32 0xFF800000#32 = ⊥ := by simp [Ideal.ofBits, Ideal.ieee]

/-- Minus infinity everywhere. -/
def floor : FVec Ideal S16x4112x4224 .f32 := broadcastInDim S16x4112x4224 ![] bcast_S_S16x4112x4224 (id (constant S_ .f32 0xFF800000#32))

theorem floor_eq (y : S16x4112x4224.Idx) : floor y = (⊥ : EReal) := by
  unfold floor
  pointwise
  exact bot_word

/-- The scores with minus infinity where the key is not seen. -/
def seen (s : FVec Ideal S16x4112x4224 .f32) : FVec Ideal S16x4112x4224 .f32 := select mask s floor

/-- Each query's greatest score. -/
def top (s : FVec Ideal S16x4112x4224 .f32) : FVec Ideal S16x4112 .f32 :=
  Host.reduce FloatOps.maximumf s (constant S_ .f32 0xFF800000#32) reducesTo_S16x4112x4224_S16x4112_d2 h_S_

/-- The greatest of numbers none of which is plus infinity and not all of which are minus infinity is a real number. -/
theorem fold_real {n : ℕ} (x : Fin n → EReal) (ht : ∀ k, x k ≠ ⊤) (k : Fin n) (hk : x k ≠ ⊥) :
    ∃ r : ℝ, Finset.fold max ⊥ x Finset.univ = (r : EReal) := by
  have h1 : Finset.fold max ⊥ x Finset.univ < ⊤ :=
    Finset.fold_max_lt ⊤ |>.mpr ⟨bot_lt_top, fun k _ => lt_top_iff_ne_top.mpr (ht k)⟩
  have h2 : ⊥ < Finset.fold max ⊥ x Finset.univ :=
    Finset.lt_fold_max ⊥ |>.mpr (Or.inr ⟨k, Finset.mem_univ k, bot_lt_iff_ne_bot.mpr hk⟩)
  exact ⟨_, (EReal.coe_toReal h1.ne h2.ne').symm⟩

/-- An array of real numbers by its entries. -/
theorem re2_of_real {a b : ℕ} (x : (⟨2, ![a, b]⟩ : Shape).Idx → EReal) (h : ∀ y, ∃ r : ℝ, x y = (r : EReal)) : ∃ f, Re2 x f := by
  choose g hg using h
  refine ⟨fun i j => if h : i < a ∧ j < b then g (ix2 ⟨i, h.1⟩ ⟨j, h.2⟩) else 0, fun y => ?_⟩
  have h0 : (y 0).val < a := (y 0).isLt
  have h1 : (y 1).val < b := (y 1).isLt
  beta_reduce
  rw [dif_pos ⟨h0, h1⟩, ← hg]
  congr 1
  funext k
  fin_cases k <;> rfl

theorem seen_eq {s : FVec Ideal S16x4112x4224 .f32} {f : ℕ → ℕ → ℕ → ℝ} (hs : R3 (a := 16) (b := 4112) (d := 4224) s f) (y : S16x4112x4224.Idx) :
    seen s y = if Five.live (y 1).val (y 2).val then ((f (y 0).val (y 1).val (y 2).val : ℝ) : EReal) else ⊥ := by
  show Scalar.select (mask y) (s y) (floor y) = _
  rw [mask_eq, floor_eq, hs y]
  split <;> rfl

theorem top_re {s : FVec Ideal S16x4112x4224 .f32} {f : ℕ → ℕ → ℕ → ℝ} (hs : R3 (a := 16) (b := 4112) (d := 4224) s f) :
    ∃ m, Re2 (a := 16) (b := 4112) (top (seen s)) m := by
  refine re2_of_real _ fun y => ?_
  unfold top
  pointwise
  rw [bot_word]
  refine fold_real _ (fun k => ?_) ⟨112, by decide⟩ ?_
  · rw [seen_eq hs]; split
    · exact EReal.coe_ne_top _
    · exact bot_ne_top
  · rw [seen_eq hs]
    refine (if_pos (show Five.live (y 1).val 112 from ⟨by omega, le_refl _⟩)).trans_ne ?_
    exact EReal.coe_ne_bot _

/-- The exponentials of the seen scores less a number for each query. -/
def expo (s : FVec Ideal S16x4112x4224 .f32) (m : FVec Ideal S16x4112 .f32) : FVec Ideal S16x4112x4224 .f32 :=
  Host.exp (subf (seen s) (spread m))

theorem expo_re {s : FVec Ideal S16x4112x4224 .f32} {f : ℕ → ℕ → ℕ → ℝ} {m : FVec Ideal S16x4112 .f32} {M : ℕ → ℕ → ℝ}
    (hs : R3 (a := 16) (b := 4112) (d := 4224) s f) (hm : Re2 (a := 16) (b := 4112) m M) :
    R3 (a := 16) (b := 4112) (d := 4224) (expo s m) (fun h i r => if Five.live i r then Real.exp (f h i r - M h i) else 0) := fun y => by
  show Ideal.exp (seen s y - spread m y) = _
  rw [seen_eq hs, spread_re hm]
  split
  · rename_i h
    beta_reduce
    rw [if_pos h, ← EReal.coe_sub, Ideal.exp_coe]
  · rename_i h
    beta_reduce
    rw [if_neg h, EReal.bot_sub, Ideal.exp_bot]; rfl

/-- The sum of each query's row. -/
def rowSum (x : FVec Ideal S16x4112x4224 .f32) : FVec Ideal S16x4112 .f32 :=
  Host.reduceAdd x (constant S_ .f32 0x00000000#32) reducesTo_S16x4112x4224_S16x4112_d2 h_S_

theorem rowSum_re {x : FVec Ideal S16x4112x4224 .f32} {f : ℕ → ℕ → ℕ → ℝ} (hx : R3 (a := 16) (b := 4112) (d := 4224) x f) :
    Re2 (a := 16) (b := 4112) (rowSum x) (fun h i => ∑ r ∈ range 4224, f h i r) := fun y => by
  unfold rowSum
  pointwise
  rw [← coe_sum]
  exact Finset.sum_congr rfl fun k _ => hx _

/-- The exponentials over their sums. -/
def prob (e : FVec Ideal S16x4112x4224 .f32) (l : FVec Ideal S16x4112 .f32) : FVec Ideal S16x4112x4224 .f32 := Host.divf e (spread l)

theorem prob_re {e : FVec Ideal S16x4112x4224 .f32} {l : FVec Ideal S16x4112 .f32} {E : ℕ → ℕ → ℕ → ℝ} {Z : ℕ → ℕ → ℝ}
    (he : R3 (a := 16) (b := 4112) (d := 4224) e E) (hl : Re2 (a := 16) (b := 4112) l Z) (hz : ∀ h i, Z h i ≠ 0) :
    R3 (a := 16) (b := 4112) (d := 4224) (prob e l) (fun h i r => E h i r / Z h i) := fun y => by
  show Ideal.div (e y) (spread l y) = _
  rw [he, spread_re hl, Ideal.div_coe (hz _ _), ← EReal.coe_mul, mul_one_div]

end Cert.Proof.Sides

end
-- ==== Proof.Pads.lean ====
module

public import proofs.«01_k».proof.Proof.Sides
public import Idealize.ShloMosaic.Lib.KernelVsHost

@[expose] public section

set_option maxRecDepth 16384

noncomputable section

namespace Cert.Proof.Sides

open Cert.ReferenceIdeal
open Idealize.ShloMosaic Idealize.ShloMosaic.TcCoe Idealize.ShloMosaic.Tactic
open Cert.Proof.AttnIdeal

/-! ## 112 zeros in front -/

/-- 112 zeros before each head's numbers. -/
theorem padRow_re {g : S16x4112.Idx → EReal} {f : ℕ → ℕ → ℝ} (hg : Re2 (a := 16) (b := 4112) g f) {u : Shape} (z : u.Idx → EReal)
    (hz : ∀ i, z i = (0 : EReal)) (h : S16x4112.Pads ![0, 112] ![0, 0] ![0, 0] S16x4224) (hu : 0 < u.numel) :
    Re2 (a := 16) (b := 4224) (pad S16x4224 ![0, 112] ![0, 0] ![0, 0] g z h hu) (fun h n => if n < 112 then 0 else f h (n - 112)) := fun y => by
  by_cases hy : (y 1).val < 112
  · refine (pad_apply_of_not_inside _ _ _ g z h hu y (1 : Fin 2) fun hn => ?_).trans ?_
    · exact absurd (show 112 ≤ (y 1).val from hn.1) (by omega)
    · exact (hz _).trans (congrArg (fun r : ℝ => (r : EReal)) (if_pos hy)).symm
  · have hy2 : (y 1).val < 4224 := (y 1).isLt
    refine (pad_apply_of_inside _ _ _ g z h hu y (ix2 ⟨(y 0).val, (y 0).isLt⟩ ⟨(y 1).val - 112, by omega⟩) fun a => ?_).trans ((hg _).trans ?_)
    · refine Fin.cases ?_ (fun b => Fin.cases ?_ (fun b => b.elim0) b) a
      · show (y 0).val = 0 + (y 0).val * (0 + 1)
        omega
      · show (y 1).val = 112 + ((y 1).val - 112) * (0 + 1)
        omega
    · exact (congrArg (fun r : ℝ => (r : EReal)) (if_neg hy)).symm

/-- 112 rows of zeros. -/
theorem padLanes_re {g : (⟨2, ![4112, 2048]⟩ : Shape).Idx → EReal} {f : ℕ → ℕ → ℝ} (hg : Re2 (a := 4112) (b := 2048) g f) {u : Shape} (z : u.Idx → EReal)
    (hz : ∀ i, z i = (0 : EReal)) (h : (⟨2, ![4112, 2048]⟩ : Shape).Pads ![112, 0] ![0, 0] ![0, 0] S4224x2048) (hu : 0 < u.numel) :
    Re2 (a := 4224) (b := 2048) (pad S4224x2048 ![112, 0] ![0, 0] ![0, 0] g z h hu) (fun n j => if n < 112 then 0 else f (n - 112) j) := fun y => by
  by_cases hy : (y 0).val < 112
  · refine (pad_apply_of_not_inside _ _ _ g z h hu y (0 : Fin 2) fun hn => ?_).trans ?_
    · exact absurd (show 112 ≤ (y 0).val from hn.1) (by omega)
    · exact (hz _).trans (congrArg (fun r : ℝ => (r : EReal)) (if_pos hy)).symm
  · have hy2 : (y 0).val < 4224 := (y 0).isLt
    refine (pad_apply_of_inside _ _ _ g z h hu y (ix2 ⟨(y 0).val - 112, by omega⟩ ⟨(y 1).val, (y 1).isLt⟩) fun a => ?_).trans ((hg _).trans ?_)
    · refine Fin.cases ?_ (fun b => Fin.cases ?_ (fun b => b.elim0) b) a
      · show (y 0).val = 112 + ((y 0).val - 112) * (0 + 1)
        omega
      · show (y 1).val = 0 + (y 1).val * (0 + 1)
        omega
    · exact (congrArg (fun r : ℝ => (r : EReal)) (if_neg hy)).symm

/-- 112 positions of zeros, in every head. -/
theorem padHeads_re {g : S4112x16x128.Idx → EReal} {f : ℕ → ℕ → ℕ → ℝ} (hg : R3 (a := 4112) (b := 16) (d := 128) g f) {u : Shape} (z : u.Idx → EReal)
    (hz : ∀ i, z i = (0 : EReal)) (h : S4112x16x128.Pads ![112, 0, 0] ![0, 0, 0] ![0, 0, 0] S4224x16x128) (hu : 0 < u.numel) :
    R3 (a := 4224) (b := 16) (d := 128) (pad S4224x16x128 ![112, 0, 0] ![0, 0, 0] ![0, 0, 0] g z h hu) (fun n j l => if n < 112 then 0 else f (n - 112) j l) := fun y => by
  by_cases hy : (y 0).val < 112
  · refine (pad_apply_of_not_inside _ _ _ g z h hu y (0 : Fin 3) fun hn => ?_).trans ?_
    · exact absurd (show 112 ≤ (y 0).val from hn.1) (by omega)
    · exact (hz _).trans (congrArg (fun r : ℝ => (r : EReal)) (if_pos hy)).symm
  · have hy2 : (y 0).val < 4224 := (y 0).isLt
    refine (pad_apply_of_inside _ _ _ g z h hu y (ix3 ⟨(y 0).val - 112, by omega⟩ ⟨(y 1).val, (y 1).isLt⟩ ⟨(y 2).val, (y 2).isLt⟩) fun a => ?_).trans ((hg _).trans ?_)
    · refine Fin.cases ?_ (fun b => Fin.cases ?_ (fun b => Fin.cases ?_ (fun b => b.elim0) b) b) a
      · show (y 0).val = 112 + ((y 0).val - 112) * (0 + 1)
        omega
      · show (y 1).val = 0 + (y 1).val * (0 + 1)
        omega
      · show (y 2).val = 0 + (y 2).val * (0 + 1)
        omega
    · exact (congrArg (fun r : ℝ => (r : EReal)) (if_neg hy)).symm

/-! ## Heads side by side -/

/-- The heads' columns as 2048 lanes. -/
theorem lanes_re {n : ℕ} {g : (⟨3, ![n, 16, 128]⟩ : Shape).Idx → EReal} {f : ℕ → ℕ → ℕ → ℝ} (hg : R3 (a := n) (b := 16) (d := 128) g f)
    (h : (⟨3, ![n, 16, 128]⟩ : Shape).ShapeCasts ⟨2, ![n, 2048]⟩) :
    Re2 (a := n) (b := 2048) (shapeCast ⟨2, ![n, 2048]⟩ g h) (fun i j => f i (j / 128) (j % 128)) := fun y => by
  have hy : (y 1).val < 2048 := (y 1).isLt
  refine (shapeCast_apply g h y (ix3 (y 0) ⟨(y 1).val / 128, by omega⟩ ⟨(y 1).val % 128, by omega⟩) ?_).trans (hg _)
  rw [Shape.rowMajor_val_two, Shape.rowMajor_val_three]
  show ((y 0).val * 16 + (y 1).val / 128) * 128 + (y 1).val % 128 = (y 0).val * 2048 + (y 1).val
  omega

/-- One column for each head, laid flat. -/
theorem flat_re {n : ℕ} {g : (⟨3, ![16, n, 1]⟩ : Shape).Idx → EReal} {f : ℕ → ℕ → ℝ} (hg : Re3 (a := 16) (b := n) g f)
    (h : (⟨3, ![16, n, 1]⟩ : Shape).ShapeCasts ⟨2, ![16, n]⟩) :
    Re2 (a := 16) (b := n) (shapeCast ⟨2, ![16, n]⟩ g h) f := fun y => by
  refine (shapeCast_apply g h y (ix3 (y 0) (y 1) 0) ?_).trans (hg _)
  rw [Shape.rowMajor_val_two, Shape.rowMajor_val_three]
  show ((y 0).val * n + (y 1).val) * 1 + 0 = (y 0).val * n + (y 1).val
  omega

/-- One column for each head. -/
theorem stand_re {n : ℕ} {g : (⟨2, ![16, n]⟩ : Shape).Idx → EReal} {f : ℕ → ℕ → ℝ} (hg : Re2 (a := 16) (b := n) g f)
    (h : (⟨2, ![16, n]⟩ : Shape).ShapeCasts ⟨3, ![16, n, 1]⟩) :
    Re3 (a := 16) (b := n) (shapeCast ⟨3, ![16, n, 1]⟩ g h) f := fun y => by
  have hy : (y 2).val < 1 := (y 2).isLt
  refine (shapeCast_apply g h y (ix2 (y 0) (y 1)) ?_).trans (hg _)
  rw [Shape.rowMajor_val_two, Shape.rowMajor_val_three]
  show (y 0).val * n + (y 1).val = ((y 0).val * n + (y 1).val) * 1 + (y 2).val
  omega

/-- Each head's numbers in eleven rows of 384. -/
theorem rows_re {g : S16x4224.Idx → EReal} {f : ℕ → ℕ → ℝ} (hg : Re2 (a := 16) (b := 4224) g f)
    (h : S16x4224.ShapeCasts S16x11x1x384) :
    Re4 (a := 16) (b := 11) (shapeCast S16x11x1x384 g h) f := fun y => by
  have h1 : (y 1).val < 11 := (y 1).isLt
  have h2 : (y 2).val < 1 := (y 2).isLt
  have h3 : (y 3).val < 384 := (y 3).isLt
  refine (shapeCast_apply g h y (ix2 (y 0) ⟨384 * (y 1).val + (y 3).val, by omega⟩) ?_).trans (hg _)
  rw [Shape.rowMajor_val_two, Shape.rowMajor_val_four]
  show (y 0).val * 4224 + (384 * (y 1).val + (y 3).val) = (((y 0).val * 11 + (y 1).val) * 1 + (y 2).val) * 384 + (y 3).val
  omega

end Cert.Proof.Sides

end
-- ==== Proof.Plain.lean ====
module

public import proofs.«01_k».proof.Proof.Pads

@[expose] public section

set_option maxRecDepth 16384

noncomputable section

namespace Cert.Proof.Sides

open Cert.ReferenceIdeal Cert.ReferenceIdeal.Gen
open Idealize.ShloMosaic Idealize.ShloMosaic.TcCoe Idealize.ShloMosaic.Tactic
open Cert.Proof.AttnIdeal
open Finset (range)

/-! ## The plain mathematics' operations and their entries -/

theorem zero_word : Ideal.ofBits .f32 0x00000000#32 = (0 : EReal) := by simp [Ideal.ofBits, Ideal.ieee]

/-- The positions from 112 on of the queries' offsets, laid along the keys. -/
def alongQueries (c : FVec Ideal S16x4224 .f32) : FVec Ideal S16x4112x4224 .f32 :=
  spread (extractStridedSlice S16x4112 ![0, 112] c slices_S16x4224_S16x4112_0_112)

theorem alongQueries_re {c : FVec Ideal S16x4224 .f32} {C : ℕ → ℕ → ℝ} (hc : Re2 (a := 16) (b := 4224) c C) :
    R3 (a := 16) (b := 4112) (d := 4224) (alongQueries c) (fun h i _ => C h (112 + i)) := by
  refine spread_re (f := fun h i => C h (112 + i)) fun y => ?_
  have h := hc (ix2 ⟨(y 0).val, (y 0).isLt⟩ ⟨112 + (y 1).val, by have : (y 1).val < 4112 := (y 1).isLt; omega⟩)
  pointwise
  exact h

/-- The scores. -/
def scores (q k : FVec Ideal S4224x2048 .f32) (c : FVec Ideal S16x4224 .f32) : FVec Ideal S16x4112x4224 .f32 :=
  addf (sdot q k) (subf (alongQueries c) (alongKeys c))

theorem scores_re {q k : FVec Ideal S4224x2048 .f32} {c : FVec Ideal S16x4224 .f32} {Q K C : ℕ → ℕ → ℝ} (hq : Re2 (a := 4224) (b := 2048) q Q)
    (hk : Re2 (a := 4224) (b := 2048) k K) (hc : Re2 (a := 16) (b := 4224) c C) :
    R3 (a := 16) (b := 4112) (d := 4224) (scores q k c)
      (fun h i r => ∑ d ∈ range 128, Q (112 + i) (128 * h + d) * K r (128 * h + d) + (C h (112 + i) - C h r)) := fun y => by
  show sdot q k y + (alongQueries c y - alongKeys c y) = _
  rw [sdot_re hq hk, alongQueries_re hc, alongKeys_re hc, ← EReal.coe_sub, ← EReal.coe_add]

/-- Minus infinity or a number, whichever is greater, for each query. -/
def atLeast (t : FVec Ideal S16x4112 .f32) : FVec Ideal S16x4112 .f32 :=
  maximumf (broadcastInDim S16x4112 ![] bcast_S_S16x4112 (constant S_ .f32 0xFF800000#32)) t

theorem atLeast_eq (t : FVec Ideal S16x4112 .f32) : atLeast t = t := by
  funext y
  show max (broadcastInDim S16x4112 ![] bcast_S_S16x4112 (constant S_ .f32 0xFF800000#32 : FVec Ideal S_ .f32) y) (t y) = t y
  rw [show broadcastInDim S16x4112 ![] bcast_S_S16x4112 (constant S_ .f32 0xFF800000#32 : FVec Ideal S_ .f32) y = (⊥ : EReal) from by
    pointwise
    exact bot_word]
  exact max_eq_right bot_le

/-- The outputs' cotangents, head by head. -/
def turned (o : FVec Ideal S4224x2048 .f32) : FVec Ideal S16x128x4112 .f32 :=
  transpose S16x128x4112 [1, 2, 0] (late o) transposes_S4112x16x128_S16x128x4112_1_2_0

theorem turned_re {o : FVec Ideal S4224x2048 .f32} {O : ℕ → ℕ → ℝ} (ho : Re2 (a := 4224) (b := 2048) o O) :
    R3 (a := 16) (b := 128) (d := 4112) (turned o) (fun h d i => O (112 + i) (128 * h + d)) := fun y => by
  unfold turned
  pointwise
  rw [late_re ho]
  rfl

/-- The probabilities' cotangents. -/
def dprob (o v : FVec Ideal S4224x2048 .f32) : FVec Ideal S16x4112x4224 .f32 :=
  Host.dotGeneral dot_S16x128x4112_S4224x16x128_S16x4112x4224_1_2_2_0_0_1 none (turned o) (heads v)

theorem dprob_re {o v : FVec Ideal S4224x2048 .f32} {O W : ℕ → ℕ → ℝ} (ho : Re2 (a := 4224) (b := 2048) o O) (hv : Re2 (a := 4224) (b := 2048) v W) :
    R3 (a := 16) (b := 4112) (d := 4224) (dprob o v) (fun h i r => ∑ d ∈ range 128, O (112 + i) (128 * h + d) * W r (128 * h + d)) := fun y => by
  refine Eq.trans ?_ (sum_mul (n := 128) (fun d => O (112 + (y 1).val) (128 * (y 0).val + d)) (fun d => W (y 2).val (128 * (y 0).val + d)))
  unfold dprob
  pointwise
  exact Finset.sum_congr rfl fun k _ => by rw [turned_re ho _, heads_re hv _]; rfl

/-- A number for each query, standing. -/
def column (l : FVec Ideal S16x4112 .f32) : FVec Ideal S16x4112x1 .f32 := broadcastInDim S16x4112x1 ![0, 1] bcast_S16x4112_S16x4112x1_0_1 l

theorem column_re {l : FVec Ideal S16x4112 .f32} {w : ℕ → ℕ → ℝ} (hl : Re2 (a := 16) (b := 4112) l w) : Re3 (a := 16) (b := 4112) (column l) w := fun y => by
  have h := hl (ix2 ⟨(y 0).val, (y 0).isLt⟩ ⟨(y 1).val, (y 1).isLt⟩)
  unfold column
  pointwise
  exact h

/-- Columns laid along the keys. -/
def along (g : FVec Ideal S16x4112x1 .f32) : FVec Ideal S16x4112x4224 .f32 := broadcastInDim S16x4112x4224 ![0, 1, 2] bcast_S16x4112x1_S16x4112x4224_0_1_2 g

theorem along_re {g : FVec Ideal S16x4112x1 .f32} {w : ℕ → ℕ → ℝ} (hg : Re3 (a := 16) (b := 4112) g w) :
    R3 (a := 16) (b := 4112) (d := 4224) (along g) (fun h i _ => w h i) := fun y => by
  have h := hg (ix3 ⟨(y 0).val, (y 0).isLt⟩ ⟨(y 1).val, (y 1).isLt⟩ 0)
  unfold along
  pointwise
  exact h

/-- One over the square of each query's number. -/
def recip (l : FVec Ideal S16x4112 .f32) : FVec Ideal S16x4112x1 .f32 :=
  Host.divf (broadcastInDim S16x4112x1 ![] bcast_S_S16x4112x1 (constant S_ .f32 0x3F800000#32)) (mulf (column l) (column l))

theorem recip_re {l : FVec Ideal S16x4112 .f32} {w : ℕ → ℕ → ℝ} (hl : Re2 (a := 16) (b := 4112) l w) (hw : ∀ h i, w h i ≠ 0) :
    Re3 (a := 16) (b := 4112) (recip l) (fun h i => 1 / (w h i * w h i)) := fun y => by
  show Ideal.div (broadcastInDim S16x4112x1 ![] bcast_S_S16x4112x1 (constant S_ .f32 0x3F800000#32 : FVec Ideal S_ .f32) y) (column l y * column l y) = _
  rw [show broadcastInDim S16x4112x1 ![] bcast_S_S16x4112x1 (constant S_ .f32 0x3F800000#32 : FVec Ideal S_ .f32) y = ((1 : ℝ) : EReal) from by
    pointwise
    exact EReal.coe_one.symm]
  rw [column_re hl, ← EReal.coe_mul, Ideal.div_coe (mul_ne_zero (hw _ _) (hw _ _)), ← EReal.coe_mul, one_mul]

/-- The sum over a column of one. -/
def single (g : FVec Ideal S16x4112x1 .f32) : FVec Ideal S16x4112 .f32 :=
  Host.reduceAdd g (constant S_ .f32 0x00000000#32) reducesTo_S16x4112x1_S16x4112_d2 h_S_

theorem single_re {g : FVec Ideal S16x4112x1 .f32} {w : ℕ → ℕ → ℝ} (hg : Re3 (a := 16) (b := 4112) g w) : Re2 (a := 16) (b := 4112) (single g) w := fun y => by
  have h := hg (ix3 ⟨(y 0).val, (y 0).isLt⟩ ⟨(y 1).val, (y 1).isLt⟩ 0)
  unfold single
  pointwise
  exact (Fin.sum_univ_one _).trans h

/-- What each query's probabilities give its denominator's cotangent. -/
def pull (d e : FVec Ideal S16x4112x4224 .f32) (l : FVec Ideal S16x4112 .f32) : FVec Ideal S16x4112 .f32 :=
  single (Host.negf (shapeCast _ (rowSum (mulf (mulf d (along (recip l))) e)) shapeCasts_S16x4112_S16x4112x1))

theorem pull_re {d e : FVec Ideal S16x4112x4224 .f32} {l : FVec Ideal S16x4112 .f32} {D E : ℕ → ℕ → ℕ → ℝ} {w : ℕ → ℕ → ℝ}
    (hd : R3 (a := 16) (b := 4112) (d := 4224) d D) (he : R3 (a := 16) (b := 4112) (d := 4224) e E)
    (hl : Re2 (a := 16) (b := 4112) l w) (hw : ∀ h i, w h i ≠ 0) :
    Re2 (a := 16) (b := 4112) (pull d e l) (fun h i => -∑ k ∈ range 4224, D h i k * (1 / (w h i * w h i)) * E h i k) := by
  have h1 : R3 (a := 16) (b := 4112) (d := 4224) (mulf (mulf d (along (recip l))) e) (fun h i k => D h i k * (1 / (w h i * w h i)) * E h i k) := fun y => by
    show d y * along (recip l) y * e y = _
    rw [hd, along_re (recip_re hl hw), he, ← EReal.coe_mul, ← EReal.coe_mul]
  have h2 := stand_re (rowSum_re h1) shapeCasts_S16x4112_S16x4112x1
  refine single_re fun y => ?_
  refine (congrArg (fun a : EReal => -a) (h2 y)).trans ?_
  exact (EReal.coe_neg _).symm

/-- A number for each query, laid along the keys at once. -/
def over (g : FVec Ideal S16x4112 .f32) : FVec Ideal S16x4112x4224 .f32 := broadcastInDim S16x4112x4224 ![0, 1] bcast_S16x4112_S16x4112x4224_0_1 g

theorem over_re {g : FVec Ideal S16x4112 .f32} {w : ℕ → ℕ → ℝ} (hg : Re2 (a := 16) (b := 4112) g w) :
    R3 (a := 16) (b := 4112) (d := 4224) (over g) (fun h i _ => w h i) := fun y => by
  have h := hg (ix2 ⟨(y 0).val, (y 0).isLt⟩ ⟨(y 1).val, (y 1).isLt⟩)
  unfold over
  pointwise
  exact h

/-- Zero everywhere. -/
def zeros : FVec Ideal S16x4112x4224 .f32 := broadcastInDim S16x4112x4224 ![] bcast_S_S16x4112x4224 (constant S_ .f32 0x00000000#32)

theorem zeros_eq (y : S16x4112x4224.Idx) : zeros y = ((0 : ℝ) : EReal) := by
  unfold zeros
  pointwise
  exact EReal.coe_zero.symm

/-- The scores' cotangents. -/
def dscore (d e : FVec Ideal S16x4112x4224 .f32) (l : FVec Ideal S16x4112 .f32) : FVec Ideal S16x4112x4224 .f32 :=
  select mask (mulf (addf (prob d l) (over (pull d e l))) e) zeros

theorem dscore_re {d e : FVec Ideal S16x4112x4224 .f32} {l : FVec Ideal S16x4112 .f32} {D E : ℕ → ℕ → ℕ → ℝ} {w : ℕ → ℕ → ℝ}
    (hd : R3 (a := 16) (b := 4112) (d := 4224) d D) (he : R3 (a := 16) (b := 4112) (d := 4224) e E)
    (hl : Re2 (a := 16) (b := 4112) l w) (hw : ∀ h i, w h i ≠ 0) :
    R3 (a := 16) (b := 4112) (d := 4224) (dscore d e l)
      (fun h i r => if Five.live i r then (D h i r / w h i + -∑ k ∈ range 4224, D h i k * (1 / (w h i * w h i)) * E h i k) * E h i r else 0) := fun y => by
  show Scalar.select (mask y) ((prob d l y + over (pull d e l) y) * e y) (zeros y) = _
  rw [mask_eq, zeros_eq, prob_re hd hl hw, over_re (pull_re hd he hl hw), he, ← EReal.coe_add, ← EReal.coe_mul]
  split
  · rename_i h
    beta_reduce
    rw [if_pos h]; rfl
  · rename_i h
    beta_reduce
    rw [if_neg h]; rfl

/-! ## The five gradients -/

/-- The queries' gradient. -/
def dqOf (g : FVec Ideal S16x4112x4224 .f32) (k : FVec Ideal S4224x2048 .f32) : FVec Ideal S4224x2048 .f32 :=
  shapeCast _ (pad S4224x16x128 ![112, 0, 0] ![0, 0, 0] ![0, 0, 0] (transpose S4112x16x128 [1, 0, 2] (Host.dotGeneral dot_S16x4112x4224_S4224x16x128_S16x4112x128_2_0_1_2_0_1 none g (heads k)) transposes_S16x4112x128_S4112x16x128_1_0_2) (constant S_ .f32 0x00000000#32) pads_S4112x16x128_S4224x16x128_11200_000_000 h_S_) shapeCasts_S4224x16x128_S4224x2048

theorem dqOf_re {g : FVec Ideal S16x4112x4224 .f32} {k : FVec Ideal S4224x2048 .f32} {G : ℕ → ℕ → ℕ → ℝ} {K : ℕ → ℕ → ℝ}
    (hg : R3 (a := 16) (b := 4112) (d := 4224) g G) (hk : Re2 (a := 4224) (b := 2048) k K) :
    Re2 (a := 4224) (b := 2048) (dqOf g k) (fun n j => if n < 112 then 0 else ∑ r ∈ range 4224, G (j / 128) (n - 112) r * K r (128 * (j / 128) + j % 128)) := by
  have h : R3 (a := 4112) (b := 16) (d := 128) (transpose S4112x16x128 [1, 0, 2] (Host.dotGeneral dot_S16x4112x4224_S4224x16x128_S16x4112x128_2_0_1_2_0_1 none g (heads k)) transposes_S16x4112x128_S4112x16x128_1_0_2)
      (fun i h d => ∑ r ∈ range 4224, G h i r * K r (128 * h + d)) := fun y => by
    refine Eq.trans ?_ (sum_mul (n := 4224) (fun r => G (y 1).val (y 0).val r) (fun r => K r (128 * (y 1).val + (y 2).val)))
    pointwise
    exact Finset.sum_congr rfl fun r _ => by rw [hg _, heads_re hk _]; rfl
  exact lanes_re (padHeads_re h (constant S_ .f32 0x00000000#32 : FVec Ideal S_ .f32) (fun _ => zero_word) pads_S4112x16x128_S4224x16x128_11200_000_000 h_S_) shapeCasts_S4224x16x128_S4224x2048

/-- The keys' gradient. -/
def dkOf (g : FVec Ideal S16x4112x4224 .f32) (q : FVec Ideal S4224x2048 .f32) : FVec Ideal S4224x2048 .f32 :=
  shapeCast _ (transpose S4224x16x128 [1, 0, 2] (Host.dotGeneral dot_S16x4112x4224_S4112x16x128_S16x4224x128_1_0_2_2_0_1 none g (late q)) transposes_S16x4224x128_S4224x16x128_1_0_2) shapeCasts_S4224x16x128_S4224x2048

theorem dkOf_re {g : FVec Ideal S16x4112x4224 .f32} {q : FVec Ideal S4224x2048 .f32} {G : ℕ → ℕ → ℕ → ℝ} {Q : ℕ → ℕ → ℝ}
    (hg : R3 (a := 16) (b := 4112) (d := 4224) g G) (hq : Re2 (a := 4224) (b := 2048) q Q) :
    Re2 (a := 4224) (b := 2048) (dkOf g q) (fun r j => ∑ i ∈ range 4112, G (j / 128) i r * Q (112 + i) (128 * (j / 128) + j % 128)) := by
  have h : R3 (a := 4224) (b := 16) (d := 128) (transpose S4224x16x128 [1, 0, 2] (Host.dotGeneral dot_S16x4112x4224_S4112x16x128_S16x4224x128_1_0_2_2_0_1 none g (late q)) transposes_S16x4224x128_S4224x16x128_1_0_2)
      (fun r h d => ∑ i ∈ range 4112, G h i r * Q (112 + i) (128 * h + d)) := fun y => by
    refine Eq.trans ?_ (sum_mul (n := 4112) (fun i => G (y 1).val i (y 0).val) (fun i => Q (112 + i) (128 * (y 1).val + (y 2).val)))
    pointwise
    exact Finset.sum_congr rfl fun r _ => by rw [hg _, late_re hq _]; rfl
  exact lanes_re h shapeCasts_S4224x16x128_S4224x2048

/-- The values' gradient. -/
def dvOf (p : FVec Ideal S16x4112x4224 .f32) (o : FVec Ideal S4224x2048 .f32) : FVec Ideal S4224x2048 .f32 :=
  shapeCast _ (transpose S4224x16x128 [2, 0, 1] (Host.dotGeneral dot_S16x128x4112_S16x4112x4224_S16x128x4224_2_1_1_2_0_0 none (turned o) p) transposes_S16x128x4224_S4224x16x128_2_0_1) shapeCasts_S4224x16x128_S4224x2048

theorem dvOf_re {p : FVec Ideal S16x4112x4224 .f32} {o : FVec Ideal S4224x2048 .f32} {P : ℕ → ℕ → ℕ → ℝ} {O : ℕ → ℕ → ℝ}
    (hp : R3 (a := 16) (b := 4112) (d := 4224) p P) (ho : Re2 (a := 4224) (b := 2048) o O) :
    Re2 (a := 4224) (b := 2048) (dvOf p o) (fun r j => ∑ i ∈ range 4112, O (112 + i) (128 * (j / 128) + j % 128) * P (j / 128) i r) := by
  have h : R3 (a := 4224) (b := 16) (d := 128) (transpose S4224x16x128 [2, 0, 1] (Host.dotGeneral dot_S16x128x4112_S16x4112x4224_S16x128x4224_2_1_1_2_0_0 none (turned o) p) transposes_S16x128x4224_S4224x16x128_2_0_1)
      (fun r h d => ∑ i ∈ range 4112, O (112 + i) (128 * h + d) * P h i r) := fun y => by
    refine Eq.trans ?_ (sum_mul (n := 4112) (fun i => O (112 + i) (128 * (y 1).val + (y 2).val)) (fun i => P (y 1).val i (y 0).val))
    pointwise
    exact Finset.sum_congr rfl fun r _ => by rw [turned_re ho _, hp _]; rfl
  exact lanes_re h shapeCasts_S4224x16x128_S4224x2048

/-- The keys' offsets' gradient. -/
def dckOf (g : FVec Ideal S16x4112x4224 .f32) : FVec Ideal S16x4224x1 .f32 :=
  shapeCast _ (Host.reduceAdd (shapeCast _ (Host.reduceAdd (Host.negf g) (constant S_ .f32 0x00000000#32) reducesTo_S16x4112x4224_S16x4224_d1 h_S_) shapeCasts_S16x4224_S16x1x4224) (constant S_ .f32 0x00000000#32) reducesTo_S16x1x4224_S16x4224_d1 h_S_) shapeCasts_S16x4224_S16x4224x1

theorem dckOf_re {g : FVec Ideal S16x4112x4224 .f32} {G : ℕ → ℕ → ℕ → ℝ} (hg : R3 (a := 16) (b := 4112) (d := 4224) g G) :
    Re3 (a := 16) (b := 4224) (dckOf g) (fun h r => ∑ i ∈ range 4112, -G h i r) := by
  have h1 : Re2 (a := 16) (b := 4224) (Host.reduceAdd (Host.negf g) (constant S_ .f32 0x00000000#32) reducesTo_S16x4112x4224_S16x4224_d1 h_S_ : FVec Ideal S16x4224 .f32) (fun h r => ∑ i ∈ range 4112, -G h i r) := fun y => by
    have hn : R3 (a := 16) (b := 4112) (d := 4224) (Host.negf g) (fun h i r => -G h i r) := fun y =>
      (congrArg (fun a : EReal => -a) (hg y)).trans (EReal.coe_neg _).symm
    revert hn
    generalize Host.negf g = z
    intro hn
    pointwise
    rw [← coe_sum]
    exact Finset.sum_congr rfl fun k _ => hn _
  revert h1
  unfold dckOf
  generalize (Host.reduceAdd (Host.negf g) (constant S_ .f32 0x00000000#32) reducesTo_S16x4112x4224_S16x4224_d1 h_S_ : FVec Ideal S16x4224 .f32) = z
  intro h1
  refine stand_re (fun y => ?_) shapeCasts_S16x4224_S16x4224x1
  have h2 : ∀ k : Fin 1, shapeCast S16x1x4224 z shapeCasts_S16x4224_S16x1x4224 (ix3 ⟨(y 0).val, (y 0).isLt⟩ k ⟨(y 1).val, (y 1).isLt⟩) = z y := fun k => by
    refine (shapeCast_apply z shapeCasts_S16x4224_S16x1x4224 _ y ?_)
    rw [Shape.rowMajor_val_two, Shape.rowMajor_val_three]
    show (y 0).val * 4224 + (y 1).val = ((y 0).val * 1 + k.val) * 4224 + (y 1).val
    have := k.isLt
    omega
  refine Eq.trans ?_ ((h2 0).trans (h1 y))
  generalize shapeCast S16x1x4224 z shapeCasts_S16x4224_S16x1x4224 = t
  pointwise
  exact Fin.sum_univ_one _

/-- The queries' offsets' gradient. -/
def dcqOf (g : FVec Ideal S16x4112x4224 .f32) : FVec Ideal S16x11x1x384 .f32 :=
  shapeCast _ (pad S16x4224 ![0, 112] ![0, 0] ![0, 0] (single (shapeCast _ (rowSum g) shapeCasts_S16x4112_S16x4112x1)) (constant S_ .f32 0x00000000#32) pads_S16x4112_S16x4224_000_11200 h_S_) shapeCasts_S16x4224_S16x11x1x384

theorem dcqOf_re {g : FVec Ideal S16x4112x4224 .f32} {G : ℕ → ℕ → ℕ → ℝ} (hg : R3 (a := 16) (b := 4112) (d := 4224) g G) :
    Re4 (a := 16) (b := 11) (dcqOf g) (fun h n => if n < 112 then 0 else ∑ r ∈ range 4224, G h (n - 112) r) :=
  rows_re (padRow_re (single_re (stand_re (rowSum_re hg) shapeCasts_S16x4112_S16x4112x1)) (constant S_ .f32 0x00000000#32 : FVec Ideal S_ .f32) (fun _ => zero_word) pads_S16x4112_S16x4224_000_11200 h_S_) shapeCasts_S16x4224_S16x11x1x384

end Cert.Proof.Sides

end
-- ==== Proof.Grid.lean ====
module

public import proofs.«01_k».proof.Proof.Frame
public import proofs.«01_k».proof.Proof.Net
public import Idealize.ShloMosaic.Lib.Pipeline.ValueKit

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open Idealize.SL.Sem
open Finset (range Ico)

/-! ## The blocks a point of the grid finds -/

/-- Where each window stands at point `t`. -/
theorem at0 : ∀ t : Fin cfg0.N, (cfg0.win 0).index t 0 = 0 ∧ (cfg0.win 0).index t 1 = t.val / 11 := by decide +kernel
theorem at1 : ∀ t : Fin cfg0.N, (cfg0.win 1).index t 0 = t.val % 11 ∧ (cfg0.win 1).index t 1 = t.val / 11 := by decide +kernel
theorem at2 : ∀ t : Fin cfg0.N, (cfg0.win 2).index t 0 = t.val % 11 ∧ (cfg0.win 2).index t 1 = t.val / 11 := by decide +kernel
theorem at3 : ∀ t : Fin cfg0.N, (cfg0.win 3).index t 0 = 0 ∧ (cfg0.win 3).index t 1 = t.val / 11 := by decide +kernel
theorem at4 : ∀ t : Fin cfg0.N, (cfg0.win 4).index t 0 = 0 ∧ (cfg0.win 4).index t 1 = t.val / 11 := by decide +kernel
theorem at5 : ∀ t : Fin cfg0.N, (cfg0.win 5).index t 0 = t.val / 11 ∧ (cfg0.win 5).index t 1 = 0 ∧ (cfg0.win 5).index t 2 = 0 ∧ (cfg0.win 5).index t 3 = 0 := by decide +kernel
theorem at6 : ∀ t : Fin cfg0.N, (cfg0.win 6).index t 0 = t.val / 11 ∧ (cfg0.win 6).index t 1 = t.val % 11 ∧ (cfg0.win 6).index t 2 = 0 := by decide +kernel

variable (m : (ℓ : Loc nD τ sig) → Buf (Elt Ideal) ℓ) (c : Dev nD)

/-- The arrays the region finds hold the real numbers `N`. -/
structure Held (N : Net) : Prop where
  q : Re2 (a := 4224) (b := 2048) (V m c (Pipeline.arrRef spec0 0)) N.Q
  k : Re2 (a := 4224) (b := 2048) (V m c (Pipeline.arrRef spec0 1)) N.K
  v : Re2 (a := 4224) (b := 2048) (V m c (Pipeline.arrRef spec0 2)) N.V
  o : Re2 (a := 4224) (b := 2048) (V m c (Pipeline.arrRef spec0 3)) N.O
  w : Re2 (a := 4224) (b := 2048) (V m c (Pipeline.arrRef spec0 4)) N.W
  l : Re4 (a := 16) (b := 11) (V m c (Pipeline.arrRef spec0 5)) N.L
  c : Re3 (a := 16) (b := 4224) (V m c (Pipeline.arrRef spec0 6)) N.C

variable {m c} {N : Net}

theorem blk_q (H : Held m c N) (t : Fin cfg0.N) :
    Re2 (a := 4224) (b := 256) (iblk m c 0 t) (N.pt (t.val / 11) (t.val % 11)).Q := by
  intro y
  unfold iblk
  refine (H.q (((cfg0.win 0).blk t).view.emb y)).trans ?_
  have := at0 t
  blk_simp
  rw [this.1, this.2]
  simp only [Net.pt]
  congr 3 <;> omega

theorem blk_k (H : Held m c N) (t : Fin cfg0.N) :
    Re2 (a := 384) (b := 256) (iblk m c 1 t) (N.pt (t.val / 11) (t.val % 11)).K := by
  intro y
  unfold iblk
  refine (H.k (((cfg0.win 1).blk t).view.emb y)).trans ?_
  have := at1 t
  blk_simp
  rw [this.1, this.2]
  simp only [Net.pt]
  congr 3 <;> omega

theorem blk_v (H : Held m c N) (t : Fin cfg0.N) :
    Re2 (a := 384) (b := 256) (iblk m c 2 t) (N.pt (t.val / 11) (t.val % 11)).V := by
  intro y
  unfold iblk
  refine (H.v (((cfg0.win 2).blk t).view.emb y)).trans ?_
  have := at2 t
  blk_simp
  rw [this.1, this.2]
  simp only [Net.pt]
  congr 3 <;> omega

theorem blk_o (H : Held m c N) (t : Fin cfg0.N) :
    Re2 (a := 4224) (b := 256) (iblk m c 3 t) (N.pt (t.val / 11) (t.val % 11)).O := by
  intro y
  unfold iblk
  refine (H.o (((cfg0.win 3).blk t).view.emb y)).trans ?_
  have := at3 t
  blk_simp
  rw [this.1, this.2]
  simp only [Net.pt]
  congr 3 <;> omega

theorem blk_w (H : Held m c N) (t : Fin cfg0.N) :
    Re2 (a := 4224) (b := 256) (iblk m c 4 t) (fun n j => N.W n (256 * (t.val / 11) + j)) := by
  intro y
  unfold iblk
  refine (H.w (((cfg0.win 4).blk t).view.emb y)).trans ?_
  have := at4 t
  blk_simp
  rw [this.1, this.2]
  simp only [Net.pt]
  congr 3 <;> omega

theorem blk_l (H : Held m c N) (t : Fin cfg0.N) :
    Re4 (a := 2) (b := 11) (iblk m c 5 t) (N.pt (t.val / 11) (t.val % 11)).L := by
  intro y
  unfold iblk
  refine (H.l (((cfg0.win 5).blk t).view.emb y)).trans ?_
  have := at5 t
  blk_simp
  rw [this.1, this.2.1, this.2.2.2]
  simp only [Net.pt]
  congr 3 <;> omega

theorem blk_c (H : Held m c N) (t : Fin cfg0.N) :
    Re3 (a := 2) (b := 384) (iblk m c 6 t) (N.pt (t.val / 11) (t.val % 11)).C := by
  intro y
  unfold iblk
  refine (H.c (((cfg0.win 6).blk t).view.emb y)).trans ?_
  have := at6 t
  blk_simp
  rw [this.1, this.2.1]
  simp only [Net.pt]
  congr 3 <;> omega

end Cert.Proof.AttnIdeal

end
-- ==== Proof.Host.lean ====
module

public import proofs.«01_k».proof.Proof.Sides
public import proofs.«01_k».proof.Proof.Grid

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL.Sem
open Cert.Proof.Sides
open Finset (range)

/-! ## What the kernel is handed -/

section
variable (q k v : FVec Ideal S4224x2048 .f32) (c : FVec Ideal S16x4224 .f32)

/-- The scores, but for the queries' offsets. -/
def score : FVec Ideal S16x4112x4224 .f32 := subf (sdot q k) (alongKeys c)
/-- Each query's greatest score. -/
def greatest : FVec Ideal S16x4112 .f32 := top (seen (score q k c))
/-- The exponentials. -/
def expos : FVec Ideal S16x4112x4224 .f32 := expo (score q k c) (greatest q k c)
/-- The output. -/
def outPad : FVec Ideal S4224x2048 .f32 :=
  pad S4224x2048 ![112, 0] ![0, 0] ![0, 0] (shapeCast _ (transpose S4112x16x128 [2, 0, 1] (Host.dotGeneral dot_S4224x16x128_S16x4112x4224_S16x128x4112_0_2_2_1_1_0 none (heads v) (prob (expos q k c) (rowSum (expos q k c)))) transposes_S16x128x4112_S4112x16x128_2_0_1) shapeCasts_S4112x16x128_S4112x2048) (sitofp .f32 (constantI S_ 32 0#32)) pads_S4112x2048_S4224x2048_11200_000 h_S_
/-- The logs of the softmax denominators, at the queries from 112 on. -/
def lse : FVec Ideal S16x4112 .f32 :=
  shapeCast _ (addf (broadcastInDim S16x4112x1 ![0, 1] bcast_S16x4112_S16x4112x1_0_1 (greatest q k c)) (Host.log (broadcastInDim S16x4112x1 ![0, 1] bcast_S16x4112_S16x4112x1_0_1 (rowSum (expos q k c))))) shapeCasts_S16x4112x1_S16x4112
/-- The logs of the softmax denominators. -/
def lsePad : FVec Ideal S16x4224 .f32 :=
  pad S16x4224 ![0, 112] ![0, 0] ![0, 0] (lse q k c) (sitofp .f32 (constantI S_ 32 0#32)) pads_S16x4112_S16x4224_000_11200 h_S_
end

variable (m : (ℓ : Loc nD τ sig) → Buf (Elt Ideal) ℓ) (c : Dev nD)

theorem V_q : V m c main_v39 = (truncf .bf16 (m ((c.tc : Thread nD τ).loc main_arg0) : FVec Ideal S4224x2048 .f32) bitsLt_bf16_f32 : FVec Ideal S4224x2048 .bf16) := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_k : V m c main_v40 = (truncf .bf16 (m ((c.tc : Thread nD τ).loc main_arg1) : FVec Ideal S4224x2048 .f32) bitsLt_bf16_f32 : FVec Ideal S4224x2048 .bf16) := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_v : V m c main_v41 = (truncf .bf16 (m ((c.tc : Thread nD τ).loc main_arg2) : FVec Ideal S4224x2048 .f32) bitsLt_bf16_f32 : FVec Ideal S4224x2048 .bf16) := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

set_option maxHeartbeats 1000000 in
theorem V_w : V m c main_v42 = truncf .bf16 (outPad (m ((c.tc : Thread nD τ).loc main_arg0)) (m ((c.tc : Thread nD τ).loc main_arg1)) (m ((c.tc : Thread nD τ).loc main_arg2)) (m ((c.tc : Thread nD τ).loc main_arg3))) bitsLt_bf16_f32 := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

set_option maxHeartbeats 1000000 in
theorem V_l : V m c main_v43 = shapeCast S16x11x1x384 (lsePad (m ((c.tc : Thread nD τ).loc main_arg0)) (m ((c.tc : Thread nD τ).loc main_arg1)) (m ((c.tc : Thread nD τ).loc main_arg3))) shapeCasts_S16x4224_S16x11x1x384 := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

theorem V_c : V m c main_v44 = shapeCast S16x4224x1 (m ((c.tc : Thread nD τ).loc main_arg3) : FVec Ideal S16x4224 .f32) shapeCasts_S16x4224_S16x4224x1 := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.ternary, StableHlo.TRef.unary, StableHlo.TRef.toBuf, StableHlo.TRef.ofBuf, cast_eq]
  after_results_simp <;> rfl

end Cert.Proof.AttnIdeal

end
-- ==== Proof.Handed.lean ====
module

public import proofs.«01_k».proof.Proof.Host
public import proofs.«01_k».proof.Proof.Pads
public import proofs.«01_k».proof.Proof.Grid

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL.Sem
open Cert.Proof.Sides
open Finset (range)

/-! ## Read over the real numbers -/

/-- The arguments hold the real numbers `x`. -/
structure Args (q k v : FVec Ideal S4224x2048 .f32) (c : FVec Ideal S16x4224 .f32) (do' : FVec Ideal S4224x2048 .f32) (x : Five) : Prop where
  q : Re2 (a := 4224) (b := 2048) q x.Q
  k : Re2 (a := 4224) (b := 2048) k x.K
  v : Re2 (a := 4224) (b := 2048) v x.V
  c : Re2 (a := 16) (b := 4224) c x.C
  o : Re2 (a := 4224) (b := 2048) do' x.O

section
variable {q k v : FVec Ideal S4224x2048 .f32} {c : FVec Ideal S16x4224 .f32} {do' : FVec Ideal S4224x2048 .f32} {x : Five} (H : Args q k v c do' x)
include H

theorem score_re : R3 (a := 16) (b := 4112) (d := 4224) (score q k c) x.sc := fun y => by
  show sdot q k y - alongKeys c y = _
  rw [sdot_re H.q H.k, alongKeys_re H.c, ← EReal.coe_sub]
  rfl

theorem expos_re : ∃ M : ℕ → ℕ → ℝ, Re2 (a := 16) (b := 4112) (greatest q k c) M ∧
    R3 (a := 16) (b := 4112) (d := 4224) (expos q k c) (fun h i r => x.ex h i r * Real.exp (- M h i)) ∧
    Re2 (a := 16) (b := 4112) (rowSum (expos q k c)) (fun h i => x.Z h i * Real.exp (- M h i)) ∧
    R3 (a := 16) (b := 4112) (d := 4224) (prob (expos q k c) (rowSum (expos q k c))) x.pr := by
  obtain ⟨M, hM⟩ := top_re (score_re H)
  have e : R3 (a := 16) (b := 4112) (d := 4224) (expos q k c) (fun h i r => x.ex h i r * Real.exp (- M h i)) := fun y => by
    refine (expo_re (score_re H) hM y).trans ?_
    simp only [sub_eq_add_neg, x.ex_shift]
  have l : Re2 (a := 16) (b := 4112) (rowSum (expos q k c)) (fun h i => x.Z h i * Real.exp (- M h i)) := fun y => by
    refine (rowSum_re e y).trans ?_
    simp only [x.sum_shift]
  refine ⟨M, hM, e, l, fun y => ?_⟩
  refine (prob_re e l (fun h i => (mul_pos (x.Z_pos h i) (Real.exp_pos _)).ne') y).trans ?_
  simp only [x.pr_shift]

omit H in
/-- The word zero as a float is zero. -/
theorem sitofp_zero : (FloatOps.sitofp (F := Ideal) .f32 (0#32 : BitVec 32) : Ideal .f32) = (0 : EReal) := by
  show (((0#32 : BitVec 32).toInt : ℝ) : EReal) = 0
  simp

omit H in
/-- A number for each query, once more. -/
theorem column_re {g : FVec Ideal S16x4112 .f32} {f : ℕ → ℕ → ℝ} (hg : Re2 (a := 16) (b := 4112) g f) (y : S16x4112x1.Idx) :
    broadcastInDim S16x4112x1 ![0, 1] bcast_S16x4112_S16x4112x1_0_1 g y = ((f (y 0).val (y 1).val : ℝ) : EReal) := by
  have h := hg (ix2 (y 0) (y 1))
  pointwise
  exact h

omit H in
/-- A number and the log of another, for each query. -/
theorem sumLog_re {g l : FVec Ideal S16x4112 .f32} {M w : ℕ → ℕ → ℝ} (hg : Re2 (a := 16) (b := 4112) g M)
    (hl : Re2 (a := 16) (b := 4112) l w) (hw : ∀ h i, 0 < w h i) :
    Re3 (a := 16) (b := 4112) (addf (broadcastInDim S16x4112x1 ![0, 1] bcast_S16x4112_S16x4112x1_0_1 g) (Host.log (broadcastInDim S16x4112x1 ![0, 1] bcast_S16x4112_S16x4112x1_0_1 l)))
      (fun h i => M h i + Real.log (w h i)) := fun y => by
  have e1 := column_re hg y
  have e2 := column_re hl y
  refine (congrArg₂ (fun a b : EReal => a + Ideal.log b) e1 e2).trans ?_
  beta_reduce
  rw [Ideal.log_coe, if_neg (hw _ _).not_ge, ← EReal.coe_add]

/-- The logs before the padding. -/
theorem lse_re : Re2 (a := 16) (b := 4112) (lse q k c) (fun h i => Real.log (x.Z h i)) := by
  obtain ⟨M, hM, -, hl, -⟩ := expos_re H
  have hw : ∀ h i, 0 < x.Z h i * Real.exp (-M h i) := fun h i => mul_pos (x.Z_pos h i) (Real.exp_pos _)
  have e : ∀ h i, M h i + Real.log (x.Z h i * Real.exp (-M h i)) = Real.log (x.Z h i) := fun h i => by
    rw [Real.log_mul (x.Z_pos h i).ne' (Real.exp_pos _).ne', Real.log_exp]
    ring
  have hs := sumLog_re hM hl hw
  simp only [e] at hs
  exact flat_re hs shapeCasts_S16x4112x1_S16x4112

omit H in
/-- The outputs of the heads. -/
theorem outHeads_re {p : FVec Ideal S16x4112x4224 .f32} {P : ℕ → ℕ → ℕ → ℝ} {V' : ℕ → ℕ → ℝ} (hp : R3 (a := 16) (b := 4112) (d := 4224) p P)
    (hv : Re2 (a := 4224) (b := 2048) v V') :
    R3 (a := 4112) (b := 16) (d := 128) (transpose S4112x16x128 [2, 0, 1] (Host.dotGeneral dot_S4224x16x128_S16x4112x4224_S16x128x4112_0_2_2_1_1_0 none (heads v) p) transposes_S16x128x4112_S4112x16x128_2_0_1)
      (fun i h d => ∑ r ∈ range 4224, V' r (128 * h + d) * P h i r) := fun y => by
  refine Eq.trans ?_ (sum_mul (n := 4224) (fun r => V' r (128 * (y 1).val + (y 2).val)) (fun r => P (y 1).val (y 0).val r))
  pointwise
  exact Finset.sum_congr rfl fun k _ => by rw [heads_re hv _, hp _]; rfl

theorem outPad_re : Re2 (a := 4224) (b := 2048) (outPad q k v c) x.net.W := by
  obtain ⟨M, -, -, -, hp⟩ := expos_re H
  have h := padLanes_re (lanes_re (outHeads_re hp H.v) shapeCasts_S4112x16x128_S4112x2048) (sitofp .f32 (constantI S_ 32 0#32) : FVec Ideal S_ .f32) (fun _ => sitofp_zero) pads_S4112x2048_S4224x2048_11200_000 h_S_
  intro y
  refine (h y).trans ?_
  show ((if (y 0).val < 112 then 0 else ∑ r ∈ range 4224, x.V r (128 * ((y 1).val / 128) + (y 1).val % 128) * x.pr ((y 1).val / 128) ((y 0).val - 112) r : ℝ) : EReal) = _
  rw [Nat.div_add_mod]
  rfl

theorem lsePad_re : Re2 (a := 16) (b := 4224) (lsePad q k c) x.net.L :=
  padRow_re (lse_re H) (sitofp .f32 (constantI S_ 32 0#32) : FVec Ideal S_ .f32) (fun _ => sitofp_zero) pads_S16x4112_S16x4224_000_11200 h_S_

end

/-- The backward pass's arrays, from the arguments. -/
theorem held {m : (ℓ : Loc nD τ sig) → Buf (Elt Ideal) ℓ} {c : Dev nD} {x : Five}
    (H : Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) x) :
    Held m c x.net where
  q := by
    show Re2 (V m c main_v39) _
    rw [V_q]
    exact H.q
  k := by
    show Re2 (V m c main_v40) _
    rw [V_k]
    exact H.k
  v := by
    show Re2 (V m c main_v41) _
    rw [V_v]
    exact H.v
  o := by
    show Re2 (V m c main_arg4) _
    rw [V_main_arg4]
    exact H.o
  w := by
    show Re2 (V m c main_v42) _
    rw [V_w]
    exact outPad_re H
  l := by
    show Re4 (V m c main_v43) _
    rw [V_l]
    exact rows_re (lsePad_re H) _
  c := by
    show Re3 (V m c main_v44) _
    rw [V_c]
    exact stand_re H.c _

end Cert.Proof.AttnIdeal

end
-- ==== Proof.Wanted.lean ====
module

public import proofs.«01_k».proof.Proof.Plain
public import proofs.«01_k».proof.Proof.Handed
public import proofs.«01_k».proof.Proof.Gen.ReferenceIdeal.Run

@[expose] public section

set_option maxRecDepth 16384

noncomputable section

namespace Cert.Proof.Wanted

open Cert.ReferenceIdeal Cert.ReferenceIdeal.Gen
open Idealize.ShloMosaic Idealize.ShloMosaic.TcCoe Idealize.ShloMosaic.Tactic
open Cert.Proof.AttnIdeal Cert.Proof.Sides
open Finset (range)

/-! ## The plain mathematics over the real numbers -/

section
variable (q k v : FVec Ideal S4224x2048 .f32) (c : FVec Ideal S16x4224 .f32) (o : FVec Ideal S4224x2048 .f32)

/-- The exponentials. -/
def expos : FVec Ideal S16x4112x4224 .f32 := expo (scores q k c) (atLeast (top (seen (scores q k c))))
/-- Their sums. -/
def total : FVec Ideal S16x4112 .f32 := rowSum (expos q k c)
/-- The scores' cotangents. -/
def grads : FVec Ideal S16x4112x4224 .f32 := dscore (dprob o v) (expos q k c) (total q k c)
end

section
variable {q k v : FVec Ideal S4224x2048 .f32} {c : FVec Ideal S16x4224 .f32} {o : FVec Ideal S4224x2048 .f32} {x : Five} (H : Args q k v c o x)
include H

theorem expos_re : ∃ u : ℕ → ℕ → ℝ,
    R3 (a := 16) (b := 4112) (d := 4224) (expos q k c) (fun h i r => x.ex h i r * Real.exp (u h i)) ∧
    Re2 (a := 16) (b := 4112) (total q k c) (fun h i => x.Z h i * Real.exp (u h i)) := by
  have hs := scores_re H.q H.k H.c
  obtain ⟨M, hM⟩ := top_re hs
  have e : R3 (a := 16) (b := 4112) (d := 4224) (expos q k c) (fun h i r => x.ex h i r * Real.exp (x.C h (112 + i) - M h i)) := fun y => by
    unfold expos
    rw [atLeast_eq]
    refine (expo_re hs hM y).trans (congrArg (fun r : ℝ => (r : EReal)) ?_)
    beta_reduce
    rw [← x.ex_shift]
    congr 2
    rw [Five.sc]
    ring
  refine ⟨fun h i => x.C h (112 + i) - M h i, e, fun y => ?_⟩
  refine (rowSum_re e y).trans ?_
  simp only [x.sum_shift]

/-- The scores' cotangents. -/
theorem grads_re : R3 (a := 16) (b := 4112) (d := 4224) (grads q k v c o) x.ds := by
  obtain ⟨u, he, hl⟩ := expos_re H
  intro y
  refine (dscore_re (dprob_re H.o H.v) he hl (fun h i => (mul_pos (x.Z_pos h i) (Real.exp_pos _)).ne') y).trans (congrArg (fun r : ℝ => (r : EReal)) ?_)
  beta_reduce
  split
  · exact x.ds_shift _ _ _ _
  · rename_i h
    exact (x.ds_dead _ _ _ h).symm

/-- The probabilities. -/
theorem probs_re : R3 (a := 16) (b := 4112) (d := 4224) (prob (expos q k c) (total q k c)) x.pr := by
  obtain ⟨u, he, hl⟩ := expos_re H
  intro y
  refine (prob_re he hl (fun h i => (mul_pos (x.Z_pos h i) (Real.exp_pos _)).ne') y).trans (congrArg (fun r : ℝ => (r : EReal)) ?_)
  exact x.pr_shift _ _ _ _

theorem dq_re : Re2 (a := 4224) (b := 2048) (dqOf (grads q k v c o) k) x.net.rq := fun y => by
  refine (dqOf_re (grads_re H) H.k y).trans (congrArg (fun r : ℝ => (r : EReal)) ?_)
  beta_reduce
  generalize (y 0).val = n
  generalize (y 1).val = j
  rw [Nat.div_add_mod]
  split
  · rename_i h
    exact (x.rq_pad _ _ h).symm
  · rename_i h
    refine (x.rq_eq _ _).symm.trans ?_
    rw [Nat.add_sub_cancel' (not_lt.mp h)]

theorem dk_re : Re2 (a := 4224) (b := 2048) (dkOf (grads q k v c o) q) x.net.rk := fun y => by
  refine (dkOf_re (grads_re H) H.q y).trans (congrArg (fun r : ℝ => (r : EReal)) ?_)
  beta_reduce
  rw [Nat.div_add_mod]
  exact (x.rk_eq _ _).symm

theorem dv_re : Re2 (a := 4224) (b := 2048) (dvOf (prob (expos q k c) (total q k c)) o) x.net.rv := fun y => by
  refine (dvOf_re (probs_re H) H.o y).trans (congrArg (fun r : ℝ => (r : EReal)) ?_)
  beta_reduce
  rw [Nat.div_add_mod]
  refine Eq.trans ?_ (x.rv_eq _ _).symm
  exact Finset.sum_congr rfl fun i _ => mul_comm _ _

theorem dck_re : Re3 (a := 16) (b := 4224) (dckOf (grads q k v c o)) x.net.rck := fun y => by
  refine (dckOf_re (grads_re H) y).trans (congrArg (fun r : ℝ => (r : EReal)) ?_)
  beta_reduce
  rw [Finset.sum_neg_distrib]
  exact (x.rck_eq _ _).symm

theorem dcq_re : Re4 (a := 16) (b := 11) (dcqOf (grads q k v c o)) x.net.rcq := fun y => by
  refine (dcqOf_re (grads_re H) y).trans (congrArg (fun r : ℝ => (r : EReal)) ?_)
  beta_reduce
  generalize 384 * (y 1).val + (y 3).val = n
  split
  · rename_i h
    exact (x.rcq_pad _ _ h).symm
  · rename_i h
    refine (x.rcq_eq _ _).symm.trans ?_
    rw [Nat.add_sub_cancel' (not_lt.mp h)]
end

variable (m : (ℓ : Loc nD τ sig) → Buf (Elt Ideal) ℓ) (c : Dev nD)

theorem dq_stages : Cert.ReferenceIdeal.Value.res_main_v88 m c = dqOf (grads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := rfl

theorem dk_stages : Cert.ReferenceIdeal.Value.res_main_v89 m c = dkOf (grads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg0)) := rfl

theorem dv_stages : Cert.ReferenceIdeal.Value.res_main_v90 m c = dvOf (prob (expos (m ((c.tc : Thread nD τ).loc main_arg0)) (m ((c.tc : Thread nD τ).loc main_arg1)) (m ((c.tc : Thread nD τ).loc main_arg3))) (total (m ((c.tc : Thread nD τ).loc main_arg0)) (m ((c.tc : Thread nD τ).loc main_arg1)) (m ((c.tc : Thread nD τ).loc main_arg3)))) (m ((c.tc : Thread nD τ).loc main_arg4)) := rfl

theorem dck_stages : Cert.ReferenceIdeal.Value.res_main_v91 m c = dckOf (grads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl

theorem dcq_stages : Cert.ReferenceIdeal.Value.res_main_v92 m c = dcqOf (grads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl

section
variable {m c} {x : Five} (H : Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) x)
include H

theorem dq_value : Cert.ReferenceIdeal.Value.res_main_v88 m c = (fun y : (⟨2, ![4224, 2048]⟩ : Shape).Idx => ((x.net.rq (y 0).val (y 1).val : ℝ) : EReal)) := by
  rw [dq_stages]
  exact funext (dq_re H)

theorem dk_value : Cert.ReferenceIdeal.Value.res_main_v89 m c = (fun y : (⟨2, ![4224, 2048]⟩ : Shape).Idx => ((x.net.rk (y 0).val (y 1).val : ℝ) : EReal)) := by
  rw [dk_stages]
  exact funext (dk_re H)

theorem dv_value : Cert.ReferenceIdeal.Value.res_main_v90 m c = (fun y : (⟨2, ![4224, 2048]⟩ : Shape).Idx => ((x.net.rv (y 0).val (y 1).val : ℝ) : EReal)) := by
  rw [dv_stages]
  exact funext (dv_re H)

theorem dck_value : Cert.ReferenceIdeal.Value.res_main_v91 m c = (fun y : (⟨3, ![16, 4224, 1]⟩ : Shape).Idx => ((x.net.rck (y 0).val (y 1).val : ℝ) : EReal)) := by
  rw [dck_stages]
  exact funext (dck_re H)

theorem dcq_value : Cert.ReferenceIdeal.Value.res_main_v92 m c = (fun y : (⟨4, ![16, 11, 1, 384]⟩ : Shape).Idx => ((x.net.rcq (y 0).val (384 * (y 1).val + (y 3).val) : ℝ) : EReal)) := by
  rw [dcq_stages]
  exact funext (dcq_re H)

end

end Cert.Proof.Wanted

end
-- ==== Proof.Loop.lean ====
module

public import proofs.«01_k».proof.Proof.Block
public import proofs.«01_k».proof.Proof.Frame

@[expose] public section

set_option maxRecDepth 16384

noncomputable section

namespace Cert.Proof.AttnIdeal

open Cert.KernelIdeal Cert.KernelIdeal.Gen
open Idealize.ShloMosaic
open Finset (range Ico)

/-! ## What holds between the query blocks of a point -/

/-- Before query block `m` of a point: the sums carried and the two cotangents written so far. -/
structure Inv (p : Pt) (A C : ℕ → ℕ → ℝ) (m : ℕ) (acc : Car Ideal) (M9 : Memref sig .tc .vmem S4224x256 .f32) (f9 : BufTy.Contents (Elt Ideal) M9.view.ty)
    (M13 : Memref sig .tc .vmem S2x11x1x384 .f32) (f13 : BufTy.Contents (Elt Ideal) M13.view.ty) : Prop where
  s0 : p.Sums 0 m acc.1 acc.2.1 acc.2.2.1
  s1 : p.Sums 1 m acc.2.2.2.1 acc.2.2.2.2.1 acc.2.2.2.2.2
  q : Re2 (a := 4224) (b := 256) (View.read (Elt Ideal) M9.view f9) (p.addQ A m)
  c : Re4 (a := 2) (b := 11) (View.read (Elt Ideal) M13.view f13) (p.addC C m)

section
variable (p : Pt) {A C : ℕ → ℕ → ℝ} {m : ℕ} {acc : Car Ideal} {M2 : Memref sig .tc .vmem S4224x256 .bf16} {M5 : Memref sig .tc .vmem S4224x256 .f32} {M7 M14 : Memref sig .tc .vmem S2x11x1x384 .f32}
  {X2 : BufTy.Contents (Elt Ideal) M2.view.ty} {X5 : BufTy.Contents (Elt Ideal) M5.view.ty} {X7 : BufTy.Contents (Elt Ideal) M7.view.ty} {X14 : BufTy.Contents (Elt Ideal) M14.view.ty}
  {M9 : Memref sig .tc .vmem S4224x256 .f32} {M13 : Memref sig .tc .vmem S2x11x1x384 .f32} {X9 : BufTy.Contents (Elt Ideal) M9.view.ty} {X13 : BufTy.Contents (Elt Ideal) M13.view.ty}
  {L9 : List (View.Piece (Elt Ideal) S4224x256 .f32)} {L13 : List (View.Piece (Elt Ideal) S2x11x1x384 .f32)}
  {o0 o1 : Fin 2 → ℕ} {w0 w1 : Fin 4 → ℕ}

/-- One query block: the sums carried on and both heads' pieces written, whatever mask gives the block's probabilities. -/
theorem inv_step (ho0 : ∀ a, o0 a + S384x128.size a ≤ S4224x256.size a) (ho1 : ∀ a, o1 a + S384x128.size a ≤ S4224x256.size a)
    (hw0 : ∀ a, w0 a + S1x1x1x384.size a ≤ S2x11x1x384.size a) (hw1 : ∀ a, w1 a + S1x1x1x384.size a ≤ S2x11x1x384.size a)
    (eo0 : o0 = ![384 * m, 0]) (eo1 : o1 = ![384 * m, 128]) (ew0 : w0 = ![0, m, 0, 0]) (ew1 : w1 = ![1, m, 0, 0]) (hkm : p.kc ≤ m)
    {mk : FVec Ideal S384x384 .f32 → FVec Ideal S384x384 .f32} {k0 k1 v0 v1 : FVec Ideal S384x128 .bf16} {c0 c1 : FVec Ideal S384x384 .f32}
    (hP0 : Re2 (headP (F := Ideal) M2 M7 X2 X7 ho0 hw0 mk k0 c0) (fun r j => p.P 0 r (384 * m + j)))
    (hP1 : Re2 (headP (F := Ideal) M2 M7 X2 X7 ho1 hw1 mk k1 c1) (fun r j => p.P 1 r (384 * m + j)))
    (hk0 : Re2 k0 (fun r d => p.K r (128 * 0 + d))) (hk1 : Re2 k1 (fun r d => p.K r (128 * 1 + d)))
    (hv0 : Re2 v0 (fun r d => p.V r (128 * 0 + d))) (hv1 : Re2 v1 (fun r d => p.V r (128 * 1 + d)))
    (h2 : Re2 (a := 4224) (b := 256) (View.read (Elt Ideal) M2.view X2) p.Q) (h5 : Re2 (a := 4224) (b := 256) (View.read (Elt Ideal) M5.view X5) p.O)
    (h14 : Re4 (a := 2) (b := 11) (View.read (Elt Ideal) M14.view X14) p.D)
    {old0 old1 : Vec Ideal S384x128 .f32} {row0 row1 : Vec Ideal S1x1x1x384 .f32}
    (hold0 : Re2 (a := 384) (b := 128) old0 (fun j d => p.addQ A m (384 * m + j) (0 + d)))
    (hold1 : Re2 (a := 384) (b := 128) old1 (fun j d => p.addQ A m (384 * m + j) (128 + d)))
    (hrow0 : ∀ y, row0 y = ((p.addC C m 0 (384 * m + (y 3).val) : ℝ) : EReal))
    (hrow1 : ∀ y, row1 y = ((p.addC C m 1 (384 * m + (y 3).val) : ℝ) : EReal))
    (h : Inv p A C m acc M9 (M9.view.writes (Elt Ideal) X9 L9) M13 (M13.view.writes (Elt Ideal) X13 L13)) :
    Inv p A C (m + 1)
      (stepCar acc (headP (F := Ideal) M2 M7 X2 X7 ho0 hw0 mk k0 c0) (headP (F := Ideal) M2 M7 X2 X7 ho1 hw1 mk k1 c1)
        (headS (F := Ideal) M5 M14 X5 X14 ho0 hw0 (headP (F := Ideal) M2 M7 X2 X7 ho0 hw0 mk k0 c0) v0) (headS (F := Ideal) M5 M14 X5 X14 ho1 hw1 (headP (F := Ideal) M2 M7 X2 X7 ho1 hw1 mk k1 c1) v1)
        (blk2 M2 X2 ho0) (blk2 M2 X2 ho1) (blk2 M5 X5 ho0) (blk2 M5 X5 ho1))
      M9 (M9.view.writes (Elt Ideal) X9 (pieceQ ho1 old1 (headS (F := Ideal) M5 M14 X5 X14 ho1 hw1 (headP (F := Ideal) M2 M7 X2 X7 ho1 hw1 mk k1 c1) v1) k1
        :: pieceQ ho0 old0 (headS (F := Ideal) M5 M14 X5 X14 ho0 hw0 (headP (F := Ideal) M2 M7 X2 X7 ho0 hw0 mk k0 c0) v0) k0 :: L9))
      M13 (M13.view.writes (Elt Ideal) X13 (pieceC hw1 row1 (headS (F := Ideal) M5 M14 X5 X14 ho1 hw1 (headP (F := Ideal) M2 M7 X2 X7 ho1 hw1 mk k1 c1) v1)
        :: pieceC hw0 row0 (headS (F := Ideal) M5 M14 X5 X14 ho0 hw0 (headP (F := Ideal) M2 M7 X2 X7 ho0 hw0 mk k0 c0) v0) :: L13)) := by
  have hS0 := headS_re p (a := 0) ho0 hw0 eo0 ew0 hP0 hv0 h5 h14
  have hS1 := headS_re p (a := 1) ho1 hw1 eo1 ew1 hP1 hv1 h5 h14
  exact ⟨sums_step p hkm h.s0 hP0 hS0 (blk2_re16 ho0 eo0 h2) (blk2_re ho0 eo0 h5), sums_step p hkm h.s1 hP1 hS1 (blk2_re16 ho1 eo1 h2) (blk2_re ho1 eo1 h5),
    write_q p hkm ho0 ho1 eo0 eo1 h.q hold0 hold1 hS0 hS1 hk0 hk1, write_c p hkm hw0 hw1 ew0 ew1 h.c hrow0 hrow1 hS0 hS1⟩
end

/-! ## The offsets and the trips of the two loops -/

theorem trips1 : ∀ t : Fin grid0.N, (k0_t1_loop (grid0.coords t)).trips = 10 - t.val % 11 := by decide +kernel
theorem trips2 : ∀ t : Fin grid0.N, (k0_t2_loop (grid0.coords t)).trips = 0 := by decide +kernel
theorem off5 : ∀ t : Fin grid0.N, ∀ k : Fin (k0_t1_loop (grid0.coords t)).trips, k0_off5 (grid0.coords t) k = ![384 * (t.val % 11 + 1 + k.val), 0] := by decide +kernel
theorem off6 : ∀ t : Fin grid0.N, ∀ k : Fin (k0_t1_loop (grid0.coords t)).trips, k0_off6 (grid0.coords t) k = ![0, t.val % 11 + 1 + k.val, 0, 0] := by decide +kernel
theorem off7 : ∀ t : Fin grid0.N, ∀ k : Fin (k0_t1_loop (grid0.coords t)).trips, k0_off7 (grid0.coords t) k = ![384 * (t.val % 11 + 1 + k.val), 128] := by decide +kernel
theorem off8 : ∀ t : Fin grid0.N, ∀ k : Fin (k0_t1_loop (grid0.coords t)).trips, k0_off8 (grid0.coords t) k = ![1, t.val % 11 + 1 + k.val, 0, 0] := by decide +kernel
theorem trips3 : ∀ t : Fin grid0.N, (k0_t3_loop (grid0.coords t)).trips = 10 - t.val % 11 := by decide +kernel
theorem trips4 : ∀ t : Fin grid0.N, (k0_t4_loop (grid0.coords t)).trips = 0 := by decide +kernel
theorem off13 : ∀ t : Fin grid0.N, ∀ k : Fin (k0_t3_loop (grid0.coords t)).trips, k0_off13 (grid0.coords t) k = ![384 * (t.val % 11 + 1 + k.val), 0] := by decide +kernel
theorem off14 : ∀ t : Fin grid0.N, ∀ k : Fin (k0_t3_loop (grid0.coords t)).trips, k0_off14 (grid0.coords t) k = ![0, t.val % 11 + 1 + k.val, 0, 0] := by decide +kernel
theorem off15 : ∀ t : Fin grid0.N, ∀ k : Fin (k0_t3_loop (grid0.coords t)).trips, k0_off15 (grid0.coords t) k = ![384 * (t.val % 11 + 1 + k.val), 128] := by decide +kernel
theorem off16 : ∀ t : Fin grid0.N, ∀ k : Fin (k0_t3_loop (grid0.coords t)).trips, k0_off16 (grid0.coords t) k = ![1, t.val % 11 + 1 + k.val, 0, 0] := by decide +kernel
theorem off1 : ∀ t : Fin grid0.N, k0_off1 (grid0.coords t) = ![384 * (t.val % 11), 0] := by decide +kernel
theorem off2 : ∀ t : Fin grid0.N, k0_off2 (grid0.coords t) = ![0, t.val % 11, 0, 0] := by decide +kernel
theorem off3 : ∀ t : Fin grid0.N, k0_off3 (grid0.coords t) = ![384 * (t.val % 11), 128] := by decide +kernel
theorem off4 : ∀ t : Fin grid0.N, k0_off4 (grid0.coords t) = ![1, t.val % 11, 0, 0] := by decide +kernel

/-- A point's key block, as the kernel's second program id gives it. -/
theorem kc_val : ∀ t : Fin grid0.N, ((grid0.coords t) 1).val = t.val % 11 := by decide +kernel

theorem iv1 : ∀ t : Fin grid0.N, ∀ k : Fin (k0_t1_loop (grid0.coords t)).trips,
    Scf.iv (Scalar.addi (BitVec.ofNat 32 ((grid0.coords t) 1).val) 1#32) 1#32 k = BitVec.ofNat 32 (t.val % 11 + 1 + k.val) := by decide +kernel

/-! ## The loops -/

section
variable (c : Dev nD) (M2 : Memref sig .tc .vmem S4224x256 .bf16) (h2 : M2.IsWhole) (M3 : Memref sig .tc .vmem S384x256 .bf16) (h3 : M3.IsWhole) (M4 : Memref sig .tc .vmem S384x256 .bf16) (h4 : M4.IsWhole) (M5 : Memref sig .tc .vmem S4224x256 .f32) (h5 : M5.IsWhole) (M6 : Memref sig .tc .vmem S4224x256 .bf16) (h6 : M6.IsWhole) (M7 : Memref sig .tc .vmem S2x11x1x384 .f32) (h7 : M7.IsWhole) (M8 : Memref sig .tc .vmem S2x384x1 .f32) (h8 : M8.IsWhole) (M9 : Memref sig .tc .vmem S4224x256 .f32) (h9 : M9.IsWhole) (M10 : Memref sig .tc .vmem S384x256 .f32) (h10 : M10.IsWhole) (M11 : Memref sig .tc .vmem S384x256 .f32) (h11 : M11.IsWhole) (M12 : Memref sig .tc .vmem S2x384x1 .f32) (h12 : M12.IsWhole) (M13 : Memref sig .tc .vmem S2x11x1x384 .f32) (h13 : M13.IsWhole) (M14 : Memref sig .tc .vmem S2x11x1x384 .f32) (h14 : M14.IsWhole)
variable {v4 v6 v8 v10 : FVec Ideal S384x128 .bf16} {v14 v18 : FVec Ideal S384x384 .f32}
variable {X2 : BufTy.Contents (Elt Ideal) M2.view.ty} {X5 : BufTy.Contents (Elt Ideal) M5.view.ty} {X7 : BufTy.Contents (Elt Ideal) M7.view.ty} {X14 : BufTy.Contents (Elt Ideal) M14.view.ty}
variable {G9 : BufTy.Contents (Elt Ideal) M9.view.ty} {G13 : BufTy.Contents (Elt Ideal) M13.view.ty} {init : Car Ideal}
variable (p : Pt) {A C : ℕ → ℕ → ℝ} (t : Fin grid0.N) (hkc : p.kc = t.val % 11)
variable (hk0 : Re2 v4 (fun r d => p.K r (128 * 0 + d))) (hk1 : Re2 v6 (fun r d => p.K r (128 * 1 + d)))
variable (hv0 : Re2 v8 (fun r d => p.V r (128 * 0 + d))) (hv1 : Re2 v10 (fun r d => p.V r (128 * 1 + d)))
variable (hc0 : Re2 v14 (fun r _ => p.C 0 r)) (hc1 : Re2 v18 (fun r _ => p.C 1 r))
variable (e2 : Re2 (a := 4224) (b := 256) (View.read (Elt Ideal) M2.view X2) p.Q) (e5 : Re2 (a := 4224) (b := 256) (View.read (Elt Ideal) M5.view X5) p.O)
variable (e7 : Re4 (a := 2) (b := 11) (View.read (Elt Ideal) M7.view X7) p.L) (e14 : Re4 (a := 2) (b := 11) (View.read (Elt Ideal) M14.view X14) p.D)
include hkc hk0 hk1 hv0 hv1 hc0 hc1 e2 e5 e7 e14

set_option maxHeartbeats 2000000 in
/-- Loop 1, trip by trip: key block 0, every block masked. -/
theorem loop1 (hc : k0_cond2 (grid0.coords t) = 1#1)
    (h : Inv p A C (t.val % 11 + 1) init M9 G9 M13 G13) (k : ℕ) (hk : k ≤ (k0_t1_loop (grid0.coords t)).trips) :
    Inv p A C (t.val % 11 + 1 + k) (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init k).1
      M9 (M9.view.writes (Elt Ideal) G9 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init k).2.1)
      M13 (M13.view.writes (Elt Ideal) G13 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init k).2.2) := by
  induction k with
  | zero => exact h
  | succ k ih =>
    have ih := ih (Nat.le_of_succ_le hk)
    have hk' := trips1 t
    let kk : Fin (k0_t1_loop (grid0.coords t)).trips := ⟨k, hk⟩
    have hkm : p.kc ≤ t.val % 11 + 1 + k := by omega
    have o0 := off5 t kk
    have o1 := off7 t kk
    have w0 := off6 t kk
    have w1 := off8 t kk
    have hP0 : Re2 (headP (F := Ideal) M2 M7 X2 X7 (k0_off5_inb (grid0.coords t) kk hc) (k0_off6_inb (grid0.coords t) kk hc) (maskB (rowsOf (BitVec.ofNat 32 ((grid0.coords t) 1).val)) (Scf.iv (Scalar.addi (BitVec.ofNat 32 ((grid0.coords t) 1).val) 1#32) 1#32 kk)) v4 v14) (fun r j => p.P 0 r (384 * (t.val % 11 + 1 + k) + j)) := by
      rw [iv1 t kk, show rowsOf (BitVec.ofNat 32 ((grid0.coords t) 1).val) = rowsOf (BitVec.ofNat 32 p.kc) from by rw [kc_val t, hkc]]
      exact headP_masked p (a := 0) _ _ o0 w0 (by omega) (by omega) hk0 hc0 e2 e7
    have hP1 : Re2 (headP (F := Ideal) M2 M7 X2 X7 (k0_off7_inb (grid0.coords t) kk hc) (k0_off8_inb (grid0.coords t) kk hc) (maskB (rowsOf (BitVec.ofNat 32 ((grid0.coords t) 1).val)) (Scf.iv (Scalar.addi (BitVec.ofNat 32 ((grid0.coords t) 1).val) 1#32) 1#32 kk)) v6 v18) (fun r j => p.P 1 r (384 * (t.val % 11 + 1 + k) + j)) := by
      rw [iv1 t kk, show rowsOf (BitVec.ofNat 32 ((grid0.coords t) 1).val) = rowsOf (BitVec.ofNat 32 p.kc) from by rw [kc_val t, hkc]]
      exact headP_masked p (a := 1) _ _ o1 w1 (by omega) (by omega) hk1 hc1 e2 e7
    have main := inv_step p _ _ _ _ o0 o1 w0 w1 hkm hP0 hP1 hk0 hk1 hv0 hv1 e2 e5 e14
      (blk2_re (k0_off5_inb (grid0.coords t) kk hc) o0 ih.q) (blk2_re (k0_off7_inb (grid0.coords t) kk hc) o1 ih.q) (row4_re (k0_off6_inb (grid0.coords t) kk hc) w0 ih.c) (row4_re (k0_off8_inb (grid0.coords t) kk hc) w1 ih.c) ih
    rw [show k + 1 = kk.val + 1 from rfl, st_k0_t1_succ]
    show Inv p A C (t.val % 11 + 1 + k + 1) ((trip_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 kk).1 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).1 (M9.view.writes (Elt Ideal) G9 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).2.1) (M13.view.writes (Elt Ideal) G13 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).2.2))
      M9 (M9.view.writes (Elt Ideal) G9 ((trip_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 kk).2.1 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).1 (M9.view.writes (Elt Ideal) G9 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).2.1) (M13.view.writes (Elt Ideal) G13 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).2.2) ++ (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).2.1))
      M13 (M13.view.writes (Elt Ideal) G13 ((trip_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 kk).2.2.1 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).1 (M9.view.writes (Elt Ideal) G9 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).2.1) (M13.view.writes (Elt Ideal) G13 (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).2.2) ++ (st_k0_t1 (F := Ideal) Variants.none c none (grid0.coords t) M2 h2 M3 h3 M4 h4 M5 h5 M6 h6 M7 h7 M8 h8 M9 h9 M10 h10 M11 h11 M12 h12 M13 h13 M14 h14 v4 v6 v8 v10 v14 v18 (rowsOf (BitVec.ofNat 32 ((grid0.coords t) 1).val)) hc (Scalar.addi (BitVec.ofNat 32 ((grid0.coords t) 1).val) 1#32) X2 X5 X7 X14 G9 G13 init kk.val).2.2))
    rw [trip1_car, trip1_q, trip1_c]
    exact main

set_option maxHeartbeats 2000000 in
/-- Loop 3, trip by trip: a later key block, no block masked. -/
theorem loop3 (hc : ¬k0_cond2 (grid0.coords t) = 1#1) (hpos : 0 < t.val % 11)
    (h : Inv p A C (t.val % 11 + 1) init M9 G9 M13 G13) (k : ℕ) (hk : k ≤ (k0_t3_loop (grid0.coords t)).trips) :
    Inv p A C (t.val % 11 + 1 + k) (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init k).1
      M9 (M9.view.writes (Elt Ideal) G9 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init k).2.1)
      M13 (M13.view.writes (Elt Ideal) G13 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init k).2.2) := by
  induction k with
  | zero => exact h
  | succ k ih =>
    have ih := ih (Nat.le_of_succ_le hk)
    have hk' := trips3 t
    let kk : Fin (k0_t3_loop (grid0.coords t)).trips := ⟨k, hk⟩
    have hkm : p.kc ≤ t.val % 11 + 1 + k := by omega
    have o0 := off13 t kk
    have o1 := off15 t kk
    have w0 := off14 t kk
    have w1 := off16 t kk
    have hP0 := headP_plain p (a := 0) (k0_off13_inb (grid0.coords t) kk hc) (k0_off14_inb (grid0.coords t) kk hc) o0 w0 (by omega) (by show p.kc < t.val % 11 + 1 + k; omega) hk0 hc0 e2 e7
    have hP1 := headP_plain p (a := 1) (k0_off15_inb (grid0.coords t) kk hc) (k0_off16_inb (grid0.coords t) kk hc) o1 w1 (by omega) (by show p.kc < t.val % 11 + 1 + k; omega) hk1 hc1 e2 e7
    have main := inv_step p _ _ _ _ o0 o1 w0 w1 hkm hP0 hP1 hk0 hk1 hv0 hv1 e2 e5 e14
      (blk2_re (k0_off13_inb (grid0.coords t) kk hc) o0 ih.q) (blk2_re (k0_off15_inb (grid0.coords t) kk hc) o1 ih.q) (row4_re (k0_off14_inb (grid0.coords t) kk hc) w0 ih.c) (row4_re (k0_off16_inb (grid0.coords t) kk hc) w1 ih.c) ih
    rw [show k + 1 = kk.val + 1 from rfl, st_k0_t3_succ]
    show Inv p A C (t.val % 11 + 1 + k + 1) ((trip_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 kk).1 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).1 (M9.view.writes (Elt Ideal) G9 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).2.1) (M13.view.writes (Elt Ideal) G13 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).2.2))
      M9 (M9.view.writes (Elt Ideal) G9 ((trip_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 kk).2.1 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).1 (M9.view.writes (Elt Ideal) G9 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).2.1) (M13.view.writes (Elt Ideal) G13 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).2.2) ++ (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).2.1))
      M13 (M13.view.writes (Elt Ideal) G13 ((trip_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 kk).2.2.1 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).1 (M9.view.writes (Elt Ideal) G9 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).2.1) (M13.view.writes (Elt Ideal) G13 (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).2.2) ++ (st_k0_t3 (F := Ideal) Variants.none c none (grid0.coords t) M2 h2 M3 h3 M4 h4 M5 h5 M6 h6 M7 h7 M8 h8 M9 h9 M10 h10 M11 h11 M12 h12 M13 h13 M14 h14 v4 v6 v8 v10 v14 v18 hc (Scalar.addi (BitVec.ofNat 32 ((grid0.coords t) 1).val) 1#32) X2 X5 X7 X14 G9 G13 init kk.val).2.2))
    rw [trip3_car, trip3_q, trip3_c]
    exact main
end

end Cert.Proof.AttnIdeal
-- ==== Proof.Point.lean ====
module

public import proofs.«01_k».proof.Proof.Step
public import proofs.«01_k».proof.Proof.Body

@[expose] public section

set_option maxRecDepth 16384

noncomputable section

namespace Cert.Proof.AttnIdeal

open Cert.KernelIdeal Cert.KernelIdeal.Gen
open Idealize.ShloMosaic

variable {F : FTy → Type} [FloatOps F] [Named F]

attribute [local irreducible] st_k0_t1 st_k0_t2 st_k0_t3 st_k0_t4 View.writes View.read View.readAt View.canon

/-! ## What the body leaves at a point, spelt out -/

/-- The first head's half of a key window, -/
abbrev half0 (M : Memref sig .tc .vmem S384x256 .bf16) (X : BufTy.Contents (Elt F) M.view.ty) : FVec F S384x128 .bf16 :=
  half (View.readAt (Elt F) M.view (Rect.unit (s := S384x256) ![0, 0] S384x128.size inb_S384x256_S384x128_0_0).toLoadRect X)

/-- the second head's, -/
abbrev half1 (M : Memref sig .tc .vmem S384x256 .bf16) (X : BufTy.Contents (Elt F) M.view.ty) : FVec F S384x128 .bf16 :=
  half (View.readAt (Elt F) M.view (Rect.unit (s := S384x256) ![0, 128] S384x128.size inb_S384x256_S384x128_0_128).toLoadRect X)

/-- the key offsets of the first head -/
abbrev offs0 (M : Memref sig .tc .vmem S2x384x1 .f32) (X : BufTy.Contents (Elt F) M.view.ty) : FVec F S384x384 .f32 :=
  offs (View.readAt (Elt F) M.view (Rect.unit (s := S2x384x1) ![0, 0, 0] S1x384x1.size inb_S2x384x1_S1x384x1_0_0_0).toLoadRect X)

/-- and of the second. -/
abbrev offs1 (M : Memref sig .tc .vmem S2x384x1 .f32) (X : BufTy.Contents (Elt F) M.view.ty) : FVec F S384x384 .f32 :=
  offs (View.readAt (Elt F) M.view (Rect.unit (s := S2x384x1) ![1, 0, 0] S1x384x1.size inb_S2x384x1_S1x384x1_1_0_0).toLoadRect X)

/-- The sums a point starts from. -/
abbrev zeroT : FVec F S384x128 .f32 := broadcast S384x128 (FloatOps.ofBits .f32 0x00000000#32)

/-- A query block's row products of the outputs and their cotangents. -/
abbrev deltaB (dob : Vec F S384x128 .f32) (ob : Vec F S384x128 .bf16) : Vec F S1x1x1x384 .f32 :=
  shapeCast S1x1x1x384 (extractStridedSlice S1x384 ![0, 0] (matmul dot_S8x128_S384x128_S8x384_1_1_0_0_n_n (some .fp32) (broadcast S8x128 (FloatOps.ofBits .f32 0x3F800000#32))
    (mulf (extf .f32 (truncf .bf16 dob bitsLt_bf16_f32) bitsLt_bf16_f32) (extf .f32 (shapeCast S384x128 ob shapeCasts_S384x128_S384x128) bitsLt_bf16_f32)) (constant S8x384 .f32 0x00000000#32))
    slices_S8x384_o0_0_S1x384) shapeCasts_S1x384_S1x1x1x384

/-- The pieces of the row products, one per head and query block. -/
abbrev deltas (M5 : Memref sig .tc .vmem S4224x256 .f32) (X5 : BufTy.Contents (Elt F) M5.view.ty) (M6 : Memref sig .tc .vmem S4224x256 .bf16) (X6 : BufTy.Contents (Elt F) M6.view.ty) :
    List (View.Piece (Elt F) S2x11x1x384 .f32) :=
  [⟨Rect.unit (s := S2x11x1x384) ![1, 10, 0, 0] S1x1x1x384.size inb_S2x11x1x384_S1x1x1x384_1_10_0_0, deltaB (blk2 M5 X5 inb_S4224x256_S384x128_3840_128) (blk2 M6 X6 inb_S4224x256_S384x128_3840_128)⟩,
   ⟨Rect.unit (s := S2x11x1x384) ![1, 9, 0, 0] S1x1x1x384.size inb_S2x11x1x384_S1x1x1x384_1_9_0_0, deltaB (blk2 M5 X5 inb_S4224x256_S384x128_3456_128) (blk2 M6 X6 inb_S4224x256_S384x128_3456_128)⟩,
   ⟨Rect.unit (s := S2x11x1x384) ![1, 8, 0, 0] S1x1x1x384.size inb_S2x11x1x384_S1x1x1x384_1_8_0_0, deltaB (blk2 M5 X5 inb_S4224x256_S384x128_3072_128) (blk2 M6 X6 inb_S4224x256_S384x128_3072_128)⟩,
   ⟨Rect.unit (s := S2x11x1x384) ![1, 7, 0, 0] S1x1x1x384.size inb_S2x11x1x384_S1x1x1x384_1_7_0_0, deltaB (blk2 M5 X5 inb_S4224x256_S384x128_2688_128) (blk2 M6 X6 inb_S4224x256_S384x128_2688_128)⟩,
   ⟨Rect.unit (s := S2x11x1x384) ![1, 6, 0, 0] S1x1x1x384.size inb_S2x11x1x384_S1x1x1x384_1_6_0_0, deltaB (blk2 M5 X5 inb_S4224x256_S384x128_2304_128) (blk2 M6 X6 inb_S4224x256_S384x128_2304_128)⟩,
   ⟨Rect.unit (s := S2x11x1x384) ![1, 5, 0, 0] S1x1x1x384.size inb_S2x11x1x384_S1x1x1x384_1_5_0_0, deltaB (blk2 M5 X5 inb_S4224x256_S384x128_1920_128) (blk2 M6 X6 inb_S4224x256_S384x128_1920_128)⟩,
   ⟨Rect.unit (s := S2x11x1x384) ![1, 4, 0, 0] S1x1x1x384.size inb_S2x11x1x384_S1x1x1x384_1_4_0_0, deltaB (blk2 M5 X5 inb_S4224x256_S384x128_1536_128) (blk2 M6 X6 inb_S4224x256_S384x128_1536_128)⟩,
   ⟨Rect.unit (s := S2x11x1x384) ![1, 3, 0, 0] S1x1x1x384.size inb_S2x11x1x384_S1x1x1x384_1_3_0_0, deltaB (blk2 M5 X5 inb_S4224x256_S384x128_1152_128) (blk2 M6 X6 inb_S4224x256_S384x128_1152_128)⟩,
   ⟨Rect.unit (s := S2x11x1x384) ![1, 2, 0, 0] S1x1x1x384.size inb_S2x11x1x384_S1x1x1x384_1_2_0_0, deltaB (blk2 M5 X5 inb_S4224x256_S384x128_768_128) (blk2 M6 X6 inb_S4224x256_S384x128_768_128)⟩,
   ⟨Rect.unit (s := S2x11x1x384) ![1, 1, 0, 0] S1x1x1x384.size inb_S2x11x1x384_S1x1x1x384_1_1_0_0, deltaB (blk2 M5 X5 inb_S4224x256_S384x128_384_128) (blk2 M6 X6 inb_S4224x256_S384x128_384_128)⟩,
   ⟨Rect.unit (s := S2x11x1x384) ![1, 0, 0, 0] S1x1x1x384.size inb_S2x11x1x384_S1x1x1x384_1_0_0_0, deltaB (blk2 M5 X5 inb_S4224x256_S384x128_0_128) (blk2 M6 X6 inb_S4224x256_S384x128_0_128)⟩,
   ⟨Rect.unit (s := S2x11x1x384) ![0, 10, 0, 0] S1x1x1x384.size inb_S2x11x1x384_S1x1x1x384_0_10_0_0, deltaB (blk2 M5 X5 inb_S4224x256_S384x128_3840_0) (blk2 M6 X6 inb_S4224x256_S384x128_3840_0)⟩,
   ⟨Rect.unit (s := S2x11x1x384) ![0, 9, 0, 0] S1x1x1x384.size inb_S2x11x1x384_S1x1x1x384_0_9_0_0, deltaB (blk2 M5 X5 inb_S4224x256_S384x128_3456_0) (blk2 M6 X6 inb_S4224x256_S384x128_3456_0)⟩,
   ⟨Rect.unit (s := S2x11x1x384) ![0, 8, 0, 0] S1x1x1x384.size inb_S2x11x1x384_S1x1x1x384_0_8_0_0, deltaB (blk2 M5 X5 inb_S4224x256_S384x128_3072_0) (blk2 M6 X6 inb_S4224x256_S384x128_3072_0)⟩,
   ⟨Rect.unit (s := S2x11x1x384) ![0, 7, 0, 0] S1x1x1x384.size inb_S2x11x1x384_S1x1x1x384_0_7_0_0, deltaB (blk2 M5 X5 inb_S4224x256_S384x128_2688_0) (blk2 M6 X6 inb_S4224x256_S384x128_2688_0)⟩,
   ⟨Rect.unit (s := S2x11x1x384) ![0, 6, 0, 0] S1x1x1x384.size inb_S2x11x1x384_S1x1x1x384_0_6_0_0, deltaB (blk2 M5 X5 inb_S4224x256_S384x128_2304_0) (blk2 M6 X6 inb_S4224x256_S384x128_2304_0)⟩,
   ⟨Rect.unit (s := S2x11x1x384) ![0, 5, 0, 0] S1x1x1x384.size inb_S2x11x1x384_S1x1x1x384_0_5_0_0, deltaB (blk2 M5 X5 inb_S4224x256_S384x128_1920_0) (blk2 M6 X6 inb_S4224x256_S384x128_1920_0)⟩,
   ⟨Rect.unit (s := S2x11x1x384) ![0, 4, 0, 0] S1x1x1x384.size inb_S2x11x1x384_S1x1x1x384_0_4_0_0, deltaB (blk2 M5 X5 inb_S4224x256_S384x128_1536_0) (blk2 M6 X6 inb_S4224x256_S384x128_1536_0)⟩,
   ⟨Rect.unit (s := S2x11x1x384) ![0, 3, 0, 0] S1x1x1x384.size inb_S2x11x1x384_S1x1x1x384_0_3_0_0, deltaB (blk2 M5 X5 inb_S4224x256_S384x128_1152_0) (blk2 M6 X6 inb_S4224x256_S384x128_1152_0)⟩,
   ⟨Rect.unit (s := S2x11x1x384) ![0, 2, 0, 0] S1x1x1x384.size inb_S2x11x1x384_S1x1x1x384_0_2_0_0, deltaB (blk2 M5 X5 inb_S4224x256_S384x128_768_0) (blk2 M6 X6 inb_S4224x256_S384x128_768_0)⟩,
   ⟨Rect.unit (s := S2x11x1x384) ![0, 1, 0, 0] S1x1x1x384.size inb_S2x11x1x384_S1x1x1x384_0_1_0_0, deltaB (blk2 M5 X5 inb_S4224x256_S384x128_384_0) (blk2 M6 X6 inb_S4224x256_S384x128_384_0)⟩,
   ⟨Rect.unit (s := S2x11x1x384) ![0, 0, 0, 0] S1x1x1x384.size inb_S2x11x1x384_S1x1x1x384_0_0_0_0, deltaB (blk2 M5 X5 inb_S4224x256_S384x128_0_0) (blk2 M6 X6 inb_S4224x256_S384x128_0_0)⟩]

section
variable (c : Dev nD) (i : grid0.Coords) (M2 : Memref sig .tc .vmem S4224x256 .bf16) (h2 : M2.IsWhole) (M3 : Memref sig .tc .vmem S384x256 .bf16) (h3 : M3.IsWhole) (M4 : Memref sig .tc .vmem S384x256 .bf16) (h4 : M4.IsWhole) (M5 : Memref sig .tc .vmem S4224x256 .f32) (h5 : M5.IsWhole) (M6 : Memref sig .tc .vmem S4224x256 .bf16) (h6 : M6.IsWhole) (M7 : Memref sig .tc .vmem S2x11x1x384 .f32) (h7 : M7.IsWhole) (M8 : Memref sig .tc .vmem S2x384x1 .f32) (h8 : M8.IsWhole) (M9 : Memref sig .tc .vmem S4224x256 .f32) (h9 : M9.IsWhole) (M10 : Memref sig .tc .vmem S384x256 .f32) (h10 : M10.IsWhole) (M11 : Memref sig .tc .vmem S384x256 .f32) (h11 : M11.IsWhole) (M12 : Memref sig .tc .vmem S2x384x1 .f32) (h12 : M12.IsWhole) (M13 : Memref sig .tc .vmem S2x11x1x384 .f32) (h13 : M13.IsWhole) (M14 : Memref sig .tc .vmem S2x11x1x384 .f32) (h14 : M14.IsWhole)

set_option maxHeartbeats 2000000 in
/-- A later key block: the body goes through the query blocks from the accumulators found. -/
theorem eqLater (hc1 : ¬ cond1 i = 1#1) (hc2 : ¬ k0_cond2 i = 1#1) (x2 : Vec F S4224x256 .bf16) (x3 : Vec F S384x256 .bf16) (x4 : Vec F S384x256 .bf16) (x5 : Vec F S4224x256 .f32) (x6 : Vec F S4224x256 .bf16) (x7 : Vec F S2x11x1x384 .f32) (x8 : Vec F S2x384x1 .f32) (x9 : Vec F S4224x256 .f32) (x13 : Vec F S2x11x1x384 .f32) (x14 : Vec F S2x11x1x384 .f32) (ht : (k0_t4_loop i).trips = 0) :
    let X2 := h2.unread x2
    let X5 := h5.unread x5
    let X7 := h7.unread x7
    let X14 : BufTy.Contents (Elt F) M14.view.ty := h14.unread x14
    let k0 : FVec F S384x128 .bf16 := half0 M3 (h3.unread x3)
    let k1 : FVec F S384x128 .bf16 := half1 M3 (h3.unread x3)
    let v0 : FVec F S384x128 .bf16 := half0 M4 (h4.unread x4)
    let v1 : FVec F S384x128 .bf16 := half1 M4 (h4.unread x4)
    let c0 : FVec F S384x384 .f32 := offs0 M8 (h8.unread x8)
    let c1 : FVec F S384x384 .f32 := offs1 M8 (h8.unread x8)
    let mk : FVec F S384x384 .f32 → FVec F S384x384 .f32 := maskB (rowsOf (BitVec.ofNat 32 (i 1).val)) (BitVec.ofNat 32 (i 1).val)
    let P0 : FVec F S384x384 .f32 := headP M2 M7 X2 X7 (k0_off1_inb i) (k0_off2_inb i) mk k0 c0
    let P1 : FVec F S384x384 .f32 := headP M2 M7 X2 X7 (k0_off3_inb i) (k0_off4_inb i) mk k1 c1
    let S0 : FVec F S384x384 .f32 := headS M5 M14 X5 X14 (k0_off1_inb i) (k0_off2_inb i) P0 v0
    let S1 : FVec F S384x384 .f32 := headS M5 M14 X5 X14 (k0_off3_inb i) (k0_off4_inb i) P1 v1
    let acc : Car F := stepCar (zeroT, zeroT, zeroT, zeroT, zeroT, zeroT) P0 P1 S0 S1 (blk2 M2 X2 (k0_off1_inb i)) (blk2 M2 X2 (k0_off3_inb i)) (blk2 M5 X5 (k0_off1_inb i)) (blk2 M5 X5 (k0_off3_inb i))
    let L9 : List (View.Piece (Elt F) S4224x256 .f32) := [pieceQ (k0_off3_inb i) (blk2 M9 (h9.unread x9) (k0_off3_inb i)) S1 k1, pieceQ (k0_off1_inb i) (blk2 M9 (h9.unread x9) (k0_off1_inb i)) S0 k0]
    let L13 : List (View.Piece (Elt F) S2x11x1x384 .f32) := [pieceC (k0_off4_inb i) (row4 M13 (h13.unread x13) (k0_off4_inb i)) S1, pieceC (k0_off2_inb i) (row4 M13 (h13.unread x13) (k0_off2_inb i)) S0]
    let st := st_k0_t3 (F := F) Variants.none c none i M2 h2 M3 h3 M4 h4 M5 h5 M6 h6 M7 h7 M8 h8 M9 h9 M10 h10 M11 h11 M12 h12 M13 h13 M14 h14 k0 k1 v0 v1 c0 c1 hc2 (Scalar.addi (BitVec.ofNat 32 (i 1).val) 1#32) X2 X5 X7 X14 (M9.view.writes (Elt F) (h9.unread x9) L9) (M13.view.writes (Elt F) (h13.unread x13) L13) acc (k0_t3_loop i).trips
    (runLater (F := F) c i hc1 hc2 M2 h2 M3 h3 M4 h4 M5 h5 M6 h6 M7 h7 M8 h8 M9 h9 M10 h10 M11 h11 M12 h12 M13 h13 M14 h14 x2 x3 x4 x5 x6 x7 x8 x9 x13 x14).1 = View.read (Elt F) M9.view (M9.view.writes (Elt F) (h9.unread x9) (st.2.1 ++ L9))
      ∧ (runLater (F := F) c i hc1 hc2 M2 h2 M3 h3 M4 h4 M5 h5 M6 h6 M7 h7 M8 h8 M9 h9 M10 h10 M11 h11 M12 h12 M13 h13 M14 h14 x2 x3 x4 x5 x6 x7 x8 x9 x13 x14).2.1 = View.canon [⟨Rect.unit (s := S384x256) ![0, 128] S384x128.size inb_S384x256_S384x128_0_128, st.1.2.2.2.1⟩, ⟨Rect.unit (s := S384x256) ![0, 0] S384x128.size inb_S384x256_S384x128_0_0, st.1.1⟩]
      ∧ (runLater (F := F) c i hc1 hc2 M2 h2 M3 h3 M4 h4 M5 h5 M6 h6 M7 h7 M8 h8 M9 h9 M10 h10 M11 h11 M12 h12 M13 h13 M14 h14 x2 x3 x4 x5 x6 x7 x8 x9 x13 x14).2.2.1 = View.canon [⟨Rect.unit (s := S384x256) ![0, 128] S384x128.size inb_S384x256_S384x128_0_128, st.1.2.2.2.2.1⟩, ⟨Rect.unit (s := S384x256) ![0, 0] S384x128.size inb_S384x256_S384x128_0_0, st.1.2.1⟩]
      ∧ (runLater (F := F) c i hc1 hc2 M2 h2 M3 h3 M4 h4 M5 h5 M6 h6 M7 h7 M8 h8 M9 h9 M10 h10 M11 h11 M12 h12 M13 h13 M14 h14 x2 x3 x4 x5 x6 x7 x8 x9 x13 x14).2.2.2.1 = View.canon [⟨Rect.unit (s := S2x384x1) ![1, 0, 0] S1x384x1.size inb_S2x384x1_S1x384x1_1_0_0, k0_pay10 st.1.2.2.2.2.2⟩, ⟨Rect.unit (s := S2x384x1) ![0, 0, 0] S1x384x1.size inb_S2x384x1_S1x384x1_0_0_0, k0_pay9 st.1.2.2.1⟩]
      ∧ (runLater (F := F) c i hc1 hc2 M2 h2 M3 h3 M4 h4 M5 h5 M6 h6 M7 h7 M8 h8 M9 h9 M10 h10 M11 h11 M12 h12 M13 h13 M14 h14 x2 x3 x4 x5 x6 x7 x8 x9 x13 x14).2.2.2.2.1 = View.read (Elt F) M13.view (M13.view.writes (Elt F) (h13.unread x13) (st.2.2 ++ L13))
      ∧ (runLater (F := F) c i hc1 hc2 M2 h2 M3 h3 M4 h4 M5 h5 M6 h6 M7 h7 M8 h8 M9 h9 M10 h10 M11 h11 M12 h12 M13 h13 M14 h14 x2 x3 x4 x5 x6 x7 x8 x9 x13 x14).2.2.2.2.2.1 = View.read (Elt F) M14.view X14 := by
  intro X2 X5 X7 X14 k0 k1 v0 v1 c0 c1 mk P0 P1 S0 S1 acc L9 L13 st
  have h0 : (st_k0_t4 (F := F) Variants.none c none i M2 h2 M3 h3 M4 h4 M5 h5 M6 h6 M7 h7 M8 h8 M9 h9 M10 h10 M11 h11 M12 h12 M13 h13 M14 h14 k0 k1 v0 v1 c0 c1 hc2 (Scalar.addi (Scalar.addi (BitVec.ofNat 32 (i 1).val) 1#32) (Scalar.muli (Scalar.divsi (Scalar.subi 11#32 (Scalar.addi (BitVec.ofNat 32 (i 1).val) 1#32)) 1#32) 1#32)) X2 X5 X7 X14 (M9.view.writes (Elt F) (h9.unread x9) (st.2.1 ++ L9)) (M13.view.writes (Elt F) (h13.unread x13) (st.2.2 ++ L13)) st.1 (k0_t4_loop i).trips) = (st.1, [], []) := by
    rw [ht, st_k0_t4.eq_1]
  unfold runLater
  exact ⟨(congrArg (fun s : Car F × List (View.Piece (Elt F) S4224x256 .f32) × List (View.Piece (Elt F) S2x11x1x384 .f32) => View.read (Elt F) M9.view (M9.view.writes (Elt F) (h9.unread x9) (s.2.1 ++ (st.2.1 ++ L9)))) h0 : _),
    (congrArg (fun s : Car F × List (View.Piece (Elt F) S4224x256 .f32) × List (View.Piece (Elt F) S2x11x1x384 .f32) => (View.canon [⟨Rect.unit (s := S384x256) ![0, 128] S384x128.size inb_S384x256_S384x128_0_128, s.1.2.2.2.1⟩, ⟨Rect.unit (s := S384x256) ![0, 0] S384x128.size inb_S384x256_S384x128_0_0, s.1.1⟩] : Vec F S384x256 .f32)) h0 : _),
    (congrArg (fun s : Car F × List (View.Piece (Elt F) S4224x256 .f32) × List (View.Piece (Elt F) S2x11x1x384 .f32) => (View.canon [⟨Rect.unit (s := S384x256) ![0, 128] S384x128.size inb_S384x256_S384x128_0_128, s.1.2.2.2.2.1⟩, ⟨Rect.unit (s := S384x256) ![0, 0] S384x128.size inb_S384x256_S384x128_0_0, s.1.2.1⟩] : Vec F S384x256 .f32)) h0 : _),
    (congrArg (fun s : Car F × List (View.Piece (Elt F) S4224x256 .f32) × List (View.Piece (Elt F) S2x11x1x384 .f32) => (View.canon [⟨Rect.unit (s := S2x384x1) ![1, 0, 0] S1x384x1.size inb_S2x384x1_S1x384x1_1_0_0, k0_pay10 s.1.2.2.2.2.2⟩, ⟨Rect.unit (s := S2x384x1) ![0, 0, 0] S1x384x1.size inb_S2x384x1_S1x384x1_0_0_0, k0_pay9 s.1.2.2.1⟩] : Vec F S2x384x1 .f32)) h0 : _),
    (congrArg (fun s : Car F × List (View.Piece (Elt F) S4224x256 .f32) × List (View.Piece (Elt F) S2x11x1x384 .f32) => View.read (Elt F) M13.view (M13.view.writes (Elt F) (h13.unread x13) (s.2.2 ++ (st.2.2 ++ L13)))) h0 : _),
    rfl⟩

set_option maxHeartbeats 2000000 in
/-- Key block 0: the body clears the accumulators, fills the row products, and goes through the query blocks. -/
theorem eqFirst (hc1 : cond1 i = 1#1) (hc2 : k0_cond2 i = 1#1) (x2 : Vec F S4224x256 .bf16) (x3 : Vec F S384x256 .bf16) (x4 : Vec F S384x256 .bf16) (x5 : Vec F S4224x256 .f32) (x6 : Vec F S4224x256 .bf16) (x7 : Vec F S2x11x1x384 .f32) (x8 : Vec F S2x384x1 .f32) (ht : (k0_t2_loop i).trips = 0) :
    let X2 := h2.unread x2
    let X5 := h5.unread x5
    let X7 := h7.unread x7
    let X14 : BufTy.Contents (Elt F) M14.view.ty := M14.view.writes (Elt F) M14.view.junk (deltas M5 (h5.unread x5) M6 (h6.unread x6))
    let k0 : FVec F S384x128 .bf16 := half0 M3 (h3.unread x3)
    let k1 : FVec F S384x128 .bf16 := half1 M3 (h3.unread x3)
    let v0 : FVec F S384x128 .bf16 := half0 M4 (h4.unread x4)
    let v1 : FVec F S384x128 .bf16 := half1 M4 (h4.unread x4)
    let c0 : FVec F S384x384 .f32 := offs0 M8 (h8.unread x8)
    let c1 : FVec F S384x384 .f32 := offs1 M8 (h8.unread x8)
    let mk : FVec F S384x384 .f32 → FVec F S384x384 .f32 := maskB (rowsOf (BitVec.ofNat 32 (i 1).val)) (BitVec.ofNat 32 (i 1).val)
    let P0 : FVec F S384x384 .f32 := headP M2 M7 X2 X7 (k0_off1_inb i) (k0_off2_inb i) mk k0 c0
    let P1 : FVec F S384x384 .f32 := headP M2 M7 X2 X7 (k0_off3_inb i) (k0_off4_inb i) mk k1 c1
    let S0 : FVec F S384x384 .f32 := headS M5 M14 X5 X14 (k0_off1_inb i) (k0_off2_inb i) P0 v0
    let S1 : FVec F S384x384 .f32 := headS M5 M14 X5 X14 (k0_off3_inb i) (k0_off4_inb i) P1 v1
    let acc : Car F := stepCar (zeroT, zeroT, zeroT, zeroT, zeroT, zeroT) P0 P1 S0 S1 (blk2 M2 X2 (k0_off1_inb i)) (blk2 M2 X2 (k0_off3_inb i)) (blk2 M5 X5 (k0_off1_inb i)) (blk2 M5 X5 (k0_off3_inb i))
    let Z9 : List (View.Piece (Elt F) S4224x256 .f32) := [⟨Rect.unit (s := S4224x256) ![0, 0] S4224x256.size inb_S4224x256_S4224x256_0_0, broadcast S4224x256 (FloatOps.ofBits .f32 0x00000000#32)⟩]
    let Z13 : List (View.Piece (Elt F) S2x11x1x384 .f32) := [⟨Rect.unit (s := S2x11x1x384) ![0, 0, 0, 0] S2x11x1x384.size inb_S2x11x1x384_S2x11x1x384_0_0_0_0, broadcast S2x11x1x384 (FloatOps.ofBits .f32 0x00000000#32)⟩]
    let A9 : List (View.Piece (Elt F) S4224x256 .f32) := pieceQ (k0_off1_inb i) (blk2 M9 (M9.view.writes (Elt F) M9.view.junk Z9) (k0_off1_inb i)) S0 k0 :: Z9
    let A13 : List (View.Piece (Elt F) S2x11x1x384 .f32) := pieceC (k0_off2_inb i) (row4 M13 (M13.view.writes (Elt F) M13.view.junk Z13) (k0_off2_inb i)) S0 :: Z13
    let L9 : List (View.Piece (Elt F) S4224x256 .f32) := pieceQ (k0_off3_inb i) (blk2 M9 (M9.view.writes (Elt F) M9.view.junk A9) (k0_off3_inb i)) S1 k1 :: A9
    let L13 : List (View.Piece (Elt F) S2x11x1x384 .f32) := pieceC (k0_off4_inb i) (row4 M13 (M13.view.writes (Elt F) M13.view.junk A13) (k0_off4_inb i)) S1 :: A13
    let st := st_k0_t1 (F := F) Variants.none c none i M2 h2 M3 h3 M4 h4 M5 h5 M6 h6 M7 h7 M8 h8 M9 h9 M10 h10 M11 h11 M12 h12 M13 h13 M14 h14 k0 k1 v0 v1 c0 c1 (rowsOf (BitVec.ofNat 32 (i 1).val)) hc2 (Scalar.addi (BitVec.ofNat 32 (i 1).val) 1#32) X2 X5 X7 X14 (M9.view.writes (Elt F) M9.view.junk L9) (M13.view.writes (Elt F) M13.view.junk L13) acc (k0_t1_loop i).trips
    (runFirst (F := F) c i hc1 hc2 M2 h2 M3 h3 M4 h4 M5 h5 M6 h6 M7 h7 M8 h8 M9 h9 M10 h10 M11 h11 M12 h12 M13 h13 M14 h14 x2 x3 x4 x5 x6 x7 x8).1 = View.read (Elt F) M9.view (M9.view.writes (Elt F) M9.view.junk (st.2.1 ++ L9))
      ∧ (runFirst (F := F) c i hc1 hc2 M2 h2 M3 h3 M4 h4 M5 h5 M6 h6 M7 h7 M8 h8 M9 h9 M10 h10 M11 h11 M12 h12 M13 h13 M14 h14 x2 x3 x4 x5 x6 x7 x8).2.1 = View.canon [⟨Rect.unit (s := S384x256) ![0, 128] S384x128.size inb_S384x256_S384x128_0_128, st.1.2.2.2.1⟩, ⟨Rect.unit (s := S384x256) ![0, 0] S384x128.size inb_S384x256_S384x128_0_0, st.1.1⟩]
      ∧ (runFirst (F := F) c i hc1 hc2 M2 h2 M3 h3 M4 h4 M5 h5 M6 h6 M7 h7 M8 h8 M9 h9 M10 h10 M11 h11 M12 h12 M13 h13 M14 h14 x2 x3 x4 x5 x6 x7 x8).2.2.1 = View.canon [⟨Rect.unit (s := S384x256) ![0, 128] S384x128.size inb_S384x256_S384x128_0_128, st.1.2.2.2.2.1⟩, ⟨Rect.unit (s := S384x256) ![0, 0] S384x128.size inb_S384x256_S384x128_0_0, st.1.2.1⟩]
      ∧ (runFirst (F := F) c i hc1 hc2 M2 h2 M3 h3 M4 h4 M5 h5 M6 h6 M7 h7 M8 h8 M9 h9 M10 h10 M11 h11 M12 h12 M13 h13 M14 h14 x2 x3 x4 x5 x6 x7 x8).2.2.2.1 = View.canon [⟨Rect.unit (s := S2x384x1) ![1, 0, 0] S1x384x1.size inb_S2x384x1_S1x384x1_1_0_0, k0_pay10 st.1.2.2.2.2.2⟩, ⟨Rect.unit (s := S2x384x1) ![0, 0, 0] S1x384x1.size inb_S2x384x1_S1x384x1_0_0_0, k0_pay9 st.1.2.2.1⟩]
      ∧ (runFirst (F := F) c i hc1 hc2 M2 h2 M3 h3 M4 h4 M5 h5 M6 h6 M7 h7 M8 h8 M9 h9 M10 h10 M11 h11 M12 h12 M13 h13 M14 h14 x2 x3 x4 x5 x6 x7 x8).2.2.2.2.1 = View.read (Elt F) M13.view (M13.view.writes (Elt F) M13.view.junk (st.2.2 ++ L13))
      ∧ (runFirst (F := F) c i hc1 hc2 M2 h2 M3 h3 M4 h4 M5 h5 M6 h6 M7 h7 M8 h8 M9 h9 M10 h10 M11 h11 M12 h12 M13 h13 M14 h14 x2 x3 x4 x5 x6 x7 x8).2.2.2.2.2.1 = View.read (Elt F) M14.view X14 := by
  intro X2 X5 X7 X14 k0 k1 v0 v1 c0 c1 mk P0 P1 S0 S1 acc Z9 Z13 A9 A13 L9 L13 st
  have h0 : (st_k0_t2 (F := F) Variants.none c none i M2 h2 M3 h3 M4 h4 M5 h5 M6 h6 M7 h7 M8 h8 M9 h9 M10 h10 M11 h11 M12 h12 M13 h13 M14 h14 k0 k1 v0 v1 c0 c1 (rowsOf (BitVec.ofNat 32 (i 1).val)) hc2 (Scalar.addi (Scalar.addi (BitVec.ofNat 32 (i 1).val) 1#32) (Scalar.muli (Scalar.divsi (Scalar.subi 11#32 (Scalar.addi (BitVec.ofNat 32 (i 1).val) 1#32)) 1#32) 1#32)) X2 X5 X7 X14 (M9.view.writes (Elt F) M9.view.junk (st.2.1 ++ L9)) (M13.view.writes (Elt F) M13.view.junk (st.2.2 ++ L13)) st.1 (k0_t2_loop i).trips) = (st.1, [], []) := by
    rw [ht, st_k0_t2.eq_1]
  unfold runFirst
  exact ⟨(congrArg (fun s : Car F × List (View.Piece (Elt F) S4224x256 .f32) × List (View.Piece (Elt F) S2x11x1x384 .f32) => View.read (Elt F) M9.view (M9.view.writes (Elt F) M9.view.junk (s.2.1 ++ (st.2.1 ++ L9)))) h0 : _),
    (congrArg (fun s : Car F × List (View.Piece (Elt F) S4224x256 .f32) × List (View.Piece (Elt F) S2x11x1x384 .f32) => (View.canon [⟨Rect.unit (s := S384x256) ![0, 128] S384x128.size inb_S384x256_S384x128_0_128, s.1.2.2.2.1⟩, ⟨Rect.unit (s := S384x256) ![0, 0] S384x128.size inb_S384x256_S384x128_0_0, s.1.1⟩] : Vec F S384x256 .f32)) h0 : _),
    (congrArg (fun s : Car F × List (View.Piece (Elt F) S4224x256 .f32) × List (View.Piece (Elt F) S2x11x1x384 .f32) => (View.canon [⟨Rect.unit (s := S384x256) ![0, 128] S384x128.size inb_S384x256_S384x128_0_128, s.1.2.2.2.2.1⟩, ⟨Rect.unit (s := S384x256) ![0, 0] S384x128.size inb_S384x256_S384x128_0_0, s.1.2.1⟩] : Vec F S384x256 .f32)) h0 : _),
    (congrArg (fun s : Car F × List (View.Piece (Elt F) S4224x256 .f32) × List (View.Piece (Elt F) S2x11x1x384 .f32) => (View.canon [⟨Rect.unit (s := S2x384x1) ![1, 0, 0] S1x384x1.size inb_S2x384x1_S1x384x1_1_0_0, k0_pay10 s.1.2.2.2.2.2⟩, ⟨Rect.unit (s := S2x384x1) ![0, 0, 0] S1x384x1.size inb_S2x384x1_S1x384x1_0_0_0, k0_pay9 s.1.2.2.1⟩] : Vec F S2x384x1 .f32)) h0 : _),
    (congrArg (fun s : Car F × List (View.Piece (Elt F) S4224x256 .f32) × List (View.Piece (Elt F) S2x11x1x384 .f32) => View.read (Elt F) M13.view (M13.view.writes (Elt F) M13.view.junk (s.2.2 ++ (st.2.2 ++ L13)))) h0 : _),
    rfl⟩

end

end Cert.Proof.AttnIdeal
-- ==== Proof.Reads.lean ====
module

public import proofs.«01_k».proof.Proof.Loop
public import proofs.«01_k».proof.Proof.Point

@[expose] public section

set_option maxRecDepth 16384

noncomputable section

namespace Cert.Proof.AttnIdeal

open Cert.KernelIdeal Cert.KernelIdeal.Gen
open Idealize.ShloMosaic
open Finset (range Ico)

/-! ## What a point reads first, and the tiles it leaves -/

theorem half0_re {M : Memref sig .tc .vmem S384x256 .bf16} {X : BufTy.Contents (Elt Ideal) M.view.ty} {f : ℕ → ℕ → ℝ}
    (h : Re2 (a := 384) (b := 256) (View.read (Elt Ideal) M.view X) f) : Re2 (half0 (F := Ideal) M X) (fun r d => f r (128 * 0 + d)) :=
  re2_half (φ := .bf16) fun y => by
    rw [show View.readAt (Elt Ideal) M.view (Rect.unit (s := S384x256) ![0, 0] S384x128.size inb_S384x256_S384x128_0_0).toLoadRect X y
      = View.read (Elt Ideal) M.view X ((Rect.unit (s := S384x256) ![0, 0] S384x128.size inb_S384x256_S384x128_0_0).emb y) from rfl, h]
    have e0 : (((Rect.unit (s := S384x256) ![0, 0] S384x128.size inb_S384x256_S384x128_0_0).emb y) 0).val = (y 0).val := by
      show 0 + 1 * (y 0).val = _; omega
    have e1 : (((Rect.unit (s := S384x256) ![0, 0] S384x128.size inb_S384x256_S384x128_0_0).emb y) 1).val = 128 * 0 + (y 1).val := by
      show 0 + 1 * (y 1).val = _; omega
    rw [e0, e1]

theorem half1_re {M : Memref sig .tc .vmem S384x256 .bf16} {X : BufTy.Contents (Elt Ideal) M.view.ty} {f : ℕ → ℕ → ℝ}
    (h : Re2 (a := 384) (b := 256) (View.read (Elt Ideal) M.view X) f) : Re2 (half1 (F := Ideal) M X) (fun r d => f r (128 * 1 + d)) :=
  re2_half (φ := .bf16) fun y => by
    rw [show View.readAt (Elt Ideal) M.view (Rect.unit (s := S384x256) ![0, 128] S384x128.size inb_S384x256_S384x128_0_128).toLoadRect X y
      = View.read (Elt Ideal) M.view X ((Rect.unit (s := S384x256) ![0, 128] S384x128.size inb_S384x256_S384x128_0_128).emb y) from rfl, h]
    have e0 : (((Rect.unit (s := S384x256) ![0, 128] S384x128.size inb_S384x256_S384x128_0_128).emb y) 0).val = (y 0).val := by
      show 0 + 1 * (y 0).val = _; omega
    have e1 : (((Rect.unit (s := S384x256) ![0, 128] S384x128.size inb_S384x256_S384x128_0_128).emb y) 1).val = 128 * 1 + (y 1).val := by
      show 128 + 1 * (y 1).val = _; omega
    rw [e0, e1]

theorem offs0_re {M : Memref sig .tc .vmem S2x384x1 .f32} {X : BufTy.Contents (Elt Ideal) M.view.ty} {f : ℕ → ℕ → ℝ}
    (h : Re3 (a := 2) (b := 384) (View.read (Elt Ideal) M.view X) f) : Re2 (offs0 (F := Ideal) M X) (fun r _ => f 0 r) :=
  re2_offs (f := fun r => f 0 r) fun y => by
    have h0 : (y 0).val < 1 := (y 0).isLt
    rw [show View.readAt (Elt Ideal) M.view (Rect.unit (s := S2x384x1) ![0, 0, 0] S1x384x1.size inb_S2x384x1_S1x384x1_0_0_0).toLoadRect X y
      = View.read (Elt Ideal) M.view X ((Rect.unit (s := S2x384x1) ![0, 0, 0] S1x384x1.size inb_S2x384x1_S1x384x1_0_0_0).emb y) from rfl, h]
    have e0 : (((Rect.unit (s := S2x384x1) ![0, 0, 0] S1x384x1.size inb_S2x384x1_S1x384x1_0_0_0).emb y) 0).val = 0 := by
      show 0 + 1 * (y 0).val = _; omega
    have e1 : (((Rect.unit (s := S2x384x1) ![0, 0, 0] S1x384x1.size inb_S2x384x1_S1x384x1_0_0_0).emb y) 1).val = (y 1).val := by
      show 0 + 1 * (y 1).val = _; omega
    rw [e0, e1]

theorem offs1_re {M : Memref sig .tc .vmem S2x384x1 .f32} {X : BufTy.Contents (Elt Ideal) M.view.ty} {f : ℕ → ℕ → ℝ}
    (h : Re3 (a := 2) (b := 384) (View.read (Elt Ideal) M.view X) f) : Re2 (offs1 (F := Ideal) M X) (fun r _ => f 1 r) :=
  re2_offs (f := fun r => f 1 r) fun y => by
    have h0 : (y 0).val < 1 := (y 0).isLt
    rw [show View.readAt (Elt Ideal) M.view (Rect.unit (s := S2x384x1) ![1, 0, 0] S1x384x1.size inb_S2x384x1_S1x384x1_1_0_0).toLoadRect X y
      = View.read (Elt Ideal) M.view X ((Rect.unit (s := S2x384x1) ![1, 0, 0] S1x384x1.size inb_S2x384x1_S1x384x1_1_0_0).emb y) from rfl, h]
    have e0 : (((Rect.unit (s := S2x384x1) ![1, 0, 0] S1x384x1.size inb_S2x384x1_S1x384x1_1_0_0).emb y) 0).val = 1 := by
      show 1 + 1 * (y 0).val = _; omega
    have e1 : (((Rect.unit (s := S2x384x1) ![1, 0, 0] S1x384x1.size inb_S2x384x1_S1x384x1_1_0_0).emb y) 1).val = (y 1).val := by
      show 0 + 1 * (y 1).val = _; omega
    rw [e0, e1]

theorem zeroT_re (y : S384x128.Idx) : zeroT (F := Ideal) y = ((0 : ℝ) : EReal) := zero_word

/-- Two tiles of 128 columns side by side. -/
theorem tiles_re {p0 p1 : Vec Ideal S384x128 .f32} {f : ℕ → ℕ → ℝ} (h0 : Re2 (a := 384) (b := 128) p0 (fun r d => f r (128 * 0 + d))) (h1 : Re2 (a := 384) (b := 128) p1 (fun r d => f r (128 * 1 + d))) :
    Re2 (a := 384) (b := 256) (View.canon [⟨Rect.unit (s := S384x256) ![0, 128] S384x128.size inb_S384x256_S384x128_0_128, p1⟩, ⟨Rect.unit (s := S384x256) ![0, 0] S384x128.size inb_S384x256_S384x128_0_0, p0⟩] : Vec Ideal S384x256 .f32) f := fun y => by
  refine View.canon_apply_of_pieces (fun y : S384x256.Idx => ((f (y 0).val (y 1).val : ℝ) : EReal)) _ ?_ y (cover_tile p0 p1 y)
  intro pc hpc x
  rcases List.mem_cons.mp hpc with rfl | hpc
  · refine (h1 x).trans ?_
    have e0 : (((Rect.unit (s := S384x256) ![0, 128] S384x128.size inb_S384x256_S384x128_0_128).emb x) 0).val = (x 0).val := by
      show 0 + 1 * (x 0).val = _; omega
    have e1 : (((Rect.unit (s := S384x256) ![0, 128] S384x128.size inb_S384x256_S384x128_0_128).emb x) 1).val = 128 * 1 + (x 1).val := by
      show 128 + 1 * (x 1).val = _; omega
    beta_reduce
    rw [e0, e1]
  · obtain rfl := List.mem_singleton.mp hpc
    refine (h0 x).trans ?_
    have e0 : (((Rect.unit (s := S384x256) ![0, 0] S384x128.size inb_S384x256_S384x128_0_0).emb x) 0).val = (x 0).val := by
      show 0 + 1 * (x 0).val = _; omega
    have e1 : (((Rect.unit (s := S384x256) ![0, 0] S384x128.size inb_S384x256_S384x128_0_0).emb x) 1).val = 128 * 0 + (x 1).val := by
      show 0 + 1 * (x 1).val = _; omega
    beta_reduce
    rw [e0, e1]

theorem pay9_re {g : FVec Ideal S384x128 .f32} {G : ℕ → ℕ → ℝ} (h : Re2 g G) (y : S1x384x1.Idx) :
    k0_pay9 g y = ((∑ l ∈ range 128, G (y 1).val l : ℝ) : EReal) := by
  unfold k0_pay9
  pointwise
  rw [← coe_sum]
  exact Finset.sum_congr rfl fun k _ => h _

theorem pay10_re {g : FVec Ideal S384x128 .f32} {G : ℕ → ℕ → ℝ} (h : Re2 g G) (y : S1x384x1.Idx) :
    k0_pay10 g y = ((∑ l ∈ range 128, G (y 1).val l : ℝ) : EReal) := by
  unfold k0_pay10
  pointwise
  rw [← coe_sum]
  exact Finset.sum_congr rfl fun k _ => h _

/-- The two heads' columns of row sums. -/
theorem cols_re {g0 g1 : FVec Ideal S384x128 .f32} {f : ℕ → ℕ → ℝ} {G0 G1 : ℕ → ℕ → ℝ} (h0 : Re2 g0 G0) (h1 : Re2 g1 G1)
    (e0 : ∀ r, ∑ l ∈ range 128, G0 r l = f 0 r) (e1 : ∀ r, ∑ l ∈ range 128, G1 r l = f 1 r) :
    Re3 (a := 2) (b := 384) (View.canon [⟨Rect.unit (s := S2x384x1) ![1, 0, 0] S1x384x1.size inb_S2x384x1_S1x384x1_1_0_0, k0_pay10 g1⟩, ⟨Rect.unit (s := S2x384x1) ![0, 0, 0] S1x384x1.size inb_S2x384x1_S1x384x1_0_0_0, k0_pay9 g0⟩] : Vec Ideal S2x384x1 .f32) f := fun y => by
  refine View.canon_apply_of_pieces (fun y : S2x384x1.Idx => ((f (y 0).val (y 1).val : ℝ) : EReal)) _ ?_ y (cover_col (k0_pay9 g0) (k0_pay10 g1) y)
  intro pc hpc x
  rcases List.mem_cons.mp hpc with rfl | hpc
  · refine (pay10_re h1 x).trans ?_
    have x0 : (x 0).val < 1 := (x 0).isLt
    have i0 : (((Rect.unit (s := S2x384x1) ![1, 0, 0] S1x384x1.size inb_S2x384x1_S1x384x1_1_0_0).emb x) 0).val = 1 := by
      show 1 + 1 * (x 0).val = _; omega
    have i1 : (((Rect.unit (s := S2x384x1) ![1, 0, 0] S1x384x1.size inb_S2x384x1_S1x384x1_1_0_0).emb x) 1).val = (x 1).val := by
      show 0 + 1 * (x 1).val = _; omega
    beta_reduce
    rw [e1, i0, i1]
  · obtain rfl := List.mem_singleton.mp hpc
    refine (pay9_re h0 x).trans ?_
    have x0 : (x 0).val < 1 := (x 0).isLt
    have i0 : (((Rect.unit (s := S2x384x1) ![0, 0, 0] S1x384x1.size inb_S2x384x1_S1x384x1_0_0_0).emb x) 0).val = 0 := by
      show 0 + 1 * (x 0).val = _; omega
    have i1 : (((Rect.unit (s := S2x384x1) ![0, 0, 0] S1x384x1.size inb_S2x384x1_S1x384x1_0_0_0).emb x) 1).val = (x 1).val := by
      show 0 + 1 * (x 1).val = _; omega
    beta_reduce
    rw [e0, i0, i1]

/-! ## The row products -/

theorem deltaB_re {dob : FVec Ideal S384x128 .f32} {ob : FVec Ideal S384x128 .bf16} {f g : ℕ → ℕ → ℝ} (h : Re2 (a := 384) (b := 128) dob f) (h' : Re2 (a := 384) (b := 128) ob g) (y : S1x1x1x384.Idx) :
    deltaB (F := Ideal) dob ob y = ((∑ d ∈ range 128, f (y 3).val d * g (y 3).val d : ℝ) : EReal) := by
  have main : ∀ mm : FVec Ideal S384x128 .f32, Re2 mm (fun r d => f r d * g r d) →
      shapeCast S1x1x1x384 (extractStridedSlice S1x384 ![0, 0] (matmul dot_S8x128_S384x128_S8x384_1_1_0_0_n_n (some .fp32) (broadcast S8x128 (FloatOps.ofBits (F := Ideal) .f32 0x3F800000#32))
        mm (constant S8x384 .f32 0x00000000#32)) slices_S8x384_o0_0_S1x384) shapeCasts_S1x384_S1x1x1x384 y = ((∑ d ∈ range 128, f (y 3).val d * g (y 3).val d : ℝ) : EReal) := by
    intro mm hm
    pointwise
    rw [← coe_sum]
    refine Finset.sum_congr rfl fun k _ => ?_
    rw [hm]
    rfl
  exact main _ (re2_mulf (re2_extf (re2_truncf h)) (re2_extf (re2_half (φ := .bf16) h')))

end Cert.Proof.AttnIdeal
-- ==== Proof.PointVal.lean ====
module

public import proofs.«01_k».proof.Proof.Reads

@[expose] public section

set_option maxRecDepth 16384

noncomputable section

namespace Cert.Proof.AttnIdeal

open Cert.KernelIdeal Cert.KernelIdeal.Gen
open Idealize.ShloMosaic
open Finset (range Ico)

/-! ## The values a point leaves -/

/-- The blocks a point finds hold the real numbers `p`. -/
structure PtIn (p : Pt) (x2 : Vec Ideal S4224x256 .bf16) (x3 x4 : Vec Ideal S384x256 .bf16) (x5 : Vec Ideal S4224x256 .f32) (x7 : Vec Ideal S2x11x1x384 .f32) (x8 : Vec Ideal S2x384x1 .f32) : Prop where
  q : Re2 (a := 4224) (b := 256) x2 p.Q
  k : Re2 (a := 384) (b := 256) x3 p.K
  v : Re2 (a := 384) (b := 256) x4 p.V
  o : Re2 (a := 4224) (b := 256) x5 p.O
  l : Re4 (a := 2) (b := 11) x7 p.L
  c : Re3 (a := 2) (b := 384) x8 p.C

/-- What the result blocks hold after a point that finds `A` in the queries' cotangent and `C` in the query offsets'. -/
structure PtOut (p : Pt) (A C : ℕ → ℕ → ℝ) (y9 : Vec Ideal S4224x256 .f32) (y10 y11 : Vec Ideal S384x256 .f32) (y12 : Vec Ideal S2x384x1 .f32) (y13 : Vec Ideal S2x11x1x384 .f32) : Prop where
  dq : Re2 (a := 4224) (b := 256) y9 (p.addQ A 11)
  dk : Re2 (a := 384) (b := 256) y10 (fun r j => ∑ n ∈ Ico (384 * p.kc) (384 * 11), p.S (j / 128) r n * p.Q n j)
  dv : Re2 (a := 384) (b := 256) y11 (fun r j => ∑ n ∈ Ico (384 * p.kc) (384 * 11), p.P (j / 128) r n * p.O n j)
  dck : Re3 (a := 2) (b := 384) y12 (fun a r => - ∑ n ∈ Ico (384 * p.kc) (384 * 11), p.S a r n)
  dcq : Re4 (a := 2) (b := 11) y13 (p.addC C 11)

theorem addQ_start (p : Pt) (A : ℕ → ℕ → ℝ) : p.addQ A p.kc = A := by
  funext n j
  unfold Pt.addQ
  rw [if_neg (by omega), add_zero]

theorem addC_start (p : Pt) (A : ℕ → ℕ → ℝ) : p.addC A p.kc = A := by
  funext n j
  unfold Pt.addC
  rw [if_neg (by omega), add_zero]

/-- The results from what holds after the last query block. -/
theorem ptOut_of_inv {p : Pt} {A C : ℕ → ℕ → ℝ} {acc : Car Ideal} {M9 : Memref sig .tc .vmem S4224x256 .f32} {f9 : BufTy.Contents (Elt Ideal) M9.view.ty}
    {M13 : Memref sig .tc .vmem S2x11x1x384 .f32} {f13 : BufTy.Contents (Elt Ideal) M13.view.ty} (h : Inv p A C 11 acc M9 f9 M13 f13)
    {y9 : Vec Ideal S4224x256 .f32} {y10 y11 : Vec Ideal S384x256 .f32} {y12 : Vec Ideal S2x384x1 .f32} {y13 : Vec Ideal S2x11x1x384 .f32}
    (e9 : y9 = View.read (Elt Ideal) M9.view f9)
    (e10 : y10 = View.canon [⟨Rect.unit (s := S384x256) ![0, 128] S384x128.size inb_S384x256_S384x128_0_128, acc.2.2.2.1⟩, ⟨Rect.unit (s := S384x256) ![0, 0] S384x128.size inb_S384x256_S384x128_0_0, acc.1⟩])
    (e11 : y11 = View.canon [⟨Rect.unit (s := S384x256) ![0, 128] S384x128.size inb_S384x256_S384x128_0_128, acc.2.2.2.2.1⟩, ⟨Rect.unit (s := S384x256) ![0, 0] S384x128.size inb_S384x256_S384x128_0_0, acc.2.1⟩])
    (e12 : y12 = View.canon [⟨Rect.unit (s := S2x384x1) ![1, 0, 0] S1x384x1.size inb_S2x384x1_S1x384x1_1_0_0, k0_pay10 acc.2.2.2.2.2⟩, ⟨Rect.unit (s := S2x384x1) ![0, 0, 0] S1x384x1.size inb_S2x384x1_S1x384x1_0_0_0, k0_pay9 acc.2.2.1⟩])
    (e13 : y13 = View.read (Elt Ideal) M13.view f13) : PtOut p A C y9 y10 y11 y12 y13 where
  dq := e9 ▸ h.q
  dk := by
    rw [e10]
    refine tiles_re (re2_congr h.s0.dk fun r _ d hd => ?_) (re2_congr h.s1.dk fun r _ d hd => ?_)
    · rw [show (128 * 0 + d) / 128 = 0 by omega]
    · rw [show (128 * 1 + d) / 128 = 1 by omega]
  dv := by
    rw [e11]
    refine tiles_re (re2_congr h.s0.dv fun r _ d hd => ?_) (re2_congr h.s1.dv fun r _ d hd => ?_)
    · rw [show (128 * 0 + d) / 128 = 0 by omega]
    · rw [show (128 * 1 + d) / 128 = 1 by omega]
  dck := by
    rw [e12]
    obtain ⟨G0, g0, s0⟩ := h.s0.dck
    obtain ⟨G1, g1, s1⟩ := h.s1.dck
    exact cols_re g0 g1 s0 s1
  dcq := e13 ▸ h.c

section
variable (c : Dev nD) (M2 : Memref sig .tc .vmem S4224x256 .bf16) (h2 : M2.IsWhole) (M3 : Memref sig .tc .vmem S384x256 .bf16) (h3 : M3.IsWhole) (M4 : Memref sig .tc .vmem S384x256 .bf16) (h4 : M4.IsWhole) (M5 : Memref sig .tc .vmem S4224x256 .f32) (h5 : M5.IsWhole) (M6 : Memref sig .tc .vmem S4224x256 .bf16) (h6 : M6.IsWhole) (M7 : Memref sig .tc .vmem S2x11x1x384 .f32) (h7 : M7.IsWhole) (M8 : Memref sig .tc .vmem S2x384x1 .f32) (h8 : M8.IsWhole) (M9 : Memref sig .tc .vmem S4224x256 .f32) (h9 : M9.IsWhole) (M10 : Memref sig .tc .vmem S384x256 .f32) (h10 : M10.IsWhole) (M11 : Memref sig .tc .vmem S384x256 .f32) (h11 : M11.IsWhole) (M12 : Memref sig .tc .vmem S2x384x1 .f32) (h12 : M12.IsWhole) (M13 : Memref sig .tc .vmem S2x11x1x384 .f32) (h13 : M13.IsWhole) (M14 : Memref sig .tc .vmem S2x11x1x384 .f32) (h14 : M14.IsWhole)

set_option maxHeartbeats 1000000 in
/-- a point of a later key block, which adds to what it finds. -/
theorem valLater (t : Fin grid0.N) (hc1 : ¬ cond1 (grid0.coords t) = 1#1) (hc2 : ¬ k0_cond2 (grid0.coords t) = 1#1) (hpos : 0 < t.val % 11) (x2 : Vec Ideal S4224x256 .bf16) (x3 : Vec Ideal S384x256 .bf16) (x4 : Vec Ideal S384x256 .bf16) (x5 : Vec Ideal S4224x256 .f32) (x6 : Vec Ideal S4224x256 .bf16) (x7 : Vec Ideal S2x11x1x384 .f32) (x8 : Vec Ideal S2x384x1 .f32) (x9 : Vec Ideal S4224x256 .f32) (x13 : Vec Ideal S2x11x1x384 .f32) (x14 : Vec Ideal S2x11x1x384 .f32)
    (p : Pt) {A C : ℕ → ℕ → ℝ} (hkc : p.kc = t.val % 11) (hin : PtIn p x2 x3 x4 x5 x7 x8)
    (e9 : Re2 (a := 4224) (b := 256) x9 A) (e13 : Re4 (a := 2) (b := 11) x13 C) (e14 : Re4 (a := 2) (b := 11) x14 p.D) :
    PtOut p A C (runLater (F := Ideal) c (grid0.coords t) hc1 hc2 M2 h2 M3 h3 M4 h4 M5 h5 M6 h6 M7 h7 M8 h8 M9 h9 M10 h10 M11 h11 M12 h12 M13 h13 M14 h14 x2 x3 x4 x5 x6 x7 x8 x9 x13 x14).1 (runLater (F := Ideal) c (grid0.coords t) hc1 hc2 M2 h2 M3 h3 M4 h4 M5 h5 M6 h6 M7 h7 M8 h8 M9 h9 M10 h10 M11 h11 M12 h12 M13 h13 M14 h14 x2 x3 x4 x5 x6 x7 x8 x9 x13 x14).2.1 (runLater (F := Ideal) c (grid0.coords t) hc1 hc2 M2 h2 M3 h3 M4 h4 M5 h5 M6 h6 M7 h7 M8 h8 M9 h9 M10 h10 M11 h11 M12 h12 M13 h13 M14 h14 x2 x3 x4 x5 x6 x7 x8 x9 x13 x14).2.2.1 (runLater (F := Ideal) c (grid0.coords t) hc1 hc2 M2 h2 M3 h3 M4 h4 M5 h5 M6 h6 M7 h7 M8 h8 M9 h9 M10 h10 M11 h11 M12 h12 M13 h13 M14 h14 x2 x3 x4 x5 x6 x7 x8 x9 x13 x14).2.2.2.1 (runLater (F := Ideal) c (grid0.coords t) hc1 hc2 M2 h2 M3 h3 M4 h4 M5 h5 M6 h6 M7 h7 M8 h8 M9 h9 M10 h10 M11 h11 M12 h12 M13 h13 M14 h14 x2 x3 x4 x5 x6 x7 x8 x9 x13 x14).2.2.2.2.1 ∧ (runLater (F := Ideal) c (grid0.coords t) hc1 hc2 M2 h2 M3 h3 M4 h4 M5 h5 M6 h6 M7 h7 M8 h8 M9 h9 M10 h10 M11 h11 M12 h12 M13 h13 M14 h14 x2 x3 x4 x5 x6 x7 x8 x9 x13 x14).2.2.2.2.2.1 = x14 := by
  have hq := off1 t
  have hr := off2 t
  have hq' := off3 t
  have hr' := off4 t
  have htr := trips3 t
  have eqs := eqLater (F := Ideal) c (grid0.coords t) M2 h2 M3 h3 M4 h4 M5 h5 M6 h6 M7 h7 M8 h8 M9 h9 M10 h10 M11 h11 M12 h12 M13 h13 M14 h14 hc1 hc2 x2 x3 x4 x5 x6 x7 x8 x9 x13 x14 (trips4 t)
  extract_lets X2 X5 X7 X14 k0 k1 v0 v1 c0 c1 mk P0 P1 S0 S1 acc L9 L13 st at eqs
  obtain ⟨y9, y10, y11, y12, y13, y14⟩ := eqs
  have i2 : Re2 (a := 4224) (b := 256) (View.read (Elt Ideal) M2.view X2) p.Q := (h2.read_unread x2).symm ▸ hin.q
  have i5 : Re2 (a := 4224) (b := 256) (View.read (Elt Ideal) M5.view X5) p.O := (h5.read_unread x5).symm ▸ hin.o
  have i7 : Re4 (a := 2) (b := 11) (View.read (Elt Ideal) M7.view X7) p.L := (h7.read_unread x7).symm ▸ hin.l
  have i14 : Re4 (a := 2) (b := 11) (View.read (Elt Ideal) M14.view X14) p.D := (h14.read_unread x14).symm ▸ e14
  have ik0 : Re2 k0 (fun r d => p.K r (128 * 0 + d)) := half0_re ((h3.read_unread x3).symm ▸ hin.k)
  have ik1 : Re2 k1 (fun r d => p.K r (128 * 1 + d)) := half1_re ((h3.read_unread x3).symm ▸ hin.k)
  have iv0 : Re2 v0 (fun r d => p.V r (128 * 0 + d)) := half0_re ((h4.read_unread x4).symm ▸ hin.v)
  have iv1 : Re2 v1 (fun r d => p.V r (128 * 1 + d)) := half1_re ((h4.read_unread x4).symm ▸ hin.v)
  have ic0 : Re2 c0 (fun r _ => p.C 0 r) := offs0_re ((h8.read_unread x8).symm ▸ hin.c)
  have ic1 : Re2 c1 (fun r _ => p.C 1 r) := offs1_re ((h8.read_unread x8).symm ▸ hin.c)
  rw [← hkc] at hq hr hq' hr'
  have hk11 : p.kc < 11 := by omega
  have emk : mk = maskB (rowsOf (BitVec.ofNat 32 p.kc)) (BitVec.ofNat 32 p.kc) := by
    show maskB (rowsOf (BitVec.ofNat 32 ((grid0.coords t) 1).val)) (BitVec.ofNat 32 ((grid0.coords t) 1).val) = _
    rw [kc_val t, hkc]
  have iP0 : Re2 P0 (fun r j => p.P 0 r (384 * p.kc + j)) := by
    show Re2 (headP (F := Ideal) M2 M7 X2 X7 (k0_off1_inb (grid0.coords t)) (k0_off2_inb (grid0.coords t)) mk k0 c0) _
    rw [emk]
    exact headP_masked p (a := 0) _ _ hq hr hk11 hk11 ik0 ic0 i2 i7
  have iP1 : Re2 P1 (fun r j => p.P 1 r (384 * p.kc + j)) := by
    show Re2 (headP (F := Ideal) M2 M7 X2 X7 (k0_off3_inb (grid0.coords t)) (k0_off4_inb (grid0.coords t)) mk k1 c1) _
    rw [emk]
    exact headP_masked p (a := 1) _ _ hq' hr' hk11 hk11 ik1 ic1 i2 i7
  have z9 : Re2 (a := 4224) (b := 256) (View.read (Elt Ideal) M9.view (h9.unread x9)) (p.addQ A p.kc) := by
    rw [addQ_start, h9.read_unread]; exact e9
  have z13 : Re4 (a := 2) (b := 11) (View.read (Elt Ideal) M13.view (h13.unread x13)) (p.addC C p.kc) := by
    rw [addC_start, h13.read_unread]; exact e13
  have start : Inv p A C p.kc (zeroT, zeroT, zeroT, zeroT, zeroT, zeroT) M9 (M9.view.writes (Elt Ideal) (h9.unread x9) []) M13 (M13.view.writes (Elt Ideal) (h13.unread x13) []) :=
    ⟨⟨(sums_zero p zeroT_re).dk, (sums_zero p zeroT_re).dv, (sums_zero p zeroT_re).dck⟩, ⟨(sums_zero p zeroT_re).dk, (sums_zero p zeroT_re).dv, (sums_zero p zeroT_re).dck⟩, z9, z13⟩
  have diag := inv_step p (X9 := h9.unread x9) (X13 := h13.unread x13) (L9 := []) (L13 := []) (k0_off1_inb (grid0.coords t)) (k0_off3_inb (grid0.coords t)) (k0_off2_inb (grid0.coords t)) (k0_off4_inb (grid0.coords t)) hq hq' hr hr' le_rfl
    iP0 iP1 ik0 ik1 iv0 iv1 i2 i5 i14
    (blk2_re (k0_off1_inb (grid0.coords t)) hq z9) (blk2_re (k0_off3_inb (grid0.coords t)) hq' z9)
    (row4_re (k0_off2_inb (grid0.coords t)) hr z13) (row4_re (k0_off4_inb (grid0.coords t)) hr' z13) start
  rw [show p.kc + 1 = t.val % 11 + 1 by rw [hkc]] at diag
  have fin := loop3 c M2 h2 M3 h3 M4 h4 M5 h5 M6 h6 M7 h7 M8 h8 M9 h9 M10 h10 M11 h11 M12 h12 M13 h13 M14 h14 p t hkc ik0 ik1 iv0 iv1 ic0 ic1 i2 i5 i7 i14 hc2 hpos (init := acc) (G9 := M9.view.writes (Elt Ideal) (h9.unread x9) L9) (G13 := M13.view.writes (Elt Ideal) (h13.unread x13) L13) diag (k0_t3_loop (grid0.coords t)).trips le_rfl
  have fin' : Inv p A C 11 st.1 M9 (M9.view.writes (Elt Ideal) (h9.unread x9) (st.2.1 ++ L9)) M13 (M13.view.writes (Elt Ideal) (h13.unread x13) (st.2.2 ++ L13)) := by
    rw [View.writes_append, View.writes_append]
    have e : t.val % 11 + 1 + (k0_t3_loop (grid0.coords t)).trips = 11 := by omega
    have fin'' := e ▸ fin
    exact fin''
  exact ⟨ptOut_of_inv fin' y9 y10 y11 y12 y13, y14.trans (h14.read_unread x14)⟩

set_option maxHeartbeats 1000000 in
/-- A point of key block 0, which starts from zeros, -/
theorem valFirst (t : Fin grid0.N) (hc1 : cond1 (grid0.coords t) = 1#1) (hc2 : k0_cond2 (grid0.coords t) = 1#1) (x2 : Vec Ideal S4224x256 .bf16) (x3 : Vec Ideal S384x256 .bf16) (x4 : Vec Ideal S384x256 .bf16) (x5 : Vec Ideal S4224x256 .f32) (x6 : Vec Ideal S4224x256 .bf16) (x7 : Vec Ideal S2x11x1x384 .f32) (x8 : Vec Ideal S2x384x1 .f32)
    (p : Pt) (hkc : p.kc = t.val % 11) (hin : PtIn p x2 x3 x4 x5 x7 x8)
    (e14 : Re4 (a := 2) (b := 11) (runFirst (F := Ideal) c (grid0.coords t) hc1 hc2 M2 h2 M3 h3 M4 h4 M5 h5 M6 h6 M7 h7 M8 h8 M9 h9 M10 h10 M11 h11 M12 h12 M13 h13 M14 h14 x2 x3 x4 x5 x6 x7 x8).2.2.2.2.2.1 p.D) :
    PtOut p (fun _ _ => 0) (fun _ _ => 0) (runFirst (F := Ideal) c (grid0.coords t) hc1 hc2 M2 h2 M3 h3 M4 h4 M5 h5 M6 h6 M7 h7 M8 h8 M9 h9 M10 h10 M11 h11 M12 h12 M13 h13 M14 h14 x2 x3 x4 x5 x6 x7 x8).1 (runFirst (F := Ideal) c (grid0.coords t) hc1 hc2 M2 h2 M3 h3 M4 h4 M5 h5 M6 h6 M7 h7 M8 h8 M9 h9 M10 h10 M11 h11 M12 h12 M13 h13 M14 h14 x2 x3 x4 x5 x6 x7 x8).2.1 (runFirst (F := Ideal) c (grid0.coords t) hc1 hc2 M2 h2 M3 h3 M4 h4 M5 h5 M6 h6 M7 h7 M8 h8 M9 h9 M10 h10 M11 h11 M12 h12 M13 h13 M14 h14 x2 x3 x4 x5 x6 x7 x8).2.2.1 (runFirst (F := Ideal) c (grid0.coords t) hc1 hc2 M2 h2 M3 h3 M4 h4 M5 h5 M6 h6 M7 h7 M8 h8 M9 h9 M10 h10 M11 h11 M12 h12 M13 h13 M14 h14 x2 x3 x4 x5 x6 x7 x8).2.2.2.1 (runFirst (F := Ideal) c (grid0.coords t) hc1 hc2 M2 h2 M3 h3 M4 h4 M5 h5 M6 h6 M7 h7 M8 h8 M9 h9 M10 h10 M11 h11 M12 h12 M13 h13 M14 h14 x2 x3 x4 x5 x6 x7 x8).2.2.2.2.1 := by
  have hq := off1 t
  have hr := off2 t
  have hq' := off3 t
  have hr' := off4 t
  have htr := trips1 t
  have eqs := eqFirst (F := Ideal) c (grid0.coords t) M2 h2 M3 h3 M4 h4 M5 h5 M6 h6 M7 h7 M8 h8 M9 h9 M10 h10 M11 h11 M12 h12 M13 h13 M14 h14 hc1 hc2 x2 x3 x4 x5 x6 x7 x8 (trips2 t)
  extract_lets X2 X5 X7 X14 k0 k1 v0 v1 c0 c1 mk P0 P1 S0 S1 acc Z9 Z13 A9 A13 L9 L13 st at eqs
  obtain ⟨y9, y10, y11, y12, y13, y14⟩ := eqs
  have i2 : Re2 (a := 4224) (b := 256) (View.read (Elt Ideal) M2.view X2) p.Q := (h2.read_unread x2).symm ▸ hin.q
  have i5 : Re2 (a := 4224) (b := 256) (View.read (Elt Ideal) M5.view X5) p.O := (h5.read_unread x5).symm ▸ hin.o
  have i7 : Re4 (a := 2) (b := 11) (View.read (Elt Ideal) M7.view X7) p.L := (h7.read_unread x7).symm ▸ hin.l
  have i14 : Re4 (a := 2) (b := 11) (View.read (Elt Ideal) M14.view X14) p.D := y14 ▸ e14
  have ik0 : Re2 k0 (fun r d => p.K r (128 * 0 + d)) := half0_re ((h3.read_unread x3).symm ▸ hin.k)
  have ik1 : Re2 k1 (fun r d => p.K r (128 * 1 + d)) := half1_re ((h3.read_unread x3).symm ▸ hin.k)
  have iv0 : Re2 v0 (fun r d => p.V r (128 * 0 + d)) := half0_re ((h4.read_unread x4).symm ▸ hin.v)
  have iv1 : Re2 v1 (fun r d => p.V r (128 * 1 + d)) := half1_re ((h4.read_unread x4).symm ▸ hin.v)
  have ic0 : Re2 c0 (fun r _ => p.C 0 r) := offs0_re ((h8.read_unread x8).symm ▸ hin.c)
  have ic1 : Re2 c1 (fun r _ => p.C 1 r) := offs1_re ((h8.read_unread x8).symm ▸ hin.c)
  rw [← hkc] at hq hr hq' hr'
  have hk11 : p.kc < 11 := by omega
  have emk : mk = maskB (rowsOf (BitVec.ofNat 32 p.kc)) (BitVec.ofNat 32 p.kc) := by
    show maskB (rowsOf (BitVec.ofNat 32 ((grid0.coords t) 1).val)) (BitVec.ofNat 32 ((grid0.coords t) 1).val) = _
    rw [kc_val t, hkc]
  have iP0 : Re2 P0 (fun r j => p.P 0 r (384 * p.kc + j)) := by
    show Re2 (headP (F := Ideal) M2 M7 X2 X7 (k0_off1_inb (grid0.coords t)) (k0_off2_inb (grid0.coords t)) mk k0 c0) _
    rw [emk]
    exact headP_masked p (a := 0) _ _ hq hr hk11 hk11 ik0 ic0 i2 i7
  have iP1 : Re2 P1 (fun r j => p.P 1 r (384 * p.kc + j)) := by
    show Re2 (headP (F := Ideal) M2 M7 X2 X7 (k0_off3_inb (grid0.coords t)) (k0_off4_inb (grid0.coords t)) mk k1 c1) _
    rw [emk]
    exact headP_masked p (a := 1) _ _ hq' hr' hk11 hk11 ik1 ic1 i2 i7
  have z9 : Re2 (a := 4224) (b := 256) (View.read (Elt Ideal) M9.view (M9.view.writes (Elt Ideal) M9.view.junk Z9)) (p.addQ (fun _ _ => (0 : ℝ)) p.kc) := by
    rw [addQ_start]
    intro y
    rw [View.read_writes_cons_unit_of_mem M9.view _ inb_S4224x256_S4224x256_0_0 _ [] y y (off := ![0, 0]) rfl (fun a => by fin_cases a <;> exact (Nat.zero_add _).symm)]
    exact zero_word
  have z13 : Re4 (a := 2) (b := 11) (View.read (Elt Ideal) M13.view (M13.view.writes (Elt Ideal) M13.view.junk Z13)) (p.addC (fun _ _ => (0 : ℝ)) p.kc) := by
    rw [addC_start]
    intro y
    rw [View.read_writes_cons_unit_of_mem M13.view _ inb_S2x11x1x384_S2x11x1x384_0_0_0_0 _ [] y y (off := ![0, 0, 0, 0]) rfl (fun a => by fin_cases a <;> exact (Nat.zero_add _).symm)]
    exact zero_word
  have start : Inv p (fun _ _ => (0 : ℝ)) (fun _ _ => (0 : ℝ)) p.kc (zeroT, zeroT, zeroT, zeroT, zeroT, zeroT) M9 (M9.view.writes (Elt Ideal) M9.view.junk Z9) M13 (M13.view.writes (Elt Ideal) M13.view.junk Z13) :=
    ⟨⟨(sums_zero p zeroT_re).dk, (sums_zero p zeroT_re).dv, (sums_zero p zeroT_re).dck⟩, ⟨(sums_zero p zeroT_re).dk, (sums_zero p zeroT_re).dv, (sums_zero p zeroT_re).dck⟩, z9, z13⟩
  have iS0 : Re2 S0 (fun r j => p.S 0 r (384 * p.kc + j)) := headS_re p (a := 0) _ _ hq hr iP0 iv0 i5 i14
  have a9 := write2_re (t := fun n j => ∑ r ∈ range 384, p.S 0 r n * p.K r j) (k0_off1_inb (grid0.coords t)) hq z9
    (re2_congr (re2_dqB (blk2_re (k0_off1_inb (grid0.coords t)) hq z9) iS0 ik0) fun r _ l _ => by simp only [Nat.mul_zero, Nat.zero_add])
  have a13 := write4_re (t := fun a n => ∑ r ∈ range 384, p.S a r n) (k0_off2_inb (grid0.coords t)) hr z13
    (re4_col (f := fun j => p.addC (fun _ _ => (0 : ℝ)) p.kc 0 (384 * p.kc + j)) (row4_re (k0_off2_inb (grid0.coords t)) hr z13) iS0)
  have diag := inv_step p (X9 := M9.view.junk) (X13 := M13.view.junk) (L9 := Z9) (L13 := Z13) (k0_off1_inb (grid0.coords t)) (k0_off3_inb (grid0.coords t)) (k0_off2_inb (grid0.coords t)) (k0_off4_inb (grid0.coords t)) hq hq' hr hr' le_rfl
    iP0 iP1 ik0 ik1 iv0 iv1 i2 i5 i14
    (blk2_re (k0_off1_inb (grid0.coords t)) hq z9)
    (re2_congr (blk2_re (k0_off3_inb (grid0.coords t)) hq' a9) fun r _ l _ => by rw [if_neg (by omega), add_zero])
    (row4_re (k0_off2_inb (grid0.coords t)) hr z13)
    (fun y => (row4_re (k0_off4_inb (grid0.coords t)) hr' a13 y).trans (by rw [if_neg (by omega), add_zero])) start
  rw [show p.kc + 1 = t.val % 11 + 1 by rw [hkc]] at diag
  have fin := loop1 c M2 h2 M3 h3 M4 h4 M5 h5 M6 h6 M7 h7 M8 h8 M9 h9 M10 h10 M11 h11 M12 h12 M13 h13 M14 h14 p t hkc ik0 ik1 iv0 iv1 ic0 ic1 i2 i5 i7 i14 hc2 (init := acc) (G9 := M9.view.writes (Elt Ideal) M9.view.junk L9) (G13 := M13.view.writes (Elt Ideal) M13.view.junk L13) diag (k0_t1_loop (grid0.coords t)).trips le_rfl
  have fin' : Inv p (fun _ _ => (0 : ℝ)) (fun _ _ => (0 : ℝ)) 11 st.1 M9 (M9.view.writes (Elt Ideal) M9.view.junk (st.2.1 ++ L9)) M13 (M13.view.writes (Elt Ideal) M13.view.junk (st.2.2 ++ L13)) := by
    rw [View.writes_append, View.writes_append]
    have e : t.val % 11 + 1 + (k0_t1_loop (grid0.coords t)).trips = 11 := by omega
    have fin'' := e ▸ fin
    exact fin''
  exact ptOut_of_inv fin' y9 y10 y11 y12 y13

end

end Cert.Proof.AttnIdeal
-- ==== Proof.Delta.lean ====
module

public import proofs.«01_k».proof.Proof.PointVal

@[expose] public section

set_option maxRecDepth 16384

noncomputable section

namespace Cert.Proof.AttnIdeal

open Cert.KernelIdeal Cert.KernelIdeal.Gen
open Idealize.ShloMosaic
open Finset (range Ico)

/-! ## The row products a point of key block 0 leaves -/

section
variable {M5 : Memref sig .tc .vmem S4224x256 .f32} {X5 : BufTy.Contents (Elt Ideal) M5.view.ty} {M6 : Memref sig .tc .vmem S4224x256 .bf16} {X6 : BufTy.Contents (Elt Ideal) M6.view.ty}
variable {O W : ℕ → ℕ → ℝ} (h5 : Re2 (a := 4224) (b := 256) (View.read (Elt Ideal) M5.view X5) O) (h6 : Re2 (a := 4224) (b := 256) (View.read (Elt Ideal) M6.view X6) W)
include h5 h6

/-- One piece. -/
theorem delta_piece (a q A B : ℕ) (hA : A = 384 * q) (hB : B = 128 * a) (ib : ∀ x : Fin 2, (![A, B] : Fin 2 → ℕ) x + S384x128.size x ≤ S4224x256.size x)
    (ib' : ∀ x : Fin 4, (![a, q, 0, 0] : Fin 4 → ℕ) x + S1x1x1x384.size x ≤ S2x11x1x384.size x) (x : S1x1x1x384.Idx) :
    deltaB (F := Ideal) (blk2 M5 X5 ib) (blk2 M6 X6 ib) x
      = (fun y : S2x11x1x384.Idx => ((∑ d ∈ range 128, O (384 * (y 1).val + (y 3).val) (128 * (y 0).val + d) * W (384 * (y 1).val + (y 3).val) (128 * (y 0).val + d) : ℝ) : EReal))
        ((Rect.unit (s := S2x11x1x384) ![a, q, 0, 0] S1x1x1x384.size ib').emb x) := by
  refine (deltaB_re (blk2_re ib rfl h5) (blk2_re16 ib rfl h6) x).trans ?_
  have x0 : (x 0).val < 1 := (x 0).isLt
  have x1 : (x 1).val < 1 := (x 1).isLt
  have e0 : (((Rect.unit (s := S2x11x1x384) ![a, q, 0, 0] S1x1x1x384.size ib').emb x) 0).val = a := by
    show a + 1 * (x 0).val = a; omega
  have e1 : (((Rect.unit (s := S2x11x1x384) ![a, q, 0, 0] S1x1x1x384.size ib').emb x) 1).val = q := by
    show q + 1 * (x 1).val = q; omega
  have e3 : (((Rect.unit (s := S2x11x1x384) ![a, q, 0, 0] S1x1x1x384.size ib').emb x) 3).val = (x 3).val := by
    show 0 + 1 * (x 3).val = _; omega
  beta_reduce
  rw [e0, e1, e3, hA, hB]

/-- All the pieces together. -/
theorem deltas_re (M14 : Memref sig .tc .vmem S2x11x1x384 .f32) :
    Re4 (a := 2) (b := 11) (View.read (Elt Ideal) M14.view (M14.view.writes (Elt Ideal) M14.view.junk (deltas M5 X5 M6 X6)))
      (fun a n => ∑ d ∈ range 128, O n (128 * a + d) * W n (128 * a + d)) := by
  have cov := View.cover_of_tiled (deltas (F := Ideal) M5 X5 M6 X6) S1x1x1x384.size (by rfl)
  rw [View.read_writes_eq_canon _ _ _ cov]
  intro y
  refine View.canon_apply_of_pieces (fun y : S2x11x1x384.Idx => ((∑ d ∈ range 128, O (384 * (y 1).val + (y 3).val) (128 * (y 0).val + d) * W (384 * (y 1).val + (y 3).val) (128 * (y 0).val + d) : ℝ) : EReal)) _ ?_ y (cov y)
  refine List.forall_mem_cons.mpr ⟨delta_piece h5 h6 1 10 3840 128 rfl rfl inb_S4224x256_S384x128_3840_128 inb_S2x11x1x384_S1x1x1x384_1_10_0_0, ?_⟩
  refine List.forall_mem_cons.mpr ⟨delta_piece h5 h6 1 9 3456 128 rfl rfl inb_S4224x256_S384x128_3456_128 inb_S2x11x1x384_S1x1x1x384_1_9_0_0, ?_⟩
  refine List.forall_mem_cons.mpr ⟨delta_piece h5 h6 1 8 3072 128 rfl rfl inb_S4224x256_S384x128_3072_128 inb_S2x11x1x384_S1x1x1x384_1_8_0_0, ?_⟩
  refine List.forall_mem_cons.mpr ⟨delta_piece h5 h6 1 7 2688 128 rfl rfl inb_S4224x256_S384x128_2688_128 inb_S2x11x1x384_S1x1x1x384_1_7_0_0, ?_⟩
  refine List.forall_mem_cons.mpr ⟨delta_piece h5 h6 1 6 2304 128 rfl rfl inb_S4224x256_S384x128_2304_128 inb_S2x11x1x384_S1x1x1x384_1_6_0_0, ?_⟩
  refine List.forall_mem_cons.mpr ⟨delta_piece h5 h6 1 5 1920 128 rfl rfl inb_S4224x256_S384x128_1920_128 inb_S2x11x1x384_S1x1x1x384_1_5_0_0, ?_⟩
  refine List.forall_mem_cons.mpr ⟨delta_piece h5 h6 1 4 1536 128 rfl rfl inb_S4224x256_S384x128_1536_128 inb_S2x11x1x384_S1x1x1x384_1_4_0_0, ?_⟩
  refine List.forall_mem_cons.mpr ⟨delta_piece h5 h6 1 3 1152 128 rfl rfl inb_S4224x256_S384x128_1152_128 inb_S2x11x1x384_S1x1x1x384_1_3_0_0, ?_⟩
  refine List.forall_mem_cons.mpr ⟨delta_piece h5 h6 1 2 768 128 rfl rfl inb_S4224x256_S384x128_768_128 inb_S2x11x1x384_S1x1x1x384_1_2_0_0, ?_⟩
  refine List.forall_mem_cons.mpr ⟨delta_piece h5 h6 1 1 384 128 rfl rfl inb_S4224x256_S384x128_384_128 inb_S2x11x1x384_S1x1x1x384_1_1_0_0, ?_⟩
  refine List.forall_mem_cons.mpr ⟨delta_piece h5 h6 1 0 0 128 rfl rfl inb_S4224x256_S384x128_0_128 inb_S2x11x1x384_S1x1x1x384_1_0_0_0, ?_⟩
  refine List.forall_mem_cons.mpr ⟨delta_piece h5 h6 0 10 3840 0 rfl rfl inb_S4224x256_S384x128_3840_0 inb_S2x11x1x384_S1x1x1x384_0_10_0_0, ?_⟩
  refine List.forall_mem_cons.mpr ⟨delta_piece h5 h6 0 9 3456 0 rfl rfl inb_S4224x256_S384x128_3456_0 inb_S2x11x1x384_S1x1x1x384_0_9_0_0, ?_⟩
  refine List.forall_mem_cons.mpr ⟨delta_piece h5 h6 0 8 3072 0 rfl rfl inb_S4224x256_S384x128_3072_0 inb_S2x11x1x384_S1x1x1x384_0_8_0_0, ?_⟩
  refine List.forall_mem_cons.mpr ⟨delta_piece h5 h6 0 7 2688 0 rfl rfl inb_S4224x256_S384x128_2688_0 inb_S2x11x1x384_S1x1x1x384_0_7_0_0, ?_⟩
  refine List.forall_mem_cons.mpr ⟨delta_piece h5 h6 0 6 2304 0 rfl rfl inb_S4224x256_S384x128_2304_0 inb_S2x11x1x384_S1x1x1x384_0_6_0_0, ?_⟩
  refine List.forall_mem_cons.mpr ⟨delta_piece h5 h6 0 5 1920 0 rfl rfl inb_S4224x256_S384x128_1920_0 inb_S2x11x1x384_S1x1x1x384_0_5_0_0, ?_⟩
  refine List.forall_mem_cons.mpr ⟨delta_piece h5 h6 0 4 1536 0 rfl rfl inb_S4224x256_S384x128_1536_0 inb_S2x11x1x384_S1x1x1x384_0_4_0_0, ?_⟩
  refine List.forall_mem_cons.mpr ⟨delta_piece h5 h6 0 3 1152 0 rfl rfl inb_S4224x256_S384x128_1152_0 inb_S2x11x1x384_S1x1x1x384_0_3_0_0, ?_⟩
  refine List.forall_mem_cons.mpr ⟨delta_piece h5 h6 0 2 768 0 rfl rfl inb_S4224x256_S384x128_768_0 inb_S2x11x1x384_S1x1x1x384_0_2_0_0, ?_⟩
  refine List.forall_mem_cons.mpr ⟨delta_piece h5 h6 0 1 384 0 rfl rfl inb_S4224x256_S384x128_384_0 inb_S2x11x1x384_S1x1x1x384_0_1_0_0, ?_⟩
  refine List.forall_mem_cons.mpr ⟨delta_piece h5 h6 0 0 0 0 rfl rfl inb_S4224x256_S384x128_0_0 inb_S2x11x1x384_S1x1x1x384_0_0_0_0, ?_⟩
  exact fun _ h => absurd h List.not_mem_nil

end

end Cert.Proof.AttnIdeal
-- ==== Proof.Walk.lean ====
module

public import proofs.«01_k».proof.Proof.Grid
public import proofs.«01_k».proof.Proof.PointVal
public import proofs.«01_k».proof.Proof.Delta

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open Idealize.SL.Sem
open Finset (range Ico)

attribute [local irreducible] runFirst runLater

section
variable (c : Dev nD) (M2 : Memref sig .tc .vmem S4224x256 .bf16) (h2 : M2.IsWhole) (M3 : Memref sig .tc .vmem S384x256 .bf16) (h3 : M3.IsWhole) (M4 : Memref sig .tc .vmem S384x256 .bf16) (h4 : M4.IsWhole) (M5 : Memref sig .tc .vmem S4224x256 .f32) (h5 : M5.IsWhole) (M6 : Memref sig .tc .vmem S4224x256 .bf16) (h6 : M6.IsWhole) (M7 : Memref sig .tc .vmem S2x11x1x384 .f32) (h7 : M7.IsWhole) (M8 : Memref sig .tc .vmem S2x384x1 .f32) (h8 : M8.IsWhole) (M9 : Memref sig .tc .vmem S4224x256 .f32) (h9 : M9.IsWhole) (M10 : Memref sig .tc .vmem S384x256 .f32) (h10 : M10.IsWhole) (M11 : Memref sig .tc .vmem S384x256 .f32) (h11 : M11.IsWhole) (M12 : Memref sig .tc .vmem S2x384x1 .f32) (h12 : M12.IsWhole) (M13 : Memref sig .tc .vmem S2x11x1x384 .f32) (h13 : M13.IsWhole) (M14 : Memref sig .tc .vmem S2x11x1x384 .f32) (h14 : M14.IsWhole)

set_option maxHeartbeats 1000000 in
/-- What a point of key block 0 leaves in the scratch: the output's cotangent against the output. -/
theorem deltaFirst (t : Fin grid0.N) (hc1 : cond1 (grid0.coords t) = 1#1) (hc2 : k0_cond2 (grid0.coords t) = 1#1) (x2 : Vec Ideal S4224x256 .bf16) (x3 : Vec Ideal S384x256 .bf16) (x4 : Vec Ideal S384x256 .bf16) (x5 : Vec Ideal S4224x256 .f32) (x6 : Vec Ideal S4224x256 .bf16) (x7 : Vec Ideal S2x11x1x384 .f32) (x8 : Vec Ideal S2x384x1 .f32)
    {O W : ℕ → ℕ → ℝ} (h5' : Re2 (a := 4224) (b := 256) x5 O) (h6' : Re2 (a := 4224) (b := 256) x6 W) :
    Re4 (a := 2) (b := 11) (runFirst (F := Ideal) c (grid0.coords t) hc1 hc2 M2 h2 M3 h3 M4 h4 M5 h5 M6 h6 M7 h7 M8 h8 M9 h9 M10 h10 M11 h11 M12 h12 M13 h13 M14 h14 x2 x3 x4 x5 x6 x7 x8).2.2.2.2.2.1 (fun a n => ∑ d ∈ range 128, O n (128 * a + d) * W n (128 * a + d)) := by
  have eqs := eqFirst (F := Ideal) c (grid0.coords t) M2 h2 M3 h3 M4 h4 M5 h5 M6 h6 M7 h7 M8 h8 M9 h9 M10 h10 M11 h11 M12 h12 M13 h13 M14 h14 hc1 hc2 x2 x3 x4 x5 x6 x7 x8 (trips2 t)
  extract_lets X2 X5 X7 X14 k0 k1 v0 v1 c0 c1 mk P0 P1 S0 S1 acc Z9 Z13 A9 A13 L9 L13 st at eqs
  obtain ⟨y9, y10, y11, y12, y13, y14⟩ := eqs
  rw [y14]
  exact deltas_re ((h5.read_unread x5).symm ▸ h5') ((h6.read_unread x6).symm ▸ h6') M14

end

/-! ## What the points leave, in order -/

/-- What is left after point `n` of the grid: the accumulated results hold the parts of the keys up to the point's block, the
    others the results of the point's block. -/
structure LeftAt (N : Net) (n : ℕ) (p : Left Ideal) : Prop where
  dq : Re2 (a := 4224) (b := 256) p.dq (N.dq (384 * (n % 11 + 1)) (n / 11))
  dk : Re2 (a := 384) (b := 256) p.dk (fun r j => N.rk (384 * (n % 11) + r) (256 * (n / 11) + j))
  dv : Re2 (a := 384) (b := 256) p.dv (fun r j => N.rv (384 * (n % 11) + r) (256 * (n / 11) + j))
  dck : Re3 (a := 2) (b := 384) p.dck (fun a r => N.rck (2 * (n / 11) + a) (384 * (n % 11) + r))
  dcq : Re4 (a := 2) (b := 11) p.dcq (N.dcq (384 * (n % 11 + 1)) (n / 11))
  delta : Re4 (a := 2) (b := 11) p.delta (fun a i => N.D (2 * (n / 11) + a) i)

variable {m : (ℓ : Loc nD τ sig) → Buf (Elt Ideal) ℓ} {c : Dev nD} {N : Net}

theorem re4_lt {a : ℕ} (y : (⟨4, ![a, 11, 1, 384]⟩ : Shape).Idx) : 384 * (y 1).val + (y 3).val < 4224 := by
  have h1 : (y 1).val < 11 := (y 1).isLt
  have h3 : (y 3).val < 384 := (y 3).isLt
  omega

/-- A point's results from what it found. -/
theorem left_of_out (n : ℕ) {p : Left Ideal}
    (h : PtOut (N.pt (n / 11) (n % 11)) (N.dq (384 * (n % 11)) (n / 11)) (N.dcq (384 * (n % 11)) (n / 11)) p.dq p.dk p.dv p.dck p.dcq)
    (hd : Re4 (a := 2) (b := 11) p.delta (fun a i => N.D (2 * (n / 11) + a) i)) : LeftAt N n p where
  dq y := (h.dq y).trans (by rw [N.addQ_next _ _ _ _ (show (y 0).val < 4224 from (y 0).isLt)])
  dk y := (h.dk y).trans (congrArg _ (N.dk_eq _ _ _ _ (Nat.mod_lt _ (by decide))))
  dv y := (h.dv y).trans (congrArg _ (N.dv_eq _ _ _ _ (Nat.mod_lt _ (by decide))))
  dck y := (h.dck y).trans (congrArg _ (N.dck_eq _ _ _ _ (Nat.mod_lt _ (by decide))))
  dcq y := (h.dcq y).trans (by rw [N.addC_next _ _ _ _ (re4_lt y)])
  delta := hd

theorem ptIn (H : Held m c N) (t : Fin cfg0.N) :
    PtIn (N.pt (t.val / 11) (t.val % 11)) (iblk m c 0 t) (iblk m c 1 t) (iblk m c 2 t) (iblk m c 3 t) (iblk m c 5 t) (iblk m c 6 t) :=
  ⟨blk_q H t, blk_k H t, blk_v H t, blk_o H t, blk_l H t, blk_c H t⟩

theorem first_at (H : Held m c N) (t : Fin cfg0.N) (h : t.val % 11 = 0) : LeftAt N t.val (leftFirst m c t h) := by
  have hd : Re4 (a := 2) (b := 11) (leftFirst m c t h).delta (fun a i => N.D (2 * (t.val / 11) + a) i) := by
    have e : Re4 (a := 2) (b := 11) (leftFirst m c t h).delta (fun a n => ∑ d ∈ range 128, (N.pt (t.val / 11) (t.val % 11)).O n (128 * a + d) * N.W n (256 * (t.val / 11) + (128 * a + d))) :=
      deltaFirst _ _ _ _ _ _ _ _ _ _ _ _ _ _ _ _ _ _ _ _ _ _ _ _ _ _ _ t ((cond1_iff t).mpr h) ((cond2_iff t).mpr h) (iblk m c 0 t) (iblk m c 1 t) (iblk m c 2 t) (iblk m c 3 t) (iblk m c 4 t) (iblk m c 5 t) (iblk m c 6 t) (blk_o H t) (blk_w H t)
    simp only [Net.pt, Net.lane] at e
    exact e
  refine left_of_out _ ?_ hd
  have h0 : N.dq (384 * (t.val % 11)) (t.val / 11) = fun _ _ => 0 := by
    rw [h]; funext n j; simp [Net.dq]
  have h1 : N.dcq (384 * (t.val % 11)) (t.val / 11) = fun _ _ => 0 := by
    rw [h]; funext n j; simp [Net.dcq]
  rw [h0, h1]
  exact valFirst _ _ _ _ _ _ _ _ _ _ _ _ _ _ _ _ _ _ _ _ _ _ _ _ _ _ _ t _ _ _ _ _ _ _ _ _ _ rfl (ptIn H t) hd

theorem later_at (H : Held m c N) (n : ℕ) (hlt : n + 1 < cfg0.N) (h : ¬ (n + 1) % 11 = 0) (p : Left Ideal) (hp : LeftAt N n p) :
    LeftAt N (n + 1) (leftLater m c ⟨n + 1, hlt⟩ h p) := by
  have e1 : (n + 1) / 11 = n / 11 := by omega
  have e2 : (n + 1) % 11 = n % 11 + 1 := by omega
  have hd : Re4 (a := 2) (b := 11) p.delta (N.pt ((n + 1) / 11) ((n + 1) % 11)).D := by
    have := hp.delta
    rw [← e1] at this
    exact this
  have h0 := hp.dq
  have h1 := hp.dcq
  rw [← e1, ← e2] at h0 h1
  have key : PtOut (N.pt ((n + 1) / 11) ((n + 1) % 11)) (N.dq (384 * ((n + 1) % 11)) ((n + 1) / 11)) (N.dcq (384 * ((n + 1) % 11)) ((n + 1) / 11)) (leftLater m c ⟨n + 1, hlt⟩ h p).dq (leftLater m c ⟨n + 1, hlt⟩ h p).dk (leftLater m c ⟨n + 1, hlt⟩ h p).dv (leftLater m c ⟨n + 1, hlt⟩ h p).dck (leftLater m c ⟨n + 1, hlt⟩ h p).dcq ∧ (leftLater m c ⟨n + 1, hlt⟩ h p).delta = p.delta :=
    valLater _ _ _ _ _ _ _ _ _ _ _ _ _ _ _ _ _ _ _ _ _ _ _ _ _ _ _ ⟨n + 1, hlt⟩ _ _ (show 0 < (n + 1) % 11 by omega) _ _ _ _ _ _ _ _ _ _ _ rfl (ptIn H ⟨n + 1, hlt⟩) h0 h1 hd
  exact left_of_out _ key.1 (key.2 ▸ hd)

/-- What is left after each point. -/
theorem left_at (H : Held m c N) : ∀ (n : ℕ) (h : n < cfg0.N), LeftAt N n (left m c n h)
  | 0, h => first_at H ⟨0, h⟩ rfl
  | n + 1, h => by
    by_cases hn : (n + 1) % 11 = 0
    · rw [left_first m c (n + 1) h hn]; exact first_at H ⟨n + 1, h⟩ hn
    · rw [left_later m c n h hn]; exact later_at H n h hn _ (left_at H n _)

/-! ## The arrays after the grid -/

/-- Where each result's window stands at point `t`. -/
theorem at7 : ∀ t : Fin cfg0.N, (cfg0.win 7).index t 0 = 0 ∧ (cfg0.win 7).index t 1 = t.val / 11 := by decide +kernel
theorem at8 : ∀ t : Fin cfg0.N, (cfg0.win 8).index t 0 = t.val % 11 ∧ (cfg0.win 8).index t 1 = t.val / 11 := by decide +kernel
theorem at9 : ∀ t : Fin cfg0.N, (cfg0.win 9).index t 0 = t.val % 11 ∧ (cfg0.win 9).index t 1 = t.val / 11 := by decide +kernel
theorem at10 : ∀ t : Fin cfg0.N, (cfg0.win 10).index t 0 = t.val / 11 ∧ (cfg0.win 10).index t 1 = t.val % 11 ∧ (cfg0.win 10).index t 2 = 0 := by decide +kernel
theorem at11 : ∀ t : Fin cfg0.N, (cfg0.win 11).index t 0 = t.val / 11 ∧ (cfg0.win 11).index t 1 = 0 ∧ (cfg0.win 11).index t 2 = 0 ∧ (cfg0.win 11).index t 3 = 0 := by decide +kernel

theorem arr_dq (H : Held m c N) :
    (dats m 0 c).arrAt 7 cfg0.N = (fun y : S4224x2048.Idx => ((N.rq (y 0).val (y 1).val : ℝ) : EReal)) := by
  refine (dats m 0 c).arrAt_eq_of_covers 7 _ (by decide +kernel) fun t hf y => ?_
  have a := at7 t
  have l := (left_at H t.val t.isLt).dq
  have hk : t.val % 11 + 1 = 11 := by have := (flush0_7 t).mp hf; omega
  rw [hk] at l
  blk_simp
  rw [after0_7]
  refine (l y).trans ?_
  try blk_simp
  rw [a.1, a.2]
  rw [show 384 * 11 = 4224 from rfl, N.dq_eq]; congr 3 <;> omega

theorem arr_dk (H : Held m c N) :
    (dats m 0 c).arrAt 8 cfg0.N = (fun y : S4224x2048.Idx => ((N.rk (y 0).val (y 1).val : ℝ) : EReal)) := by
  refine (dats m 0 c).arrAt_eq_of_covers 8 _ (by decide +kernel) fun t hf y => ?_
  have a := at8 t
  have l := (left_at H t.val t.isLt).dk
  blk_simp
  rw [after0_8]
  refine (l y).trans ?_
  blk_simp
  rw [a.1, a.2]
  congr 3 <;> omega

theorem arr_dv (H : Held m c N) :
    (dats m 0 c).arrAt 9 cfg0.N = (fun y : S4224x2048.Idx => ((N.rv (y 0).val (y 1).val : ℝ) : EReal)) := by
  refine (dats m 0 c).arrAt_eq_of_covers 9 _ (by decide +kernel) fun t hf y => ?_
  have a := at9 t
  have l := (left_at H t.val t.isLt).dv
  blk_simp
  rw [after0_9]
  refine (l y).trans ?_
  blk_simp
  rw [a.1, a.2]
  congr 3 <;> omega

theorem arr_dck (H : Held m c N) :
    (dats m 0 c).arrAt 10 cfg0.N = (fun y : S16x4224x1.Idx => ((N.rck (y 0).val (y 1).val : ℝ) : EReal)) := by
  refine (dats m 0 c).arrAt_eq_of_covers 10 _ (by decide +kernel) fun t hf y => ?_
  have a := at10 t
  have l := (left_at H t.val t.isLt).dck
  blk_simp
  rw [after0_10]
  refine (l y).trans ?_
  blk_simp
  rw [a.1, a.2.1]
  congr 3 <;> omega

theorem arr_dcq (H : Held m c N) :
    (dats m 0 c).arrAt 11 cfg0.N = (fun y : S16x11x1x384.Idx => ((N.rcq (y 0).val (384 * (y 1).val + (y 3).val) : ℝ) : EReal)) := by
  refine (dats m 0 c).arrAt_eq_of_covers 11 _ (by decide +kernel) fun t hf y => ?_
  have a := at11 t
  have l := (left_at H t.val t.isLt).dcq
  have hk : t.val % 11 + 1 = 11 := by have := (flush0_11 t).mp hf; omega
  rw [hk] at l
  blk_simp
  rw [after0_11]
  refine (l y).trans ?_
  try blk_simp
  rw [a.1, a.2.1, a.2.2.2]
  rw [show 384 * 11 = 4224 from rfl]; show ((N.rcq _ _ : ℝ) : EReal) = _; congr 3 <;> omega

end Cert.Proof.AttnIdeal

end
-- ==== Proof.Meet.lean ====
module

public import proofs.«01_k».proof.Defs
public import proofs.«01_k».proof.Proof.Wanted
public import proofs.«01_k».proof.Proof.Walk
public import proofs.«01_k».proof.Proof.Rest
public import proofs.«01_k».proof.Proof.Gen.Pre_finite
public import Idealize.ShloMosaic.Lib.ReduceAll

@[expose] public section

set_option maxRecDepth 16384

noncomputable section

namespace Cert.Proof.Meet

open Idealize.ShloMosaic Idealize.ShloMosaic.TcCoe Idealize.ShloMosaic.Tactic
open Idealize.SL.Sem
open Cert.Proof.AttnIdeal Cert.Proof.Sides
open Cert.Pre_finite

/-! ## Finite arguments are real numbers -/

/-- A number whose magnitude is below plus infinity is real. -/
theorem real_of_small (x : EReal) (h : FloatOps.cmpf (F := Ideal) .olt (φ := .f32) (FloatOps.absf (F := Ideal) (φ := .f32) x) (Ideal.ofBits .f32 0x7F800000#32) = 1#1) :
    ∃ r : ℝ, x = (r : EReal) := by
  have e : Ideal.ofBits .f32 0x7F800000#32 = ⊤ := by simp [Ideal.ofBits, Ideal.ieee]
  rw [e] at h
  have h' : BitVec.ofBool (decide (max x (-x) < ⊤)) = 1#1 := h
  have hm : max x (-x) < ⊤ := by
    by_contra hn
    rw [decide_eq_false hn] at h'
    exact absurd h' (by decide)
  rw [max_lt_iff] at hm
  refine ⟨x.toReal, (EReal.coe_toReal hm.1.ne fun hb => ?_).symm⟩
  rw [hb] at hm
  exact absurd hm.2 (by simp)

/-- All of an array's magnitudes lie below plus infinity. -/
theorem real_of_all {s : Shape} (x : FVec Ideal s .f32) (hb : S_.BroadcastsInDim s (![] : Fin 0 → Fin s.rank)) {ax : List (Fin s.rank)} (h : s.ReducesTo ax S_) (hu : 0 < S_.numel) (j : S_.Idx)
    (e : Host.reduce IntOp.andi (cmpf .olt (Host.absf x) (broadcastInDim s ![] hb (constant S_ .f32 0x7F800000#32))) (constantI S_ 1 1#1) h hu j = 1#1) (y : s.Idx) :
    ∃ r : ℝ, x y = (r : EReal) := by
  haveI : Subsingleton S_.Idx := ⟨fun a b => funext fun i => i.elim0⟩
  exact real_of_small _ (Host.reduce_andi_all _ _ h hu j e y)

theorem args_of {q k v : FVec Ideal S4224x2048 .f32} {c : FVec Ideal S16x4224 .f32} {o : FVec Ideal S4224x2048 .f32}
    (h : Cert.Pre_finite.fn (F := Ideal) q k v c o = fun _ => 1#1) : ∃ x, Args q k v c o x := by
  have j : S_.Idx := fun i => i.elim0
  have e := congrFun h j
  simp only [Cert.Pre_finite.fn, Cert.Pre_finite.fn_part1] at e
  have e' := e
  obtain ⟨e1, e5⟩ := IntOp.andi_eq_one.mp e
  obtain ⟨e2, e4⟩ := IntOp.andi_eq_one.mp e1
  obtain ⟨e3, e3'⟩ := IntOp.andi_eq_one.mp e2
  obtain ⟨e0, e0'⟩ := IntOp.andi_eq_one.mp e3
  obtain ⟨Q, hQ⟩ := re2_of_real q (real_of_all q _ _ _ j e0)
  obtain ⟨K, hK⟩ := re2_of_real k (real_of_all k _ _ _ j e0')
  obtain ⟨V, hV⟩ := re2_of_real v (real_of_all v _ _ _ j e3')
  obtain ⟨C, hC⟩ := re2_of_real c (real_of_all c _ _ _ j e4)
  obtain ⟨O, hO⟩ := re2_of_real o (real_of_all o _ _ _ j e5)
  exact ⟨⟨Q, K, V, C, O⟩, hQ, hK, hV, hC, hO⟩

/-! ## Both programs' results -/

/-- The kernel and the plain mathematics end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  have hx := fun c => args_of (hp c)
  choose x hx using hx
  have hx' : ∀ c : Dev Cert.ReferenceIdeal.nD, Args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (x c) := fun c => by
    obtain ⟨h0, h1, h2, h3, h4⟩ := hm c
    rw [h0, h1, h2, h3, h4]
    exact hx c
  refine ⟨fun c => (fun y : (⟨2, ![4224, 2048]⟩ : Shape).Idx => (((x c).net.rq (y 0).val (y 1).val : ℝ) : EReal)),
    fun c => (fun y : (⟨2, ![4224, 2048]⟩ : Shape).Idx => (((x c).net.rk (y 0).val (y 1).val : ℝ) : EReal)),
    fun c => (fun y : (⟨2, ![4224, 2048]⟩ : Shape).Idx => (((x c).net.rv (y 0).val (y 1).val : ℝ) : EReal)),
    fun c => (fun y : (⟨3, ![16, 4224, 1]⟩ : Shape).Idx => (((x c).net.rck (y 0).val (y 1).val : ℝ) : EReal)),
    fun c => (fun y : (⟨4, ![16, 11, 1, 384]⟩ : Shape).Idx => (((x c).net.rcq (y 0).val (384 * (y 1).val + (y 3).val) : ℝ) : EReal)), ?_, ?_⟩
  · refine (θ_run Cert.KernelIdeal.defs _ _).mono (fun r h c => ?_) (θ_run_and (AttnIdeal.run_main m g) (AttnIdeal.frame m g))
    have H := held (hx c)
    exact ⟨((h.1 c).1 7).trans (arr_dq H), ((h.1 c).1 8).trans (arr_dk H), ((h.1 c).1 9).trans (arr_dv H), ((h.1 c).1 10).trans (arr_dck H), ((h.1 c).1 11).trans (arr_dcq H), h.2.1 c⟩
  · refine (θ_run Cert.ReferenceIdeal.defs _ _).mono (fun r h c => ?_) (Cert.ReferenceIdeal.Value.run m' g')
    obtain ⟨r0, r1, r2, r3, r4, rest⟩ := h c
    have H := hx' c
    exact ⟨r0.trans (Wanted.dq_value H), r1.trans (Wanted.dk_value H), r2.trans (Wanted.dv_value H), r3.trans (Wanted.dck_value H), r4.trans (Wanted.dcq_value H), rest⟩

end Cert.Proof.Meet

end
-- ==== Proof.Sheet.lean ====
module

public import Idealize.ShloMosaic.Lib.Pointwise
public import Idealize.ShloMosaic.Lib.Pipeline.ValueKit
public import Idealize.ShloMosaic.PureOps.Ideal.Laws

@[expose] public section

set_option maxRecDepth 16384

noncomputable section

namespace Cert.Proof.Sheet

open Idealize.ShloMosaic

/-! ## Arrays of extended reals, read by their coordinates -/

/-- The entries of a rank-2 array are `f` of the coordinates. -/
def E2 {a b : ℕ} (x : (⟨2, ![a, b]⟩ : Shape).Idx → EReal) (f : ℕ → ℕ → EReal) : Prop :=
  ∀ y, x y = f (y 0).val (y 1).val

/-- The entries of a rank-3 array are `f` of the coordinates. -/
def E3 {a b d : ℕ} (x : (⟨3, ![a, b, d]⟩ : Shape).Idx → EReal) (f : ℕ → ℕ → ℕ → EReal) : Prop :=
  ∀ y, x y = f (y 0).val (y 1).val (y 2).val

/-- A rank-2 array's entries as a function of two numbers. -/
def ent2 {a b : ℕ} (x : (⟨2, ![a, b]⟩ : Shape).Idx → EReal) (r n : ℕ) : EReal :=
  if h : r < a ∧ n < b then x (ix2 ⟨r, h.1⟩ ⟨n, h.2⟩) else 0

/-- A rank-3 array's entries as a function of three numbers. -/
def ent3 {a b d : ℕ} (x : (⟨3, ![a, b, d]⟩ : Shape).Idx → EReal) (p r n : ℕ) : EReal :=
  if h : p < a ∧ r < b ∧ n < d then x (ix3 ⟨p, h.1⟩ ⟨r, h.2.1⟩ ⟨n, h.2.2⟩) else 0

theorem e2_ent {a b : ℕ} (x : (⟨2, ![a, b]⟩ : Shape).Idx → EReal) : E2 x (ent2 x) := fun y => by
  rw [ent2, dif_pos ⟨(y 0).isLt, (y 1).isLt⟩]
  refine congrArg x ?_
  funext i
  match i with
  | ⟨0, _⟩ => rfl
  | ⟨1, _⟩ => rfl

theorem e3_ent {a b d : ℕ} (x : (⟨3, ![a, b, d]⟩ : Shape).Idx → EReal) : E3 x (ent3 x) := fun y => by
  rw [ent3, dif_pos ⟨(y 0).isLt, (y 1).isLt, (y 2).isLt⟩]
  refine congrArg x ?_
  funext i
  match i with
  | ⟨0, _⟩ => rfl
  | ⟨1, _⟩ => rfl
  | ⟨2, _⟩ => rfl

/-- A leading axis of size one leaves the entries where they are. -/
theorem lead {a b : ℕ} {x : (⟨2, ![a, b]⟩ : Shape).Idx → EReal} {f : ℕ → ℕ → EReal} (hx : E2 x f) (h : (⟨2, ![a, b]⟩ : Shape).ShapeCasts ⟨3, ![1, a, b]⟩) :
    E3 (a := 1) (b := a) (d := b) (shapeCast ⟨3, ![1, a, b]⟩ x h) (fun _ r n => f r n) := fun y => by
  have h0 : (y 0).val < 1 := (y 0).isLt
  refine (shapeCast_apply x h y (ix2 (y 1) (y 2)) ?_).trans (hx _)
  rw [Shape.rowMajor_val_two, Shape.rowMajor_val_three]
  show (y 1).val * b + (y 2).val = ((y 0).val * a + (y 1).val) * b + (y 2).val
  rw [show (y 0).val = 0 by omega, zero_mul, zero_add]

end Cert.Proof.Sheet

end
-- ==== Proof.Wgu.lean ====
module

public import proofs.«01_k».proof.Proof.Sheet
public import proofs.«01_k».proof.Proof.Gen.Kernel2Ideal.Value
public import proofs.«01_k».proof.Proof.Gen.Reference2Ideal.Run
public import proofs.«01_k».proof.Defs

@[expose] public section

set_option maxRecDepth 16384

noncomputable section

namespace Cert.Proof.Wgu

open Cert.Kernel2Ideal Cert.Kernel2Ideal.Gen
open Idealize.ShloMosaic Idealize.ShloMosaic.TcCoe Idealize.ShloMosaic.Tactic
open Idealize.SL.Sem
open Cert.Proof.Sheet

/-! ## The gate and up weights' gradient: the kernel's array -/

variable (m : (ℓ : Loc nD τ sig) → Buf (Elt Ideal) ℓ) (c : Dev nD)

theorem at0 : ∀ t : Fin cfg0.N, (cfg0.win 0).index t 0 = 0 ∧ (cfg0.win 0).index t 1 = t.val / 8 := by decide +kernel
theorem at1 : ∀ t : Fin cfg0.N, (cfg0.win 1).index t 0 = t.val % 8 / 4 ∧ (cfg0.win 1).index t 1 = 0 ∧ (cfg0.win 1).index t 2 = t.val % 4 := by decide +kernel
theorem at2 : ∀ t : Fin cfg0.N, (cfg0.win 2).index t 0 = t.val % 8 ∧ (cfg0.win 2).index t 1 = t.val / 8 ∧ (cfg0.win 2).index t 2 = 0 := by decide +kernel

/-- The arguments' entries. -/
abbrev A := ent2 (a := 4224) (b := 2048) (m ((c.tc : Thread nD τ).loc main_arg0))
abbrev D := ent3 (a := 2) (b := 4224) (d := 5632) (m ((c.tc : Thread nD τ).loc main_arg1))

theorem blk_a (t : Fin cfg0.N) : E2 (a := 4224) (b := 512) (iblk m c 0 t) (fun r d => A m c r (512 * (t.val / 8) + d)) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  blk_simp
  rw [this.1, this.2]
  congr 1 <;> omega

theorem blk_d (t : Fin cfg0.N) : E3 (a := 1) (b := 4224) (d := 1408) (iblk m c 1 t) (fun _ r n => D m c (t.val % 8 / 4) r (1408 * (t.val % 4) + n)) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

/-- One block: each entry is the sum over the rows. -/
theorem pay_apply {v0 : Vec Ideal S4224x512 .bf16} {v1 : Vec Ideal S1x4224x1408 .bf16} {f : ℕ → ℕ → EReal} {g : ℕ → ℕ → ℕ → EReal}
    (h0 : E2 (a := 4224) (b := 512) v0 f) (h1 : E3 (a := 1) (b := 4224) (d := 1408) v1 g) (y : S1x512x1408.Idx) :
    k0_pay1 v0 v1 y = ∑ r : Fin 4224, f r.val (y 1).val * g 0 r.val (y 2).val := by
  unfold k0_pay1
  pointwise
  exact Finset.sum_congr rfl fun k _ => by rw [h0 _, h1 _]; rfl

theorem arr : (dats m 0 c).arrAt 2 cfg0.N = (fun y : S8x2048x1408.Idx => ∑ r : Fin 4224, A m c r.val (y 1).val * D m c ((y 0).val / 4) r.val (1408 * ((y 0).val % 4) + (y 2).val)) := by
  refine (dats m 0 c).arrAt_eq_of_covers 2 _ (by decide +kernel) fun t hf y => ?_
  have a := at2 t
  have h0 : (y 0).val < 1 := (y 0).isLt
  blk_simp
  rw [after0_2]
  unfold out0_2
  rw [View.canon_cons_unit_lit _ _ _ (by decide), View.ld_unit_lit _ _ (by decide), View.ld_unit_lit _ _ (by decide)]
  refine (pay_apply (blk_a m c t) (blk_d m c t) y).trans ?_
  rw [a.1, a.2.1, a.2.2]
  exact Finset.sum_congr rfl fun k _ => by congr 2 <;> omega

end Cert.Proof.Wgu

/-! ## The plain gradient -/

namespace Cert.Proof.WguPlain

open Cert.Reference2Ideal Cert.Reference2Ideal.Gen
open Idealize.ShloMosaic Idealize.ShloMosaic.TcCoe Idealize.ShloMosaic.Tactic
open Cert.Proof.Sheet

/-- One half of the cotangents. -/
def part0 (d : FVec Ideal S2x4224x5632 .bf16) : FVec Ideal S4224x5632 .f32 :=
  shapeCast _ (extractStridedSlice S1x4224x5632 ![0, 0, 0] (extf .f32 d bitsLt_bf16_f32) slices_S2x4224x5632_S1x4224x5632_0_0_0) shapeCasts_S1x4224x5632_S4224x5632
def part1 (d : FVec Ideal S2x4224x5632 .bf16) : FVec Ideal S4224x5632 .f32 :=
  shapeCast _ (extractStridedSlice S1x4224x5632 ![1, 0, 0] (extf .f32 d bitsLt_bf16_f32) slices_S2x4224x5632_S1x4224x5632_1_0_0) shapeCasts_S1x4224x5632_S4224x5632

theorem part0_apply {d : FVec Ideal S2x4224x5632 .bf16} {D : ℕ → ℕ → ℕ → EReal} (h : E3 (a := 2) (b := 4224) (d := 5632) d D) :
    E2 (a := 4224) (b := 5632) (part0 d) (fun r n => D 0 r n) := fun y => by
  unfold part0
  pointwise
  exact h _

theorem part1_apply {d : FVec Ideal S2x4224x5632 .bf16} {D : ℕ → ℕ → ℕ → EReal} (h : E3 (a := 2) (b := 4224) (d := 5632) d D) :
    E2 (a := 4224) (b := 5632) (part1 d) (fun r n => D 1 r n) := fun y => by
  unfold part1
  pointwise
  exact h _

/-- The two halves side by side. -/
def both (p q : FVec Ideal S4224x5632 .f32) : FVec Ideal S4224x11264 .f32 :=
  concatenate S4224x11264 1 [⟨S4224x5632, p⟩, ⟨S4224x5632, q⟩] concatenates_S4224x5632_S4224x5632_S4224x11264_d1

theorem both_apply {p q : FVec Ideal S4224x5632 .f32} {D : ℕ → ℕ → ℕ → EReal} (hp : E2 (a := 4224) (b := 5632) p (D 0)) (hq : E2 (a := 4224) (b := 5632) q (D 1)) :
    E2 (a := 4224) (b := 11264) (both p q) (fun r n => D (n / 5632) r (n % 5632)) := fun y => by
  have h1 : (y 1).val < 11264 := (y 1).isLt
  unfold both
  pointwise
  split
  · refine (hp _).trans ?_
    rename_i h
    show D 0 (y 0).val (y 1).val = D ((y 1).val / 5632) (y 0).val ((y 1).val % 5632)
    rw [Nat.div_eq_of_lt h, Nat.mod_eq_of_lt h]
  · refine (hq _).trans ?_
    rename_i h
    show D 1 (y 0).val ((y 1).val - 5632) = D ((y 1).val / 5632) (y 0).val ((y 1).val % 5632)
    rw [show (y 1).val / 5632 = 1 by omega, show (y 1).val % 5632 = (y 1).val - 5632 by omega]

/-- The product, cut into the eight devices' column blocks. -/
def cut (e : FVec Ideal S4224x11264 .f32) (a : FVec Ideal S4224x2048 .bf16) : FVec Ideal S8x2048x1408 .bf16 :=
  truncf .bf16 (transpose S8x2048x1408 [1, 0, 2] (shapeCast _ (transpose S2048x11264 [1, 0] (Host.dotGeneral dot_S4224x11264_S4224x2048_S11264x2048_0_0_1_1_n_n none e (extf .f32 a bitsLt_bf16_f32)) transposes_S11264x2048_S2048x11264_1_0) shapeCasts_S2048x11264_S2048x8x1408) transposes_S2048x8x1408_S8x2048x1408_1_0_2) bitsLt_bf16_f32

theorem cut_apply {e : FVec Ideal S4224x11264 .f32} {a : FVec Ideal S4224x2048 .bf16} {E A : ℕ → ℕ → EReal} (he : E2 (a := 4224) (b := 11264) e E) (ha : E2 (a := 4224) (b := 2048) a A) :
    E3 (a := 8) (b := 2048) (d := 1408) (cut e a) (fun p k n => ∑ r : Fin 4224, A r.val k * E r.val (1408 * p + n)) := fun y => by
  have h0 : (y 0).val < 8 := (y 0).isLt
  have h2 : (y 2).val < 1408 := (y 2).isLt
  unfold cut
  pointwise
  refine Finset.sum_congr rfl fun k _ => ?_
  rw [he _, ha _]
  show E k.val ((y 0).val * 1408 + (y 2).val) * A k.val (y 1).val = A k.val (y 1).val * E k.val (1408 * (y 0).val + (y 2).val)
  rw [mul_comm 1408, mul_comm]

/-- The plain gradient, entry by entry. -/
theorem want {a : FVec Ideal S4224x2048 .bf16} {d : FVec Ideal S2x4224x5632 .bf16} {A : ℕ → ℕ → EReal} {D : ℕ → ℕ → ℕ → EReal}
    (ha : E2 (a := 4224) (b := 2048) a A) (hd : E3 (a := 2) (b := 4224) (d := 5632) d D) :
    cut (both (part0 d) (part1 d)) a = (fun y : S8x2048x1408.Idx => ∑ r : Fin 4224, A r.val (y 1).val * D ((y 0).val / 4) r.val (1408 * ((y 0).val % 4) + (y 2).val)) := by
  funext y
  have h0 : (y 0).val < 8 := (y 0).isLt
  have h2 : (y 2).val < 1408 := (y 2).isLt
  refine (cut_apply (both_apply (part0_apply hd) (part1_apply hd)) ha y).trans (Finset.sum_congr rfl fun k _ => ?_)
  rw [show (1408 * (y 0).val + (y 2).val) / 5632 = (y 0).val / 4 by omega, show (1408 * (y 0).val + (y 2).val) % 5632 = 1408 * ((y 0).val % 4) + (y 2).val by omega]

/-- The kernel's gradient of the gate and up weights is the plain one. -/
theorem algebraic : Cert.algebraic_Kernel2Ideal_Reference2Ideal (hKernel2Ideal := Cert.Kernel2Ideal.Gen.facts) (hReference2Ideal := Cert.Reference2Ideal.Gen.facts) := by
  intro m g m' g' hp hm
  refine ⟨fun c => (Cert.Kernel2Ideal.Gen.dats m 0 c).arrAt 2 Cert.Kernel2Ideal.cfg0.N, Cert.Kernel2Ideal.Value.run_blocks m g,
    (θ_run Cert.Reference2Ideal.defs _ _).mono (fun r h c => ?_) (Cert.Reference2Ideal.Value.run m' g')⟩
  obtain ⟨r0, rest⟩ := h c
  refine ⟨r0.trans ?_, rest⟩
  obtain ⟨h0, h1⟩ := hm c
  rw [h0, h1]
  refine Eq.trans ?_ (Wgu.arr m c).symm
  exact want (e2_ent _) (e3_ent _)

end Cert.Proof.WguPlain

end
-- ==== Proof.Wdown.lean ====
module

public import proofs.«01_k».proof.Proof.Sheet
public import proofs.«01_k».proof.Proof.Gen.Kernel3Ideal.Value
public import proofs.«01_k».proof.Proof.Gen.Reference3Ideal.Run
public import proofs.«01_k».proof.Defs

@[expose] public section

set_option maxRecDepth 16384

noncomputable section

namespace Cert.Proof.Wdown

open Cert.Kernel3Ideal Cert.Kernel3Ideal.Gen
open Idealize.ShloMosaic Idealize.ShloMosaic.TcCoe Idealize.ShloMosaic.Tactic
open Idealize.SL.Sem
open Cert.Proof.Sheet

/-! ## The down weights' gradient: the kernel's array -/

variable (m : (ℓ : Loc nD τ sig) → Buf (Elt Ideal) ℓ) (c : Dev nD)

theorem at0 : ∀ t : Fin cfg0.N, (cfg0.win 0).index t 0 = 0 ∧ (cfg0.win 0).index t 1 = t.val / 2 := by decide +kernel
theorem at1 : ∀ t : Fin cfg0.N, (cfg0.win 1).index t 0 = 0 ∧ (cfg0.win 1).index t 1 = 0 ∧ (cfg0.win 1).index t 2 = t.val % 2 := by decide +kernel
theorem at2 : ∀ t : Fin cfg0.N, (cfg0.win 2).index t 0 = 0 ∧ (cfg0.win 2).index t 1 = t.val / 2 ∧ (cfg0.win 2).index t 2 = t.val % 2 := by decide +kernel

/-- The arguments' entries. -/
abbrev A := ent2 (a := 4224) (b := 5632) (m ((c.tc : Thread nD τ).loc main_arg0))
abbrev D := ent2 (a := 4224) (b := 2048) (m ((c.tc : Thread nD τ).loc main_arg1))

/-- The array the kernel fetches its second operand from: the second argument, with a leading axis of size one. -/
theorem from1 : V m c main_v0 = shapeCast _ (m ((c.tc : Thread nD τ).loc main_arg1)) shapeCasts_S4224x2048_S1x4224x2048 := by
  unfold V hostOps0
  after_results_simp <;> rfl

theorem from1_apply : E3 (a := 1) (b := 4224) (d := 2048) (V m c main_v0) (fun _ r n => D m c r n) := by
  rw [from1 m c]
  exact lead (e2_ent _) _

theorem blk_a (t : Fin cfg0.N) : E2 (a := 4224) (b := 512) (iblk m c 0 t) (fun r d => A m c r (512 * (t.val / 2) + d)) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  blk_simp
  rw [this.1, this.2]
  congr 1 <;> omega

theorem blk_d (t : Fin cfg0.N) : E3 (a := 1) (b := 4224) (d := 1024) (iblk m c 1 t) (fun _ r n => D m c r (1024 * (t.val % 2) + n)) := by
  intro y
  unfold iblk
  refine (from1_apply m c (((cfg0.win 1).blk t).view.emb y)).trans ?_
  have := at1 t
  blk_simp
  rw [this.2.1, this.2.2]
  congr 1 <;> omega

/-- One block: each entry is the sum over the rows. -/
theorem pay_apply {v0 : Vec Ideal S4224x512 .bf16} {v1 : Vec Ideal S1x4224x1024 .bf16} {f : ℕ → ℕ → EReal} {g : ℕ → ℕ → ℕ → EReal}
    (h0 : E2 (a := 4224) (b := 512) v0 f) (h1 : E3 (a := 1) (b := 4224) (d := 1024) v1 g) (y : S1x512x1024.Idx) :
    k0_pay1 v0 v1 y = ∑ r : Fin 4224, f r.val (y 1).val * g 0 r.val (y 2).val := by
  unfold k0_pay1
  pointwise
  exact Finset.sum_congr rfl fun k _ => by rw [h0 _, h1 _]; rfl

/-- What the kernel leaves in its result, entry by entry. -/
theorem arr : (dats m 0 c).arrAt 2 cfg0.N = (fun y : S1x5632x2048.Idx => ∑ r : Fin 4224, A m c r.val (y 1).val * D m c r.val (y 2).val) := by
  refine (dats m 0 c).arrAt_eq_of_covers 2 _ (by decide +kernel) fun t hf y => ?_
  have a := at2 t
  have h0 : (y 0).val < 1 := (y 0).isLt
  blk_simp
  rw [after0_2]
  unfold out0_2
  rw [View.canon_cons_unit_lit _ _ _ (by decide), View.ld_unit_lit _ _ (by decide), View.ld_unit_lit _ _ (by decide)]
  refine (pay_apply (blk_a m c t) (blk_d m c t) y).trans ?_
  rw [a.2.1, a.2.2]
  exact Finset.sum_congr rfl fun k _ => by congr 2 <;> omega

end Cert.Proof.Wdown

/-! ## The plain product -/

namespace Cert.Proof.WdownPlain

open Cert.Reference3Ideal Cert.Reference3Ideal.Gen
open Idealize.ShloMosaic Idealize.ShloMosaic.TcCoe Idealize.ShloMosaic.Tactic
open Cert.Proof.Sheet

/-- The plain gradient as one expression of its arguments. -/
def plain (a : FVec Ideal S4224x5632 .bf16) (d : FVec Ideal S4224x2048 .bf16) : FVec Ideal S1x5632x2048 .bf16 :=
  broadcastInDim S1x5632x2048 ![1, 2] bcast_S5632x2048_S1x5632x2048_1_2 (truncf .bf16 (transpose S5632x2048 [1, 0] (Host.dotGeneral dot_S4224x2048_S4224x5632_S2048x5632_0_0_1_1_n_n none (extf .f32 d bitsLt_bf16_f32) (extf .f32 a bitsLt_bf16_f32)) transposes_S2048x5632_S5632x2048_1_0) bitsLt_bf16_f32)

/-- The plain gradient, entry by entry. -/
theorem want {a : FVec Ideal S4224x5632 .bf16} {d : FVec Ideal S4224x2048 .bf16} {A D : ℕ → ℕ → EReal}
    (ha : E2 (a := 4224) (b := 5632) a A) (hd : E2 (a := 4224) (b := 2048) d D) :
    plain a d = (fun y : S1x5632x2048.Idx => ∑ r : Fin 4224, A r.val (y 1).val * D r.val (y 2).val) := by
  funext y
  unfold plain
  pointwise
  refine Finset.sum_congr rfl fun k _ => ?_
  rw [ha _, hd _]
  show D k.val (y 2).val * A k.val (y 1).val = _
  rw [mul_comm]

/-- The kernel's gradient of the down weights is the plain one. -/
theorem algebraic : Cert.algebraic_Kernel3Ideal_Reference3Ideal (hKernel3Ideal := Cert.Kernel3Ideal.Gen.facts) (hReference3Ideal := Cert.Reference3Ideal.Gen.facts) := by
  intro m g m' g' hp hm
  refine ⟨fun c => (Cert.Kernel3Ideal.Gen.dats m 0 c).arrAt 2 Cert.Kernel3Ideal.cfg0.N, Cert.Kernel3Ideal.Value.run_blocks m g,
    (θ_run Cert.Reference3Ideal.defs _ _).mono (fun r h c => ?_) (Cert.Reference3Ideal.Value.run m' g')⟩
  obtain ⟨r0, rest⟩ := h c
  refine ⟨r0.trans ?_, rest⟩
  obtain ⟨h0, h1⟩ := hm c
  rw [h0, h1]
  refine Eq.trans ?_ (Wdown.arr m c).symm
  exact want (e2_ent _) (e2_ent _)

end Cert.Proof.WdownPlain

end
-- ==== Proof.Runs.lean ====
module

public import proofs.«01_k».proof.Proof.Sheet

@[expose] public section

noncomputable section

namespace Cert.Proof.Runs

open Finset

/-- A long sum in `J` runs of `w` terms. -/
theorem sum_runs (f : ℕ → EReal) (w J : ℕ) : ∑ s ∈ range J, ∑ n ∈ range w, f (w * s + n) = ∑ n ∈ range (J * w), f n := by
  induction J with
  | zero => simp
  | succ J ih => rw [sum_range_succ, ih, Nat.succ_mul, sum_range_add, mul_comm w J]

end Cert.Proof.Runs

end
-- ==== Proof.Dgu.lean ====
module

public import proofs.«01_k».proof.Proof.Runs
public import Idealize.ShloMosaic.Lib.Pipeline.ReadBack
public import proofs.«01_k».proof.Proof.Gen.Kernel4Ideal.Value
public import proofs.«01_k».proof.Proof.Gen.Reference4Ideal.Run
public import proofs.«01_k».proof.Defs

@[expose] public section

set_option maxRecDepth 16384

noncomputable section

namespace Cert.Proof.Dgu

open Cert.Kernel4Ideal Cert.Kernel4Ideal.Gen
open Idealize.ShloMosaic Idealize.ShloMosaic.TcCoe Idealize.ShloMosaic.Tactic
open Idealize.SL.Sem
open Cert.Proof.Sheet

/-! ## The input's gradient: the kernel's array -/

variable (m : (ℓ : Loc nD τ sig) → Buf (Elt Ideal) ℓ) (c : Dev nD)

theorem at0 : ∀ t : Fin cfg0.N, (cfg0.win 0).index t 0 = t.val % 4 / 2 ∧ (cfg0.win 0).index t 1 = t.val / 8 ∧ (cfg0.win 0).index t 2 = t.val % 2 := by decide +kernel
theorem at1 : ∀ t : Fin cfg0.N, (cfg0.win 1).index t 0 = t.val % 4 ∧ (cfg0.win 1).index t 1 = t.val / 4 % 2 ∧ (cfg0.win 1).index t 2 = 0 := by decide +kernel
theorem at2 : ∀ t : Fin cfg0.N, (cfg0.win 2).index t 0 = t.val / 8 ∧ (cfg0.win 2).index t 1 = t.val / 4 % 2 := by decide +kernel

/-- The arguments' entries. -/
abbrev D := ent3 (a := 2) (b := 4224) (d := 5632) (m ((c.tc : Thread nD τ).loc main_arg0))
abbrev B := ent3 (a := 8) (b := 2048) (d := 1408) (m ((c.tc : Thread nD τ).loc main_arg1))

/-- One product of the long sum: column `n` of the two cotangents side by side, with column `n` of the eight weight blocks side by side. -/
def term (r k n : ℕ) : EReal := D m c (n / 5632) r (n % 5632) * B m c (n / 1408) k (n % 1408)

theorem blk_d (t : Fin cfg0.N) : E3 (a := 1) (b := 1056) (d := 2816) (iblk m c 0 t) (fun _ r n => D m c (t.val % 4 / 2) (1056 * (t.val / 8) + r) (2816 * (t.val % 2) + n)) := by
  intro y
  unfold iblk
  rw [show V m c (Pipeline.arrRef spec0 0) = m ((c.tc : Thread nD τ).loc main_arg0) from V_main_arg0 m c]
  refine (e3_ent (m ((c.tc : Thread nD τ).loc main_arg0)) (((cfg0.win 0).blk t).view.emb y)).trans ?_
  have := at0 t
  have h0 : (y 0).val < 1 := (y 0).isLt
  blk_simp
  rw [this.1, this.2.1, this.2.2]
  congr 1 <;> omega

theorem blk_b (t : Fin cfg0.N) : E3 (a := 2) (b := 1024) (d := 1408) (iblk m c 1 t) (fun g k n => B m c (2 * (t.val % 4) + g) (1024 * (t.val / 4 % 2) + k) n) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 2 := (y 0).isLt
  blk_simp
  rw [this.1, this.2.1, this.2.2]
  congr 1 <;> omega

/-- One block: two products of 1408 columns each, added. -/
theorem pay_apply {v0 v5 : Vec Ideal S1x1056x1408 .bf16} {v2 v7 : Vec Ideal S1x1024x1408 .bf16} {f0 f5 f2 f7 : ℕ → ℕ → ℕ → EReal}
    (h0 : E3 (a := 1) (b := 1056) (d := 1408) v0 f0) (h5 : E3 (a := 1) (b := 1056) (d := 1408) v5 f5) (h2 : E3 (a := 1) (b := 1024) (d := 1408) v2 f2) (h7 : E3 (a := 1) (b := 1024) (d := 1408) v7 f7) (y : S1056x1024.Idx) :
    k0_pay1 v0 v2 v5 v7 y = (∑ k : Fin 1408, f0 0 (y 0).val k.val * f2 0 (y 1).val k.val) + ∑ k : Fin 1408, f5 0 (y 0).val k.val * f7 0 (y 1).val k.val := by
  unfold k0_pay1
  pointwise
  refine congrArg₂ (· + ·) (Finset.sum_congr rfl fun k _ => ?_) (Finset.sum_congr rfl fun k _ => ?_)
  · rw [h0 _, h2 _]; rfl
  · rw [h5 _, h7 _]; rfl

/-- The four loads of a step: each block in two halves. -/
theorem ld_d0 {X : Vec Ideal S1x1056x2816 .bf16} {f : ℕ → ℕ → ℕ → EReal} (h : E3 (a := 1) (b := 1056) (d := 2816) X f) (inb) :
    E3 (a := 1) (b := 1056) (d := 1408) (View.ld X (Rect.unit ![0, 0, 0] ![1, 1056, 1408] inb)) f := fun y => by
  pointwise
  exact h _

theorem ld_d1 {X : Vec Ideal S1x1056x2816 .bf16} {f : ℕ → ℕ → ℕ → EReal} (h : E3 (a := 1) (b := 1056) (d := 2816) X f) (inb) :
    E3 (a := 1) (b := 1056) (d := 1408) (View.ld X (Rect.unit ![0, 0, 1408] ![1, 1056, 1408] inb)) (fun p r n => f p r (1408 + n)) := fun y => by
  pointwise
  exact h _

theorem ld_b0 {X : Vec Ideal S2x1024x1408 .bf16} {f : ℕ → ℕ → ℕ → EReal} (h : E3 (a := 2) (b := 1024) (d := 1408) X f) (inb) :
    E3 (a := 1) (b := 1024) (d := 1408) (View.ld X (Rect.unit ![0, 0, 0] ![1, 1024, 1408] inb)) (fun p k n => f 0 k n) := fun y => by
  pointwise
  exact h _

theorem ld_b1 {X : Vec Ideal S2x1024x1408 .bf16} {f : ℕ → ℕ → ℕ → EReal} (h : E3 (a := 2) (b := 1024) (d := 1408) X f) (inb) :
    E3 (a := 1) (b := 1024) (d := 1408) (View.ld X (Rect.unit ![1, 0, 0] ![1, 1024, 1408] inb)) (fun p k n => f 1 k n) := fun y => by
  pointwise
  exact h _

/-- What a step adds at an entry of its block: the terms of the long sum from `2816 s` on, for the step's number `s`. -/
def step (t : ℕ) (j : S1056x1024.Idx) : EReal :=
  ∑ n ∈ Finset.range 2816, term m c (1056 * (t / 8) + (j 0).val) (1024 * (t / 4 % 2) + (j 1).val) (2816 * (t % 4) + n)

theorem step_eq (t : Fin cfg0.N) (i0 i1 i2 i3) (j : S1056x1024.Idx) :
    k0_pay1 (View.ld (iblk m c 0 t) (Rect.unit ![0, 0, 0] ![1, 1056, 1408] i0)) (View.ld (iblk m c 1 t) (Rect.unit ![0, 0, 0] ![1, 1024, 1408] i1))
      (View.ld (iblk m c 0 t) (Rect.unit ![0, 0, 1408] ![1, 1056, 1408] i2)) (View.ld (iblk m c 1 t) (Rect.unit ![1, 0, 0] ![1, 1024, 1408] i3)) j = step m c t.val j := by
  refine (pay_apply (ld_d0 (blk_d m c t) i0) (ld_d1 (blk_d m c t) i2) (ld_b0 (blk_b m c t) i1) (ld_b1 (blk_b m c t) i3) j).trans ?_
  rw [step, ← Runs.sum_runs _ 1408 2, Finset.sum_range_succ, Finset.sum_range_succ, Finset.sum_range_zero, zero_add, Finset.sum_range, Finset.sum_range]
  refine congrArg₂ (· + ·) (Finset.sum_congr rfl fun k _ => ?_) (Finset.sum_congr rfl fun k _ => ?_)
  · have hk : k.val < 1408 := k.isLt
    rw [term]
    congr 2 <;> omega
  · have hk : k.val < 1408 := k.isLt
    rw [term]
    congr 2 <;> omega

theorem reset_apply (v0 v5 : Vec Ideal S1x1056x1408 .bf16) (v2 v7 : Vec Ideal S1x1024x1408 .bf16) (j : S1056x1024.Idx) : k0_pay2 v0 v2 v5 v7 j = k0_pay1 v0 v2 v5 v7 j := by
  unfold k0_pay2
  generalize k0_pay1 v0 v2 v5 v7 = p
  pointwise

theorem add_apply (v0 v5 : Vec Ideal S1x1056x1408 .bf16) (v2 v7 : Vec Ideal S1x1024x1408 .bf16) (v : Vec Ideal S1056x1024 .f32) (j : S1056x1024.Idx) : k0_pay3 v0 v2 v5 v7 v j = v j + k0_pay1 v0 v2 v5 v7 j := by
  unfold k0_pay3
  generalize k0_pay1 v0 v2 v5 v7 = p
  pointwise

/-- The running sum that the kernel carries from step to step. -/
theorem acc (t : Fin cfg0.N) (j : S1056x1024.Idx) :
    (outsAt0 m c t.val t.isLt).2 j = 0 + ∑ s ∈ Finset.range (t.val % 4 + 1), step m c (4 * (t.val / 4) + s) j := by
  refine Pipeline.eq_sum_of_reset_step_apply (fun n h => (outsAt0 m c n h).2) 4 (fun _ => 0) (step m c) (fun t h j => ?_) (fun t h j => ?_) t j
  · rw [outsAt0_A m c t h (by omega) (by omega)]
    frame_out
    rw [reset_apply, step_eq, zero_add]
  · by_cases h2 : t.val % 4 = 3
    · rw [outsAt0_C m c t h (by omega) h2]
      frame_out
      simp only [read_unread_whole]
      rw [add_apply, step_eq]
    · rw [outsAt0_B m c t h (by omega) h2]
      frame_out
      simp only [read_unread_whole]
      rw [add_apply, step_eq]

/-- At a run's last step the block written is the running sum. -/
theorem last (t : Fin cfg0.N) (h : t.val % 4 = 3) : (outsAt0 m c t.val t.isLt).1 = (outsAt0 m c t.val t.isLt).2 := by
  rw [outsAt0_C m c t (by omega) (by omega) h]
  frame_out

/-- What the kernel leaves in its result, entry by entry: the long sum. -/
theorem arr : (dats m 0 c).arrAt 2 cfg0.N = (fun y : S4224x2048.Idx => ∑ n : Fin 11264, term m c (y 0).val (y 1).val n.val) := by
  refine (dats m 0 c).arrAt_eq_of_covers 2 _ (by decide +kernel) fun t hf y => ?_
  have a := at2 t
  have hr : t.val % 4 = 3 := by have := (flush0_2 t).mp hf; omega
  have h0 : (y 0).val < 1056 := (y 0).isLt
  have h1 : (y 1).val < 1024 := (y 1).isLt
  blk_simp
  rw [after0_2, last m c t hr]
  refine (acc m c t y).trans ?_
  rw [a.1, a.2, hr, zero_add]
  rw [show t.val / 8 * 1056 = 1056 * (t.val / 8) by omega, show t.val / 4 % 2 * 1024 = 1024 * (t.val / 4 % 2) by omega]
  refine Eq.trans (Finset.sum_congr rfl fun s hs => ?_) ((Runs.sum_runs (term m c (1056 * (t.val / 8) + (y 0).val) (1024 * (t.val / 4 % 2) + (y 1).val)) 2816 4).trans (Finset.sum_range _))
  have hs := Finset.mem_range.mp hs
  rw [step, show (4 * (t.val / 4) + s) / 8 = t.val / 8 by omega, show (4 * (t.val / 4) + s) / 4 = t.val / 4 by omega, show (4 * (t.val / 4) + s) % 4 = s by omega]

end Cert.Proof.Dgu

/-! ## The plain product -/

namespace Cert.Proof.DguPlain

open Cert.Reference4Ideal Cert.Reference4Ideal.Gen
open Idealize.ShloMosaic Idealize.ShloMosaic.TcCoe Idealize.ShloMosaic.Tactic
open Cert.Proof.Sheet

/-- One half of the cotangents. -/
def part0 (d : FVec Ideal S2x4224x5632 .bf16) : FVec Ideal S4224x5632 .f32 :=
  shapeCast _ (extractStridedSlice S1x4224x5632 ![0, 0, 0] (extf .f32 d bitsLt_bf16_f32) slices_S2x4224x5632_S1x4224x5632_0_0_0) shapeCasts_S1x4224x5632_S4224x5632
def part1 (d : FVec Ideal S2x4224x5632 .bf16) : FVec Ideal S4224x5632 .f32 :=
  shapeCast _ (extractStridedSlice S1x4224x5632 ![1, 0, 0] (extf .f32 d bitsLt_bf16_f32) slices_S2x4224x5632_S1x4224x5632_1_0_0) shapeCasts_S1x4224x5632_S4224x5632

theorem part0_apply {d : FVec Ideal S2x4224x5632 .bf16} {D : ℕ → ℕ → ℕ → EReal} (h : E3 (a := 2) (b := 4224) (d := 5632) d D) :
    E2 (a := 4224) (b := 5632) (part0 d) (fun r n => D 0 r n) := fun y => by
  unfold part0
  pointwise
  exact h _

theorem part1_apply {d : FVec Ideal S2x4224x5632 .bf16} {D : ℕ → ℕ → ℕ → EReal} (h : E3 (a := 2) (b := 4224) (d := 5632) d D) :
    E2 (a := 4224) (b := 5632) (part1 d) (fun r n => D 1 r n) := fun y => by
  unfold part1
  pointwise
  exact h _

/-- The two halves side by side. -/
def both (p q : FVec Ideal S4224x5632 .f32) : FVec Ideal S4224x11264 .f32 :=
  concatenate S4224x11264 1 [⟨S4224x5632, p⟩, ⟨S4224x5632, q⟩] concatenates_S4224x5632_S4224x5632_S4224x11264_d1

theorem both_apply {p q : FVec Ideal S4224x5632 .f32} {D : ℕ → ℕ → ℕ → EReal} (hp : E2 (a := 4224) (b := 5632) p (D 0)) (hq : E2 (a := 4224) (b := 5632) q (D 1)) :
    E2 (a := 4224) (b := 11264) (both p q) (fun r n => D (n / 5632) r (n % 5632)) := fun y => by
  have h1 : (y 1).val < 11264 := (y 1).isLt
  unfold both
  pointwise
  split
  · refine (hp _).trans ?_
    rename_i h
    show D 0 (y 0).val (y 1).val = D ((y 1).val / 5632) (y 0).val ((y 1).val % 5632)
    rw [Nat.div_eq_of_lt h, Nat.mod_eq_of_lt h]
  · refine (hq _).trans ?_
    rename_i h
    show D 1 (y 0).val ((y 1).val - 5632) = D ((y 1).val / 5632) (y 0).val ((y 1).val % 5632)
    rw [show (y 1).val / 5632 = 1 by omega, show (y 1).val % 5632 = (y 1).val - 5632 by omega]

/-- The eight devices' weight blocks side by side. -/
def wide (b : FVec Ideal S8x2048x1408 .bf16) : FVec Ideal S2048x11264 .f32 :=
  shapeCast _ (transpose S2048x8x1408 [1, 0, 2] (extf .f32 b bitsLt_bf16_f32) transposes_S8x2048x1408_S2048x8x1408_1_0_2) shapeCasts_S2048x8x1408_S2048x11264

theorem wide_apply {b : FVec Ideal S8x2048x1408 .bf16} {B : ℕ → ℕ → ℕ → EReal} (hb : E3 (a := 8) (b := 2048) (d := 1408) b B) :
    E2 (a := 2048) (b := 11264) (wide b) (fun k n => B (n / 1408) k (n % 1408)) := fun y => by
  unfold wide
  pointwise
  exact hb _

/-- The plain product as one expression of its arguments. -/
def plain (e : FVec Ideal S4224x11264 .f32) (w : FVec Ideal S2048x11264 .f32) : FVec Ideal S4224x2048 .f32 :=
  Host.dotGeneral dot_S4224x11264_S2048x11264_S4224x2048_1_1_0_0_n_n none e w

/-- The plain product, entry by entry. -/
theorem want {d : FVec Ideal S2x4224x5632 .bf16} {b : FVec Ideal S8x2048x1408 .bf16} {D B : ℕ → ℕ → ℕ → EReal}
    (hd : E3 (a := 2) (b := 4224) (d := 5632) d D) (hb : E3 (a := 8) (b := 2048) (d := 1408) b B) :
    plain (both (part0 d) (part1 d)) (wide b) = (fun y : S4224x2048.Idx => ∑ n : Fin 11264, D (n.val / 5632) (y 0).val (n.val % 5632) * B (n.val / 1408) (y 1).val (n.val % 1408)) := by
  funext y
  unfold plain
  pointwise
  refine Finset.sum_congr rfl fun k _ => ?_
  rw [both_apply (part0_apply hd) (part1_apply hd) _, wide_apply hb _]
  rfl

/-- The kernel's gradient of the input is the plain one. -/
theorem algebraic : Cert.algebraic_Kernel4Ideal_Reference4Ideal (hKernel4Ideal := Cert.Kernel4Ideal.Gen.facts) (hReference4Ideal := Cert.Reference4Ideal.Gen.facts) := by
  intro m g m' g' hp hm
  refine ⟨fun c => (Cert.Kernel4Ideal.Gen.dats m 0 c).arrAt 2 Cert.Kernel4Ideal.cfg0.N, Cert.Kernel4Ideal.Value.run_blocks m g,
    (θ_run Cert.Reference4Ideal.defs _ _).mono (fun r h c => ?_) (Cert.Reference4Ideal.Value.run m' g')⟩
  obtain ⟨r0, rest⟩ := h c
  refine ⟨r0.trans ?_, rest⟩
  obtain ⟨h0, h1⟩ := hm c
  rw [h0, h1]
  refine Eq.trans ?_ (Dgu.arr m c).symm
  exact want (e3_ent _) (e3_ent _)

end Cert.Proof.DguPlain

end
-- ==== Proof.Gate.lean ====
module

public import proofs.«01_k».proof.Proof.Sheet
public import proofs.«01_k».proof.Proof.Meet

@[expose] public section

noncomputable section

namespace Cert.Proof.Gate

open Idealize.ShloMosaic
open Cert.Proof.Sheet

/-! ## The gate: real entries, and the derivative of silu -/

/-- A finite sum of real numbers is a real number. -/
theorem real_sum {ι : Type} (s : Finset ι) (f : ι → EReal) (h : ∀ k, ∃ r : ℝ, f k = (r : EReal)) : ∃ r : ℝ, ∑ k ∈ s, f k = (r : EReal) := by
  classical
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem real_ent2 {a b : ℕ} {x : (⟨2, ![a, b]⟩ : Shape).Idx → EReal} (h : ∀ y, ∃ r : ℝ, x y = (r : EReal)) (i j : ℕ) : ∃ r : ℝ, ent2 x i j = (r : EReal) := by
  unfold ent2
  split
  · exact h _
  · exact ⟨0, rfl⟩

theorem real_ent3 {a b d : ℕ} {x : (⟨3, ![a, b, d]⟩ : Shape).Idx → EReal} (h : ∀ y, ∃ r : ℝ, x y = (r : EReal)) (i j k : ℕ) : ∃ r : ℝ, ent3 x i j k = (r : EReal) := by
  unfold ent3
  split
  · exact h _
  · exact ⟨0, rfl⟩

/-- silu, and silu's derivative times a factor as the product rule gives it. -/
def silu (g : EReal) : EReal := g * Ideal.logistic g
def slope (g d : EReal) : EReal := d * Ideal.logistic g + g * d * (Ideal.logistic g * (1 - Ideal.logistic g))

/-- Of real numbers, a factor taken out of silu's derivative. -/
theorem slope_mul {d g u : EReal} (hd : ∃ r : ℝ, d = (r : EReal)) (hg : ∃ r : ℝ, g = (r : EReal)) (hu : ∃ r : ℝ, u = (r : EReal)) :
    slope g (d * u) = d * slope g u := by
  obtain ⟨d, rfl⟩ := hd
  obtain ⟨g, rfl⟩ := hg
  obtain ⟨u, rfl⟩ := hu
  unfold slope
  rw [Ideal.logistic_coe]
  generalize (1 + Real.exp (-g))⁻¹ = s
  rw [← EReal.coe_one]
  simp only [← EReal.coe_mul, ← EReal.coe_add, ← EReal.coe_sub]
  congr 1
  ring

/-- silu's derivative times a factor, as the product rule gives it and as the kernel has it. -/
theorem deriv {g u : EReal} (hg : ∃ r : ℝ, g = (r : EReal)) (hu : ∃ r : ℝ, u = (r : EReal)) :
    slope g u = u * (Ideal.logistic g * (1 + g * (1 - Ideal.logistic g))) := by
  obtain ⟨g, rfl⟩ := hg
  obtain ⟨u, rfl⟩ := hu
  unfold slope
  rw [Ideal.logistic_coe]
  generalize (1 + Real.exp (-g))⁻¹ = s
  rw [← EReal.coe_one]
  simp only [← EReal.coe_mul, ← EReal.coe_add, ← EReal.coe_sub]
  congr 1
  ring

end Cert.Proof.Gate

end
-- ==== Proof.Swiglu.lean ====
module

public import proofs.«01_k».proof.Proof.Gate
public import proofs.«01_k».proof.Proof.Gen.Pre_finite5
public import proofs.«01_k».proof.Proof.Gen.Kernel5Ideal.Value
public import proofs.«01_k».proof.Proof.Gen.Reference5Ideal.Run
public import proofs.«01_k».proof.Defs

@[expose] public section

set_option maxRecDepth 16384

noncomputable section

namespace Cert.Proof.Swiglu

open Cert.Kernel5Ideal Cert.Kernel5Ideal.Gen
open Idealize.ShloMosaic Idealize.ShloMosaic.TcCoe Idealize.ShloMosaic.Tactic
open Idealize.SL.Sem
open Cert.Proof.Sheet

/-! ## The gated product: the kernel's array -/

variable (m : (ℓ : Loc nD τ sig) → Buf (Elt Ideal) ℓ) (c : Dev nD)

theorem at0 : ∀ t : Fin cfg0.N, (cfg0.win 0).index t 0 = t.val % 8 ∧ (cfg0.win 0).index t 1 = 0 := by decide +kernel
theorem at1 : ∀ t : Fin cfg0.N, (cfg0.win 1).index t 0 = t.val / 8 ∧ (cfg0.win 1).index t 1 = 0 ∧ (cfg0.win 1).index t 2 = 0 := by decide +kernel
theorem at2 : ∀ t : Fin cfg0.N, (cfg0.win 2).index t 0 = 4 + t.val / 8 ∧ (cfg0.win 2).index t 1 = 0 ∧ (cfg0.win 2).index t 2 = 0 := by decide +kernel
theorem at3 : ∀ t : Fin cfg0.N, (cfg0.win 3).index t 0 = t.val % 8 ∧ (cfg0.win 3).index t 1 = t.val / 8 := by decide +kernel
theorem at4 : ∀ t : Fin cfg0.N, (cfg0.win 4).index t 0 = t.val % 8 ∧ (cfg0.win 4).index t 1 = t.val / 8 := by decide +kernel
theorem at5 : ∀ t : Fin cfg0.N, (cfg0.win 5).index t 0 = t.val % 8 ∧ (cfg0.win 5).index t 1 = t.val / 8 := by decide +kernel

/-- The arguments' entries. -/
abbrev A := ent2 (a := 4224) (b := 2048) (m ((c.tc : Thread nD τ).loc main_arg0))
abbrev B := ent3 (a := 8) (b := 2048) (d := 1408) (m ((c.tc : Thread nD τ).loc main_arg1))

theorem blk_a (t : Fin cfg0.N) : E2 (a := 528) (b := 2048) (iblk m c 0 t) (fun r k => A m c (528 * (t.val % 8) + r) k) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 528 := (y 0).isLt
  blk_simp
  rw [this.1, this.2]
  congr 1 <;> omega

theorem blk_g (t : Fin cfg0.N) : E3 (a := 1) (b := 2048) (d := 1408) (iblk m c 1 t) (fun _ k n => B m c (t.val / 8) k n) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

theorem blk_u (t : Fin cfg0.N) : E3 (a := 1) (b := 2048) (d := 1408) (iblk m c 2 t) (fun _ k n => B m c (4 + t.val / 8) k n) := by
  intro y
  unfold iblk
  rw [show V m c (Pipeline.arrRef spec0 2) = m ((c.tc : Thread nD τ).loc main_arg1) from V_main_arg1 m c]
  refine (e3_ent (m ((c.tc : Thread nD τ).loc main_arg1)) (((cfg0.win 2).blk t).view.emb y)).trans ?_
  have := at2 t
  have h0 : (y 0).val < 1 := (y 0).isLt
  blk_simp
  rw [this.1, this.2.1, this.2.2]
  congr 1 <;> omega

/-- The two products of a block, entry by entry. -/
theorem gate_apply {v0 : Vec Ideal S528x2048 .bf16} {v1 : Vec Ideal S1x2048x1408 .bf16} {f : ℕ → ℕ → EReal} {g : ℕ → ℕ → ℕ → EReal}
    (h0 : E2 (a := 528) (b := 2048) v0 f) (h1 : E3 (a := 1) (b := 2048) (d := 1408) v1 g) (y : S528x1408.Idx) :
    k0_pay1 v0 v1 y = ∑ k : Fin 2048, f (y 0).val k.val * g 0 k.val (y 1).val := by
  unfold k0_pay1
  pointwise
  exact Finset.sum_congr rfl fun k _ => by rw [h0 _, h1 _]; rfl

theorem up_apply {v0 : Vec Ideal S528x2048 .bf16} {v1 : Vec Ideal S1x2048x1408 .bf16} {f : ℕ → ℕ → EReal} {g : ℕ → ℕ → ℕ → EReal}
    (h0 : E2 (a := 528) (b := 2048) v0 f) (h1 : E3 (a := 1) (b := 2048) (d := 1408) v1 g) (y : S528x1408.Idx) :
    k0_pay5 v0 v1 y = ∑ k : Fin 2048, f (y 0).val k.val * g 0 k.val (y 1).val := by
  unfold k0_pay5
  pointwise
  exact Finset.sum_congr rfl fun k _ => by rw [h0 _, h1 _]; rfl

/-- The three stores of a block, from its two products. -/
theorem silu_apply (v0 : Vec Ideal S528x2048 .bf16) (v1 : Vec Ideal S1x2048x1408 .bf16) (y : S528x1408.Idx) :
    k0_pay4 v0 v1 y = k0_pay1 v0 v1 y * Ideal.logistic (k0_pay1 v0 v1 y) := by
  unfold k0_pay4 k0_pay3 k0_pay2
  generalize k0_pay1 v0 v1 = p
  pointwise

theorem act_apply (v0 : Vec Ideal S528x2048 .bf16) (v1 v14 : Vec Ideal S1x2048x1408 .bf16) (y : S528x1408.Idx) :
    k0_pay7 v0 v1 v14 y = k0_pay1 v0 v1 y * Ideal.logistic (k0_pay1 v0 v1 y) * k0_pay5 v0 v14 y := by
  unfold k0_pay7 k0_pay3 k0_pay2
  generalize k0_pay1 v0 v1 = p
  generalize k0_pay5 v0 v14 = q
  pointwise

theorem slope_apply (v0 : Vec Ideal S528x2048 .bf16) (v1 v14 : Vec Ideal S1x2048x1408 .bf16) (y : S528x1408.Idx) :
    k0_pay6 v0 v1 v14 y = k0_pay5 v0 v14 y * (Ideal.logistic (k0_pay1 v0 v1 y) * (1 + k0_pay1 v0 v1 y * (1 - Ideal.logistic (k0_pay1 v0 v1 y)))) := by
  unfold k0_pay6 k0_pay2
  generalize k0_pay1 v0 v1 = p
  generalize k0_pay5 v0 v14 = q
  pointwise

/-- An entry of the gate product and of the up product. -/
def gate (a : ℕ → ℕ → EReal) (b : ℕ → ℕ → ℕ → EReal) (r n : ℕ) : EReal := ∑ k : Fin 2048, a r k.val * b (n / 1408) k.val (n % 1408)
def up (a : ℕ → ℕ → EReal) (b : ℕ → ℕ → ℕ → EReal) (r n : ℕ) : EReal := ∑ k : Fin 2048, a r k.val * b (4 + n / 1408) k.val (n % 1408)

theorem gate_blk (t : Fin cfg0.N) (y : S528x1408.Idx) :
    k0_pay1 (iblk m c 0 t) (iblk m c 1 t) y = gate (A m c) (B m c) (528 * (t.val % 8) + (y 0).val) (1408 * (t.val / 8) + (y 1).val) := by
  have h1 : (y 1).val < 1408 := (y 1).isLt
  refine (gate_apply (blk_a m c t) (blk_g m c t) y).trans (Finset.sum_congr rfl fun k _ => ?_)
  congr 2 <;> omega

theorem up_blk (t : Fin cfg0.N) (y : S528x1408.Idx) :
    k0_pay5 (iblk m c 0 t) (iblk m c 2 t) y = up (A m c) (B m c) (528 * (t.val % 8) + (y 0).val) (1408 * (t.val / 8) + (y 1).val) := by
  have h1 : (y 1).val < 1408 := (y 1).isLt
  refine (up_apply (blk_a m c t) (blk_u m c t) y).trans (Finset.sum_congr rfl fun k _ => ?_)
  congr 2 <;> omega

/-- The gated product. -/
theorem arr_act : (dats m 0 c).arrAt 3 cfg0.N = (fun y : S4224x5632.Idx => gate (A m c) (B m c) (y 0).val (y 1).val * Ideal.logistic (gate (A m c) (B m c) (y 0).val (y 1).val) * up (A m c) (B m c) (y 0).val (y 1).val) := by
  refine (dats m 0 c).arrAt_eq_of_covers 3 _ (by decide +kernel) fun t hf y => ?_
  have a := at3 t
  blk_simp
  rw [after0_3]
  unfold out0_3
  rw [View.canon_cons_unit_lit _ _ _ (by decide), View.ld_unit_lit _ _ (by decide), View.ld_unit_lit _ _ (by decide), View.ld_unit_lit _ _ (by decide)]
  refine (act_apply _ _ _ y).trans ?_
  rw [gate_blk, up_blk, a.1, a.2, mul_comm (t.val % 8), mul_comm (t.val / 8)]

/-- silu of the gate. -/
theorem arr_silu : (dats m 0 c).arrAt 4 cfg0.N = (fun y : S4224x5632.Idx => gate (A m c) (B m c) (y 0).val (y 1).val * Ideal.logistic (gate (A m c) (B m c) (y 0).val (y 1).val)) := by
  refine (dats m 0 c).arrAt_eq_of_covers 4 _ (by decide +kernel) fun t hf y => ?_
  have a := at4 t
  blk_simp
  rw [after0_4]
  unfold out0_4
  rw [View.canon_cons_unit_lit _ _ _ (by decide), View.ld_unit_lit _ _ (by decide), View.ld_unit_lit _ _ (by decide)]
  refine (silu_apply _ _ y).trans ?_
  rw [gate_blk, a.1, a.2, mul_comm (t.val % 8), mul_comm (t.val / 8)]

/-- silu's derivative at the gate, times the up product. -/
theorem arr_slope : (dats m 0 c).arrAt 5 cfg0.N = (fun y : S4224x5632.Idx => up (A m c) (B m c) (y 0).val (y 1).val * (Ideal.logistic (gate (A m c) (B m c) (y 0).val (y 1).val) * (1 + gate (A m c) (B m c) (y 0).val (y 1).val * (1 - Ideal.logistic (gate (A m c) (B m c) (y 0).val (y 1).val))))) := by
  refine (dats m 0 c).arrAt_eq_of_covers 5 _ (by decide +kernel) fun t hf y => ?_
  have a := at5 t
  blk_simp
  rw [after0_5]
  unfold out0_5
  rw [View.canon_cons_unit_lit _ _ _ (by decide), View.ld_unit_lit _ _ (by decide), View.ld_unit_lit _ _ (by decide), View.ld_unit_lit _ _ (by decide)]
  refine (slope_apply _ _ _ y).trans ?_
  rw [gate_blk, up_blk, a.1, a.2, mul_comm (t.val % 8), mul_comm (t.val / 8)]

end Cert.Proof.Swiglu

/-! ## The plain product -/

namespace Cert.Proof.SwigluPlain

open Cert.Reference5Ideal Cert.Reference5Ideal.Gen
open Idealize.ShloMosaic Idealize.ShloMosaic.TcCoe Idealize.ShloMosaic.Tactic
open Cert.Proof.Sheet

/-- The product with the eight devices' weight blocks side by side. -/
def prod (a : FVec Ideal S4224x2048 .bf16) (b : FVec Ideal S8x2048x1408 .bf16) : FVec Ideal S4224x11264 .f32 :=
  Host.dotGeneral dot_S4224x2048_S2048x11264_S4224x11264_1_0_0_1_n_n none (extf .f32 a bitsLt_bf16_f32) (shapeCast _ (transpose S2048x8x1408 [1, 0, 2] (extf .f32 b bitsLt_bf16_f32) transposes_S8x2048x1408_S2048x8x1408_1_0_2) shapeCasts_S2048x8x1408_S2048x11264)

theorem prod_apply {a : FVec Ideal S4224x2048 .bf16} {b : FVec Ideal S8x2048x1408 .bf16} {A : ℕ → ℕ → EReal} {B : ℕ → ℕ → ℕ → EReal}
    (ha : E2 (a := 4224) (b := 2048) a A) (hb : E3 (a := 8) (b := 2048) (d := 1408) b B) :
    E2 (a := 4224) (b := 11264) (prod a b) (fun r n => ∑ k : Fin 2048, A r k.val * B (n / 1408) k.val (n % 1408)) := fun y => by
  unfold prod
  pointwise
  refine Finset.sum_congr rfl fun k _ => ?_
  rw [ha _, hb _]
  rfl

/-- Its two halves. -/
def left (z : FVec Ideal S4224x11264 .f32) : FVec Ideal S4224x5632 .f32 := extractStridedSlice S4224x5632 ![0, 0] z slices_S4224x11264_S4224x5632_0_0
def right (z : FVec Ideal S4224x11264 .f32) : FVec Ideal S4224x5632 .f32 := extractStridedSlice S4224x5632 ![0, 5632] z slices_S4224x11264_S4224x5632_0_5632

theorem left_apply {z : FVec Ideal S4224x11264 .f32} {f : ℕ → ℕ → EReal} (h : E2 (a := 4224) (b := 11264) z f) : E2 (a := 4224) (b := 5632) (left z) f := fun y => by
  unfold left
  pointwise
  exact h _

theorem right_apply {z : FVec Ideal S4224x11264 .f32} {f : ℕ → ℕ → EReal} (h : E2 (a := 4224) (b := 11264) z f) : E2 (a := 4224) (b := 5632) (right z) (fun r n => f r (5632 + n)) := fun y => by
  unfold right
  pointwise
  exact h _

theorem gate_half {a : FVec Ideal S4224x2048 .bf16} {b : FVec Ideal S8x2048x1408 .bf16} {A : ℕ → ℕ → EReal} {B : ℕ → ℕ → ℕ → EReal}
    (ha : E2 (a := 4224) (b := 2048) a A) (hb : E3 (a := 8) (b := 2048) (d := 1408) b B) : E2 (a := 4224) (b := 5632) (left (prod a b)) (Swiglu.gate A B) :=
  left_apply (prod_apply ha hb)

theorem up_half {a : FVec Ideal S4224x2048 .bf16} {b : FVec Ideal S8x2048x1408 .bf16} {A : ℕ → ℕ → EReal} {B : ℕ → ℕ → ℕ → EReal}
    (ha : E2 (a := 4224) (b := 2048) a A) (hb : E3 (a := 8) (b := 2048) (d := 1408) b B) : E2 (a := 4224) (b := 5632) (right (prod a b)) (Swiglu.up A B) := fun y => by
  have h1 : (y 1).val < 5632 := (y 1).isLt
  refine (right_apply (prod_apply ha hb) y).trans (Finset.sum_congr rfl fun k _ => ?_)
  rw [show (5632 + (y 1).val) / 1408 = 4 + (y 1).val / 1408 by omega, show (5632 + (y 1).val) % 1408 = (y 1).val % 1408 by omega]

/-- The constant one, the sigmoid and the three results, as the plain mathematics writes them. -/
def one : FVec Ideal S4224x5632 .f32 := broadcastInDim S4224x5632 ![] bcast_S_S4224x5632 (constant S_ .f32 0x3F800000#32)
def sig (g : FVec Ideal S4224x5632 .f32) : FVec Ideal S4224x5632 .f32 := Host.divf one (addf one (Host.exp (Host.negf g)))
def act (g u : FVec Ideal S4224x5632 .f32) : FVec Ideal S4224x5632 .bf16 := truncf .bf16 (mulf (mulf g (sig g)) u) bitsLt_bf16_f32
def du (g : FVec Ideal S4224x5632 .f32) : FVec Ideal S4224x5632 .bf16 := truncf .bf16 (mulf (mulf g (sig g)) one) bitsLt_bf16_f32
def dg (g u : FVec Ideal S4224x5632 .f32) : FVec Ideal S4224x5632 .bf16 :=
  truncf .bf16 (addf (mulf (mulf one u) (sig g)) (mulf (mulf g (mulf one u)) (mulf (sig g) (subf one (sig g))))) bitsLt_bf16_f32

theorem one_apply (y : S4224x5632.Idx) : one y = 1 := by
  unfold one
  pointwise

theorem sig_apply (g : FVec Ideal S4224x5632 .f32) (y : S4224x5632.Idx) : sig g y = Ideal.logistic (g y) := by
  unfold sig
  pointwise
  rw [one_apply]
  rfl

theorem act_eq {g u : FVec Ideal S4224x5632 .f32} {G U : ℕ → ℕ → EReal} (hg : E2 (a := 4224) (b := 5632) g G) (hu : E2 (a := 4224) (b := 5632) u U) :
    act g u = (fun y : S4224x5632.Idx => G (y 0).val (y 1).val * Ideal.logistic (G (y 0).val (y 1).val) * U (y 0).val (y 1).val) := by
  funext y
  unfold act
  pointwise
  rw [sig_apply, hg y, hu y]

theorem du_apply {g : FVec Ideal S4224x5632 .f32} {G : ℕ → ℕ → EReal} (hg : E2 (a := 4224) (b := 5632) g G) :
    E2 (a := 4224) (b := 5632) (du g) (fun r n => Gate.silu (G r n)) := fun y => by
  unfold du
  pointwise
  rw [sig_apply, one_apply, hg y, mul_one]
  rfl

theorem dg_apply {g u : FVec Ideal S4224x5632 .f32} {G U : ℕ → ℕ → EReal} (hg : E2 (a := 4224) (b := 5632) g G) (hu : E2 (a := 4224) (b := 5632) u U) :
    E2 (a := 4224) (b := 5632) (dg g u) (fun r n => Gate.slope (G r n) (U r n)) := fun y => by
  unfold dg
  pointwise
  rw [sig_apply, one_apply, hg y, hu y, one_mul]
  rfl

theorem du_eq {g : FVec Ideal S4224x5632 .f32} {G : ℕ → ℕ → EReal} (hg : E2 (a := 4224) (b := 5632) g G) :
    du g = (fun y : S4224x5632.Idx => G (y 0).val (y 1).val * Ideal.logistic (G (y 0).val (y 1).val)) :=
  funext fun y => du_apply hg y

theorem dg_eq {g u : FVec Ideal S4224x5632 .f32} {G U : ℕ → ℕ → EReal} (hg : E2 (a := 4224) (b := 5632) g G) (hu : E2 (a := 4224) (b := 5632) u U)
    (rg : ∀ r n, ∃ x : ℝ, G r n = (x : EReal)) (ru : ∀ r n, ∃ x : ℝ, U r n = (x : EReal)) :
    dg g u = (fun y : S4224x5632.Idx => U (y 0).val (y 1).val * (Ideal.logistic (G (y 0).val (y 1).val) * (1 + G (y 0).val (y 1).val * (1 - Ideal.logistic (G (y 0).val (y 1).val))))) :=
  funext fun y => (dg_apply hg hu y).trans (Gate.deriv (rg _ _) (ru _ _))

/-- Finite arguments have real entries. -/
theorem finite_of {a : FVec Ideal S4224x2048 .bf16} {b : FVec Ideal S8x2048x1408 .bf16} (h : Cert.Pre_finite5.fn (F := Ideal) a b = fun _ => 1#1) :
    (∀ y, ∃ r : ℝ, a y = (r : EReal)) ∧ ∀ y, ∃ r : ℝ, b y = (r : EReal) := by
  have j : Cert.Pre_finite5.S_.Idx := fun i => i.elim0
  have e := congrFun h j
  simp only [Cert.Pre_finite5.fn] at e
  obtain ⟨e0, e1⟩ := IntOp.andi_eq_one.mp e
  exact ⟨Meet.real_of_all (extf .f32 a bitsLt_bf16_f32) _ _ _ j e0, Meet.real_of_all (extf .f32 b bitsLt_bf16_f32) _ _ _ j e1⟩

/-- The kernel's gated product, and what it saves for the backward pass, are the plain ones. -/
theorem algebraic : Cert.algebraic_Kernel5Ideal_Reference5Ideal_pre_finite5 (hKernel5Ideal := Cert.Kernel5Ideal.Gen.facts) (hReference5Ideal := Cert.Reference5Ideal.Gen.facts) (hPre_finite5 := Cert.Pre_finite5.Gen.facts) := by
  intro m g m' g' hp hm
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N,
    fun c => (Cert.Kernel5Ideal.Gen.dats m 0 c).arrAt 5 Cert.Kernel5Ideal.cfg0.N, Cert.Kernel5Ideal.Value.run_blocks m g,
    (θ_run Cert.Reference5Ideal.defs _ _).mono (fun r h c => ?_) (Cert.Reference5Ideal.Value.run m' g')⟩
  obtain ⟨r0, r1, r2, rest⟩ := h c
  obtain ⟨h0, h1⟩ := hm c
  obtain ⟨fa, fb⟩ := finite_of (hp c)
  rw [h0, h1] at r0 r1 r2
  have hg := gate_half (e2_ent (m ((c.tc : Thread Cert.Kernel5Ideal.nD Cert.Kernel5Ideal.τ).loc Cert.Kernel5Ideal.main_arg0))) (e3_ent (m ((c.tc : Thread Cert.Kernel5Ideal.nD Cert.Kernel5Ideal.τ).loc Cert.Kernel5Ideal.main_arg1)))
  have hu := up_half (e2_ent (m ((c.tc : Thread Cert.Kernel5Ideal.nD Cert.Kernel5Ideal.τ).loc Cert.Kernel5Ideal.main_arg0))) (e3_ent (m ((c.tc : Thread Cert.Kernel5Ideal.nD Cert.Kernel5Ideal.τ).loc Cert.Kernel5Ideal.main_arg1)))
  refine ⟨r0.trans ?_, r1.trans ?_, r2.trans ?_, rest⟩
  · exact (act_eq hg hu).trans (Swiglu.arr_act m c).symm
  · exact (du_eq hg).trans (Swiglu.arr_silu m c).symm
  · exact (dg_eq hg hu (fun r n => Gate.real_sum _ _ fun k => Gate.real_mul (Gate.real_ent2 fa _ _) (Gate.real_ent3 fb _ _ _))
      (fun r n => Gate.real_sum _ _ fun k => Gate.real_mul (Gate.real_ent2 fa _ _) (Gate.real_ent3 fb _ _ _))).trans (Swiglu.arr_slope m c).symm

end Cert.Proof.SwigluPlain

end
-- ==== Proof.Dswiglu.lean ====
module

public import proofs.«01_k».proof.Proof.Swiglu
public import proofs.«01_k».proof.Proof.Gen.Pre_finite6
public import proofs.«01_k».proof.Proof.Gen.Kernel6Ideal.Value
public import proofs.«01_k».proof.Proof.Gen.Reference6Ideal.Run
public import proofs.«01_k».proof.Defs

@[expose] public section

set_option maxRecDepth 16384

noncomputable section

namespace Cert.Proof.Dswiglu

open Cert.Kernel6Ideal Cert.Kernel6Ideal.Gen
open Idealize.ShloMosaic Idealize.ShloMosaic.TcCoe Idealize.ShloMosaic.Tactic
open Idealize.SL.Sem
open Cert.Proof.Sheet

/-! ## The gated product's gradient: the kernel's array -/

variable (m : (ℓ : Loc nD τ sig) → Buf (Elt Ideal) ℓ) (c : Dev nD)

theorem at0 : ∀ t : Fin cfg0.N, (cfg0.win 0).index t 0 = t.val / 11 ∧ (cfg0.win 0).index t 1 = 0 := by decide +kernel
theorem at1 : ∀ t : Fin cfg0.N, (cfg0.win 1).index t 0 = 0 ∧ (cfg0.win 1).index t 1 = t.val % 11 ∧ (cfg0.win 1).index t 2 = 0 := by decide +kernel
theorem at2 : ∀ t : Fin cfg0.N, (cfg0.win 2).index t 0 = t.val / 11 ∧ (cfg0.win 2).index t 1 = t.val % 11 := by decide +kernel
theorem at3 : ∀ t : Fin cfg0.N, (cfg0.win 3).index t 0 = t.val / 11 ∧ (cfg0.win 3).index t 1 = t.val % 11 := by decide +kernel
theorem at4 : ∀ t : Fin cfg0.N, (cfg0.win 4).index t 0 = 0 ∧ (cfg0.win 4).index t 1 = t.val / 11 ∧ (cfg0.win 4).index t 2 = t.val % 11 := by decide +kernel

/-- The arguments' entries. -/
abbrev D := ent2 (a := 4224) (b := 2048) (m ((c.tc : Thread nD τ).loc main_arg0))
abbrev B := ent3 (a := 1) (b := 5632) (d := 2048) (m ((c.tc : Thread nD τ).loc main_arg1))
abbrev G := ent2 (a := 4224) (b := 5632) (m ((c.tc : Thread nD τ).loc main_arg2))
abbrev U := ent2 (a := 4224) (b := 5632) (m ((c.tc : Thread nD τ).loc main_arg3))

/-- The two arrays the kernel is handed: silu of the gate, and the up product times silu's derivative. -/
theorem from2 : V m c main_v6 = SwigluPlain.du (m ((c.tc : Thread nD τ).loc main_arg2)) := by
  unfold V
  simp only [hostOps0, hostOps0_1, hostOps0_2, hostOps0_3, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

theorem from3 : V m c main_v7 = SwigluPlain.dg (m ((c.tc : Thread nD τ).loc main_arg2)) (m ((c.tc : Thread nD τ).loc main_arg3)) := by
  unfold V
  simp only [hostOps0, hostOps0_1, hostOps0_2, hostOps0_3, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- Their entries. -/
def S (r n : ℕ) : EReal := Gate.silu (G m c r n)
def T (r n : ℕ) : EReal := Gate.slope (G m c r n) (U m c r n)

theorem from2_apply : E2 (a := 4224) (b := 5632) (V m c main_v6) (S m c) := by
  rw [from2 m c]
  exact SwigluPlain.du_apply (e2_ent _)

theorem from3_apply : E2 (a := 4224) (b := 5632) (V m c main_v7) (T m c) := by
  rw [from3 m c]
  exact SwigluPlain.dg_apply (e2_ent _) (e2_ent _)

theorem blk_d (t : Fin cfg0.N) : E2 (a := 1056) (b := 2048) (iblk m c 0 t) (fun r k => D m c (1056 * (t.val / 11) + r) k) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 1056 := (y 0).isLt
  blk_simp
  rw [this.1, this.2]
  congr 1 <;> omega

theorem blk_b (t : Fin cfg0.N) : E3 (a := 1) (b := 512) (d := 2048) (iblk m c 1 t) (fun _ n k => B m c 0 (512 * (t.val % 11) + n) k) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

theorem blk_s (t : Fin cfg0.N) : E2 (a := 1056) (b := 512) (iblk m c 2 t) (fun r n => S m c (1056 * (t.val / 11) + r) (512 * (t.val % 11) + n)) := by
  intro y
  unfold iblk
  refine (from2_apply m c (((cfg0.win 2).blk t).view.emb y)).trans ?_
  have := at2 t
  blk_simp
  rw [this.1, this.2]
  congr 1 <;> omega

theorem blk_t (t : Fin cfg0.N) : E2 (a := 1056) (b := 512) (iblk m c 3 t) (fun r n => T m c (1056 * (t.val / 11) + r) (512 * (t.val % 11) + n)) := by
  intro y
  unfold iblk
  refine (from3_apply m c (((cfg0.win 3).blk t).view.emb y)).trans ?_
  have := at3 t
  blk_simp
  rw [this.1, this.2]
  congr 1 <;> omega

/-- The product of a block, entry by entry. -/
theorem dot_apply {v0 : Vec Ideal S1056x2048 .bf16} {v1 : Vec Ideal S1x512x2048 .bf16} {f : ℕ → ℕ → EReal} {g : ℕ → ℕ → ℕ → EReal}
    (h0 : E2 (a := 1056) (b := 2048) v0 f) (h1 : E3 (a := 1) (b := 512) (d := 2048) v1 g) :
    E2 (a := 1056) (b := 512) (k0_pay1 v0 v1) (fun r n => ∑ k : Fin 2048, f r k.val * g 0 n k.val) := fun y => by
  unfold k0_pay1
  pointwise
  exact Finset.sum_congr rfl fun k _ => by rw [h0 _, h1 _]; rfl

/-- The two stores of a block: the product times what is handed in. -/
theorem pay2_apply {v0 : Vec Ideal S1056x2048 .bf16} {v1 : Vec Ideal S1x512x2048 .bf16} {v4 : Vec Ideal S1056x512 .bf16} {p q : ℕ → ℕ → EReal}
    (hp : E2 (a := 1056) (b := 512) (k0_pay1 v0 v1) p) (hq : E2 (a := 1056) (b := 512) v4 q) :
    E3 (a := 1) (b := 1056) (d := 512) (k0_pay2 v0 v1 v4) (fun _ r n => p r n * q r n) := fun y => by
  unfold k0_pay2
  generalize k0_pay1 v0 v1 = z at hp
  pointwise
  rw [hp _, hq _]
  rfl

theorem pay3_apply {v0 : Vec Ideal S1056x2048 .bf16} {v1 : Vec Ideal S1x512x2048 .bf16} {v4 : Vec Ideal S1056x512 .bf16} {p q : ℕ → ℕ → EReal}
    (hp : E2 (a := 1056) (b := 512) (k0_pay1 v0 v1) p) (hq : E2 (a := 1056) (b := 512) v4 q) :
    E3 (a := 1) (b := 1056) (d := 512) (k0_pay3 v0 v1 v4) (fun _ r n => p r n * q r n) := fun y => by
  unfold k0_pay3
  generalize k0_pay1 v0 v1 = z at hp
  pointwise
  rw [hp _, hq _]
  rfl

/-- Two stores, one to each plane of a block. -/
theorem planes {z1 z0 : Vec Ideal S1x1056x512 .bf16} {f : ℕ → ℕ → ℕ → EReal}
    (h0 : E3 (a := 1) (b := 1056) (d := 512) z0 (fun _ => f 0)) (h1 : E3 (a := 1) (b := 1056) (d := 512) z1 (fun _ => f 1)) :
    E3 (a := 2) (b := 1056) (d := 512) (View.canon [(⟨r0_4, z0⟩ : View.Piece (Elt Ideal) S2x1056x512 .bf16), ⟨r0_3, z1⟩]) f := fun y => by
  refine View.canon_apply_of_pieces (fun y : S2x1056x512.Idx => f (y 0).val (y 1).val (y 2).val) _ (fun q hq x => ?_) y (cover0_4 z0 z1 y)
  have hx : (x 0).val < 1 := by
    rcases List.mem_cons.mp hq with rfl | hq
    · exact (x 0).isLt
    · rcases List.mem_cons.mp hq with rfl | hq
      · exact (x 0).isLt
      · nomatch hq
  rcases List.mem_cons.mp hq with rfl | hq
  · refine (h0 x).trans ?_
    show f 0 (x 1).val (x 2).val = f (0 + 1 * (x 0).val) (0 + 1 * (x 1).val) (0 + 1 * (x 2).val)
    simp only [show (x 0).val = 0 by omega, Nat.one_mul, Nat.mul_zero, Nat.zero_add, Nat.add_zero]
  · rcases List.mem_cons.mp hq with rfl | hq
    · refine (h1 x).trans ?_
      show f 1 (x 1).val (x 2).val = f (1 + 1 * (x 0).val) (0 + 1 * (x 1).val) (0 + 1 * (x 2).val)
      simp only [show (x 0).val = 0 by omega, Nat.one_mul, Nat.mul_zero, Nat.zero_add, Nat.add_zero]
    · nomatch hq

/-- An entry of the product with the transposed weight. -/
def back (d : ℕ → ℕ → EReal) (b : ℕ → ℕ → ℕ → EReal) (r n : ℕ) : EReal := ∑ k : Fin 2048, d r k.val * b 0 n k.val

/-- An entry of the result: plane 0 is the gate's gradient, plane 1 the up product's. -/
def grad (d : ℕ → ℕ → EReal) (b : ℕ → ℕ → ℕ → EReal) (g u : ℕ → ℕ → EReal) (p r n : ℕ) : EReal :=
  back d b r n * (if p = 0 then Gate.slope (g r n) (u r n) else Gate.silu (g r n))

/-- What the kernel leaves in its result, entry by entry. -/
theorem arr : (dats m 0 c).arrAt 4 cfg0.N = (fun y : S2x4224x5632.Idx => grad (D m c) (B m c) (G m c) (U m c) (y 0).val (y 1).val (y 2).val) := by
  refine (dats m 0 c).arrAt_eq_of_covers 4 _ (by decide +kernel) fun t hf y => ?_
  have a := at4 t
  blk_simp
  rw [after0_4]
  unfold out0_4
  rw [View.ld_unit_lit _ _ (by decide), View.ld_unit_lit _ _ (by decide), View.ld_unit_lit _ _ (by decide), View.ld_unit_lit _ _ (by decide)]
  have e := dot_apply (blk_d m c t) (blk_b m c t)
  refine (planes (f := fun p r n => grad (D m c) (B m c) (G m c) (U m c) p (1056 * (t.val / 11) + r) (512 * (t.val % 11) + n)) (pay3_apply e (blk_t m c t)) (pay2_apply e (blk_s m c t)) y).trans ?_
  rw [a.1, a.2.1, a.2.2, mul_comm (t.val / 11), mul_comm (t.val % 11), Nat.zero_mul, Nat.zero_add]

end Cert.Proof.Dswiglu

/-! ## The plain product -/

namespace Cert.Proof.DswigluPlain

open Cert.Reference6Ideal Cert.Reference6Ideal.Gen
open Idealize.ShloMosaic Idealize.ShloMosaic.TcCoe Idealize.ShloMosaic.Tactic
open Cert.Proof.Sheet

/-- The product with the transposed weight. -/
def prod (d : FVec Ideal S4224x2048 .bf16) (b : FVec Ideal S1x5632x2048 .bf16) : FVec Ideal S4224x5632 .f32 :=
  Host.dotGeneral dot_S4224x2048_S5632x2048_S4224x5632_1_1_0_0_n_n none (extf .f32 d bitsLt_bf16_f32) (extf .f32 (shapeCast _ b shapeCasts_S1x5632x2048_S5632x2048) bitsLt_bf16_f32)

theorem prod_apply {d : FVec Ideal S4224x2048 .bf16} {b : FVec Ideal S1x5632x2048 .bf16} {D : ℕ → ℕ → EReal} {B : ℕ → ℕ → ℕ → EReal}
    (hd : E2 (a := 4224) (b := 2048) d D) (hb : E3 (a := 1) (b := 5632) (d := 2048) b B) : E2 (a := 4224) (b := 5632) (prod d b) (Dswiglu.back D B) := fun y => by
  unfold prod
  pointwise
  refine Finset.sum_congr rfl fun k _ => ?_
  rw [hd _, hb _]
  rfl

/-- The gradients of the gate and of the up product, as the plain mathematics writes them. -/
def dgate (g u d : FVec Ideal S4224x5632 .f32) : FVec Ideal S4224x5632 .f32 :=
  addf (mulf (mulf d u) (SwigluPlain.sig g)) (mulf (mulf g (mulf d u)) (mulf (SwigluPlain.sig g) (subf SwigluPlain.one (SwigluPlain.sig g))))
def dup (g d : FVec Ideal S4224x5632 .f32) : FVec Ideal S4224x5632 .f32 := mulf (mulf g (SwigluPlain.sig g)) d

theorem dgate_apply {g u d : FVec Ideal S4224x5632 .f32} {G U D : ℕ → ℕ → EReal} (hg : E2 (a := 4224) (b := 5632) g G) (hu : E2 (a := 4224) (b := 5632) u U) (hd : E2 (a := 4224) (b := 5632) d D) :
    E2 (a := 4224) (b := 5632) (dgate g u d) (fun r n => Gate.slope (G r n) (D r n * U r n)) := fun y => by
  unfold dgate
  pointwise
  rw [SwigluPlain.sig_apply, SwigluPlain.one_apply, hg y, hu y, hd y]
  rfl

theorem dup_apply {g d : FVec Ideal S4224x5632 .f32} {G D : ℕ → ℕ → EReal} (hg : E2 (a := 4224) (b := 5632) g G) (hd : E2 (a := 4224) (b := 5632) d D) :
    E2 (a := 4224) (b := 5632) (dup g d) (fun r n => Gate.silu (G r n) * D r n) := fun y => by
  unfold dup
  pointwise
  rw [SwigluPlain.sig_apply, hg y, hd y]
  rfl

/-- The two gradients, one plane each. -/
def plain (p q : FVec Ideal S4224x5632 .f32) : FVec Ideal S2x4224x5632 .bf16 :=
  truncf .bf16 (concatenate S2x4224x5632 0 [⟨S1x4224x5632, broadcastInDim S1x4224x5632 ![1, 2] bcast_S4224x5632_S1x4224x5632_1_2 p⟩, ⟨S1x4224x5632, broadcastInDim S1x4224x5632 ![1, 2] bcast_S4224x5632_S1x4224x5632_1_2 q⟩] concatenates_S1x4224x5632_S1x4224x5632_S2x4224x5632_d0) bitsLt_bf16_f32

theorem plain_apply {p q : FVec Ideal S4224x5632 .f32} {P Q : ℕ → ℕ → EReal} (hp : E2 (a := 4224) (b := 5632) p P) (hq : E2 (a := 4224) (b := 5632) q Q) (y : S2x4224x5632.Idx) :
    plain p q y = if (y 0).val = 0 then P (y 1).val (y 2).val else Q (y 1).val (y 2).val := by
  unfold plain
  pointwise
  split
  · rename_i h
    rw [if_pos (by omega)]
    exact hp _
  · rename_i h
    rw [if_neg (by omega)]
    exact hq _

/-- The plain gradients, entry by entry: of real numbers, they are the kernel's. -/
theorem want {g u : FVec Ideal S4224x5632 .f32} {d : FVec Ideal S4224x2048 .bf16} {b : FVec Ideal S1x5632x2048 .bf16} {D G U : ℕ → ℕ → EReal} {B : ℕ → ℕ → ℕ → EReal}
    (hd : E2 (a := 4224) (b := 2048) d D) (hb : E3 (a := 1) (b := 5632) (d := 2048) b B) (hg : E2 (a := 4224) (b := 5632) g G) (hu : E2 (a := 4224) (b := 5632) u U)
    (rd : ∀ r n, ∃ x : ℝ, Dswiglu.back D B r n = (x : EReal)) (rg : ∀ r n, ∃ x : ℝ, G r n = (x : EReal)) (ru : ∀ r n, ∃ x : ℝ, U r n = (x : EReal)) :
    plain (dgate g u (prod d b)) (dup g (prod d b)) = (fun y : S2x4224x5632.Idx => Dswiglu.grad D B G U (y 0).val (y 1).val (y 2).val) := by
  funext y
  rw [plain_apply (dgate_apply hg hu (prod_apply hd hb)) (dup_apply hg (prod_apply hd hb)) y]
  unfold Dswiglu.grad
  split
  · exact Gate.slope_mul (rd _ _) (rg _ _) (ru _ _)
  · exact mul_comm _ _

/-- Finite arguments have real entries. -/
theorem finite_of {d : FVec Ideal S4224x2048 .bf16} {b : FVec Ideal S1x5632x2048 .bf16} {g u : FVec Ideal S4224x5632 .f32} (h : Cert.Pre_finite6.fn (F := Ideal) d b g u = fun _ => 1#1) :
    ((∀ y, ∃ r : ℝ, d y = (r : EReal)) ∧ ∀ y, ∃ r : ℝ, b y = (r : EReal)) ∧ (∀ y, ∃ r : ℝ, g y = (r : EReal)) ∧ ∀ y, ∃ r : ℝ, u y = (r : EReal) := by
  have j : Cert.Pre_finite6.S_.Idx := fun i => i.elim0
  have e := congrFun h j
  simp only [Cert.Pre_finite6.fn] at e
  obtain ⟨e, e3⟩ := IntOp.andi_eq_one.mp e
  obtain ⟨e, e2⟩ := IntOp.andi_eq_one.mp e
  obtain ⟨e0, e1⟩ := IntOp.andi_eq_one.mp e
  exact ⟨⟨Meet.real_of_all (extf .f32 d bitsLt_bf16_f32) _ _ _ j e0, Meet.real_of_all (extf .f32 b bitsLt_bf16_f32) _ _ _ j e1⟩, Meet.real_of_all g _ _ _ j e2, Meet.real_of_all u _ _ _ j e3⟩

/-- The kernel's gradients of the gate and of the up product are the plain ones. -/
theorem algebraic : Cert.algebraic_Kernel6Ideal_Reference6Ideal_pre_finite6 (hKernel6Ideal := Cert.Kernel6Ideal.Gen.facts) (hReference6Ideal := Cert.Reference6Ideal.Gen.facts) (hPre_finite6 := Cert.Pre_finite6.Gen.facts) := by
  intro m g m' g' hp hm
  refine ⟨fun c => (Cert.Kernel6Ideal.Gen.dats m 0 c).arrAt 4 Cert.Kernel6Ideal.cfg0.N, Cert.Kernel6Ideal.Value.run_blocks m g,
    (θ_run Cert.Reference6Ideal.defs _ _).mono (fun r h c => ?_) (Cert.Reference6Ideal.Value.run m' g')⟩
  obtain ⟨r0, rest⟩ := h c
  refine ⟨r0.trans ?_, rest⟩
  obtain ⟨h0, h1, h2, h3⟩ := hm c
  obtain ⟨⟨fd, fb⟩, fg, fu⟩ := finite_of (hp c)
  rw [h0, h1, h2, h3]
  refine Eq.trans ?_ (Dswiglu.arr m c).symm
  exact want (e2_ent _) (e3_ent _) (e2_ent _) (e2_ent _) (fun r n => Gate.real_sum _ _ fun k => Gate.real_mul (Gate.real_ent2 fd _ _) (Gate.real_ent3 fb _ _ _)) (Gate.real_ent2 fg) (Gate.real_ent2 fu)

end Cert.Proof.DswigluPlain

end
-- ==== Proof.Down.lean ====
module

public import proofs.«01_k».proof.Proof.Sheet
public import proofs.«01_k».proof.Proof.Gen.Kernel7Ideal.Value
public import proofs.«01_k».proof.Proof.Gen.Reference7Ideal.Run
public import proofs.«01_k».proof.Defs

@[expose] public section

set_option maxRecDepth 16384

noncomputable section

namespace Cert.Proof.Down

open Cert.Kernel7Ideal Cert.Kernel7Ideal.Gen
open Idealize.ShloMosaic Idealize.ShloMosaic.TcCoe Idealize.ShloMosaic.Tactic
open Idealize.SL.Sem
open Cert.Proof.Sheet

/-! ## The down product and its sum: the kernel's array -/

variable (m : (ℓ : Loc nD τ sig) → Buf (Elt Ideal) ℓ) (c : Dev nD)

theorem at0 : ∀ t : Fin cfg0.N, (cfg0.win 0).index t 0 = t.val % 8 ∧ (cfg0.win 0).index t 1 = 0 := by decide +kernel
theorem at1 : ∀ t : Fin cfg0.N, (cfg0.win 1).index t 0 = 0 ∧ (cfg0.win 1).index t 1 = 0 ∧ (cfg0.win 1).index t 2 = t.val / 8 := by decide +kernel
theorem at2 : ∀ t : Fin cfg0.N, (cfg0.win 2).index t 0 = t.val % 8 ∧ (cfg0.win 2).index t 1 = t.val / 8 := by decide +kernel
theorem at3 : ∀ t : Fin cfg0.N, (cfg0.win 3).index t 0 = t.val % 8 ∧ (cfg0.win 3).index t 1 = t.val / 8 := by decide +kernel

/-- The arguments' entries. -/
abbrev A := ent2 (a := 4224) (b := 5632) (m ((c.tc : Thread nD τ).loc main_arg0))
abbrev B := ent3 (a := 1) (b := 5632) (d := 2048) (m ((c.tc : Thread nD τ).loc main_arg1))
abbrev H := ent2 (a := 4224) (b := 2048) (m ((c.tc : Thread nD τ).loc main_arg2))

theorem blk_a (t : Fin cfg0.N) : E2 (a := 528) (b := 5632) (iblk m c 0 t) (fun r d => A m c (528 * (t.val % 8) + r) d) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 528 := (y 0).isLt
  blk_simp
  rw [this.1, this.2]
  congr 1 <;> omega

theorem blk_b (t : Fin cfg0.N) : E3 (a := 1) (b := 5632) (d := 1024) (iblk m c 1 t) (fun _ d n => B m c 0 d (1024 * (t.val / 8) + n)) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

theorem blk_h (t : Fin cfg0.N) : E2 (a := 528) (b := 1024) (iblk m c 2 t) (fun r n => H m c (528 * (t.val % 8) + r) (1024 * (t.val / 8) + n)) := by
  intro y
  unfold iblk
  rw [show V m c (Pipeline.arrRef spec0 2) = m ((c.tc : Thread nD τ).loc main_arg2) from V_main_arg2 m c]
  refine (e2_ent (m ((c.tc : Thread nD τ).loc main_arg2)) (((cfg0.win 2).blk t).view.emb y)).trans ?_
  have := at2 t
  have h0 : (y 0).val < 528 := (y 0).isLt
  blk_simp
  rw [this.1, this.2]
  congr 1 <;> omega

/-- One block: the product of a row with a column, added to the entry carried in. -/
theorem pay_apply {v0 : Vec Ideal S528x5632 .bf16} {v1 : Vec Ideal S1x5632x1024 .bf16} {v4 : Vec Ideal S528x1024 .f32} {f h : ℕ → ℕ → EReal} {g : ℕ → ℕ → ℕ → EReal}
    (h0 : E2 (a := 528) (b := 5632) v0 f) (h1 : E3 (a := 1) (b := 5632) (d := 1024) v1 g) (h4 : E2 (a := 528) (b := 1024) v4 h) (y : S528x1024.Idx) :
    k0_pay1 v0 v1 v4 y = h (y 0).val (y 1).val + ∑ k : Fin 5632, f (y 0).val k.val * g 0 k.val (y 1).val := by
  unfold k0_pay1
  pointwise
  rw [h4 _, add_comm]
  refine congrArg (_ + ·) (Finset.sum_congr rfl fun k _ => ?_)
  rw [h0 _, h1 _]
  rfl

/-- What the kernel leaves in its result, entry by entry. -/
theorem arr : (dats m 0 c).arrAt 3 cfg0.N = (fun y : S4224x2048.Idx => H m c (y 0).val (y 1).val + ∑ k : Fin 5632, A m c (y 0).val k.val * B m c 0 k.val (y 1).val) := by
  refine (dats m 0 c).arrAt_eq_of_covers 3 _ (by decide +kernel) fun t hf y => ?_
  have a := at3 t
  have h0 : (y 0).val < 528 := (y 0).isLt
  have h1 : (y 1).val < 1024 := (y 1).isLt
  blk_simp
  rw [after0_3]
  unfold out0_3
  rw [View.canon_cons_unit_lit _ _ _ (by decide), View.ld_unit_lit _ _ (by decide), View.ld_unit_lit _ _ (by decide), View.ld_unit_lit _ _ (by decide)]
  refine (pay_apply (blk_a m c t) (blk_b m c t) (blk_h m c t) y).trans ?_
  rw [a.1, a.2, Nat.mul_comm 528, Nat.mul_comm 1024]

end Cert.Proof.Down

/-! ## The plain product -/

namespace Cert.Proof.DownPlain

open Cert.Reference7Ideal Cert.Reference7Ideal.Gen
open Idealize.ShloMosaic Idealize.ShloMosaic.TcCoe Idealize.ShloMosaic.Tactic
open Cert.Proof.Sheet

/-- The plain sum as one expression of its arguments. -/
def plain (a : FVec Ideal S4224x5632 .bf16) (b : FVec Ideal S1x5632x2048 .bf16) (h : FVec Ideal S4224x2048 .f32) : FVec Ideal S4224x2048 .f32 :=
  addf h (Host.dotGeneral dot_S4224x5632_S5632x2048_S4224x2048_1_0_0_1_n_n none (extf .f32 a bitsLt_bf16_f32) (extf .f32 (shapeCast _ b shapeCasts_S1x5632x2048_S5632x2048) bitsLt_bf16_f32))

/-- The plain sum, entry by entry. -/
theorem want {a : FVec Ideal S4224x5632 .bf16} {b : FVec Ideal S1x5632x2048 .bf16} {h : FVec Ideal S4224x2048 .f32} {A H : ℕ → ℕ → EReal} {B : ℕ → ℕ → ℕ → EReal}
    (ha : E2 (a := 4224) (b := 5632) a A) (hb : E3 (a := 1) (b := 5632) (d := 2048) b B) (hh : E2 (a := 4224) (b := 2048) h H) :
    plain a b h = (fun y : S4224x2048.Idx => H (y 0).val (y 1).val + ∑ k : Fin 5632, A (y 0).val k.val * B 0 k.val (y 1).val) := by
  funext y
  unfold plain
  pointwise
  rw [hh _]
  refine congrArg (_ + ·) (Finset.sum_congr rfl fun k _ => ?_)
  rw [ha _, hb _]
  rfl

/-- The kernel's down product, added to what comes in, is the plain one. -/
theorem algebraic : Cert.algebraic_Kernel7Ideal_Reference7Ideal (hKernel7Ideal := Cert.Kernel7Ideal.Gen.facts) (hReference7Ideal := Cert.Reference7Ideal.Gen.facts) := by
  intro m g m' g' hp hm
  refine ⟨fun c => (Cert.Kernel7Ideal.Gen.dats m 0 c).arrAt 3 Cert.Kernel7Ideal.cfg0.N, Cert.Kernel7Ideal.Value.run_blocks m g,
    (θ_run Cert.Reference7Ideal.defs _ _).mono (fun r h c => ?_) (Cert.Reference7Ideal.Value.run m' g')⟩
  obtain ⟨r0, rest⟩ := h c
  refine ⟨r0.trans ?_, rest⟩
  obtain ⟨h0, h1, h2⟩ := hm c
  rw [h0, h1, h2]
  refine Eq.trans ?_ (Down.arr m c).symm
  exact want (e2_ent _) (e3_ent _) (e2_ent _)

end Cert.Proof.DownPlain

end
-- ==== Proof.Conv.lean ====
module

public import proofs.«01_k».proof.Proof.Sheet
public import proofs.«01_k».proof.Proof.Gen.Kernel8Ideal.Value
public import proofs.«01_k».proof.Proof.Gen.Reference8Ideal.Run
public import proofs.«01_k».proof.Defs

@[expose] public section

set_option maxRecDepth 16384

noncomputable section

namespace Cert.Proof.Conv

open Cert.Kernel8Ideal Cert.Kernel8Ideal.Gen
open Idealize.ShloMosaic Idealize.ShloMosaic.TcCoe Idealize.ShloMosaic.Tactic
open Idealize.SL.Sem
open Cert.Proof.Sheet

/-! ## The in product of the short convolution: the kernel's array -/

variable (m : (ℓ : Loc nD τ sig) → Buf (Elt Ideal) ℓ) (c : Dev nD)

theorem at0 : ∀ t : Fin cfg0.N, (cfg0.win 0).index t 0 = t.val / 8 ∧ (cfg0.win 0).index t 1 = 0 := by decide +kernel
theorem at1 : ∀ t : Fin cfg0.N, (cfg0.win 1).index t 0 = t.val % 8 ∧ (cfg0.win 1).index t 1 = 0 ∧ (cfg0.win 1).index t 2 = 0 := by decide +kernel
theorem at2 : ∀ t : Fin cfg0.N, (cfg0.win 2).index t 0 = t.val / 8 ∧ (cfg0.win 2).index t 1 = t.val % 8 := by decide +kernel

/-- The arguments' entries. -/
abbrev A := ent2 (a := 4224) (b := 2048) (m ((c.tc : Thread nD τ).loc main_arg0))
abbrev B := ent3 (a := 8) (b := 2048) (d := 768) (m ((c.tc : Thread nD τ).loc main_arg1))

theorem blk_a (t : Fin cfg0.N) : E2 (a := 1056) (b := 2048) (iblk m c 0 t) (fun r d => A m c (1056 * (t.val / 8) + r) d) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 1056 := (y 0).isLt
  blk_simp
  rw [this.1, this.2]
  congr 1 <;> omega

theorem blk_b (t : Fin cfg0.N) : E3 (a := 1) (b := 2048) (d := 768) (iblk m c 1 t) (fun _ d n => B m c (t.val % 8) d n) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

/-- One block: the product of a row with a column. -/
theorem pay_apply {v0 : Vec Ideal S1056x2048 .bf16} {v1 : Vec Ideal S1x2048x768 .bf16} {f : ℕ → ℕ → EReal} {g : ℕ → ℕ → ℕ → EReal}
    (h0 : E2 (a := 1056) (b := 2048) v0 f) (h1 : E3 (a := 1) (b := 2048) (d := 768) v1 g) (y : S1056x768.Idx) :
    k0_pay1 v0 v1 y = ∑ k : Fin 2048, f (y 0).val k.val * g 0 k.val (y 1).val := by
  unfold k0_pay1
  pointwise
  exact Finset.sum_congr rfl fun k _ => by rw [h0 _, h1 _]; rfl

/-- What the kernel leaves in its result, entry by entry. -/
theorem arr : (dats m 0 c).arrAt 2 cfg0.N = (fun y : S4224x6144.Idx => ∑ k : Fin 2048, A m c (y 0).val k.val * B m c ((y 1).val / 768) k.val ((y 1).val % 768)) := by
  refine (dats m 0 c).arrAt_eq_of_covers 2 _ (by decide +kernel) fun t hf y => ?_
  have a := at2 t
  have h0 : (y 0).val < 1056 := (y 0).isLt
  have h1 : (y 1).val < 768 := (y 1).isLt
  blk_simp
  rw [after0_2]
  unfold out0_2
  rw [View.canon_cons_unit_lit _ _ _ (by decide), View.ld_unit_lit _ _ (by decide), View.ld_unit_lit _ _ (by decide)]
  refine (pay_apply (blk_a m c t) (blk_b m c t) y).trans ?_
  rw [a.1, a.2]
  exact Finset.sum_congr rfl fun k _ => by congr 2 <;> omega

end Cert.Proof.Conv

/-! ## The plain product -/

namespace Cert.Proof.ConvPlain

open Cert.Reference8Ideal Cert.Reference8Ideal.Gen
open Idealize.ShloMosaic Idealize.ShloMosaic.TcCoe Idealize.ShloMosaic.Tactic
open Cert.Proof.Sheet

/-- The plain product as one expression of its arguments. -/
def plain (a : FVec Ideal S4224x2048 .bf16) (b : FVec Ideal S8x2048x768 .bf16) : FVec Ideal S4224x6144 .f32 :=
  Host.dotGeneral dot_S4224x2048_S2048x6144_S4224x6144_1_0_0_1_n_n none (extf .f32 a bitsLt_bf16_f32) (shapeCast _ (transpose S2048x8x768 [1, 0, 2] (extf .f32 b bitsLt_bf16_f32) transposes_S8x2048x768_S2048x8x768_1_0_2) shapeCasts_S2048x8x768_S2048x6144)

/-- The plain product, entry by entry: column `n` is column `n mod 768` of device `n / 768`. -/
theorem want {a : FVec Ideal S4224x2048 .bf16} {b : FVec Ideal S8x2048x768 .bf16} {A : ℕ → ℕ → EReal} {B : ℕ → ℕ → ℕ → EReal}
    (ha : E2 (a := 4224) (b := 2048) a A) (hb : E3 (a := 8) (b := 2048) (d := 768) b B) :
    plain a b = (fun y : S4224x6144.Idx => ∑ k : Fin 2048, A (y 0).val k.val * B ((y 1).val / 768) k.val ((y 1).val % 768)) := by
  funext y
  unfold plain
  pointwise
  refine Finset.sum_congr rfl fun k _ => ?_
  rw [ha _, hb _]
  rfl

/-- The kernel's in product is the plain one. -/
theorem algebraic : Cert.algebraic_Kernel8Ideal_Reference8Ideal (hKernel8Ideal := Cert.Kernel8Ideal.Gen.facts) (hReference8Ideal := Cert.Reference8Ideal.Gen.facts) := by
  intro m g m' g' hp hm
  refine ⟨fun c => (Cert.Kernel8Ideal.Gen.dats m 0 c).arrAt 2 Cert.Kernel8Ideal.cfg0.N, Cert.Kernel8Ideal.Value.run_blocks m g,
    (θ_run Cert.Reference8Ideal.defs _ _).mono (fun r h c => ?_) (Cert.Reference8Ideal.Value.run m' g')⟩
  obtain ⟨r0, rest⟩ := h c
  refine ⟨r0.trans ?_, rest⟩
  obtain ⟨h0, h1⟩ := hm c
  rw [h0, h1]
  refine Eq.trans ?_ (Conv.arr m c).symm
  exact want (e2_ent _) (e3_ent _)

end Cert.Proof.ConvPlain

end
-- ==== Proof.Win.lean ====
module

public import proofs.«01_k».proof.Proof.Sheet
public import proofs.«01_k».proof.Proof.Gen.Kernel9Ideal.Value
public import proofs.«01_k».proof.Proof.Gen.Reference9Ideal.Run
public import proofs.«01_k».proof.Defs

@[expose] public section

set_option maxRecDepth 16384

noncomputable section

namespace Cert.Proof.Win

open Cert.Kernel9Ideal Cert.Kernel9Ideal.Gen
open Idealize.ShloMosaic Idealize.ShloMosaic.TcCoe Idealize.ShloMosaic.Tactic
open Idealize.SL.Sem
open Cert.Proof.Sheet

/-! ## The gradient of the short convolution's in weights: the kernel's array -/

variable (m : (ℓ : Loc nD τ sig) → Buf (Elt Ideal) ℓ) (c : Dev nD)

theorem at0 : ∀ t : Fin cfg0.N, (cfg0.win 0).index t 0 = 0 ∧ (cfg0.win 0).index t 1 = t.val / 8 := by decide +kernel
theorem at1 : ∀ t : Fin cfg0.N, (cfg0.win 1).index t 0 = 0 ∧ (cfg0.win 1).index t 1 = 0 ∧ (cfg0.win 1).index t 2 = t.val % 8 := by decide +kernel
theorem at2 : ∀ t : Fin cfg0.N, (cfg0.win 2).index t 0 = t.val % 8 ∧ (cfg0.win 2).index t 1 = t.val / 8 ∧ (cfg0.win 2).index t 2 = 0 := by decide +kernel

/-- The arguments' entries. -/
abbrev A := ent2 (a := 4224) (b := 2048) (m ((c.tc : Thread nD τ).loc main_arg0))
abbrev D := ent2 (a := 4224) (b := 6144) (m ((c.tc : Thread nD τ).loc main_arg1))

/-- The array the kernel fetches its second operand from: the second argument, with a leading axis of size one. -/
theorem from1 : V m c main_v0 = shapeCast _ (m ((c.tc : Thread nD τ).loc main_arg1)) shapeCasts_S4224x6144_S1x4224x6144 := by
  unfold V hostOps0
  after_results_simp <;> rfl

theorem from1_apply : E3 (a := 1) (b := 4224) (d := 6144) (V m c main_v0) (fun _ r n => D m c r n) := by
  rw [from1 m c]
  exact lead (e2_ent _) _

theorem blk_a (t : Fin cfg0.N) : E2 (a := 4224) (b := 512) (iblk m c 0 t) (fun r d => A m c r (512 * (t.val / 8) + d)) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 4224 := (y 0).isLt
  blk_simp
  rw [this.1, this.2]
  congr 1 <;> omega

theorem blk_d (t : Fin cfg0.N) : E3 (a := 1) (b := 4224) (d := 768) (iblk m c 1 t) (fun _ r n => D m c r (768 * (t.val % 8) + n)) := by
  intro y
  unfold iblk
  refine (from1_apply m c (((cfg0.win 1).blk t).view.emb y)).trans ?_
  have := at1 t
  blk_simp
  rw [this.2.1, this.2.2]
  congr 1 <;> omega

/-- One block: each entry is the sum over the rows. -/
theorem pay_apply {v0 : Vec Ideal S4224x512 .bf16} {v1 : Vec Ideal S1x4224x768 .bf16} {f : ℕ → ℕ → EReal} {g : ℕ → ℕ → ℕ → EReal}
    (h0 : E2 (a := 4224) (b := 512) v0 f) (h1 : E3 (a := 1) (b := 4224) (d := 768) v1 g) (y : S1x512x768.Idx) :
    k0_pay1 v0 v1 y = ∑ r : Fin 4224, f r.val (y 1).val * g 0 r.val (y 2).val := by
  unfold k0_pay1
  pointwise
  exact Finset.sum_congr rfl fun k _ => by rw [h0 _, h1 _]; rfl

/-- What the kernel leaves in its result, entry by entry. -/
theorem arr : (dats m 0 c).arrAt 2 cfg0.N = (fun y : S8x2048x768.Idx => ∑ r : Fin 4224, A m c r.val (y 1).val * D m c r.val (768 * (y 0).val + (y 2).val)) := by
  refine (dats m 0 c).arrAt_eq_of_covers 2 _ (by decide +kernel) fun t hf y => ?_
  have a := at2 t
  have h0 : (y 0).val < 1 := (y 0).isLt
  blk_simp
  rw [after0_2]
  unfold out0_2
  rw [View.canon_cons_unit_lit _ _ _ (by decide), View.ld_unit_lit _ _ (by decide), View.ld_unit_lit _ _ (by decide)]
  refine (pay_apply (blk_a m c t) (blk_d m c t) y).trans ?_
  rw [a.1, a.2.1, a.2.2]
  exact Finset.sum_congr rfl fun k _ => by congr 2 <;> omega

end Cert.Proof.Win

/-! ## The plain product -/

namespace Cert.Proof.WinPlain

open Cert.Reference9Ideal Cert.Reference9Ideal.Gen
open Idealize.ShloMosaic Idealize.ShloMosaic.TcCoe Idealize.ShloMosaic.Tactic
open Cert.Proof.Sheet

/-- The plain gradient as one expression of its arguments. -/
def plain (a : FVec Ideal S4224x2048 .bf16) (d : FVec Ideal S4224x6144 .bf16) : FVec Ideal S8x2048x768 .bf16 :=
  truncf .bf16 (transpose S8x2048x768 [1, 0, 2] (shapeCast _ (transpose S2048x6144 [1, 0] (Host.dotGeneral dot_S4224x6144_S4224x2048_S6144x2048_0_0_1_1_n_n none (extf .f32 d bitsLt_bf16_f32) (extf .f32 a bitsLt_bf16_f32)) transposes_S6144x2048_S2048x6144_1_0) shapeCasts_S2048x6144_S2048x8x768) transposes_S2048x8x768_S8x2048x768_1_0_2) bitsLt_bf16_f32

/-- The plain gradient, entry by entry: a device's block is its 768 columns. -/
theorem want {a : FVec Ideal S4224x2048 .bf16} {d : FVec Ideal S4224x6144 .bf16} {A D : ℕ → ℕ → EReal}
    (ha : E2 (a := 4224) (b := 2048) a A) (hd : E2 (a := 4224) (b := 6144) d D) :
    plain a d = (fun y : S8x2048x768.Idx => ∑ r : Fin 4224, A r.val (y 1).val * D r.val (768 * (y 0).val + (y 2).val)) := by
  funext y
  unfold plain
  pointwise
  refine Finset.sum_congr rfl fun k _ => ?_
  rw [ha _, hd _]
  show D k.val ((y 0).val * 768 + (y 2).val) * A k.val (y 1).val = _
  rw [Nat.mul_comm (y 0).val 768, mul_comm]

/-- The kernel's gradient of the in weights is the plain one. -/
theorem algebraic : Cert.algebraic_Kernel9Ideal_Reference9Ideal (hKernel9Ideal := Cert.Kernel9Ideal.Gen.facts) (hReference9Ideal := Cert.Reference9Ideal.Gen.facts) := by
  intro m g m' g' hp hm
  refine ⟨fun c => (Cert.Kernel9Ideal.Gen.dats m 0 c).arrAt 2 Cert.Kernel9Ideal.cfg0.N, Cert.Kernel9Ideal.Value.run_blocks m g,
    (θ_run Cert.Reference9Ideal.defs _ _).mono (fun r h c => ?_) (Cert.Reference9Ideal.Value.run m' g')⟩
  obtain ⟨r0, rest⟩ := h c
  refine ⟨r0.trans ?_, rest⟩
  obtain ⟨h0, h1⟩ := hm c
  rw [h0, h1]
  refine Eq.trans ?_ (Win.arr m c).symm
  exact want (e2_ent _) (e2_ent _)

end Cert.Proof.WinPlain

end
-- ==== Proof.Din.lean ====
module

public import proofs.«01_k».proof.Proof.Runs
public import Idealize.ShloMosaic.Lib.Pipeline.ReadBack
public import proofs.«01_k».proof.Proof.Gen.Kernel10Ideal.Value
public import proofs.«01_k».proof.Proof.Gen.Reference10Ideal.Run
public import proofs.«01_k».proof.Defs

@[expose] public section

set_option maxRecDepth 16384

noncomputable section

namespace Cert.Proof.Din

open Cert.Kernel10Ideal Cert.Kernel10Ideal.Gen
open Idealize.ShloMosaic Idealize.ShloMosaic.TcCoe Idealize.ShloMosaic.Tactic
open Idealize.SL.Sem
open Cert.Proof.Sheet

/-! ## The in product's gradient of its input: the kernel's array -/

variable (m : (ℓ : Loc nD τ sig) → Buf (Elt Ideal) ℓ) (c : Dev nD)

theorem at0 : ∀ t : Fin cfg0.N, (cfg0.win 0).index t 0 = 0 ∧ (cfg0.win 0).index t 1 = t.val / 4 ∧ (cfg0.win 0).index t 2 = t.val % 2 := by decide +kernel
theorem at1 : ∀ t : Fin cfg0.N, (cfg0.win 1).index t 0 = t.val % 2 ∧ (cfg0.win 1).index t 1 = t.val / 2 % 2 ∧ (cfg0.win 1).index t 2 = 0 := by decide +kernel
theorem at2 : ∀ t : Fin cfg0.N, (cfg0.win 2).index t 0 = t.val / 4 ∧ (cfg0.win 2).index t 1 = t.val / 2 % 2 := by decide +kernel

/-- The arguments' entries. -/
abbrev D := ent2 (a := 4224) (b := 6144) (m ((c.tc : Thread nD τ).loc main_arg0))
abbrev B := ent3 (a := 8) (b := 2048) (d := 768) (m ((c.tc : Thread nD τ).loc main_arg1))

/-- One product of the long sum: column `n` of the cotangents, with column `n` of the eight weight blocks side by side. -/
def term (r k n : ℕ) : EReal := D m c r n * B m c (n / 768) k (n % 768)

/-- The array the kernel fetches its first operand from: the first argument, with a leading axis of size one. -/
theorem from0 : V m c main_v0 = shapeCast _ (m ((c.tc : Thread nD τ).loc main_arg0)) shapeCasts_S4224x6144_S1x4224x6144 := by
  unfold V hostOps0
  after_results_simp <;> rfl

theorem from0_apply : E3 (a := 1) (b := 4224) (d := 6144) (V m c main_v0) (fun _ r n => D m c r n) := by
  rw [from0 m c]
  exact lead (e2_ent _) _

theorem blk_d (t : Fin cfg0.N) : E3 (a := 1) (b := 1056) (d := 3072) (iblk m c 0 t) (fun _ r n => D m c (1056 * (t.val / 4) + r) (3072 * (t.val % 2) + n)) := by
  intro y
  unfold iblk
  refine (from0_apply m c (((cfg0.win 0).blk t).view.emb y)).trans ?_
  have := at0 t
  blk_simp
  rw [this.2.1, this.2.2]
  congr 1 <;> omega

theorem blk_b (t : Fin cfg0.N) : E3 (a := 4) (b := 1024) (d := 768) (iblk m c 1 t) (fun g k n => B m c (4 * (t.val % 2) + g) (1024 * (t.val / 2 % 2) + k) n) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 4 := (y 0).isLt
  blk_simp
  rw [this.1, this.2.1, this.2.2]
  congr 1 <;> omega

/-- One block: four products of 768 columns each, added. -/
theorem pay_apply {v0 v5 v11 v17 : Vec Ideal S1x1056x768 .bf16} {v2 v7 v13 v19 : Vec Ideal S1x1024x768 .bf16} {f0 f5 f11 f17 f2 f7 f13 f19 : ℕ → ℕ → ℕ → EReal}
    (h0 : E3 (a := 1) (b := 1056) (d := 768) v0 f0) (h2 : E3 (a := 1) (b := 1024) (d := 768) v2 f2) (h5 : E3 (a := 1) (b := 1056) (d := 768) v5 f5) (h7 : E3 (a := 1) (b := 1024) (d := 768) v7 f7) (h11 : E3 (a := 1) (b := 1056) (d := 768) v11 f11) (h13 : E3 (a := 1) (b := 1024) (d := 768) v13 f13) (h17 : E3 (a := 1) (b := 1056) (d := 768) v17 f17) (h19 : E3 (a := 1) (b := 1024) (d := 768) v19 f19) (y : S1056x1024.Idx) :
    k0_pay2 v0 v2 v5 v7 v11 v13 v17 v19 y = (∑ k : Fin 768, f0 0 (y 0).val k.val * f2 0 (y 1).val k.val) + (∑ k : Fin 768, f5 0 (y 0).val k.val * f7 0 (y 1).val k.val) + (∑ k : Fin 768, f11 0 (y 0).val k.val * f13 0 (y 1).val k.val) + (∑ k : Fin 768, f17 0 (y 0).val k.val * f19 0 (y 1).val k.val) := by
  unfold k0_pay2
  pointwise
  refine congrArg₂ (· + ·) (congrArg₂ (· + ·) (congrArg₂ (· + ·) ?_ ?_) ?_) ?_
  · exact Finset.sum_congr rfl fun k _ => by rw [h0 _, h2 _]; rfl
  · exact Finset.sum_congr rfl fun k _ => by rw [h5 _, h7 _]; rfl
  · exact Finset.sum_congr rfl fun k _ => by rw [h11 _, h13 _]; rfl
  · exact Finset.sum_congr rfl fun k _ => by rw [h17 _, h19 _]; rfl

/-! The loads of a step: each block in four parts. -/

theorem ld_d0 {X : Vec Ideal S1x1056x3072 .bf16} {f : ℕ → ℕ → ℕ → EReal} (h : E3 (a := 1) (b := 1056) (d := 3072) X f) (inb) :
    E3 (a := 1) (b := 1056) (d := 768) (View.ld X (Rect.unit ![0, 0, 0] ![1, 1056, 768] inb)) (fun p r n => f p r n) := fun y => by
  pointwise
  exact h _

theorem ld_d1 {X : Vec Ideal S1x1056x3072 .bf16} {f : ℕ → ℕ → ℕ → EReal} (h : E3 (a := 1) (b := 1056) (d := 3072) X f) (inb) :
    E3 (a := 1) (b := 1056) (d := 768) (View.ld X (Rect.unit ![0, 0, 768] ![1, 1056, 768] inb)) (fun p r n => f p r (768 + n)) := fun y => by
  pointwise
  exact h _

theorem ld_d2 {X : Vec Ideal S1x1056x3072 .bf16} {f : ℕ → ℕ → ℕ → EReal} (h : E3 (a := 1) (b := 1056) (d := 3072) X f) (inb) :
    E3 (a := 1) (b := 1056) (d := 768) (View.ld X (Rect.unit ![0, 0, 1536] ![1, 1056, 768] inb)) (fun p r n => f p r (1536 + n)) := fun y => by
  pointwise
  exact h _

theorem ld_d3 {X : Vec Ideal S1x1056x3072 .bf16} {f : ℕ → ℕ → ℕ → EReal} (h : E3 (a := 1) (b := 1056) (d := 3072) X f) (inb) :
    E3 (a := 1) (b := 1056) (d := 768) (View.ld X (Rect.unit ![0, 0, 2304] ![1, 1056, 768] inb)) (fun p r n => f p r (2304 + n)) := fun y => by
  pointwise
  exact h _

theorem ld_b0 {X : Vec Ideal S4x1024x768 .bf16} {f : ℕ → ℕ → ℕ → EReal} (h : E3 (a := 4) (b := 1024) (d := 768) X f) (inb) :
    E3 (a := 1) (b := 1024) (d := 768) (View.ld X (Rect.unit ![0, 0, 0] ![1, 1024, 768] inb)) (fun p k n => f 0 k n) := fun y => by
  pointwise
  exact h _

theorem ld_b1 {X : Vec Ideal S4x1024x768 .bf16} {f : ℕ → ℕ → ℕ → EReal} (h : E3 (a := 4) (b := 1024) (d := 768) X f) (inb) :
    E3 (a := 1) (b := 1024) (d := 768) (View.ld X (Rect.unit ![1, 0, 0] ![1, 1024, 768] inb)) (fun p k n => f 1 k n) := fun y => by
  pointwise
  exact h _

theorem ld_b2 {X : Vec Ideal S4x1024x768 .bf16} {f : ℕ → ℕ → ℕ → EReal} (h : E3 (a := 4) (b := 1024) (d := 768) X f) (inb) :
    E3 (a := 1) (b := 1024) (d := 768) (View.ld X (Rect.unit ![2, 0, 0] ![1, 1024, 768] inb)) (fun p k n => f 2 k n) := fun y => by
  pointwise
  exact h _

theorem ld_b3 {X : Vec Ideal S4x1024x768 .bf16} {f : ℕ → ℕ → ℕ → EReal} (h : E3 (a := 4) (b := 1024) (d := 768) X f) (inb) :
    E3 (a := 1) (b := 1024) (d := 768) (View.ld X (Rect.unit ![3, 0, 0] ![1, 1024, 768] inb)) (fun p k n => f 3 k n) := fun y => by
  pointwise
  exact h _

/-- What a step adds at an entry of its block: the terms of the long sum from `3072 s` on, for the step's number `s`. -/
def step (t : ℕ) (j : S1056x1024.Idx) : EReal :=
  ∑ n ∈ Finset.range 3072, term m c (1056 * (t / 4) + (j 0).val) (1024 * (t / 2 % 2) + (j 1).val) (3072 * (t % 2) + n)

theorem step_eq (t : Fin cfg0.N) (i0 i1 i2 i3 i4 i5 i6 i7) (j : S1056x1024.Idx) :
    k0_pay2 (View.ld (iblk m c 0 t) (Rect.unit ![0, 0, 0] ![1, 1056, 768] i0)) (View.ld (iblk m c 1 t) (Rect.unit ![0, 0, 0] ![1, 1024, 768] i1)) (View.ld (iblk m c 0 t) (Rect.unit ![0, 0, 768] ![1, 1056, 768] i2)) (View.ld (iblk m c 1 t) (Rect.unit ![1, 0, 0] ![1, 1024, 768] i3)) (View.ld (iblk m c 0 t) (Rect.unit ![0, 0, 1536] ![1, 1056, 768] i4)) (View.ld (iblk m c 1 t) (Rect.unit ![2, 0, 0] ![1, 1024, 768] i5)) (View.ld (iblk m c 0 t) (Rect.unit ![0, 0, 2304] ![1, 1056, 768] i6)) (View.ld (iblk m c 1 t) (Rect.unit ![3, 0, 0] ![1, 1024, 768] i7)) j = step m c t.val j := by
  refine (pay_apply (ld_d0 (blk_d m c t) i0) (ld_b0 (blk_b m c t) i1) (ld_d1 (blk_d m c t) i2) (ld_b1 (blk_b m c t) i3) (ld_d2 (blk_d m c t) i4) (ld_b2 (blk_b m c t) i5) (ld_d3 (blk_d m c t) i6) (ld_b3 (blk_b m c t) i7) j).trans ?_
  rw [step, ← Runs.sum_runs _ 768 4, Finset.sum_range_succ, Finset.sum_range_succ, Finset.sum_range_succ, Finset.sum_range_succ, Finset.sum_range_zero, zero_add, Finset.sum_range, Finset.sum_range, Finset.sum_range, Finset.sum_range]
  refine congrArg₂ (· + ·) (congrArg₂ (· + ·) (congrArg₂ (· + ·) (Finset.sum_congr rfl fun k _ => ?_) (Finset.sum_congr rfl fun k _ => ?_)) (Finset.sum_congr rfl fun k _ => ?_)) (Finset.sum_congr rfl fun k _ => ?_)
  · have hk : k.val < 768 := k.isLt
    rw [term]
    congr 2 <;> omega
  · have hk : k.val < 768 := k.isLt
    rw [term]
    congr 2 <;> omega
  · have hk : k.val < 768 := k.isLt
    rw [term]
    congr 2 <;> omega
  · have hk : k.val < 768 := k.isLt
    rw [term]
    congr 2 <;> omega

theorem reset_apply (v0 v5 v11 v17 : Vec Ideal S1x1056x768 .bf16) (v2 v7 v13 v19 : Vec Ideal S1x1024x768 .bf16) (j : S1056x1024.Idx) : k0_pay3 v0 v2 v5 v7 v11 v13 v17 v19 j = k0_pay2 v0 v2 v5 v7 v11 v13 v17 v19 j := by
  unfold k0_pay3
  generalize k0_pay2 v0 v2 v5 v7 v11 v13 v17 v19 = p
  pointwise

theorem add_apply (u v : FVec Ideal S1056x1024 .f32) (j : S1056x1024.Idx) : k0_pay1 u v j = v j + u j := by
  unfold k0_pay1
  pointwise

/-- The running sum that the kernel carries from step to step. -/
theorem acc (t : Fin cfg0.N) (j : S1056x1024.Idx) :
    (outsAt0 m c t.val t.isLt).2 j = 0 + ∑ s ∈ Finset.range (t.val % 2 + 1), step m c (2 * (t.val / 2) + s) j := by
  refine Pipeline.eq_sum_of_reset_step_apply (fun n h => (outsAt0 m c n h).2) 2 (fun _ => 0) (step m c) (fun t h j => ?_) (fun t h j => ?_) t j
  · rw [outsAt0_A m c t h (by omega) (by omega)]
    frame_out
    rw [reset_apply, step_eq, zero_add]
  · rw [outsAt0_B m c t h (by omega) (by omega)]
    frame_out
    simp only [read_unread_whole]
    rw [add_apply, step_eq]

/-- At a run's last step the block written is the running sum. -/
theorem last (t : Fin cfg0.N) (h : t.val % 2 = 1) : (outsAt0 m c t.val t.isLt).1 = (outsAt0 m c t.val t.isLt).2 := by
  rw [outsAt0_B m c t (by omega) h h]
  frame_out

/-- What the kernel leaves in its result, entry by entry: the long sum. -/
theorem arr : (dats m 0 c).arrAt 2 cfg0.N = (fun y : S4224x2048.Idx => ∑ n : Fin 6144, term m c (y 0).val (y 1).val n.val) := by
  refine (dats m 0 c).arrAt_eq_of_covers 2 _ (by decide +kernel) fun t hf y => ?_
  have a := at2 t
  have hr : t.val % 2 = 1 := by have := (flush0_2 t).mp hf; omega
  have h0 : (y 0).val < 1056 := (y 0).isLt
  have h1 : (y 1).val < 1024 := (y 1).isLt
  blk_simp
  rw [after0_2, last m c t hr]
  refine (acc m c t y).trans ?_
  rw [a.1, a.2, hr, zero_add]
  rw [show t.val / 4 * 1056 = 1056 * (t.val / 4) by omega, show t.val / 2 % 2 * 1024 = 1024 * (t.val / 2 % 2) by omega]
  refine Eq.trans (Finset.sum_congr rfl fun s hs => ?_) ((Runs.sum_runs (term m c (1056 * (t.val / 4) + (y 0).val) (1024 * (t.val / 2 % 2) + (y 1).val)) 3072 2).trans (Finset.sum_range _))
  have hs := Finset.mem_range.mp hs
  rw [step, show (2 * (t.val / 2) + s) / 4 = t.val / 4 by omega, show (2 * (t.val / 2) + s) / 2 = t.val / 2 by omega, show (2 * (t.val / 2) + s) % 2 = s by omega]

end Cert.Proof.Din

/-! ## The plain product -/

namespace Cert.Proof.DinPlain

open Cert.Reference10Ideal Cert.Reference10Ideal.Gen
open Idealize.ShloMosaic Idealize.ShloMosaic.TcCoe Idealize.ShloMosaic.Tactic
open Cert.Proof.Sheet

/-- The plain product as one expression of its arguments: the eight devices' weight blocks stand side by side. -/
def plain (d : FVec Ideal S4224x6144 .bf16) (b : FVec Ideal S8x2048x768 .bf16) : FVec Ideal S4224x2048 .f32 :=
  Host.dotGeneral dot_S4224x6144_S2048x6144_S4224x2048_1_1_0_0_n_n none (extf .f32 d bitsLt_bf16_f32) (shapeCast _ (transpose S2048x8x768 [1, 0, 2] (extf .f32 b bitsLt_bf16_f32) transposes_S8x2048x768_S2048x8x768_1_0_2) shapeCasts_S2048x8x768_S2048x6144)

/-- The plain product, entry by entry. -/
theorem want {d : FVec Ideal S4224x6144 .bf16} {b : FVec Ideal S8x2048x768 .bf16} {D : ℕ → ℕ → EReal} {B : ℕ → ℕ → ℕ → EReal}
    (hd : E2 (a := 4224) (b := 6144) d D) (hb : E3 (a := 8) (b := 2048) (d := 768) b B) :
    plain d b = (fun y : S4224x2048.Idx => ∑ n : Fin 6144, D (y 0).val n.val * B (n.val / 768) (y 1).val (n.val % 768)) := by
  funext y
  unfold plain
  pointwise
  refine Finset.sum_congr rfl fun k _ => ?_
  rw [hd _, hb _]
  rfl

/-- The kernel's gradient of the in product's input is the plain one. -/
theorem algebraic : Cert.algebraic_Kernel10Ideal_Reference10Ideal (hKernel10Ideal := Cert.Kernel10Ideal.Gen.facts) (hReference10Ideal := Cert.Reference10Ideal.Gen.facts) := by
  intro m g m' g' hp hm
  refine ⟨fun c => (Cert.Kernel10Ideal.Gen.dats m 0 c).arrAt 2 Cert.Kernel10Ideal.cfg0.N, Cert.Kernel10Ideal.Value.run_blocks m g,
    (θ_run Cert.Reference10Ideal.defs _ _).mono (fun r h c => ?_) (Cert.Reference10Ideal.Value.run m' g')⟩
  obtain ⟨r0, rest⟩ := h c
  refine ⟨r0.trans ?_, rest⟩
  obtain ⟨h0, h1⟩ := hm c
  rw [h0, h1]
  refine Eq.trans ?_ (Din.arr m c).symm
  exact want (e2_ent _) (e3_ent _)

end Cert.Proof.DinPlain

end
-- ==== Proof.Wout.lean ====
module

public import proofs.«01_k».proof.Proof.Sheet
public import proofs.«01_k».proof.Proof.Gen.Kernel11Ideal.Value
public import proofs.«01_k».proof.Proof.Gen.Reference11Ideal.Run
public import proofs.«01_k».proof.Defs

@[expose] public section

set_option maxRecDepth 16384

noncomputable section

namespace Cert.Proof.Wout

open Cert.Kernel11Ideal Cert.Kernel11Ideal.Gen
open Idealize.ShloMosaic Idealize.ShloMosaic.TcCoe Idealize.ShloMosaic.Tactic
open Idealize.SL.Sem
open Cert.Proof.Sheet

/-! ## The square weights' gradient: the kernel's array -/

variable (m : (ℓ : Loc nD τ sig) → Buf (Elt Ideal) ℓ) (c : Dev nD)

theorem at0 : ∀ t : Fin cfg0.N, (cfg0.win 0).index t 0 = 0 ∧ (cfg0.win 0).index t 1 = t.val / 2 := by decide +kernel
theorem at1 : ∀ t : Fin cfg0.N, (cfg0.win 1).index t 0 = 0 ∧ (cfg0.win 1).index t 1 = 0 ∧ (cfg0.win 1).index t 2 = t.val % 2 := by decide +kernel
theorem at2 : ∀ t : Fin cfg0.N, (cfg0.win 2).index t 0 = 0 ∧ (cfg0.win 2).index t 1 = t.val / 2 ∧ (cfg0.win 2).index t 2 = t.val % 2 := by decide +kernel

/-- The arguments' entries. -/
abbrev A := ent2 (a := 4224) (b := 2048) (m ((c.tc : Thread nD τ).loc main_arg0))
abbrev D := ent2 (a := 4224) (b := 2048) (m ((c.tc : Thread nD τ).loc main_arg1))

/-- The array the kernel fetches its second operand from: the second argument, with a leading axis of size one. -/
theorem from1 : V m c main_v0 = shapeCast _ (m ((c.tc : Thread nD τ).loc main_arg1)) shapeCasts_S4224x2048_S1x4224x2048 := by
  unfold V hostOps0
  after_results_simp <;> rfl

theorem from1_apply : E3 (a := 1) (b := 4224) (d := 2048) (V m c main_v0) (fun _ r n => D m c r n) := by
  rw [from1 m c]
  exact lead (e2_ent _) _

theorem blk_a (t : Fin cfg0.N) : E2 (a := 4224) (b := 512) (iblk m c 0 t) (fun r d => A m c r (512 * (t.val / 2) + d)) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  blk_simp
  rw [this.1, this.2]
  congr 1 <;> omega

theorem blk_d (t : Fin cfg0.N) : E3 (a := 1) (b := 4224) (d := 1024) (iblk m c 1 t) (fun _ r n => D m c r (1024 * (t.val % 2) + n)) := by
  intro y
  unfold iblk
  refine (from1_apply m c (((cfg0.win 1).blk t).view.emb y)).trans ?_
  have := at1 t
  blk_simp
  rw [this.2.1, this.2.2]
  congr 1 <;> omega

/-- One block: each entry is the sum over the rows. -/
theorem pay_apply {v0 : Vec Ideal S4224x512 .bf16} {v1 : Vec Ideal S1x4224x1024 .bf16} {f : ℕ → ℕ → EReal} {g : ℕ → ℕ → ℕ → EReal}
    (h0 : E2 (a := 4224) (b := 512) v0 f) (h1 : E3 (a := 1) (b := 4224) (d := 1024) v1 g) (y : S1x512x1024.Idx) :
    k0_pay1 v0 v1 y = ∑ r : Fin 4224, f r.val (y 1).val * g 0 r.val (y 2).val := by
  unfold k0_pay1
  pointwise
  exact Finset.sum_congr rfl fun k _ => by rw [h0 _, h1 _]; rfl

/-- What the kernel leaves in its result, entry by entry. -/
theorem arr : (dats m 0 c).arrAt 2 cfg0.N = (fun y : S1x2048x2048.Idx => ∑ r : Fin 4224, A m c r.val (y 1).val * D m c r.val (y 2).val) := by
  refine (dats m 0 c).arrAt_eq_of_covers 2 _ (by decide +kernel) fun t hf y => ?_
  have a := at2 t
  have h0 : (y 0).val < 1 := (y 0).isLt
  blk_simp
  rw [after0_2]
  unfold out0_2
  rw [View.canon_cons_unit_lit _ _ _ (by decide), View.ld_unit_lit _ _ (by decide), View.ld_unit_lit _ _ (by decide)]
  refine (pay_apply (blk_a m c t) (blk_d m c t) y).trans ?_
  rw [a.2.1, a.2.2]
  exact Finset.sum_congr rfl fun k _ => by congr 2 <;> omega

end Cert.Proof.Wout

/-! ## The plain product -/

namespace Cert.Proof.WoutPlain

open Cert.Reference11Ideal Cert.Reference11Ideal.Gen
open Idealize.ShloMosaic Idealize.ShloMosaic.TcCoe Idealize.ShloMosaic.Tactic
open Cert.Proof.Sheet

/-- The plain gradient as one expression of its arguments. -/
def plain (a : FVec Ideal S4224x2048 .bf16) (d : FVec Ideal S4224x2048 .bf16) : FVec Ideal S1x2048x2048 .bf16 :=
  broadcastInDim S1x2048x2048 ![1, 2] bcast_S2048x2048_S1x2048x2048_1_2 (truncf .bf16 (transpose S2048x2048 [1, 0] (Host.dotGeneral dot_S4224x2048_S4224x2048_S2048x2048_0_0_1_1_n_n none (extf .f32 d bitsLt_bf16_f32) (extf .f32 a bitsLt_bf16_f32)) transposes_S2048x2048_S2048x2048_1_0) bitsLt_bf16_f32)

/-- The plain gradient, entry by entry. -/
theorem want {a : FVec Ideal S4224x2048 .bf16} {d : FVec Ideal S4224x2048 .bf16} {A D : ℕ → ℕ → EReal}
    (ha : E2 (a := 4224) (b := 2048) a A) (hd : E2 (a := 4224) (b := 2048) d D) :
    plain a d = (fun y : S1x2048x2048.Idx => ∑ r : Fin 4224, A r.val (y 1).val * D r.val (y 2).val) := by
  funext y
  unfold plain
  pointwise
  refine Finset.sum_congr rfl fun k _ => ?_
  rw [ha _, hd _]
  show D k.val (y 2).val * A k.val (y 1).val = _
  rw [mul_comm]

/-- The kernel's gradient of the square weights is the plain one. -/
theorem algebraic : Cert.algebraic_Kernel11Ideal_Reference11Ideal (hKernel11Ideal := Cert.Kernel11Ideal.Gen.facts) (hReference11Ideal := Cert.Reference11Ideal.Gen.facts) := by
  intro m g m' g' hp hm
  refine ⟨fun c => (Cert.Kernel11Ideal.Gen.dats m 0 c).arrAt 2 Cert.Kernel11Ideal.cfg0.N, Cert.Kernel11Ideal.Value.run_blocks m g,
    (θ_run Cert.Reference11Ideal.defs _ _).mono (fun r h c => ?_) (Cert.Reference11Ideal.Value.run m' g')⟩
  obtain ⟨r0, rest⟩ := h c
  refine ⟨r0.trans ?_, rest⟩
  obtain ⟨h0, h1⟩ := hm c
  rw [h0, h1]
  refine Eq.trans ?_ (Wout.arr m c).symm
  exact want (e2_ent _) (e2_ent _)

end Cert.Proof.WoutPlain

end
-- ==== Proof.Out.lean ====
module

public import proofs.«01_k».proof.Proof.Sheet
public import proofs.«01_k».proof.Proof.Gen.Kernel12Ideal.Value
public import proofs.«01_k».proof.Proof.Gen.Reference12Ideal.Run
public import proofs.«01_k».proof.Defs

@[expose] public section

set_option maxRecDepth 16384

noncomputable section

namespace Cert.Proof.Out

open Cert.Kernel12Ideal Cert.Kernel12Ideal.Gen
open Idealize.ShloMosaic Idealize.ShloMosaic.TcCoe Idealize.ShloMosaic.Tactic
open Idealize.SL.Sem
open Cert.Proof.Sheet

/-! ## A square product and its sum: the kernel's array -/

variable (m : (ℓ : Loc nD τ sig) → Buf (Elt Ideal) ℓ) (c : Dev nD)

theorem at0 : ∀ t : Fin cfg0.N, (cfg0.win 0).index t 0 = t.val / 2 ∧ (cfg0.win 0).index t 1 = 0 := by decide +kernel
theorem at1 : ∀ t : Fin cfg0.N, (cfg0.win 1).index t 0 = 0 ∧ (cfg0.win 1).index t 1 = 0 ∧ (cfg0.win 1).index t 2 = t.val % 2 := by decide +kernel
theorem at2 : ∀ t : Fin cfg0.N, (cfg0.win 2).index t 0 = t.val / 2 ∧ (cfg0.win 2).index t 1 = t.val % 2 := by decide +kernel
theorem at3 : ∀ t : Fin cfg0.N, (cfg0.win 3).index t 0 = t.val / 2 ∧ (cfg0.win 3).index t 1 = t.val % 2 := by decide +kernel

/-- The arguments' entries. -/
abbrev A := ent2 (a := 4224) (b := 2048) (m ((c.tc : Thread nD τ).loc main_arg0))
abbrev B := ent3 (a := 1) (b := 2048) (d := 2048) (m ((c.tc : Thread nD τ).loc main_arg1))
abbrev H := ent2 (a := 4224) (b := 2048) (m ((c.tc : Thread nD τ).loc main_arg2))

theorem blk_a (t : Fin cfg0.N) : E2 (a := 1056) (b := 2048) (iblk m c 0 t) (fun r d => A m c (1056 * (t.val / 2) + r) d) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 1056 := (y 0).isLt
  blk_simp
  rw [this.1, this.2]
  congr 1 <;> omega

theorem blk_b (t : Fin cfg0.N) : E3 (a := 1) (b := 2048) (d := 1024) (iblk m c 1 t) (fun _ d n => B m c 0 d (1024 * (t.val % 2) + n)) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

theorem blk_h (t : Fin cfg0.N) : E2 (a := 1056) (b := 1024) (iblk m c 2 t) (fun r n => H m c (1056 * (t.val / 2) + r) (1024 * (t.val % 2) + n)) := by
  intro y
  unfold iblk
  rw [show V m c (Pipeline.arrRef spec0 2) = m ((c.tc : Thread nD τ).loc main_arg2) from V_main_arg2 m c]
  refine (e2_ent (m ((c.tc : Thread nD τ).loc main_arg2)) (((cfg0.win 2).blk t).view.emb y)).trans ?_
  have := at2 t
  have h0 : (y 0).val < 1056 := (y 0).isLt
  blk_simp
  rw [this.1, this.2]
  congr 1 <;> omega

/-- One block: the product of a row with a column, added to the entry carried in. -/
theorem pay_apply {v0 : Vec Ideal S1056x2048 .bf16} {v1 : Vec Ideal S1x2048x1024 .bf16} {v4 : Vec Ideal S1056x1024 .f32} {f h : ℕ → ℕ → EReal} {g : ℕ → ℕ → ℕ → EReal}
    (h0 : E2 (a := 1056) (b := 2048) v0 f) (h1 : E3 (a := 1) (b := 2048) (d := 1024) v1 g) (h4 : E2 (a := 1056) (b := 1024) v4 h) (y : S1056x1024.Idx) :
    k0_pay1 v0 v1 v4 y = h (y 0).val (y 1).val + ∑ k : Fin 2048, f (y 0).val k.val * g 0 k.val (y 1).val := by
  unfold k0_pay1
  pointwise
  rw [h4 _, add_comm]
  refine congrArg (_ + ·) (Finset.sum_congr rfl fun k _ => ?_)
  rw [h0 _, h1 _]
  rfl

/-- What the kernel leaves in its result, entry by entry. -/
theorem arr : (dats m 0 c).arrAt 3 cfg0.N = (fun y : S4224x2048.Idx => H m c (y 0).val (y 1).val + ∑ k : Fin 2048, A m c (y 0).val k.val * B m c 0 k.val (y 1).val) := by
  refine (dats m 0 c).arrAt_eq_of_covers 3 _ (by decide +kernel) fun t hf y => ?_
  have a := at3 t
  have h0 : (y 0).val < 1056 := (y 0).isLt
  have h1 : (y 1).val < 1024 := (y 1).isLt
  blk_simp
  rw [after0_3]
  unfold out0_3
  rw [View.canon_cons_unit_lit _ _ _ (by decide), View.ld_unit_lit _ _ (by decide), View.ld_unit_lit _ _ (by decide), View.ld_unit_lit _ _ (by decide)]
  refine (pay_apply (blk_a m c t) (blk_b m c t) (blk_h m c t) y).trans ?_
  rw [a.1, a.2, Nat.mul_comm 1056, Nat.mul_comm 1024]

end Cert.Proof.Out

/-! ## The plain product -/

namespace Cert.Proof.OutPlain

open Cert.Reference12Ideal Cert.Reference12Ideal.Gen
open Idealize.ShloMosaic Idealize.ShloMosaic.TcCoe Idealize.ShloMosaic.Tactic
open Cert.Proof.Sheet

/-- The plain sum as one expression of its arguments. -/
def plain (a : FVec Ideal S4224x2048 .bf16) (b : FVec Ideal S1x2048x2048 .bf16) (h : FVec Ideal S4224x2048 .f32) : FVec Ideal S4224x2048 .f32 :=
  addf h (Host.dotGeneral dot_S4224x2048_S2048x2048_S4224x2048_1_0_0_1_n_n none (extf .f32 a bitsLt_bf16_f32) (extf .f32 (shapeCast _ b shapeCasts_S1x2048x2048_S2048x2048) bitsLt_bf16_f32))

/-- The plain sum, entry by entry. -/
theorem want {a : FVec Ideal S4224x2048 .bf16} {b : FVec Ideal S1x2048x2048 .bf16} {h : FVec Ideal S4224x2048 .f32} {A H : ℕ → ℕ → EReal} {B : ℕ → ℕ → ℕ → EReal}
    (ha : E2 (a := 4224) (b := 2048) a A) (hb : E3 (a := 1) (b := 2048) (d := 2048) b B) (hh : E2 (a := 4224) (b := 2048) h H) :
    plain a b h = (fun y : S4224x2048.Idx => H (y 0).val (y 1).val + ∑ k : Fin 2048, A (y 0).val k.val * B 0 k.val (y 1).val) := by
  funext y
  unfold plain
  pointwise
  rw [hh _]
  refine congrArg (_ + ·) (Finset.sum_congr rfl fun k _ => ?_)
  rw [ha _, hb _]
  rfl

/-- The kernel's square product, added to what comes in, is the plain one. -/
theorem algebraic : Cert.algebraic_Kernel12Ideal_Reference12Ideal (hKernel12Ideal := Cert.Kernel12Ideal.Gen.facts) (hReference12Ideal := Cert.Reference12Ideal.Gen.facts) := by
  intro m g m' g' hp hm
  refine ⟨fun c => (Cert.Kernel12Ideal.Gen.dats m 0 c).arrAt 3 Cert.Kernel12Ideal.cfg0.N, Cert.Kernel12Ideal.Value.run_blocks m g,
    (θ_run Cert.Reference12Ideal.defs _ _).mono (fun r h c => ?_) (Cert.Reference12Ideal.Value.run m' g')⟩
  obtain ⟨r0, rest⟩ := h c
  refine ⟨r0.trans ?_, rest⟩
  obtain ⟨h0, h1, h2⟩ := hm c
  rw [h0, h1, h2]
  refine Eq.trans ?_ (Out.arr m c).symm
  exact want (e2_ent _) (e3_ent _) (e2_ent _)

end Cert.Proof.OutPlain

end
-- ==== Proof.Query.lean ====
module

public import proofs.«01_k».proof.Proof.Sheet
public import proofs.«01_k».proof.Proof.Gen.Kernel13Ideal.Value
public import proofs.«01_k».proof.Proof.Gen.Reference13Ideal.Run
public import proofs.«01_k».proof.Defs

@[expose] public section

set_option maxRecDepth 16384

noncomputable section

namespace Cert.Proof.Query

open Cert.Kernel13Ideal Cert.Kernel13Ideal.Gen
open Idealize.ShloMosaic Idealize.ShloMosaic.TcCoe Idealize.ShloMosaic.Tactic
open Idealize.SL.Sem
open Cert.Proof.Sheet

/-! ## A square product: the kernel's array -/

variable (m : (ℓ : Loc nD τ sig) → Buf (Elt Ideal) ℓ) (c : Dev nD)

theorem at0 : ∀ t : Fin cfg0.N, (cfg0.win 0).index t 0 = t.val / 2 ∧ (cfg0.win 0).index t 1 = 0 := by decide +kernel
theorem at1 : ∀ t : Fin cfg0.N, (cfg0.win 1).index t 0 = 0 ∧ (cfg0.win 1).index t 1 = 0 ∧ (cfg0.win 1).index t 2 = t.val % 2 := by decide +kernel
theorem at2 : ∀ t : Fin cfg0.N, (cfg0.win 2).index t 0 = t.val / 2 ∧ (cfg0.win 2).index t 1 = t.val % 2 := by decide +kernel

/-- The arguments' entries. -/
abbrev A := ent2 (a := 4224) (b := 2048) (m ((c.tc : Thread nD τ).loc main_arg0))
abbrev B := ent3 (a := 1) (b := 2048) (d := 2048) (m ((c.tc : Thread nD τ).loc main_arg1))

theorem blk_a (t : Fin cfg0.N) : E2 (a := 1056) (b := 2048) (iblk m c 0 t) (fun r d => A m c (1056 * (t.val / 2) + r) d) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 1056 := (y 0).isLt
  blk_simp
  rw [this.1, this.2]
  congr 1 <;> omega

theorem blk_b (t : Fin cfg0.N) : E3 (a := 1) (b := 2048) (d := 1024) (iblk m c 1 t) (fun _ d n => B m c 0 d (1024 * (t.val % 2) + n)) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

/-- One block: the product of a row with a column. -/
theorem pay_apply {v0 : Vec Ideal S1056x2048 .bf16} {v1 : Vec Ideal S1x2048x1024 .bf16} {f : ℕ → ℕ → EReal} {g : ℕ → ℕ → ℕ → EReal}
    (h0 : E2 (a := 1056) (b := 2048) v0 f) (h1 : E3 (a := 1) (b := 2048) (d := 1024) v1 g) (y : S1056x1024.Idx) :
    k0_pay1 v0 v1 y = ∑ k : Fin 2048, f (y 0).val k.val * g 0 k.val (y 1).val := by
  unfold k0_pay1
  pointwise
  refine Finset.sum_congr rfl fun k _ => ?_
  rw [h0 _, h1 _]
  rfl

/-- What the kernel leaves in its result, entry by entry. -/
theorem arr : (dats m 0 c).arrAt 2 cfg0.N = (fun y : S4224x2048.Idx => ∑ k : Fin 2048, A m c (y 0).val k.val * B m c 0 k.val (y 1).val) := by
  refine (dats m 0 c).arrAt_eq_of_covers 2 _ (by decide +kernel) fun t hf y => ?_
  have a := at2 t
  have h0 : (y 0).val < 1056 := (y 0).isLt
  have h1 : (y 1).val < 1024 := (y 1).isLt
  blk_simp
  rw [after0_2]
  unfold out0_2
  rw [View.canon_cons_unit_lit _ _ _ (by decide), View.ld_unit_lit _ _ (by decide), View.ld_unit_lit _ _ (by decide)]
  refine (pay_apply (blk_a m c t) (blk_b m c t) y).trans ?_
  rw [a.1, a.2, Nat.mul_comm 1056, Nat.mul_comm 1024]

end Cert.Proof.Query

/-! ## The plain product -/

namespace Cert.Proof.QueryPlain

open Cert.Reference13Ideal Cert.Reference13Ideal.Gen
open Idealize.ShloMosaic Idealize.ShloMosaic.TcCoe Idealize.ShloMosaic.Tactic
open Cert.Proof.Sheet

/-- The plain product as one expression of its arguments. -/
def plain (a : FVec Ideal S4224x2048 .bf16) (b : FVec Ideal S1x2048x2048 .bf16) : FVec Ideal S4224x2048 .f32 :=
  Host.dotGeneral dot_S4224x2048_S2048x2048_S4224x2048_1_0_0_1_n_n none (extf .f32 a bitsLt_bf16_f32) (extf .f32 (shapeCast _ b shapeCasts_S1x2048x2048_S2048x2048) bitsLt_bf16_f32)

/-- The plain product, entry by entry. -/
theorem want {a : FVec Ideal S4224x2048 .bf16} {b : FVec Ideal S1x2048x2048 .bf16} {A : ℕ → ℕ → EReal} {B : ℕ → ℕ → ℕ → EReal}
    (ha : E2 (a := 4224) (b := 2048) a A) (hb : E3 (a := 1) (b := 2048) (d := 2048) b B) :
    plain a b = (fun y : S4224x2048.Idx => ∑ k : Fin 2048, A (y 0).val k.val * B 0 k.val (y 1).val) := by
  funext y
  unfold plain
  pointwise
  refine Finset.sum_congr rfl fun k _ => ?_
  rw [ha _, hb _]
  rfl

/-- The kernel's square product is the plain one. -/
theorem algebraic : Cert.algebraic_Kernel13Ideal_Reference13Ideal (hKernel13Ideal := Cert.Kernel13Ideal.Gen.facts) (hReference13Ideal := Cert.Reference13Ideal.Gen.facts) := by
  intro m g m' g' hp hm
  refine ⟨fun c => (Cert.Kernel13Ideal.Gen.dats m 0 c).arrAt 2 Cert.Kernel13Ideal.cfg0.N, Cert.Kernel13Ideal.Value.run_blocks m g,
    (θ_run Cert.Reference13Ideal.defs _ _).mono (fun r h c => ?_) (Cert.Reference13Ideal.Value.run m' g')⟩
  obtain ⟨r0, rest⟩ := h c
  refine ⟨r0.trans ?_, rest⟩
  obtain ⟨h0, h1⟩ := hm c
  rw [h0, h1]
  refine Eq.trans ?_ (Query.arr m c).symm
  exact want (e2_ent _) (e3_ent _)

end Cert.Proof.QueryPlain

end
-- ==== Proof.Dsq.lean ====
module

public import proofs.«01_k».proof.Proof.Sheet
public import proofs.«01_k».proof.Proof.Gen.Kernel14Ideal.Value
public import proofs.«01_k».proof.Proof.Gen.Reference14Ideal.Run
public import proofs.«01_k».proof.Defs

@[expose] public section

set_option maxRecDepth 16384

noncomputable section

namespace Cert.Proof.Dsq

open Cert.Kernel14Ideal Cert.Kernel14Ideal.Gen
open Idealize.ShloMosaic Idealize.ShloMosaic.TcCoe Idealize.ShloMosaic.Tactic
open Idealize.SL.Sem
open Cert.Proof.Sheet

/-! ## The gradient of a square product's input: the kernel's array -/

variable (m : (ℓ : Loc nD τ sig) → Buf (Elt Ideal) ℓ) (c : Dev nD)

theorem at0 : ∀ t : Fin cfg0.N, (cfg0.win 0).index t 0 = 0 ∧ (cfg0.win 0).index t 1 = t.val / 2 ∧ (cfg0.win 0).index t 2 = 0 := by decide +kernel
theorem at1 : ∀ t : Fin cfg0.N, (cfg0.win 1).index t 0 = 0 ∧ (cfg0.win 1).index t 1 = t.val % 2 ∧ (cfg0.win 1).index t 2 = 0 := by decide +kernel
theorem at2 : ∀ t : Fin cfg0.N, (cfg0.win 2).index t 0 = t.val / 2 ∧ (cfg0.win 2).index t 1 = t.val % 2 := by decide +kernel

/-- The arguments' entries. -/
abbrev D := ent2 (a := 4224) (b := 2048) (m ((c.tc : Thread nD τ).loc main_arg0))
abbrev B := ent3 (a := 1) (b := 2048) (d := 2048) (m ((c.tc : Thread nD τ).loc main_arg1))

/-- The array the kernel fetches its first operand from: the first argument, with a leading axis of size one. -/
theorem from0 : V m c main_v0 = shapeCast _ (m ((c.tc : Thread nD τ).loc main_arg0)) shapeCasts_S4224x2048_S1x4224x2048 := by
  unfold V hostOps0
  after_results_simp <;> rfl

theorem from0_apply : E3 (a := 1) (b := 4224) (d := 2048) (V m c main_v0) (fun _ r n => D m c r n) := by
  rw [from0 m c]
  exact lead (e2_ent _) _

theorem blk_d (t : Fin cfg0.N) : E3 (a := 1) (b := 1056) (d := 2048) (iblk m c 0 t) (fun _ r k => D m c (1056 * (t.val / 2) + r) k) := by
  intro y
  unfold iblk
  refine (from0_apply m c (((cfg0.win 0).blk t).view.emb y)).trans ?_
  have := at0 t
  blk_simp
  rw [this.2.1, this.2.2]
  congr 1 <;> omega

theorem blk_b (t : Fin cfg0.N) : E3 (a := 1) (b := 1024) (d := 2048) (iblk m c 1 t) (fun _ n k => B m c 0 (1024 * (t.val % 2) + n) k) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

/-- One block: the product of a row with a row of the weight. -/
theorem pay_apply {v0 : Vec Ideal S1x1056x2048 .bf16} {v2 : Vec Ideal S1x1024x2048 .bf16} {f g : ℕ → ℕ → ℕ → EReal}
    (h0 : E3 (a := 1) (b := 1056) (d := 2048) v0 f) (h2 : E3 (a := 1) (b := 1024) (d := 2048) v2 g) (y : S1056x1024.Idx) :
    k0_pay1 v0 v2 y = ∑ k : Fin 2048, f 0 (y 0).val k.val * g 0 (y 1).val k.val := by
  unfold k0_pay1
  pointwise
  exact Finset.sum_congr rfl fun k _ => by rw [h0 _, h2 _]; rfl

/-- What the kernel leaves in its result, entry by entry. -/
theorem arr : (dats m 0 c).arrAt 2 cfg0.N = (fun y : S4224x2048.Idx => ∑ k : Fin 2048, D m c (y 0).val k.val * B m c 0 (y 1).val k.val) := by
  refine (dats m 0 c).arrAt_eq_of_covers 2 _ (by decide +kernel) fun t hf y => ?_
  have a := at2 t
  blk_simp
  rw [after0_2]
  unfold out0_2
  rw [View.canon_cons_unit_lit _ _ _ (by decide), View.ld_unit_lit _ _ (by decide), View.ld_unit_lit _ _ (by decide)]
  refine (pay_apply (blk_d m c t) (blk_b m c t) y).trans ?_
  rw [a.1, a.2, mul_comm (t.val / 2), mul_comm (t.val % 2)]

end Cert.Proof.Dsq

/-! ## The plain product -/

namespace Cert.Proof.DsqPlain

open Cert.Reference14Ideal Cert.Reference14Ideal.Gen
open Idealize.ShloMosaic Idealize.ShloMosaic.TcCoe Idealize.ShloMosaic.Tactic
open Cert.Proof.Sheet

/-- The plain product as one expression of its arguments. -/
def plain (d : FVec Ideal S4224x2048 .bf16) (b : FVec Ideal S1x2048x2048 .bf16) : FVec Ideal S4224x2048 .f32 :=
  Host.dotGeneral dot_S4224x2048_S2048x2048_S4224x2048_1_1_0_0_n_n none (extf .f32 d bitsLt_bf16_f32) (extf .f32 (shapeCast _ b shapeCasts_S1x2048x2048_S2048x2048) bitsLt_bf16_f32)

/-- The plain product, entry by entry. -/
theorem want {d : FVec Ideal S4224x2048 .bf16} {b : FVec Ideal S1x2048x2048 .bf16} {D : ℕ → ℕ → EReal} {B : ℕ → ℕ → ℕ → EReal}
    (hd : E2 (a := 4224) (b := 2048) d D) (hb : E3 (a := 1) (b := 2048) (d := 2048) b B) :
    plain d b = (fun y : S4224x2048.Idx => ∑ k : Fin 2048, D (y 0).val k.val * B 0 (y 1).val k.val) := by
  funext y
  unfold plain
  pointwise
  refine Finset.sum_congr rfl fun k _ => ?_
  rw [hd _, hb _]
  rfl

/-- The kernel's gradient of a square product's input is the plain one. -/
theorem algebraic : Cert.algebraic_Kernel14Ideal_Reference14Ideal (hKernel14Ideal := Cert.Kernel14Ideal.Gen.facts) (hReference14Ideal := Cert.Reference14Ideal.Gen.facts) := by
  intro m g m' g' hp hm
  refine ⟨fun c => (Cert.Kernel14Ideal.Gen.dats m 0 c).arrAt 2 Cert.Kernel14Ideal.cfg0.N, Cert.Kernel14Ideal.Value.run_blocks m g,
    (θ_run Cert.Reference14Ideal.defs _ _).mono (fun r h c => ?_) (Cert.Reference14Ideal.Value.run m' g')⟩
  obtain ⟨r0, rest⟩ := h c
  refine ⟨r0.trans ?_, rest⟩
  obtain ⟨h0, h1⟩ := hm c
  rw [h0, h1]
  refine Eq.trans ?_ (Dsq.arr m c).symm
  exact want (e2_ent _) (e3_ent _)

end Cert.Proof.DsqPlain

end
-- ==== Proof.Keyval.lean ====
module

public import proofs.«01_k».proof.Proof.Sheet
public import proofs.«01_k».proof.Proof.Gen.Kernel15Ideal.Value
public import proofs.«01_k».proof.Proof.Gen.Reference15Ideal.Run
public import proofs.«01_k».proof.Defs

@[expose] public section

set_option maxRecDepth 16384

noncomputable section

namespace Cert.Proof.Keyval

open Cert.Kernel15Ideal Cert.Kernel15Ideal.Gen
open Idealize.ShloMosaic Idealize.ShloMosaic.TcCoe Idealize.ShloMosaic.Tactic
open Idealize.SL.Sem
open Cert.Proof.Sheet

/-! ## The key and value product: the kernel's array -/

variable (m : (ℓ : Loc nD τ sig) → Buf (Elt Ideal) ℓ) (c : Dev nD)

theorem at0 : ∀ t : Fin cfg0.N, (cfg0.win 0).index t 0 = t.val / 8 ∧ (cfg0.win 0).index t 1 = 0 := by decide +kernel
theorem at1 : ∀ t : Fin cfg0.N, (cfg0.win 1).index t 0 = t.val % 8 ∧ (cfg0.win 1).index t 1 = 0 ∧ (cfg0.win 1).index t 2 = 0 := by decide +kernel
theorem at2 : ∀ t : Fin cfg0.N, (cfg0.win 2).index t 0 = t.val / 8 ∧ (cfg0.win 2).index t 1 = t.val % 8 := by decide +kernel

/-- The arguments' entries. -/
abbrev A := ent2 (a := 4224) (b := 2048) (m ((c.tc : Thread nD τ).loc main_arg0))
abbrev B := ent3 (a := 8) (b := 2048) (d := 512) (m ((c.tc : Thread nD τ).loc main_arg1))

theorem blk_a (t : Fin cfg0.N) : E2 (a := 1056) (b := 2048) (iblk m c 0 t) (fun r d => A m c (1056 * (t.val / 8) + r) d) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 1056 := (y 0).isLt
  blk_simp
  rw [this.1, this.2]
  congr 1 <;> omega

theorem blk_b (t : Fin cfg0.N) : E3 (a := 1) (b := 2048) (d := 512) (iblk m c 1 t) (fun _ d n => B m c (t.val % 8) d n) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

/-- One block: the product of a row with a column. -/
theorem pay_apply {v0 : Vec Ideal S1056x2048 .bf16} {v1 : Vec Ideal S1x2048x512 .bf16} {f : ℕ → ℕ → EReal} {g : ℕ → ℕ → ℕ → EReal}
    (h0 : E2 (a := 1056) (b := 2048) v0 f) (h1 : E3 (a := 1) (b := 2048) (d := 512) v1 g) (y : S1056x512.Idx) :
    k0_pay1 v0 v1 y = ∑ k : Fin 2048, f (y 0).val k.val * g 0 k.val (y 1).val := by
  unfold k0_pay1
  pointwise
  exact Finset.sum_congr rfl fun k _ => by rw [h0 _, h1 _]; rfl

/-- What the kernel leaves in its result, entry by entry. -/
theorem arr : (dats m 0 c).arrAt 2 cfg0.N = (fun y : S4224x4096.Idx => ∑ k : Fin 2048, A m c (y 0).val k.val * B m c ((y 1).val / 512) k.val ((y 1).val % 512)) := by
  refine (dats m 0 c).arrAt_eq_of_covers 2 _ (by decide +kernel) fun t hf y => ?_
  have a := at2 t
  have h0 : (y 0).val < 1056 := (y 0).isLt
  have h1 : (y 1).val < 512 := (y 1).isLt
  blk_simp
  rw [after0_2]
  unfold out0_2
  rw [View.canon_cons_unit_lit _ _ _ (by decide), View.ld_unit_lit _ _ (by decide), View.ld_unit_lit _ _ (by decide)]
  refine (pay_apply (blk_a m c t) (blk_b m c t) y).trans ?_
  rw [a.1, a.2]
  exact Finset.sum_congr rfl fun k _ => by congr 2 <;> omega

end Cert.Proof.Keyval

/-! ## The plain product -/

namespace Cert.Proof.KeyvalPlain

open Cert.Reference15Ideal Cert.Reference15Ideal.Gen
open Idealize.ShloMosaic Idealize.ShloMosaic.TcCoe Idealize.ShloMosaic.Tactic
open Cert.Proof.Sheet

/-- The plain product as one expression of its arguments. -/
def plain (a : FVec Ideal S4224x2048 .bf16) (b : FVec Ideal S8x2048x512 .bf16) : FVec Ideal S4224x4096 .f32 :=
  Host.dotGeneral dot_S4224x2048_S2048x4096_S4224x4096_1_0_0_1_n_n none (extf .f32 a bitsLt_bf16_f32) (shapeCast _ (transpose S2048x8x512 [1, 0, 2] (extf .f32 b bitsLt_bf16_f32) transposes_S8x2048x512_S2048x8x512_1_0_2) shapeCasts_S2048x8x512_S2048x4096)

/-- The plain product, entry by entry: column `n` is column `n mod 512` of device `n / 512`. -/
theorem want {a : FVec Ideal S4224x2048 .bf16} {b : FVec Ideal S8x2048x512 .bf16} {A : ℕ → ℕ → EReal} {B : ℕ → ℕ → ℕ → EReal}
    (ha : E2 (a := 4224) (b := 2048) a A) (hb : E3 (a := 8) (b := 2048) (d := 512) b B) :
    plain a b = (fun y : S4224x4096.Idx => ∑ k : Fin 2048, A (y 0).val k.val * B ((y 1).val / 512) k.val ((y 1).val % 512)) := by
  funext y
  unfold plain
  pointwise
  refine Finset.sum_congr rfl fun k _ => ?_
  rw [ha _, hb _]
  rfl

/-- The kernel's key and value product is the plain one. -/
theorem algebraic : Cert.algebraic_Kernel15Ideal_Reference15Ideal (hKernel15Ideal := Cert.Kernel15Ideal.Gen.facts) (hReference15Ideal := Cert.Reference15Ideal.Gen.facts) := by
  intro m g m' g' hp hm
  refine ⟨fun c => (Cert.Kernel15Ideal.Gen.dats m 0 c).arrAt 2 Cert.Kernel15Ideal.cfg0.N, Cert.Kernel15Ideal.Value.run_blocks m g,
    (θ_run Cert.Reference15Ideal.defs _ _).mono (fun r h c => ?_) (Cert.Reference15Ideal.Value.run m' g')⟩
  obtain ⟨r0, rest⟩ := h c
  refine ⟨r0.trans ?_, rest⟩
  obtain ⟨h0, h1⟩ := hm c
  rw [h0, h1]
  refine Eq.trans ?_ (Keyval.arr m c).symm
  exact want (e2_ent _) (e3_ent _)

end Cert.Proof.KeyvalPlain

end
-- ==== Proof.Wkv.lean ====
module

public import proofs.«01_k».proof.Proof.Sheet
public import proofs.«01_k».proof.Proof.Gen.Kernel16Ideal.Value
public import proofs.«01_k».proof.Proof.Gen.Reference16Ideal.Run
public import proofs.«01_k».proof.Defs

@[expose] public section

set_option maxRecDepth 16384

noncomputable section

namespace Cert.Proof.Wkv

open Cert.Kernel16Ideal Cert.Kernel16Ideal.Gen
open Idealize.ShloMosaic Idealize.ShloMosaic.TcCoe Idealize.ShloMosaic.Tactic
open Idealize.SL.Sem
open Cert.Proof.Sheet

/-! ## The gradient of the key and value weights: the kernel's array -/

variable (m : (ℓ : Loc nD τ sig) → Buf (Elt Ideal) ℓ) (c : Dev nD)

theorem at0 : ∀ t : Fin cfg0.N, (cfg0.win 0).index t 0 = 0 ∧ (cfg0.win 0).index t 1 = t.val / 8 := by decide +kernel
theorem at1 : ∀ t : Fin cfg0.N, (cfg0.win 1).index t 0 = 0 ∧ (cfg0.win 1).index t 1 = 0 ∧ (cfg0.win 1).index t 2 = t.val % 8 := by decide +kernel
theorem at2 : ∀ t : Fin cfg0.N, (cfg0.win 2).index t 0 = t.val % 8 ∧ (cfg0.win 2).index t 1 = t.val / 8 ∧ (cfg0.win 2).index t 2 = 0 := by decide +kernel

/-- The arguments' entries. -/
abbrev A := ent2 (a := 4224) (b := 2048) (m ((c.tc : Thread nD τ).loc main_arg0))
abbrev D := ent2 (a := 4224) (b := 4096) (m ((c.tc : Thread nD τ).loc main_arg1))

/-- The array the kernel fetches its second operand from: the second argument, with a leading axis of size one. -/
theorem from1 : V m c main_v0 = shapeCast _ (m ((c.tc : Thread nD τ).loc main_arg1)) shapeCasts_S4224x4096_S1x4224x4096 := by
  unfold V hostOps0
  after_results_simp <;> rfl

theorem from1_apply : E3 (a := 1) (b := 4224) (d := 4096) (V m c main_v0) (fun _ r n => D m c r n) := by
  rw [from1 m c]
  exact lead (e2_ent _) _

theorem blk_a (t : Fin cfg0.N) : E2 (a := 4224) (b := 512) (iblk m c 0 t) (fun r d => A m c r (512 * (t.val / 8) + d)) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 4224 := (y 0).isLt
  blk_simp
  rw [this.1, this.2]
  congr 1 <;> omega

theorem blk_d (t : Fin cfg0.N) : E3 (a := 1) (b := 4224) (d := 512) (iblk m c 1 t) (fun _ r n => D m c r (512 * (t.val % 8) + n)) := by
  intro y
  unfold iblk
  refine (from1_apply m c (((cfg0.win 1).blk t).view.emb y)).trans ?_
  have := at1 t
  blk_simp
  rw [this.2.1, this.2.2]
  congr 1 <;> omega

/-- One block: each entry is the sum over the rows. -/
theorem pay_apply {v0 : Vec Ideal S4224x512 .bf16} {v1 : Vec Ideal S1x4224x512 .bf16} {f : ℕ → ℕ → EReal} {g : ℕ → ℕ → ℕ → EReal}
    (h0 : E2 (a := 4224) (b := 512) v0 f) (h1 : E3 (a := 1) (b := 4224) (d := 512) v1 g) (y : S1x512x512.Idx) :
    k0_pay1 v0 v1 y = ∑ r : Fin 4224, f r.val (y 1).val * g 0 r.val (y 2).val := by
  unfold k0_pay1
  pointwise
  exact Finset.sum_congr rfl fun k _ => by rw [h0 _, h1 _]; rfl

/-- What the kernel leaves in its result, entry by entry. -/
theorem arr : (dats m 0 c).arrAt 2 cfg0.N = (fun y : S8x2048x512.Idx => ∑ r : Fin 4224, A m c r.val (y 1).val * D m c r.val (512 * (y 0).val + (y 2).val)) := by
  refine (dats m 0 c).arrAt_eq_of_covers 2 _ (by decide +kernel) fun t hf y => ?_
  have a := at2 t
  have h0 : (y 0).val < 1 := (y 0).isLt
  blk_simp
  rw [after0_2]
  unfold out0_2
  rw [View.canon_cons_unit_lit _ _ _ (by decide), View.ld_unit_lit _ _ (by decide), View.ld_unit_lit _ _ (by decide)]
  refine (pay_apply (blk_a m c t) (blk_d m c t) y).trans ?_
  rw [a.1, a.2.1, a.2.2]
  exact Finset.sum_congr rfl fun k _ => by congr 2 <;> omega

end Cert.Proof.Wkv

/-! ## The plain product -/

namespace Cert.Proof.WkvPlain

open Cert.Reference16Ideal Cert.Reference16Ideal.Gen
open Idealize.ShloMosaic Idealize.ShloMosaic.TcCoe Idealize.ShloMosaic.Tactic
open Cert.Proof.Sheet

/-- The plain gradient as one expression of its arguments. -/
def plain (a : FVec Ideal S4224x2048 .bf16) (d : FVec Ideal S4224x4096 .bf16) : FVec Ideal S8x2048x512 .bf16 :=
  truncf .bf16 (transpose S8x2048x512 [1, 0, 2] (shapeCast _ (transpose S2048x4096 [1, 0] (Host.dotGeneral dot_S4224x4096_S4224x2048_S4096x2048_0_0_1_1_n_n none (extf .f32 d bitsLt_bf16_f32) (extf .f32 a bitsLt_bf16_f32)) transposes_S4096x2048_S2048x4096_1_0) shapeCasts_S2048x4096_S2048x8x512) transposes_S2048x8x512_S8x2048x512_1_0_2) bitsLt_bf16_f32

/-- The plain gradient, entry by entry: a device's block is its 512 columns. -/
theorem want {a : FVec Ideal S4224x2048 .bf16} {d : FVec Ideal S4224x4096 .bf16} {A D : ℕ → ℕ → EReal}
    (ha : E2 (a := 4224) (b := 2048) a A) (hd : E2 (a := 4224) (b := 4096) d D) :
    plain a d = (fun y : S8x2048x512.Idx => ∑ r : Fin 4224, A r.val (y 1).val * D r.val (512 * (y 0).val + (y 2).val)) := by
  funext y
  unfold plain
  pointwise
  refine Finset.sum_congr rfl fun k _ => ?_
  rw [ha _, hd _]
  show D k.val ((y 0).val * 512 + (y 2).val) * A k.val (y 1).val = _
  rw [Nat.mul_comm (y 0).val 512, mul_comm]

/-- The kernel's gradient of the key and value weights is the plain one. -/
theorem algebraic : Cert.algebraic_Kernel16Ideal_Reference16Ideal (hKernel16Ideal := Cert.Kernel16Ideal.Gen.facts) (hReference16Ideal := Cert.Reference16Ideal.Gen.facts) := by
  intro m g m' g' hp hm
  refine ⟨fun c => (Cert.Kernel16Ideal.Gen.dats m 0 c).arrAt 2 Cert.Kernel16Ideal.cfg0.N, Cert.Kernel16Ideal.Value.run_blocks m g,
    (θ_run Cert.Reference16Ideal.defs _ _).mono (fun r h c => ?_) (Cert.Reference16Ideal.Value.run m' g')⟩
  obtain ⟨r0, rest⟩ := h c
  refine ⟨r0.trans ?_, rest⟩
  obtain ⟨h0, h1⟩ := hm c
  rw [h0, h1]
  refine Eq.trans ?_ (Wkv.arr m c).symm
  exact want (e2_ent _) (e2_ent _)

end Cert.Proof.WkvPlain

end
-- ==== Proof.Dkv.lean ====
module

public import proofs.«01_k».proof.Proof.Runs
public import Idealize.ShloMosaic.Lib.Pipeline.ReadBack
public import proofs.«01_k».proof.Proof.Gen.Kernel17Ideal.Value
public import proofs.«01_k».proof.Proof.Gen.Reference17Ideal.Run
public import proofs.«01_k».proof.Defs

@[expose] public section

set_option maxRecDepth 16384

noncomputable section

namespace Cert.Proof.Dkv

open Cert.Kernel17Ideal Cert.Kernel17Ideal.Gen
open Idealize.ShloMosaic Idealize.ShloMosaic.TcCoe Idealize.ShloMosaic.Tactic
open Idealize.SL.Sem
open Cert.Proof.Sheet

/-! ## The key and value product's gradient of its input: the kernel's array -/

variable (m : (ℓ : Loc nD τ sig) → Buf (Elt Ideal) ℓ) (c : Dev nD)

theorem at0 : ∀ t : Fin cfg0.N, (cfg0.win 0).index t 0 = 0 ∧ (cfg0.win 0).index t 1 = t.val / 4 ∧ (cfg0.win 0).index t 2 = t.val % 2 := by decide +kernel
theorem at1 : ∀ t : Fin cfg0.N, (cfg0.win 1).index t 0 = t.val % 2 ∧ (cfg0.win 1).index t 1 = t.val / 2 % 2 ∧ (cfg0.win 1).index t 2 = 0 := by decide +kernel
theorem at2 : ∀ t : Fin cfg0.N, (cfg0.win 2).index t 0 = t.val / 4 ∧ (cfg0.win 2).index t 1 = t.val / 2 % 2 := by decide +kernel
theorem at3 : ∀ t : Fin cfg0.N, (cfg0.win 3).index t 0 = t.val / 4 ∧ (cfg0.win 3).index t 1 = t.val / 2 % 2 := by decide +kernel

/-- The arguments' entries. -/
abbrev D := ent2 (a := 4224) (b := 4096) (m ((c.tc : Thread nD τ).loc main_arg0))
abbrev B := ent3 (a := 8) (b := 2048) (d := 512) (m ((c.tc : Thread nD τ).loc main_arg1))
abbrev H := ent2 (a := 4224) (b := 2048) (m ((c.tc : Thread nD τ).loc main_arg2))

/-- One product of the long sum: column `n` of the cotangents, with column `n` of the eight weight blocks side by side. -/
def term (r k n : ℕ) : EReal := D m c r n * B m c (n / 512) k (n % 512)

/-- The array the kernel fetches its first operand from: the first argument, with a leading axis of size one. -/
theorem from0 : V m c main_v0 = shapeCast _ (m ((c.tc : Thread nD τ).loc main_arg0)) shapeCasts_S4224x4096_S1x4224x4096 := by
  unfold V hostOps0
  after_results_simp <;> rfl

theorem from0_apply : E3 (a := 1) (b := 4224) (d := 4096) (V m c main_v0) (fun _ r n => D m c r n) := by
  rw [from0 m c]
  exact lead (e2_ent _) _

theorem blk_d (t : Fin cfg0.N) : E3 (a := 1) (b := 1056) (d := 2048) (iblk m c 0 t) (fun _ r n => D m c (1056 * (t.val / 4) + r) (2048 * (t.val % 2) + n)) := by
  intro y
  unfold iblk
  refine (from0_apply m c (((cfg0.win 0).blk t).view.emb y)).trans ?_
  have := at0 t
  blk_simp
  rw [this.2.1, this.2.2]
  congr 1 <;> omega

theorem blk_b (t : Fin cfg0.N) : E3 (a := 4) (b := 1024) (d := 512) (iblk m c 1 t) (fun g k n => B m c (4 * (t.val % 2) + g) (1024 * (t.val / 2 % 2) + k) n) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 4 := (y 0).isLt
  blk_simp
  rw [this.1, this.2.1, this.2.2]
  congr 1 <;> omega

theorem blk_h (t : Fin cfg0.N) : E2 (a := 1056) (b := 1024) (iblk m c 2 t) (fun r n => H m c (1056 * (t.val / 4) + r) (1024 * (t.val / 2 % 2) + n)) := by
  intro y
  unfold iblk
  rw [show V m c (Pipeline.arrRef spec0 2) = m ((c.tc : Thread nD τ).loc main_arg2) from V_main_arg2 m c]
  refine (e2_ent (m ((c.tc : Thread nD τ).loc main_arg2)) (((cfg0.win 2).blk t).view.emb y)).trans ?_
  have := at2 t
  blk_simp
  rw [this.1, this.2]
  congr 1 <;> omega

/-- One block: four products of 512 columns each, added. -/
theorem pay_apply {v0 v5 v11 v17 : Vec Ideal S1x1056x512 .bf16} {v2 v7 v13 v19 : Vec Ideal S1x1024x512 .bf16} {f0 f5 f11 f17 f2 f7 f13 f19 : ℕ → ℕ → ℕ → EReal}
    (h0 : E3 (a := 1) (b := 1056) (d := 512) v0 f0) (h2 : E3 (a := 1) (b := 1024) (d := 512) v2 f2) (h5 : E3 (a := 1) (b := 1056) (d := 512) v5 f5) (h7 : E3 (a := 1) (b := 1024) (d := 512) v7 f7) (h11 : E3 (a := 1) (b := 1056) (d := 512) v11 f11) (h13 : E3 (a := 1) (b := 1024) (d := 512) v13 f13) (h17 : E3 (a := 1) (b := 1056) (d := 512) v17 f17) (h19 : E3 (a := 1) (b := 1024) (d := 512) v19 f19) (y : S1056x1024.Idx) :
    k0_pay3 v0 v2 v5 v7 v11 v13 v17 v19 y = (∑ k : Fin 512, f0 0 (y 0).val k.val * f2 0 (y 1).val k.val) + (∑ k : Fin 512, f5 0 (y 0).val k.val * f7 0 (y 1).val k.val) + (∑ k : Fin 512, f11 0 (y 0).val k.val * f13 0 (y 1).val k.val) + (∑ k : Fin 512, f17 0 (y 0).val k.val * f19 0 (y 1).val k.val) := by
  unfold k0_pay3
  pointwise
  refine congrArg₂ (· + ·) (congrArg₂ (· + ·) (congrArg₂ (· + ·) ?_ ?_) ?_) ?_
  · exact Finset.sum_congr rfl fun k _ => by rw [h0 _, h2 _]; rfl
  · exact Finset.sum_congr rfl fun k _ => by rw [h5 _, h7 _]; rfl
  · exact Finset.sum_congr rfl fun k _ => by rw [h11 _, h13 _]; rfl
  · exact Finset.sum_congr rfl fun k _ => by rw [h17 _, h19 _]; rfl

/-! The loads of a step: each block in four parts. -/

theorem ld_d0 {X : Vec Ideal S1x1056x2048 .bf16} {f : ℕ → ℕ → ℕ → EReal} (h : E3 (a := 1) (b := 1056) (d := 2048) X f) (inb) :
    E3 (a := 1) (b := 1056) (d := 512) (View.ld X (Rect.unit ![0, 0, 0] ![1, 1056, 512] inb)) (fun p r n => f p r n) := fun y => by
  pointwise
  exact h _

theorem ld_d1 {X : Vec Ideal S1x1056x2048 .bf16} {f : ℕ → ℕ → ℕ → EReal} (h : E3 (a := 1) (b := 1056) (d := 2048) X f) (inb) :
    E3 (a := 1) (b := 1056) (d := 512) (View.ld X (Rect.unit ![0, 0, 512] ![1, 1056, 512] inb)) (fun p r n => f p r (512 + n)) := fun y => by
  pointwise
  exact h _

theorem ld_d2 {X : Vec Ideal S1x1056x2048 .bf16} {f : ℕ → ℕ → ℕ → EReal} (h : E3 (a := 1) (b := 1056) (d := 2048) X f) (inb) :
    E3 (a := 1) (b := 1056) (d := 512) (View.ld X (Rect.unit ![0, 0, 1024] ![1, 1056, 512] inb)) (fun p r n => f p r (1024 + n)) := fun y => by
  pointwise
  exact h _

theorem ld_d3 {X : Vec Ideal S1x1056x2048 .bf16} {f : ℕ → ℕ → ℕ → EReal} (h : E3 (a := 1) (b := 1056) (d := 2048) X f) (inb) :
    E3 (a := 1) (b := 1056) (d := 512) (View.ld X (Rect.unit ![0, 0, 1536] ![1, 1056, 512] inb)) (fun p r n => f p r (1536 + n)) := fun y => by
  pointwise
  exact h _

theorem ld_b0 {X : Vec Ideal S4x1024x512 .bf16} {f : ℕ → ℕ → ℕ → EReal} (h : E3 (a := 4) (b := 1024) (d := 512) X f) (inb) :
    E3 (a := 1) (b := 1024) (d := 512) (View.ld X (Rect.unit ![0, 0, 0] ![1, 1024, 512] inb)) (fun p k n => f 0 k n) := fun y => by
  pointwise
  exact h _

theorem ld_b1 {X : Vec Ideal S4x1024x512 .bf16} {f : ℕ → ℕ → ℕ → EReal} (h : E3 (a := 4) (b := 1024) (d := 512) X f) (inb) :
    E3 (a := 1) (b := 1024) (d := 512) (View.ld X (Rect.unit ![1, 0, 0] ![1, 1024, 512] inb)) (fun p k n => f 1 k n) := fun y => by
  pointwise
  exact h _

theorem ld_b2 {X : Vec Ideal S4x1024x512 .bf16} {f : ℕ → ℕ → ℕ → EReal} (h : E3 (a := 4) (b := 1024) (d := 512) X f) (inb) :
    E3 (a := 1) (b := 1024) (d := 512) (View.ld X (Rect.unit ![2, 0, 0] ![1, 1024, 512] inb)) (fun p k n => f 2 k n) := fun y => by
  pointwise
  exact h _

theorem ld_b3 {X : Vec Ideal S4x1024x512 .bf16} {f : ℕ → ℕ → ℕ → EReal} (h : E3 (a := 4) (b := 1024) (d := 512) X f) (inb) :
    E3 (a := 1) (b := 1024) (d := 512) (View.ld X (Rect.unit ![3, 0, 0] ![1, 1024, 512] inb)) (fun p k n => f 3 k n) := fun y => by
  pointwise
  exact h _

/-- What a step adds at an entry of its block: the terms of the long sum from `2048 s` on, for the step's number `s`. -/
def step (t : ℕ) (j : S1056x1024.Idx) : EReal :=
  ∑ n ∈ Finset.range 2048, term m c (1056 * (t / 4) + (j 0).val) (1024 * (t / 2 % 2) + (j 1).val) (2048 * (t % 2) + n)

theorem step_eq (t : Fin cfg0.N) (i0 i1 i2 i3 i4 i5 i6 i7) (j : S1056x1024.Idx) :
    k0_pay3 (View.ld (iblk m c 0 t) (Rect.unit ![0, 0, 0] ![1, 1056, 512] i0)) (View.ld (iblk m c 1 t) (Rect.unit ![0, 0, 0] ![1, 1024, 512] i1)) (View.ld (iblk m c 0 t) (Rect.unit ![0, 0, 512] ![1, 1056, 512] i2)) (View.ld (iblk m c 1 t) (Rect.unit ![1, 0, 0] ![1, 1024, 512] i3)) (View.ld (iblk m c 0 t) (Rect.unit ![0, 0, 1024] ![1, 1056, 512] i4)) (View.ld (iblk m c 1 t) (Rect.unit ![2, 0, 0] ![1, 1024, 512] i5)) (View.ld (iblk m c 0 t) (Rect.unit ![0, 0, 1536] ![1, 1056, 512] i6)) (View.ld (iblk m c 1 t) (Rect.unit ![3, 0, 0] ![1, 1024, 512] i7)) j = step m c t.val j := by
  refine (pay_apply (ld_d0 (blk_d m c t) i0) (ld_b0 (blk_b m c t) i1) (ld_d1 (blk_d m c t) i2) (ld_b1 (blk_b m c t) i3) (ld_d2 (blk_d m c t) i4) (ld_b2 (blk_b m c t) i5) (ld_d3 (blk_d m c t) i6) (ld_b3 (blk_b m c t) i7) j).trans ?_
  rw [step, ← Runs.sum_runs _ 512 4, Finset.sum_range_succ, Finset.sum_range_succ, Finset.sum_range_succ, Finset.sum_range_succ, Finset.sum_range_zero, zero_add, Finset.sum_range, Finset.sum_range, Finset.sum_range, Finset.sum_range]
  refine congrArg₂ (· + ·) (congrArg₂ (· + ·) (congrArg₂ (· + ·) (Finset.sum_congr rfl fun k _ => ?_) (Finset.sum_congr rfl fun k _ => ?_)) (Finset.sum_congr rfl fun k _ => ?_)) (Finset.sum_congr rfl fun k _ => ?_)
  · have hk : k.val < 512 := k.isLt
    rw [term]
    congr 2 <;> omega
  · have hk : k.val < 512 := k.isLt
    rw [term]
    congr 2 <;> omega
  · have hk : k.val < 512 := k.isLt
    rw [term]
    congr 2 <;> omega
  · have hk : k.val < 512 := k.isLt
    rw [term]
    congr 2 <;> omega

theorem reset_apply (v0 v5 v11 v17 : Vec Ideal S1x1056x512 .bf16) (v2 v7 v13 v19 : Vec Ideal S1x1024x512 .bf16) (j : S1056x1024.Idx) : k0_pay4 v0 v2 v5 v7 v11 v13 v17 v19 j = k0_pay3 v0 v2 v5 v7 v11 v13 v17 v19 j := by
  unfold k0_pay4
  generalize k0_pay3 v0 v2 v5 v7 v11 v13 v17 v19 = p
  pointwise

theorem add_apply (u v : FVec Ideal S1056x1024 .f32) (j : S1056x1024.Idx) : k0_pay1 u v j = v j + u j := by
  unfold k0_pay1
  pointwise

/-- The running sum that the kernel carries from step to step. -/
theorem acc (t : Fin cfg0.N) (j : S1056x1024.Idx) :
    (outsAt0 m c t.val t.isLt).2 j = 0 + ∑ s ∈ Finset.range (t.val % 2 + 1), step m c (2 * (t.val / 2) + s) j := by
  refine Pipeline.eq_sum_of_reset_step_apply (fun n h => (outsAt0 m c n h).2) 2 (fun _ => 0) (step m c) (fun t h j => ?_) (fun t h j => ?_) t j
  · rw [outsAt0_A m c t h (by omega) (by omega)]
    frame_out
    rw [reset_apply, step_eq, zero_add]
  · rw [outsAt0_B m c t h (by omega) (by omega)]
    frame_out
    simp only [read_unread_whole]
    rw [add_apply, step_eq]

theorem out_apply (u v : FVec Ideal S1056x1024 .f32) (j : S1056x1024.Idx) : k0_pay2 u v j = u j + v j := by
  unfold k0_pay2
  pointwise

/-- At a run's last step the block written is the running sum, with the block handed in added. -/
theorem last (t : Fin cfg0.N) (h : t.val % 2 = 1) (j : S1056x1024.Idx) : (outsAt0 m c t.val t.isLt).1 j = (outsAt0 m c t.val t.isLt).2 j + iblk m c 2 t j := by
  rw [outsAt0_B m c t (by omega) h h]
  frame_out
  rw [out_apply]

/-- What the kernel leaves in its result, entry by entry: the long sum, with the entry handed in added. -/
theorem arr : (dats m 0 c).arrAt 3 cfg0.N = (fun y : S4224x2048.Idx => (∑ n : Fin 4096, term m c (y 0).val (y 1).val n.val) + H m c (y 0).val (y 1).val) := by
  refine (dats m 0 c).arrAt_eq_of_covers 3 _ (by decide +kernel) fun t hf y => ?_
  have a := at3 t
  have hr : t.val % 2 = 1 := by have := (flush0_3 t).mp hf; omega
  have h0 : (y 0).val < 1056 := (y 0).isLt
  have h1 : (y 1).val < 1024 := (y 1).isLt
  blk_simp
  rw [after0_3]
  refine (last m c t hr y).trans ?_
  rw [acc m c t y, blk_h m c t y]
  rw [a.1, a.2, hr, zero_add]
  rw [show t.val / 4 * 1056 = 1056 * (t.val / 4) by omega, show t.val / 2 % 2 * 1024 = 1024 * (t.val / 2 % 2) by omega]
  refine congrArg (· + _) ?_
  refine Eq.trans (Finset.sum_congr rfl fun s hs => ?_) ((Runs.sum_runs (term m c (1056 * (t.val / 4) + (y 0).val) (1024 * (t.val / 2 % 2) + (y 1).val)) 2048 2).trans (Finset.sum_range _))
  have hs := Finset.mem_range.mp hs
  rw [step, show (2 * (t.val / 2) + s) / 4 = t.val / 4 by omega, show (2 * (t.val / 2) + s) / 2 = t.val / 2 by omega, show (2 * (t.val / 2) + s) % 2 = s by omega]

end Cert.Proof.Dkv

/-! ## The plain product -/

namespace Cert.Proof.DkvPlain

open Cert.Reference17Ideal Cert.Reference17Ideal.Gen
open Idealize.ShloMosaic Idealize.ShloMosaic.TcCoe Idealize.ShloMosaic.Tactic
open Cert.Proof.Sheet

/-- The plain sum as one expression of its arguments: the eight devices' weight blocks stand side by side. -/
def plain (d : FVec Ideal S4224x4096 .bf16) (b : FVec Ideal S8x2048x512 .bf16) (h : FVec Ideal S4224x2048 .f32) : FVec Ideal S4224x2048 .f32 :=
  addf (Host.dotGeneral dot_S4224x4096_S2048x4096_S4224x2048_1_1_0_0_n_n none (extf .f32 d bitsLt_bf16_f32) (shapeCast _ (transpose S2048x8x512 [1, 0, 2] (extf .f32 b bitsLt_bf16_f32) transposes_S8x2048x512_S2048x8x512_1_0_2) shapeCasts_S2048x8x512_S2048x4096)) h

/-- The plain sum, entry by entry. -/
theorem want {d : FVec Ideal S4224x4096 .bf16} {b : FVec Ideal S8x2048x512 .bf16} {h : FVec Ideal S4224x2048 .f32} {D H : ℕ → ℕ → EReal} {B : ℕ → ℕ → ℕ → EReal}
    (hd : E2 (a := 4224) (b := 4096) d D) (hb : E3 (a := 8) (b := 2048) (d := 512) b B) (hh : E2 (a := 4224) (b := 2048) h H) :
    plain d b h = (fun y : S4224x2048.Idx => (∑ n : Fin 4096, D (y 0).val n.val * B (n.val / 512) (y 1).val (n.val % 512)) + H (y 0).val (y 1).val) := by
  funext y
  unfold plain
  pointwise
  rw [hh y]
  refine congrArg (· + _) ?_
  refine Finset.sum_congr rfl fun k _ => ?_
  rw [hd _, hb _]
  rfl

/-- The kernel's gradient of the key and value product's input, added to what comes in, is the plain one. -/
theorem algebraic : Cert.algebraic_Kernel17Ideal_Reference17Ideal (hKernel17Ideal := Cert.Kernel17Ideal.Gen.facts) (hReference17Ideal := Cert.Reference17Ideal.Gen.facts) := by
  intro m g m' g' hp hm
  refine ⟨fun c => (Cert.Kernel17Ideal.Gen.dats m 0 c).arrAt 3 Cert.Kernel17Ideal.cfg0.N, Cert.Kernel17Ideal.Value.run_blocks m g,
    (θ_run Cert.Reference17Ideal.defs _ _).mono (fun r h c => ?_) (Cert.Reference17Ideal.Value.run m' g')⟩
  obtain ⟨r0, rest⟩ := h c
  refine ⟨r0.trans ?_, rest⟩
  obtain ⟨h0, h1, h2⟩ := hm c
  rw [h0, h1, h2]
  refine Eq.trans ?_ (Dkv.arr m c).symm
  exact want (e2_ent _) (e3_ent _) (e2_ent _)

end Cert.Proof.DkvPlain

end
-- ==== Proof.Rms.lean ====
module

public import proofs.«01_k».proof.Proof.Gate

@[expose] public section

noncomputable section

namespace Cert.Proof.Rms

open Idealize.ShloMosaic
open Finset (range)

/-! ## The norm's gradient, as the kernel has it and by the rules of derivation -/

/-- What the programs' words stand for: the row's length, the small number under the root, minus one half. -/
theorem word_n : Ideal.ofBits .f32 0x45000000#32 = ((2048 : ℝ) : EReal) := by
  simp [Ideal.ofBits, Ideal.ieee, -EReal.coe_mul]
  norm_num

theorem word_eps : Ideal.ofBits .f32 0x358637BD#32 = ((8796093 / 8796093022208 : ℝ) : EReal) := by
  simp [Ideal.ofBits, Ideal.ieee, -EReal.coe_mul]
  norm_num

theorem word_half : Ideal.ofBits .f32 0xBF000000#32 = ((-1 / 2 : ℝ) : EReal) := by
  simp [Ideal.ofBits, Ideal.ieee, -EReal.coe_mul]
  norm_num

/-- The mean of a row's sum. -/
def mean (s : EReal) : EReal := Ideal.div s (Ideal.ofBits .f32 0x45000000#32)

theorem mean_eq (s : EReal) : mean s = s * ((1 / 2048 : ℝ) : EReal) := by
  rw [mean, word_n, Ideal.div_coe (by norm_num)]

/-- A row's mean square with the small number added, and one over its root. -/
def ms (X : ℕ → ℕ → EReal) (r : ℕ) : EReal := mean (∑ k : Fin 2048, X r k.val * X r k.val) + Ideal.ofBits .f32 0x358637BD#32
def inv (X : ℕ → ℕ → EReal) (r : ℕ) : EReal := Ideal.rsqrt (ms X r)

theorem sq_nonneg (x : EReal) : 0 ≤ x * x := by
  induction x with
  | bot => simp
  | top => simp
  | coe x =>
    rw [← EReal.coe_mul, ← EReal.coe_zero, EReal.coe_le_coe_iff]
    exact mul_self_nonneg x

/-- One over the root is never negative and never infinite, and over the mean square it is its own cube. -/
theorem inv_facts (X : ℕ → ℕ → EReal) (r : ℕ) : 0 ≤ inv X r ∧ inv X r ≠ ⊤ ∧ Ideal.div (inv X r) (ms X r) = inv X r * inv X r * inv X r := by
  have h : 0 ≤ ∑ k : Fin 2048, X r k.val * X r k.val := Finset.sum_nonneg fun k _ => sq_nonneg _
  unfold inv ms
  generalize ∑ k : Fin 2048, X r k.val * X r k.val = s at h
  rw [mean_eq, word_eps]
  induction s with
  | bot => exact absurd h (by simp)
  | top =>
    rw [EReal.top_mul_coe_of_pos (by norm_num), EReal.top_add_coe, Ideal.rsqrt_top]
    refine ⟨le_refl _, EReal.zero_ne_top, ?_⟩
    rw [Ideal.div, if_neg (by simp), zero_mul, zero_mul, zero_mul]
  | coe s =>
    have hs : 0 ≤ s := by exact_mod_cast h
    rw [← EReal.coe_mul, ← EReal.coe_add]
    have hp : 0 < s * (1 / 2048) + 8796093 / 8796093022208 := by positivity
    generalize s * (1 / 2048) + 8796093 / 8796093022208 = p at hp
    rw [Ideal.rsqrt_coe, if_neg hp.le.not_gt, if_neg hp.ne']
    refine ⟨by exact_mod_cast (inv_nonneg.mpr (Real.sqrt_nonneg p)), EReal.coe_ne_top _, ?_⟩
    rw [Ideal.div_coe hp.ne', ← EReal.coe_mul, ← EReal.coe_mul, ← EReal.coe_mul]
    congr 1
    rw [← mul_inv, Real.mul_self_sqrt hp.le, one_div, mul_comm]

/-- A number neither negative nor infinite may be taken out of a sum. -/
theorem out_of_sum {i : EReal} (h0 : 0 ≤ i) (h1 : i ≠ ⊤) {n : ℕ} (f : Fin n → EReal) : ∑ k, i * f k = i * ∑ k, f k := by
  classical
  refine Finset.induction_on (Finset.univ : Finset (Fin n)) (by simp) fun a s ha ih => ?_
  rw [Finset.sum_insert ha, Finset.sum_insert ha, ih, EReal.left_distrib_of_nonneg_of_ne_top h0 h1]

/-- Twice minus one half. -/
theorem halves (z : EReal) : z * ((-1 / 2 : ℝ) : EReal) + z * ((-1 / 2 : ℝ) : EReal) = -z := by
  induction z with
  | bot => rw [EReal.bot_mul_coe_of_neg (by norm_num)]; rfl
  | top => rw [EReal.top_mul_coe_of_neg (by norm_num)]; rfl
  | coe z =>
    rw [← EReal.coe_mul, ← EReal.coe_add, ← EReal.coe_neg]
    congr 1
    ring

/-- An entry of the input's gradient as the kernel has it: `X` the input, `Y` the cotangent, `G` the gain, `A` what comes in beside. -/
def fused (X Y A : ℕ → ℕ → EReal) (G : ℕ → EReal) (r n : ℕ) : EReal :=
  A r n + inv X r * (Y r n * G n - X r n * inv X r * mean (∑ k : Fin 2048, Y r k.val * G k.val * (X r k.val * inv X r)))

/-- The mean square's part of the gradient, for a row. -/
def pull (X Y : ℕ → ℕ → EReal) (G : ℕ → EReal) (r : ℕ) : EReal :=
  mean ((∑ k : Fin 2048, X r k.val * (Y r k.val * G k.val)) * (Ideal.ofBits .f32 0xBF000000#32 * Ideal.div (inv X r) (ms X r)))

/-- The same entry by the rules of derivation. -/
def ruled (X Y A : ℕ → ℕ → EReal) (G : ℕ → EReal) (r n : ℕ) : EReal :=
  A r n + (Y r n * G n * inv X r + X r n * pull X Y G r + pull X Y G r * X r n)

/-- The two are one number, infinite entries included. -/
theorem ruled_eq (X Y A : ℕ → ℕ → EReal) (G : ℕ → EReal) (r n : ℕ) : ruled X Y A G r n = fused X Y A G r n := by
  obtain ⟨h0, h1, h2⟩ := inv_facts X r
  have e : ∑ k : Fin 2048, Y r k.val * G k.val * (X r k.val * inv X r) = inv X r * ∑ k : Fin 2048, X r k.val * (Y r k.val * G k.val) := by
    rw [← out_of_sum h0 h1]
    exact Finset.sum_congr rfl fun k _ => by rw [← mul_assoc, mul_comm _ (inv X r), mul_comm (X r k.val)]
  unfold ruled fused pull
  rw [e, h2, word_half, mean_eq, mean_eq]
  generalize ∑ k : Fin 2048, X r k.val * (Y r k.val * G k.val) = s
  generalize inv X r = i at h0 h1
  generalize ((1 / 2048 : ℝ) : EReal) = w
  have hz := halves (X r n * s * (i * i * i) * w)
  generalize ((-1 / 2 : ℝ) : EReal) = u at hz
  rw [add_assoc (Y r n * G n * i), sub_eq_add_neg, EReal.left_distrib_of_nonneg_of_ne_top h0 h1, mul_neg, mul_comm i (Y r n * G n)]
  refine congrArg (fun z => A r n + (Y r n * G n * i + z)) ?_
  rw [show i * (X r n * i * (i * s * w)) = X r n * s * (i * i * i) * w by ac_rfl, ← hz]
  refine congrArg₂ (· + ·) ?_ ?_ <;> ac_rfl

/-- One row's part of the gain's gradient. -/
def part (X Y : ℕ → ℕ → EReal) (n r : ℕ) : EReal := Y r n * (X r n * inv X r)

end Cert.Proof.Rms

end
-- ==== Proof.Dnorm.lean ====
module

public import proofs.«01_k».proof.Proof.Rms
public import proofs.«01_k».proof.Proof.Runs
public import proofs.«01_k».proof.Proof.Sheet
public import Idealize.ShloMosaic.Lib.Pipeline.ReadBack
public import proofs.«01_k».proof.Proof.Gen.Kernel18Ideal.Value
public import proofs.«01_k».proof.Proof.Gen.Reference18Ideal.Run
public import proofs.«01_k».proof.Defs

@[expose] public section

set_option maxRecDepth 16384

noncomputable section

namespace Cert.Proof.Dnorm

open Cert.Kernel18Ideal Cert.Kernel18Ideal.Gen
open Idealize.ShloMosaic Idealize.ShloMosaic.TcCoe Idealize.ShloMosaic.Tactic
open Idealize.SL.Sem
open Cert.Proof.Rms
open Cert.Proof.Sheet (E2 ent2 e2_ent)
open Finset (range)

/-! ## What a block's operations compute, entry by entry -/

/-- The rows' inverse roots. -/
theorem inv_apply {v : Vec Ideal S384x2048 .f32} {X : ℕ → ℕ → EReal} (h : E2 (a := 384) (b := 2048) v X) :
    E2 (a := 384) (b := 1) (k0_pay2 v) (fun r _ => inv X r) := fun y => by
  unfold k0_pay2
  pointwise
  refine congrArg (fun s => Ideal.rsqrt (Ideal.div s _ + _)) (Finset.sum_congr rfl fun k _ => ?_)
  rw [h _]
  rfl

/-- The normed rows. -/
theorem hat_apply {v : Vec Ideal S384x2048 .f32} {X : ℕ → ℕ → EReal} (h : E2 (a := 384) (b := 2048) v X) :
    E2 (a := 384) (b := 2048) (k0_pay3 v) (fun r n => X r n * inv X r) := fun y => by
  have e := inv_apply h
  unfold k0_pay3
  generalize k0_pay2 v = z at e
  pointwise
  rw [h _, e _]
  rfl

/-- A block's part of the gain's gradient. -/
theorem part_apply {v w : Vec Ideal S384x2048 .f32} {X Y : ℕ → ℕ → EReal} (hv : E2 (a := 384) (b := 2048) v X) (hw : E2 (a := 384) (b := 2048) w Y) (y : S1x2048.Idx) :
    k0_pay4 v w y = ∑ r ∈ range 384, part X Y (y 1).val r := by
  have e := hat_apply hv
  unfold k0_pay4
  generalize k0_pay3 v = z at e
  pointwise
  rw [Finset.sum_range]
  refine Finset.sum_congr rfl fun k _ => ?_
  rw [hw _, e _]
  rfl

theorem add_apply (v w : Vec Ideal S384x2048 .f32) (u : Vec Ideal S1x2048 .f32) (y : S1x2048.Idx) : k0_pay5 v w u y = u y + k0_pay4 v w y := by
  unfold k0_pay5
  generalize k0_pay4 v w = z
  pointwise

/-- A block of the input's gradient. -/
theorem grad_apply {v w a : Vec Ideal S384x2048 .f32} {g : Vec Ideal S1x2048 .f32} {X Y A : ℕ → ℕ → EReal} {G : ℕ → EReal} (hv : E2 (a := 384) (b := 2048) v X)
    (hw : E2 (a := 384) (b := 2048) w Y) (hg : E2 (a := 1) (b := 2048) g (fun _ => G)) (ha : E2 (a := 384) (b := 2048) a A) :
    E2 (a := 384) (b := 2048) (k0_pay6 v w g a) (fused X Y A G) := fun y => by
  have e := hat_apply hv
  have f := inv_apply hv
  unfold k0_pay6
  generalize k0_pay3 v = z at e
  generalize k0_pay2 v = u at f
  pointwise
  simp only [ha _, f _, e _, hw _, hg _]
  rw [fused, mean]
  rfl

/-! ## The norm's gradient: the kernel's arrays -/

variable (m : (ℓ : Loc nD τ sig) → Buf (Elt Ideal) ℓ) (c : Dev nD)

theorem at0 : ∀ t : Fin cfg0.N, (cfg0.win 0).index t 0 = t.val ∧ (cfg0.win 0).index t 1 = 0 := by decide +kernel
theorem at1 : ∀ t : Fin cfg0.N, (cfg0.win 1).index t 0 = t.val ∧ (cfg0.win 1).index t 1 = 0 := by decide +kernel
theorem at2 : ∀ t : Fin cfg0.N, (cfg0.win 2).index t 0 = 0 ∧ (cfg0.win 2).index t 1 = 0 := by decide +kernel
theorem at3 : ∀ t : Fin cfg0.N, (cfg0.win 3).index t 0 = t.val ∧ (cfg0.win 3).index t 1 = 0 := by decide +kernel
theorem at4 : ∀ t : Fin cfg0.N, (cfg0.win 4).index t 0 = t.val ∧ (cfg0.win 4).index t 1 = 0 := by decide +kernel
theorem at5 : ∀ t : Fin cfg0.N, (cfg0.win 5).index t 0 = t.val ∧ (cfg0.win 5).index t 1 = 0 := by decide +kernel
theorem at6 : ∀ t : Fin cfg0.N, (cfg0.win 6).index t 0 = 0 ∧ (cfg0.win 6).index t 1 = 0 := by decide +kernel

/-- The arguments' entries, whatever they are: `Y` the cotangent's, `X` the input's, `G` the gain's, `A` those of what is added. -/
structure Args (X Y A : ℕ → ℕ → EReal) (G : ℕ → EReal) : Prop where
  y : E2 (a := 4224) (b := 2048) (m ((c.tc : Thread nD τ).loc main_arg0)) Y
  x : E2 (a := 4224) (b := 2048) (m ((c.tc : Thread nD τ).loc main_arg1)) X
  g : ∀ i, m ((c.tc : Thread nD τ).loc main_arg2) i = G (i 0).val
  a : E2 (a := 4224) (b := 2048) (m ((c.tc : Thread nD τ).loc main_arg3)) A

variable {X Y A : ℕ → ℕ → EReal} {G : ℕ → EReal} (R : Args m c X Y A G)

/-- The array the kernel fetches the gain from: the argument, as a row. -/
theorem from2 : V m c main_v0 = shapeCast _ (m ((c.tc : Thread nD τ).loc main_arg2)) shapeCasts_S2048_S1x2048 := by
  unfold V hostOps0
  after_results_simp <;> rfl

include R

theorem from2_apply : E2 (a := 1) (b := 2048) (V m c main_v0) (fun _ => G) := fun y => by
  rw [from2 m c]
  pointwise
  exact R.g _

theorem blk_y (t : Fin cfg0.N) : E2 (a := 384) (b := 2048) (iblk m c 0 t) (fun r n => Y (384 * t.val + r) n) := by
  intro y
  unfold iblk
  rw [show V m c (Pipeline.arrRef spec0 0) = m ((c.tc : Thread nD τ).loc main_arg0) from V_main_arg0 m c]
  refine (R.y (((cfg0.win 0).blk t).view.emb y)).trans ?_
  have := at0 t
  blk_simp
  rw [this.1, this.2]
  congr 2 <;> omega

theorem blk_x (t : Fin cfg0.N) : E2 (a := 384) (b := 2048) (iblk m c 1 t) (fun r n => X (384 * t.val + r) n) := by
  intro y
  unfold iblk
  rw [show V m c (Pipeline.arrRef spec0 1) = m ((c.tc : Thread nD τ).loc main_arg1) from V_main_arg1 m c]
  refine (R.x (((cfg0.win 1).blk t).view.emb y)).trans ?_
  have := at1 t
  blk_simp
  rw [this.1, this.2]
  congr 2 <;> omega

theorem blk_g (t : Fin cfg0.N) : E2 (a := 1) (b := 2048) (iblk m c 2 t) (fun _ => G) := by
  intro y
  unfold iblk
  refine (from2_apply m c R (((cfg0.win 2).blk t).view.emb y)).trans ?_
  have := at2 t
  blk_simp
  rw [this.2]
  congr 2
  omega

theorem blk_a (t : Fin cfg0.N) : E2 (a := 384) (b := 2048) (iblk m c 3 t) (fun r n => A (384 * t.val + r) n) := by
  intro y
  unfold iblk
  rw [show V m c (Pipeline.arrRef spec0 3) = m ((c.tc : Thread nD τ).loc main_arg3) from V_main_arg3 m c]
  refine (R.a (((cfg0.win 3).blk t).view.emb y)).trans ?_
  have := at3 t
  blk_simp
  rw [this.1, this.2]
  congr 2 <;> omega

omit R

/-- Every step writes a block of the input's gradient, and the same block cast. -/
theorem out_dh (t : Fin cfg0.N) : (outsAt0 m c t.val t.isLt).1 = k0_pay6 (iblk m c 1 t) (iblk m c 0 t) (iblk m c 2 t) (iblk m c 3 t) := by
  by_cases h : t.val % 11 = 0
  · have : t.val < 11 := t.isLt
    rw [outsAt0_A m c t h (by omega)]
    frame_out
  · rw [outsAt0_B m c t h (by omega)]
    frame_out

theorem out_dhb (t : Fin cfg0.N) : (outsAt0 m c t.val t.isLt).2.1 = k0_pay1 (k0_pay6 (iblk m c 1 t) (iblk m c 0 t) (iblk m c 2 t) (iblk m c 3 t)) := by
  by_cases h : t.val % 11 = 0
  · have : t.val < 11 := t.isLt
    rw [outsAt0_A m c t h (by omega)]
    frame_out
  · rw [outsAt0_B m c t h (by omega)]
    frame_out

include R

theorem block (t : Fin cfg0.N) : E2 (a := 384) (b := 2048) (k0_pay6 (iblk m c 1 t) (iblk m c 0 t) (iblk m c 2 t) (iblk m c 3 t)) (fun r n => fused X Y A G (384 * t.val + r) n) :=
  grad_apply (blk_x m c R t) (blk_y m c R t) (blk_g m c R t) (blk_a m c R t)

/-- What the kernel leaves in its first result, entry by entry. -/
theorem arr_dh : (dats m 0 c).arrAt 4 cfg0.N = (fun y : S4224x2048.Idx => fused X Y A G (y 0).val (y 1).val) := by
  refine (dats m 0 c).arrAt_eq_of_covers 4 _ (by decide +kernel) fun t hf y => ?_
  have a := at4 t
  blk_simp
  rw [after0_4, out_dh]
  refine (block m c R t y).trans ?_
  rw [a.1, a.2, mul_comm t.val, Nat.zero_mul, Nat.zero_add]

/-- The second result is the first, cast. -/
theorem arr_dhb : (dats m 0 c).arrAt 5 cfg0.N = (fun y : S4224x2048.Idx => fused X Y A G (y 0).val (y 1).val) := by
  refine (dats m 0 c).arrAt_eq_of_covers 5 _ (by decide +kernel) fun t hf y => ?_
  have a := at5 t
  blk_simp
  rw [after0_5, out_dhb]
  refine (block m c R t y).trans ?_
  rw [a.1, a.2, mul_comm t.val, Nat.zero_mul, Nat.zero_add]

omit R

/-- What a step adds to the gain's gradient. -/
def step (X Y : ℕ → ℕ → EReal) (t : ℕ) (j : S1x2048.Idx) : EReal := ∑ r ∈ range 384, part X Y (j 1).val (384 * t + r)

include R

theorem step_eq (t : Fin cfg0.N) (j : S1x2048.Idx) : k0_pay4 (iblk m c 1 t) (iblk m c 0 t) j = step X Y t.val j :=
  part_apply (blk_x m c R t) (blk_y m c R t) j

/-- The running sum of the gain's gradient. -/
theorem acc (t : Fin cfg0.N) (j : S1x2048.Idx) :
    (outsAt0 m c t.val t.isLt).2.2 j = 0 + ∑ s ∈ range (t.val % 11 + 1), step X Y (11 * (t.val / 11) + s) j := by
  refine Pipeline.eq_sum_of_reset_step_apply (fun n h => (outsAt0 m c n h).2.2) 11 (fun _ => 0) (step X Y) (fun t h j => ?_) (fun t h j => ?_) t j
  · have : t.val < 11 := t.isLt
    rw [outsAt0_A m c t h (by omega)]
    frame_out
    rw [step_eq m c R, zero_add]
  · rw [outsAt0_B m c t h (by omega)]
    frame_out
    rw [add_apply, step_eq m c R]

/-- What the kernel leaves in its third result, entry by entry: the sum over all rows. -/
theorem arr_dg : (dats m 0 c).arrAt 6 cfg0.N = (fun y : S1x2048.Idx => ∑ r ∈ range 4224, part X Y (y 1).val r) := by
  refine (dats m 0 c).arrAt_eq_of_covers 6 _ (by decide +kernel) fun t hf y => ?_
  have a := at6 t
  have hr : t.val % 11 = 10 := (flush0_6 t).mp hf
  have : t.val < 11 := t.isLt
  blk_simp
  rw [after0_6]
  refine (acc m c R t y).trans ?_
  rw [a.2, hr, zero_add, show t.val / 11 = 0 by omega, Nat.zero_mul, Nat.zero_add, show (4224 : ℕ) = 11 * 384 from rfl, ← Runs.sum_runs _ 384 11]
  refine Finset.sum_congr rfl fun s _ => ?_
  rw [step, Nat.mul_zero, Nat.zero_add]

end Cert.Proof.Dnorm

/-! ## The plain derivative -/

namespace Cert.Proof.DnormPlain

open Cert.Reference18Ideal Cert.Reference18Ideal.Gen
open Idealize.ShloMosaic Idealize.ShloMosaic.TcCoe Idealize.ShloMosaic.Tactic
open Cert.Proof.Rms
open Cert.Proof.Sheet (E2 ent2 e2_ent)
open Finset (range)

/-- A number in every row, and a row's number in every column. -/
def fill (w : BitVec 32) : FVec Ideal S4224x1 .f32 := broadcastInDim S4224x1 ![] bcast_S_S4224x1 (constant S_ .f32 w)
def spread (z : FVec Ideal S4224x1 .f32) : FVec Ideal S4224x2048 .f32 := broadcastInDim S4224x2048 ![0, 1] bcast_S4224x1_S4224x2048_0_1 z

/-- A row's sum. -/
def total (z : FVec Ideal S4224x2048 .f32) : FVec Ideal S4224 .f32 := Host.reduceAdd z (constant S_ .f32 0x00000000#32) reducesTo_S4224x2048_S4224_d1 h_S_

/-- The mean square with the small number added, and one over its root. -/
def square (h : FVec Ideal S4224x2048 .f32) : FVec Ideal S4224x1 .f32 :=
  addf (Host.divf (broadcastInDim S4224x1 ![0] bcast_S4224_S4224x1_0 (total (mulf h h))) (fill 0x45000000#32)) (fill 0x358637BD#32)
def root (h : FVec Ideal S4224x2048 .f32) : FVec Ideal S4224x1 .f32 := Host.rsqrt (square h)

/-- The cotangent times the gain. -/
def gained (d : FVec Ideal S4224x2048 .f32) (g : FVec Ideal S2048 .f32) : FVec Ideal S4224x2048 .f32 :=
  mulf d (broadcastInDim S4224x2048 ![0, 1] bcast_S1x2048_S4224x2048_0_1 (broadcastInDim S1x2048 ![1] bcast_S2048_S1x2048_1 g))

/-- The mean square's part of the gradient, a number for each row. -/
def pulled (d h : FVec Ideal S4224x2048 .f32) (g : FVec Ideal S2048 .f32) : FVec Ideal S4224x1 .f32 :=
  Host.divf (mulf (shapeCast _ (total (mulf h (gained d g))) shapeCasts_S4224_S4224x1) (mulf (fill 0xBF000000#32) (Host.divf (root h) (square h)))) (fill 0x45000000#32)
def pulledRows (d h : FVec Ideal S4224x2048 .f32) (g : FVec Ideal S2048 .f32) : FVec Ideal S4224x2048 .f32 :=
  broadcastInDim S4224x2048 ![0] bcast_S4224_S4224x2048_0 (Host.reduceAdd (pulled d h g) (constant S_ .f32 0x00000000#32) reducesTo_S4224x1_S4224_d1 h_S_)

/-- The input's gradient, added to what comes in beside, and the gain's. -/
def dh (d h : FVec Ideal S4224x2048 .f32) (g : FVec Ideal S2048 .f32) (a : FVec Ideal S4224x2048 .f32) : FVec Ideal S4224x2048 .f32 :=
  addf a (addf (addf (mulf (gained d g) (spread (root h))) (mulf h (pulledRows d h g))) (mulf (pulledRows d h g) h))
def dg (d h : FVec Ideal S4224x2048 .f32) : FVec Ideal S1x2048 .f32 :=
  broadcastInDim S1x2048 ![1] bcast_S2048_S1x2048_1 (Host.reduceAdd (shapeCast _ (Host.reduceAdd (mulf (mulf h (spread (root h))) d) (constant S_ .f32 0x00000000#32) reducesTo_S4224x2048_S2048_d0 h_S_) shapeCasts_S2048_S1x2048) (constant S_ .f32 0x00000000#32) reducesTo_S1x2048_S2048_d0 h_S_)

theorem fill_apply (w : BitVec 32) (y : S4224x1.Idx) : fill w y = Ideal.ofBits .f32 w := by
  unfold fill
  pointwise

theorem total_apply {z : FVec Ideal S4224x2048 .f32} {f : ℕ → ℕ → EReal} (h : E2 (a := 4224) (b := 2048) z f) (y : S4224.Idx) :
    total z y = ∑ k : Fin 2048, f (y 0).val k.val := by
  unfold total
  pointwise
  exact Finset.sum_congr rfl fun k _ => h _

theorem mul_apply {u v : FVec Ideal S4224x2048 .f32} {f g : ℕ → ℕ → EReal} (hu : E2 (a := 4224) (b := 2048) u f) (hv : E2 (a := 4224) (b := 2048) v g) :
    E2 (a := 4224) (b := 2048) (mulf u v) (fun r n => f r n * g r n) := fun y => by
  pointwise
  rw [hu y, hv y]

variable {d h a : FVec Ideal S4224x2048 .f32} {g : FVec Ideal S2048 .f32} {X Y A : ℕ → ℕ → EReal} {G : ℕ → EReal}

theorem square_apply (hh : E2 (a := 4224) (b := 2048) h X) : E2 (a := 4224) (b := 1) (square h) (fun r _ => ms X r) := fun y => by
  have e := total_apply (mul_apply hh hh)
  unfold square
  generalize total (mulf h h) = z at e
  pointwise
  rw [fill_apply, fill_apply, e _]
  rfl

theorem root_apply (hh : E2 (a := 4224) (b := 2048) h X) : E2 (a := 4224) (b := 1) (root h) (fun r _ => inv X r) := fun y => by
  have e := square_apply hh
  unfold root
  generalize square h = z at e
  pointwise
  rw [e y]
  rfl

theorem spread_apply {z : FVec Ideal S4224x1 .f32} {f : ℕ → EReal} (hz : E2 (a := 4224) (b := 1) z (fun r _ => f r)) : E2 (a := 4224) (b := 2048) (spread z) (fun r _ => f r) := fun y => by
  unfold spread
  pointwise
  exact hz _

theorem gained_apply (hd : E2 (a := 4224) (b := 2048) d Y) (hg : ∀ i, g i = G (i 0).val) : E2 (a := 4224) (b := 2048) (gained d g) (fun r n => Y r n * G n) := fun y => by
  unfold gained
  pointwise
  rw [hd y, hg _]
  rfl

theorem pulled_apply (hh : E2 (a := 4224) (b := 2048) h X) (hd : E2 (a := 4224) (b := 2048) d Y) (hg : ∀ i, g i = G (i 0).val) :
    E2 (a := 4224) (b := 1) (pulled d h g) (fun r _ => pull X Y G r) := fun y => by
  have e := total_apply (mul_apply hh (gained_apply hd hg))
  have f := square_apply hh
  have f' := root_apply hh
  unfold pulled
  generalize total (mulf h (gained d g)) = z at e
  generalize square h = u at f
  generalize root h = w at f'
  pointwise
  rw [fill_apply, fill_apply, e _, f _, f' _]
  rfl

theorem pulledRows_apply (hh : E2 (a := 4224) (b := 2048) h X) (hd : E2 (a := 4224) (b := 2048) d Y) (hg : ∀ i, g i = G (i 0).val) :
    E2 (a := 4224) (b := 2048) (pulledRows d h g) (fun r _ => pull X Y G r) := fun y => by
  have e := pulled_apply hh hd hg
  unfold pulledRows
  generalize pulled d h g = z at e
  pointwise
  rw [Fin.sum_univ_one]
  exact e _

/-- The plain gradient of the input, entry by entry: it is the kernel's. -/
theorem dh_apply (hh : E2 (a := 4224) (b := 2048) h X) (hd : E2 (a := 4224) (b := 2048) d Y) (hg : ∀ i, g i = G (i 0).val) (ha : E2 (a := 4224) (b := 2048) a A) :
    E2 (a := 4224) (b := 2048) (dh d h g a) (fused X Y A G) := fun y => by
  have e := pulledRows_apply hh hd hg
  have f := spread_apply (root_apply hh)
  have i := gained_apply hd hg
  unfold dh
  generalize pulledRows d h g = z at e
  generalize spread (root h) = u at f
  generalize gained d g = w at i
  pointwise
  rw [ha y, i y, f y, hh y, e y, ← ruled_eq]
  rfl

/-- The plain gradient of the gain, entry by entry. -/
theorem dg_apply (hh : E2 (a := 4224) (b := 2048) h X) (hd : E2 (a := 4224) (b := 2048) d Y) (y : S1x2048.Idx) : dg d h y = ∑ r ∈ range 4224, part X Y (y 1).val r := by
  have e := mul_apply (mul_apply hh (spread_apply (root_apply hh))) hd
  unfold dg
  generalize mulf (mulf h (spread (root h))) d = z at e
  pointwise
  rw [Finset.sum_range]
  rw [Fin.sum_univ_one]
  refine Finset.sum_congr rfl fun k _ => ?_
  rw [part, mul_comm (Y _ _)]
  exact e _

/-- A rank-1 array's entries by their coordinate. -/
theorem row_ent (x : FVec Ideal S2048 .f32) : ∃ f : ℕ → EReal, ∀ i, x i = f (i 0).val := by
  refine ⟨fun n => if hn : n < 2048 then x (ix1 ⟨n, hn⟩) else 0, fun i => ?_⟩
  have hi : (i 0).val < 2048 := (i 0).isLt
  show x i = if hn : (i 0).val < 2048 then x (ix1 ⟨(i 0).val, hn⟩) else 0
  rw [dif_pos hi, show (ix1 ⟨(i 0).val, hi⟩ : S2048.Idx) = i from funext fun k => by match k with | ⟨0, _⟩ => rfl]

/-- The kernel's gradients of the norm's input, also cast, and of its gain are the plain ones. -/
theorem algebraic : Cert.algebraic_Kernel18Ideal_Reference18Ideal (hKernel18Ideal := Cert.Kernel18Ideal.Gen.facts) (hReference18Ideal := Cert.Reference18Ideal.Gen.facts) := by
  intro m g m' g' _ hm
  refine ⟨fun c => (Cert.Kernel18Ideal.Gen.dats m 0 c).arrAt 4 Cert.Kernel18Ideal.cfg0.N, fun c => (Cert.Kernel18Ideal.Gen.dats m 0 c).arrAt 5 Cert.Kernel18Ideal.cfg0.N,
    fun c => (Cert.Kernel18Ideal.Gen.dats m 0 c).arrAt 6 Cert.Kernel18Ideal.cfg0.N, Cert.Kernel18Ideal.Value.run_blocks m g,
    (θ_run Cert.Reference18Ideal.defs _ _).mono (fun r h c => ?_) (Cert.Reference18Ideal.Value.run m' g')⟩
  obtain ⟨r0, r1, r2, rest⟩ := h c
  obtain ⟨h0, h1, h2, h3⟩ := hm c
  rw [h0, h1, h2, h3] at r0 r1
  rw [h0, h1] at r2
  have hY := e2_ent (a := 4224) (b := 2048) (m ((c.tc : Thread Cert.Kernel18Ideal.nD Cert.Kernel18Ideal.τ).loc Cert.Kernel18Ideal.main_arg0))
  have hX := e2_ent (a := 4224) (b := 2048) (m ((c.tc : Thread Cert.Kernel18Ideal.nD Cert.Kernel18Ideal.τ).loc Cert.Kernel18Ideal.main_arg1))
  obtain ⟨G, hG⟩ := row_ent (m ((c.tc : Thread Cert.Kernel18Ideal.nD Cert.Kernel18Ideal.τ).loc Cert.Kernel18Ideal.main_arg2))
  have hA := e2_ent (a := 4224) (b := 2048) (m ((c.tc : Thread Cert.Kernel18Ideal.nD Cert.Kernel18Ideal.τ).loc Cert.Kernel18Ideal.main_arg3))
  have R : Dnorm.Args m c _ _ _ G := ⟨hY, hX, hG, hA⟩
  refine ⟨r0.trans ?_, r1.trans ?_, r2.trans ?_, rest⟩
  · exact Eq.trans (funext (dh_apply hX hY hG hA)) (Dnorm.arr_dh m c R).symm
  · exact Eq.trans (funext (dh_apply hX hY hG hA)) (Dnorm.arr_dhb m c R).symm
  · exact Eq.trans (funext (dg_apply hX hY)) (Dnorm.arr_dg m c R).symm

end Cert.Proof.DnormPlain

end
-- ==== Proof.Norm.lean ====
module

public import proofs.«01_k».proof.Proof.Rms
public import proofs.«01_k».proof.Proof.Sheet
public import proofs.«01_k».proof.Proof.Gen.Kernel19Ideal.Value
public import proofs.«01_k».proof.Proof.Gen.Reference19Ideal.Run
public import proofs.«01_k».proof.Defs

@[expose] public section

set_option maxRecDepth 16384

noncomputable section

namespace Cert.Proof.Norm

open Cert.Kernel19Ideal Cert.Kernel19Ideal.Gen
open Idealize.ShloMosaic Idealize.ShloMosaic.TcCoe Idealize.ShloMosaic.Tactic
open Idealize.SL.Sem
open Cert.Proof.Rms
open Cert.Proof.Sheet (E2 ent2 e2_ent)

/-! ## The row norm: the kernel's array -/

variable (m : (ℓ : Loc nD τ sig) → Buf (Elt Ideal) ℓ) (c : Dev nD)

theorem at0 : ∀ t : Fin cfg0.N, (cfg0.win 0).index t 0 = t.val ∧ (cfg0.win 0).index t 1 = 0 := by decide +kernel
theorem at1 : ∀ t : Fin cfg0.N, (cfg0.win 1).index t 0 = 0 ∧ (cfg0.win 1).index t 1 = 0 := by decide +kernel
theorem at2 : ∀ t : Fin cfg0.N, (cfg0.win 2).index t 0 = t.val ∧ (cfg0.win 2).index t 1 = 0 := by decide +kernel

/-- The input's entries. -/
abbrev X := ent2 (a := 4224) (b := 2048) (m ((c.tc : Thread nD τ).loc main_arg0))

theorem blk_x (t : Fin cfg0.N) : E2 (a := 528) (b := 2048) (iblk m c 0 t) (fun r n => X m c (528 * t.val + r) n) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  blk_simp
  rw [this.1, this.2]
  congr 1 <;> omega

/-- The array the kernel fetches the gain from: the argument, as a row. -/
theorem from1 : V m c main_v0 = shapeCast _ (m ((c.tc : Thread nD τ).loc main_arg1)) shapeCasts_S2048_S1x2048 := by
  unfold V hostOps0
  after_results_simp <;> rfl

theorem from1_apply {G : ℕ → EReal} (hG : ∀ i, m ((c.tc : Thread nD τ).loc main_arg1) i = G (i 0).val) : E2 (a := 1) (b := 2048) (V m c main_v0) (fun _ => G) := fun y => by
  rw [from1 m c]
  pointwise
  exact hG _

theorem blk_g {G : ℕ → EReal} (hG : ∀ i, m ((c.tc : Thread nD τ).loc main_arg1) i = G (i 0).val) (t : Fin cfg0.N) : E2 (a := 1) (b := 2048) (iblk m c 1 t) (fun _ => G) := by
  intro y
  unfold iblk
  refine (from1_apply m c hG (((cfg0.win 1).blk t).view.emb y)).trans ?_
  have := at1 t
  blk_simp
  rw [this.2]
  congr 1
  omega

/-- A block of the normed rows. -/
theorem pay_apply {v : Vec Ideal S528x2048 .f32} {g : Vec Ideal S1x2048 .f32} {X : ℕ → ℕ → EReal} {G : ℕ → EReal} (hv : E2 (a := 528) (b := 2048) v X)
    (hg : E2 (a := 1) (b := 2048) g (fun _ => G)) : E2 (a := 528) (b := 2048) (k0_pay1 v g) (fun r n => X r n * inv X r * G n) := fun y => by
  unfold k0_pay1
  pointwise
  simp only [hv _, hg _]
  rfl

/-- What the kernel leaves in its result, entry by entry. -/
theorem arr {G : ℕ → EReal} (hG : ∀ i, m ((c.tc : Thread nD τ).loc main_arg1) i = G (i 0).val) :
    (dats m 0 c).arrAt 2 cfg0.N = (fun y : S4224x2048.Idx => X m c (y 0).val (y 1).val * inv (X m c) (y 0).val * G (y 1).val) := by
  refine (dats m 0 c).arrAt_eq_of_covers 2 _ (by decide +kernel) fun t hf y => ?_
  have a := at2 t
  blk_simp
  rw [after0_2]
  unfold out0_2
  rw [View.canon_cons_unit_lit _ _ _ (by decide), View.ld_unit_lit _ _ (by decide), View.ld_unit_lit _ _ (by decide)]
  refine (pay_apply (blk_x m c t) (blk_g m c hG t) y).trans ?_
  rw [a.1, a.2, mul_comm t.val, Nat.zero_mul, Nat.zero_add]
  rfl

end Cert.Proof.Norm

/-! ## The plain norm -/

namespace Cert.Proof.NormPlain

open Cert.Reference19Ideal Cert.Reference19Ideal.Gen
open Idealize.ShloMosaic Idealize.ShloMosaic.TcCoe Idealize.ShloMosaic.Tactic
open Cert.Proof.Rms
open Cert.Proof.Sheet (E2 ent2 e2_ent)

/-- The rows' inverse roots. -/
def root (h : FVec Ideal S4224x2048 .f32) : FVec Ideal S4224x1 .f32 :=
  Host.rsqrt (addf (Host.divf (broadcastInDim S4224x1 ![0] bcast_S4224_S4224x1_0 (Host.reduceAdd (mulf h h) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))

/-- The plain norm as one expression of its arguments. -/
def plain (h : FVec Ideal S4224x2048 .f32) (g : FVec Ideal S2048 .f32) : FVec Ideal S4224x2048 .bf16 :=
  truncf .bf16 (mulf (mulf h (broadcastInDim S4224x2048 ![0, 1] bcast_S4224x1_S4224x2048_0_1 (root h))) (broadcastInDim S4224x2048 ![0, 1] bcast_S1x2048_S4224x2048_0_1 (broadcastInDim S1x2048 ![1] bcast_S2048_S1x2048_1 g))) bitsLt_bf16_f32

theorem root_apply {h : FVec Ideal S4224x2048 .f32} {X : ℕ → ℕ → EReal} (hh : E2 (a := 4224) (b := 2048) h X) : E2 (a := 4224) (b := 1) (root h) (fun r _ => inv X r) := fun y => by
  unfold root
  pointwise
  simp only [hh _]
  rfl

/-- The plain norm, entry by entry. -/
theorem want {h : FVec Ideal S4224x2048 .f32} {g : FVec Ideal S2048 .f32} {X : ℕ → ℕ → EReal} {G : ℕ → EReal} (hh : E2 (a := 4224) (b := 2048) h X) (hg : ∀ i, g i = G (i 0).val) :
    plain h g = (fun y : S4224x2048.Idx => X (y 0).val (y 1).val * inv X (y 0).val * G (y 1).val) := by
  funext y
  have e := root_apply hh
  unfold plain
  generalize root h = z at e
  pointwise
  rw [hh _, hg _, e _]
  rfl

/-- A rank-1 array's entries by their coordinate. -/
theorem row_ent (x : FVec Ideal S2048 .f32) : ∃ f : ℕ → EReal, ∀ i, x i = f (i 0).val := by
  refine ⟨fun n => if hn : n < 2048 then x (ix1 ⟨n, hn⟩) else 0, fun i => ?_⟩
  have hi : (i 0).val < 2048 := (i 0).isLt
  show x i = if hn : (i 0).val < 2048 then x (ix1 ⟨(i 0).val, hn⟩) else 0
  rw [dif_pos hi, show (ix1 ⟨(i 0).val, hi⟩ : S2048.Idx) = i from funext fun k => by match k with | ⟨0, _⟩ => rfl]

/-- The kernel's row norm is the plain one. -/
theorem algebraic : Cert.algebraic_Kernel19Ideal_Reference19Ideal (hKernel19Ideal := Cert.Kernel19Ideal.Gen.facts) (hReference19Ideal := Cert.Reference19Ideal.Gen.facts) := by
  intro m g m' g' _ hm
  refine ⟨fun c => (Cert.Kernel19Ideal.Gen.dats m 0 c).arrAt 2 Cert.Kernel19Ideal.cfg0.N, Cert.Kernel19Ideal.Value.run_blocks m g,
    (θ_run Cert.Reference19Ideal.defs _ _).mono (fun r h c => ?_) (Cert.Reference19Ideal.Value.run m' g')⟩
  obtain ⟨r0, rest⟩ := h c
  refine ⟨r0.trans ?_, rest⟩
  obtain ⟨h0, h1⟩ := hm c
  obtain ⟨G, hG⟩ := row_ent (m ((c.tc : Thread Cert.Kernel19Ideal.nD Cert.Kernel19Ideal.τ).loc Cert.Kernel19Ideal.main_arg1))
  rw [h0, h1]
  refine Eq.trans ?_ (Norm.arr m c hG).symm
  exact want (e2_ent _) hG

end Cert.Proof.NormPlain

end
-- ==== Proof.Adam.lean ====
module

public import proofs.«01_k».proof.Proof.Sheet
public import proofs.«01_k».proof.Proof.Gen.Kernel20Ideal.Value
public import proofs.«01_k».proof.Proof.Gen.Reference20Ideal.Run
public import proofs.«01_k».proof.Defs

@[expose] public section

set_option maxRecDepth 16384

noncomputable section

namespace Cert.Proof.Adam

open Cert.Kernel20Ideal Cert.Kernel20Ideal.Gen
open Idealize.ShloMosaic Idealize.ShloMosaic.TcCoe Idealize.ShloMosaic.Tactic
open Idealize.SL.Sem
open Cert.Proof.Sheet

/-! ## One step of the optimiser, a number at a time -/

/-- The eight devices' parts of the gradient, summed. -/
def total (P : ℕ → ℕ → ℕ → EReal) (r n : ℕ) : EReal := ∑ k : Fin 8, P k.val r n

/-- The new first moment, the new second moment, the weight's change. -/
def first (m g : EReal) : EReal := Ideal.ofBits .f32 0x3F666666#32 * m + Ideal.ofBits .f32 0x3DCCCCCD#32 * g
def second (v g : EReal) : EReal := Ideal.ofBits .f32 0x3F7FBE77#32 * v + Ideal.ofBits .f32 0x3A83126F#32 * (g * g)
def change (w m v : EReal) : EReal :=
  Ideal.ofBits .f32 0xBA83126F#32 * (Ideal.div (Ideal.div m (Ideal.ofBits .f32 0x3F26BD02#32)) (Ideal.sqrt (Ideal.div v (Ideal.ofBits .f32 0x3C231ACC#32)) + Ideal.ofBits .f32 0x322BCC77#32) + Ideal.ofBits .f32 0x3C23D70A#32 * w)

/-! ## The kernel's arrays -/

variable (m : (ℓ : Loc nD τ sig) → Buf (Elt Ideal) ℓ) (c : Dev nD)

theorem at0 : ∀ t : Fin cfg0.N, (cfg0.win 0).index t 0 = 0 ∧ (cfg0.win 0).index t 1 = 0 ∧ (cfg0.win 0).index t 2 = 0 := by decide +kernel
theorem at1 : ∀ t : Fin cfg0.N, (cfg0.win 1).index t 0 = 0 ∧ (cfg0.win 1).index t 1 = 0 := by decide +kernel
theorem at2 : ∀ t : Fin cfg0.N, (cfg0.win 2).index t 0 = 0 ∧ (cfg0.win 2).index t 1 = 0 := by decide +kernel
theorem at3 : ∀ t : Fin cfg0.N, (cfg0.win 3).index t 0 = 0 ∧ (cfg0.win 3).index t 1 = 0 := by decide +kernel
theorem at4 : ∀ t : Fin cfg0.N, (cfg0.win 4).index t 0 = 0 ∧ (cfg0.win 4).index t 1 = 0 := by decide +kernel
theorem at5 : ∀ t : Fin cfg0.N, (cfg0.win 5).index t 0 = 0 ∧ (cfg0.win 5).index t 1 = 0 := by decide +kernel
theorem at6 : ∀ t : Fin cfg0.N, (cfg0.win 6).index t 0 = 0 ∧ (cfg0.win 6).index t 1 = 0 := by decide +kernel
theorem at7 : ∀ t : Fin cfg0.N, (cfg0.win 7).index t 0 = 0 ∧ (cfg0.win 7).index t 1 = 0 := by decide +kernel

/-- The arguments' entries: the parts of the gradient, the weights, the moments. -/
abbrev P := ent3 (a := 8) (b := 24) (d := 2048) (m ((c.tc : Thread nD τ).loc main_arg0))
abbrev W := ent2 (a := 24) (b := 2048) (m ((c.tc : Thread nD τ).loc main_arg1))
abbrev M := ent2 (a := 24) (b := 2048) (m ((c.tc : Thread nD τ).loc main_arg2))
abbrev N := ent2 (a := 24) (b := 2048) (m ((c.tc : Thread nD τ).loc main_arg3))

theorem blk_p (t : Fin cfg0.N) : E3 (a := 8) (b := 24) (d := 2048) (iblk m c 0 t) (P m c) := by
  intro y
  unfold iblk
  rw [show V m c (Pipeline.arrRef spec0 0) = m ((c.tc : Thread nD τ).loc main_arg0) from V_main_arg0 m c]
  refine (e3_ent (m ((c.tc : Thread nD τ).loc main_arg0)) (((cfg0.win 0).blk t).view.emb y)).trans ?_
  have := at0 t
  blk_simp
  rw [this.1, this.2.1, this.2.2]
  congr 1 <;> omega

theorem blk_w (t : Fin cfg0.N) : E2 (a := 24) (b := 2048) (iblk m c 1 t) (W m c) := by
  intro y
  unfold iblk
  rw [show V m c (Pipeline.arrRef spec0 1) = m ((c.tc : Thread nD τ).loc main_arg1) from V_main_arg1 m c]
  refine (e2_ent (m ((c.tc : Thread nD τ).loc main_arg1)) (((cfg0.win 1).blk t).view.emb y)).trans ?_
  have := at1 t
  blk_simp
  rw [this.1, this.2]
  congr 1 <;> omega

theorem blk_m (t : Fin cfg0.N) : E2 (a := 24) (b := 2048) (iblk m c 2 t) (M m c) := by
  intro y
  unfold iblk
  rw [show V m c (Pipeline.arrRef spec0 2) = m ((c.tc : Thread nD τ).loc main_arg2) from V_main_arg2 m c]
  refine (e2_ent (m ((c.tc : Thread nD τ).loc main_arg2)) (((cfg0.win 2).blk t).view.emb y)).trans ?_
  have := at2 t
  blk_simp
  rw [this.1, this.2]
  congr 1 <;> omega

theorem blk_n (t : Fin cfg0.N) : E2 (a := 24) (b := 2048) (iblk m c 3 t) (N m c) := by
  intro y
  unfold iblk
  rw [show V m c (Pipeline.arrRef spec0 3) = m ((c.tc : Thread nD τ).loc main_arg3) from V_main_arg3 m c]
  refine (e2_ent (m ((c.tc : Thread nD τ).loc main_arg3)) (((cfg0.win 3).blk t).view.emb y)).trans ?_
  have := at3 t
  blk_simp
  rw [this.1, this.2]
  congr 1 <;> omega

/-- One device's part, loaded as a plane. -/
theorem plane {X : Vec Ideal S8x24x2048 .f32} {f : ℕ → ℕ → ℕ → EReal} (hX : E3 (a := 8) (b := 24) (d := 2048) X f) (k : ℕ) (inb) :
    E3 (a := 1) (b := 24) (d := 2048) (View.ld X (Rect.unit ![k, 0, 0] ![1, 24, 2048] inb)) (fun _ r n => f k r n) := fun y => by
  have h0 : (y 0).val < 1 := (y 0).isLt
  refine (hX _).trans ?_
  show f (k + 1 * (y 0).val) (0 + 1 * (y 1).val) (0 + 1 * (y 2).val) = f k (y 1).val (y 2).val
  rw [show k + 1 * (y 0).val = k by omega, Nat.one_mul, Nat.one_mul, Nat.zero_add, Nat.zero_add]

theorem sum_apply {v0 v1 v2 v3 v4 v5 v6 v7 : Vec Ideal S1x24x2048 .f32} {f : ℕ → ℕ → ℕ → EReal} (h0 : E3 (a := 1) (b := 24) (d := 2048) v0 (fun _ r n => f 0 r n)) (h1 : E3 (a := 1) (b := 24) (d := 2048) v1 (fun _ r n => f 1 r n))
    (h2 : E3 (a := 1) (b := 24) (d := 2048) v2 (fun _ r n => f 2 r n)) (h3 : E3 (a := 1) (b := 24) (d := 2048) v3 (fun _ r n => f 3 r n)) (h4 : E3 (a := 1) (b := 24) (d := 2048) v4 (fun _ r n => f 4 r n))
    (h5 : E3 (a := 1) (b := 24) (d := 2048) v5 (fun _ r n => f 5 r n)) (h6 : E3 (a := 1) (b := 24) (d := 2048) v6 (fun _ r n => f 6 r n)) (h7 : E3 (a := 1) (b := 24) (d := 2048) v7 (fun _ r n => f 7 r n)) :
    E2 (a := 24) (b := 2048) (k0_pay3 v0 v1 v2 v3 v4 v5 v6 v7) (total f) := fun y => by
  unfold k0_pay3
  pointwise
  rw [h0 _, h1 _, h2 _, h3 _, h4 _, h5 _, h6 _, h7 _, total, Fin.sum_univ_eight]
  rfl

theorem grad {x0 : Vec Ideal S8x24x2048 .f32} {x1 x2 x3 : Vec Ideal S24x2048 .f32} {f : ℕ → ℕ → ℕ → EReal} (h : E3 (a := 8) (b := 24) (d := 2048) x0 f) : E2 (a := 24) (b := 2048) (k0_pay5 x0 x1 x2 x3) (total f) := by
  unfold k0_pay5
  exact sum_apply (plane h 0 _) (plane h 1 _) (plane h 2 _) (plane h 3 _) (plane h 4 _) (plane h 5 _) (plane h 6 _) (plane h 7 _)

theorem first_apply (v0 v1 v2 v3 v4 v5 v6 v7 : Vec Ideal S1x24x2048 .f32) (u : Vec Ideal S24x2048 .f32) (y : S24x2048.Idx) : k0_pay4 v0 v1 v2 v3 v4 v5 v6 v7 u y = first (u y) (k0_pay3 v0 v1 v2 v3 v4 v5 v6 v7 y) := by
  unfold k0_pay4
  generalize k0_pay3 v0 v1 v2 v3 v4 v5 v6 v7 = g
  pointwise
  rfl

theorem moment {x0 : Vec Ideal S8x24x2048 .f32} {x1 x2 x3 : Vec Ideal S24x2048 .f32} {f : ℕ → ℕ → ℕ → EReal} {M : ℕ → ℕ → EReal} (h : E3 (a := 8) (b := 24) (d := 2048) x0 f) (h2 : E2 (a := 24) (b := 2048) x2 M) :
    E2 (a := 24) (b := 2048) (k0_pay6 x0 x1 x2 x3) (fun r n => first (M r n) (total f r n)) := fun y => by
  have e := grad (x1 := x1) (x2 := x2) (x3 := x3) h y
  unfold k0_pay5 at e
  unfold k0_pay6
  rw [first_apply, e, View.ld_unit_lit _ _ (by decide), h2 y]

theorem second_apply (g v : Vec Ideal S24x2048 .f32) (y : S24x2048.Idx) : k0_pay1 g v y = second (v y) (g y) := by
  unfold k0_pay1
  pointwise
  rfl

theorem change_apply (g u v w : Vec Ideal S24x2048 .f32) (y : S24x2048.Idx) : k0_pay2 g u v w y = change (w y) (u y) (k0_pay1 g v y) := by
  unfold k0_pay2
  generalize k0_pay1 g v = z
  pointwise
  rfl

/-- What the kernel leaves in its four results, entry by entry. -/
theorem arr_g : (dats m 0 c).arrAt 4 cfg0.N = (fun y : S24x2048.Idx => total (P m c) (y 0).val (y 1).val) := by
  refine (dats m 0 c).arrAt_eq_of_covers 4 _ (by decide +kernel) fun t hf y => ?_
  have a := at4 t
  blk_simp
  rw [after0_4]
  unfold out0_4
  rw [View.canon_cons_unit_lit _ _ _ (by decide)]
  refine (grad (blk_p m c t) y).trans ?_
  rw [a.1, a.2, Nat.zero_mul, Nat.zero_add, Nat.zero_add]

theorem arr_d : (dats m 0 c).arrAt 5 cfg0.N = (fun y : S24x2048.Idx => change (W m c (y 0).val (y 1).val) (first (M m c (y 0).val (y 1).val) (total (P m c) (y 0).val (y 1).val)) (second (N m c (y 0).val (y 1).val) (total (P m c) (y 0).val (y 1).val))) := by
  refine (dats m 0 c).arrAt_eq_of_covers 5 _ (by decide +kernel) fun t hf y => ?_
  have a := at5 t
  blk_simp
  rw [after0_5]
  unfold out0_5
  rw [View.canon_cons_unit_lit _ _ _ (by decide), View.ld_unit_lit _ _ (by decide), View.ld_unit_lit _ _ (by decide)]
  refine (change_apply _ _ _ _ y).trans ?_
  rw [second_apply, grad (blk_p m c t) y, moment (blk_p m c t) (blk_m m c t) y, blk_w m c t y, blk_n m c t y]
  rw [a.1, a.2, Nat.zero_mul, Nat.zero_add, Nat.zero_add]

theorem arr_m : (dats m 0 c).arrAt 6 cfg0.N = (fun y : S24x2048.Idx => first (M m c (y 0).val (y 1).val) (total (P m c) (y 0).val (y 1).val)) := by
  refine (dats m 0 c).arrAt_eq_of_covers 6 _ (by decide +kernel) fun t hf y => ?_
  have a := at6 t
  blk_simp
  rw [after0_6]
  unfold out0_6
  rw [View.canon_cons_unit_lit _ _ _ (by decide)]
  refine (moment (blk_p m c t) (blk_m m c t) y).trans ?_
  rw [a.1, a.2, Nat.zero_mul, Nat.zero_add, Nat.zero_add]

theorem arr_v : (dats m 0 c).arrAt 7 cfg0.N = (fun y : S24x2048.Idx => second (N m c (y 0).val (y 1).val) (total (P m c) (y 0).val (y 1).val)) := by
  refine (dats m 0 c).arrAt_eq_of_covers 7 _ (by decide +kernel) fun t hf y => ?_
  have a := at7 t
  blk_simp
  rw [after0_7]
  unfold out0_7
  rw [View.canon_cons_unit_lit _ _ _ (by decide), View.ld_unit_lit _ _ (by decide)]
  refine (second_apply _ _ y).trans ?_
  rw [grad (blk_p m c t) y, blk_n m c t y]
  rw [a.1, a.2, Nat.zero_mul, Nat.zero_add, Nat.zero_add]

end Cert.Proof.Adam

/-! ## The plain step -/

namespace Cert.Proof.AdamPlain

open Cert.Reference20Ideal Cert.Reference20Ideal.Gen
open Idealize.ShloMosaic Idealize.ShloMosaic.TcCoe Idealize.ShloMosaic.Tactic
open Cert.Proof.Sheet
open Cert.Proof.Adam (total first second change)

/-- The sum of the parts, the moments, the change, as expressions of arrays. -/
def sum (p : FVec Ideal S8x24x2048 .f32) : FVec Ideal S24x2048 .f32 := Host.reduceAdd p (constant S_ .f32 0x00000000#32) reducesTo_S8x24x2048_S24x2048_d0 h_S_
def const (w : BitVec 32) : FVec Ideal S24x2048 .f32 := broadcastInDim S24x2048 ![] bcast_S_S24x2048 (constant S_ .f32 w)
def newM (g u : FVec Ideal S24x2048 .f32) : FVec Ideal S24x2048 .f32 := addf (mulf (const 0x3F666666#32) u) (mulf (const 0x3DCCCCCD#32) g)
def newV (g v : FVec Ideal S24x2048 .f32) : FVec Ideal S24x2048 .f32 := addf (mulf (const 0x3F7FBE77#32) v) (mulf (const 0x3A83126F#32) (mulf g g))
def delta (w u v : FVec Ideal S24x2048 .f32) : FVec Ideal S24x2048 .f32 :=
  mulf (const 0xBA83126F#32) (addf (Host.divf (Host.divf u (const 0x3F26BD02#32)) (addf (Host.sqrt (Host.divf v (const 0x3C231ACC#32))) (const 0x322BCC77#32))) (mulf (const 0x3C23D70A#32) w))

theorem sum_apply {p : FVec Ideal S8x24x2048 .f32} {f : ℕ → ℕ → ℕ → EReal} (h : E3 (a := 8) (b := 24) (d := 2048) p f) : E2 (a := 24) (b := 2048) (sum p) (total f) := fun y => by
  unfold sum
  pointwise
  exact Finset.sum_congr rfl fun k _ => h _

theorem newM_apply (g u : FVec Ideal S24x2048 .f32) (y : S24x2048.Idx) : newM g u y = first (u y) (g y) := by
  unfold newM const
  pointwise
  rfl

theorem newV_apply (g v : FVec Ideal S24x2048 .f32) (y : S24x2048.Idx) : newV g v y = second (v y) (g y) := by
  unfold newV const
  pointwise
  rfl

theorem delta_apply (w u v : FVec Ideal S24x2048 .f32) (y : S24x2048.Idx) : delta w u v y = change (w y) (u y) (v y) := by
  unfold delta const
  pointwise
  rfl

/-- The kernel's gradient, change of the weights and new moments are the plain ones. -/
theorem algebraic : Cert.algebraic_Kernel20Ideal_Reference20Ideal (hKernel20Ideal := Cert.Kernel20Ideal.Gen.facts) (hReference20Ideal := Cert.Reference20Ideal.Gen.facts) := by
  intro m g m' g' _ hm
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N,
    fun c => (Cert.Kernel20Ideal.Gen.dats m 0 c).arrAt 6 Cert.Kernel20Ideal.cfg0.N, fun c => (Cert.Kernel20Ideal.Gen.dats m 0 c).arrAt 7 Cert.Kernel20Ideal.cfg0.N, Cert.Kernel20Ideal.Value.run_blocks m g,
    (θ_run Cert.Reference20Ideal.defs _ _).mono (fun r h c => ?_) (Cert.Reference20Ideal.Value.run m' g')⟩
  obtain ⟨r0, r1, r2, r3, rest⟩ := h c
  obtain ⟨h0, h1, h2, h3⟩ := hm c
  rw [h0] at r0
  rw [h0, h1, h2, h3] at r1
  rw [h0, h2] at r2
  rw [h0, h3] at r3
  have e := sum_apply (e3_ent (a := 8) (b := 24) (d := 2048) (m ((c.tc : Thread Cert.Kernel20Ideal.nD Cert.Kernel20Ideal.τ).loc Cert.Kernel20Ideal.main_arg0)))
  have hW := e2_ent (a := 24) (b := 2048) (m ((c.tc : Thread Cert.Kernel20Ideal.nD Cert.Kernel20Ideal.τ).loc Cert.Kernel20Ideal.main_arg1))
  have hM := e2_ent (a := 24) (b := 2048) (m ((c.tc : Thread Cert.Kernel20Ideal.nD Cert.Kernel20Ideal.τ).loc Cert.Kernel20Ideal.main_arg2))
  have hN := e2_ent (a := 24) (b := 2048) (m ((c.tc : Thread Cert.Kernel20Ideal.nD Cert.Kernel20Ideal.τ).loc Cert.Kernel20Ideal.main_arg3))
  refine ⟨r0.trans ?_, r1.trans ?_, r2.trans ?_, r3.trans ?_, rest⟩
  · exact Eq.trans (funext e) (Adam.arr_g m c).symm
  · exact Eq.trans (funext fun y => (delta_apply _ (newM (sum _) _) (newV (sum _) _) y).trans (by rw [newM_apply, newV_apply, e y, hW y, hM y, hN y])) (Adam.arr_d m c).symm
  · exact Eq.trans (funext fun y => (newM_apply (sum _) _ y).trans (by rw [e y, hM y])) (Adam.arr_m m c).symm
  · exact Eq.trans (funext fun y => (newV_apply (sum _) _ y).trans (by rw [e y, hN y])) (Adam.arr_v m c).symm

end Cert.Proof.AdamPlain

end
-- ==== Proof.AdamShard.lean ====
module

public import proofs.«01_k».proof.Proof.Adam
public import proofs.«01_k».proof.Proof.Gen.Kernel21Ideal.Value
public import proofs.«01_k».proof.Proof.Gen.Reference21Ideal.Run
public import proofs.«01_k».proof.Defs

@[expose] public section

set_option maxRecDepth 16384

noncomputable section

namespace Cert.Proof.AdamShard

open Cert.Kernel21Ideal Cert.Kernel21Ideal.Gen
open Idealize.ShloMosaic Idealize.ShloMosaic.TcCoe Idealize.ShloMosaic.Tactic
open Idealize.SL.Sem
open Cert.Proof.Sheet
open Cert.Proof.Adam (total first second change)

/-! ## The optimiser's step on one device's shares of the small weights: the kernel's arrays -/

variable (m : (ℓ : Loc nD τ sig) → Buf (Elt Ideal) ℓ) (c : Dev nD)

theorem at0 : ∀ t : Fin cfg0.N, (cfg0.win 0).index t 0 = 0 ∧ (cfg0.win 0).index t 1 = 0 ∧ (cfg0.win 0).index t 2 = 0 := by decide +kernel
theorem at1 : ∀ t : Fin cfg0.N, (cfg0.win 1).index t 0 = 0 ∧ (cfg0.win 1).index t 1 = 0 := by decide +kernel
theorem at2 : ∀ t : Fin cfg0.N, (cfg0.win 2).index t 0 = 0 ∧ (cfg0.win 2).index t 1 = 0 := by decide +kernel
theorem at3 : ∀ t : Fin cfg0.N, (cfg0.win 3).index t 0 = 0 ∧ (cfg0.win 3).index t 1 = 0 := by decide +kernel
theorem at4 : ∀ t : Fin cfg0.N, (cfg0.win 4).index t 0 = 0 ∧ (cfg0.win 4).index t 1 = 0 := by decide +kernel
theorem at5 : ∀ t : Fin cfg0.N, (cfg0.win 5).index t 0 = 0 ∧ (cfg0.win 5).index t 1 = 0 := by decide +kernel
theorem at6 : ∀ t : Fin cfg0.N, (cfg0.win 6).index t 0 = 0 ∧ (cfg0.win 6).index t 1 = 0 := by decide +kernel
theorem at7 : ∀ t : Fin cfg0.N, (cfg0.win 7).index t 0 = 0 ∧ (cfg0.win 7).index t 1 = 0 := by decide +kernel

/-- The arguments' entries: the parts of the gradient, the weights, the moments. -/
abbrev P := ent3 (a := 8) (b := 48) (d := 256) (m ((c.tc : Thread nD τ).loc main_arg0))
abbrev W := ent2 (a := 48) (b := 256) (m ((c.tc : Thread nD τ).loc main_arg1))
abbrev M := ent2 (a := 48) (b := 256) (m ((c.tc : Thread nD τ).loc main_arg2))
abbrev N := ent2 (a := 48) (b := 256) (m ((c.tc : Thread nD τ).loc main_arg3))

theorem blk_p (t : Fin cfg0.N) : E3 (a := 8) (b := 48) (d := 256) (iblk m c 0 t) (P m c) := by
  intro y
  unfold iblk
  rw [show V m c (Pipeline.arrRef spec0 0) = m ((c.tc : Thread nD τ).loc main_arg0) from V_main_arg0 m c]
  refine (e3_ent (m ((c.tc : Thread nD τ).loc main_arg0)) (((cfg0.win 0).blk t).view.emb y)).trans ?_
  have := at0 t
  blk_simp
  rw [this.1, this.2.1, this.2.2]
  congr 1 <;> omega

theorem blk_w (t : Fin cfg0.N) : E2 (a := 48) (b := 256) (iblk m c 1 t) (W m c) := by
  intro y
  unfold iblk
  rw [show V m c (Pipeline.arrRef spec0 1) = m ((c.tc : Thread nD τ).loc main_arg1) from V_main_arg1 m c]
  refine (e2_ent (m ((c.tc : Thread nD τ).loc main_arg1)) (((cfg0.win 1).blk t).view.emb y)).trans ?_
  have := at1 t
  blk_simp
  rw [this.1, this.2]
  congr 1 <;> omega

theorem blk_m (t : Fin cfg0.N) : E2 (a := 48) (b := 256) (iblk m c 2 t) (M m c) := by
  intro y
  unfold iblk
  rw [show V m c (Pipeline.arrRef spec0 2) = m ((c.tc : Thread nD τ).loc main_arg2) from V_main_arg2 m c]
  refine (e2_ent (m ((c.tc : Thread nD τ).loc main_arg2)) (((cfg0.win 2).blk t).view.emb y)).trans ?_
  have := at2 t
  blk_simp
  rw [this.1, this.2]
  congr 1 <;> omega

theorem blk_n (t : Fin cfg0.N) : E2 (a := 48) (b := 256) (iblk m c 3 t) (N m c) := by
  intro y
  unfold iblk
  rw [show V m c (Pipeline.arrRef spec0 3) = m ((c.tc : Thread nD τ).loc main_arg3) from V_main_arg3 m c]
  refine (e2_ent (m ((c.tc : Thread nD τ).loc main_arg3)) (((cfg0.win 3).blk t).view.emb y)).trans ?_
  have := at3 t
  blk_simp
  rw [this.1, this.2]
  congr 1 <;> omega

/-- One device's part, loaded as a plane. -/
theorem plane {X : Vec Ideal S8x48x256 .f32} {f : ℕ → ℕ → ℕ → EReal} (hX : E3 (a := 8) (b := 48) (d := 256) X f) (k : ℕ) (inb) :
    E3 (a := 1) (b := 48) (d := 256) (View.ld X (Rect.unit ![k, 0, 0] ![1, 48, 256] inb)) (fun _ r n => f k r n) := fun y => by
  have h0 : (y 0).val < 1 := (y 0).isLt
  refine (hX _).trans ?_
  show f (k + 1 * (y 0).val) (0 + 1 * (y 1).val) (0 + 1 * (y 2).val) = f k (y 1).val (y 2).val
  rw [show k + 1 * (y 0).val = k by omega, Nat.one_mul, Nat.one_mul, Nat.zero_add, Nat.zero_add]

theorem sum_apply {v0 v1 v2 v3 v4 v5 v6 v7 : Vec Ideal S1x48x256 .f32} {f : ℕ → ℕ → ℕ → EReal} (h0 : E3 (a := 1) (b := 48) (d := 256) v0 (fun _ r n => f 0 r n)) (h1 : E3 (a := 1) (b := 48) (d := 256) v1 (fun _ r n => f 1 r n))
    (h2 : E3 (a := 1) (b := 48) (d := 256) v2 (fun _ r n => f 2 r n)) (h3 : E3 (a := 1) (b := 48) (d := 256) v3 (fun _ r n => f 3 r n)) (h4 : E3 (a := 1) (b := 48) (d := 256) v4 (fun _ r n => f 4 r n))
    (h5 : E3 (a := 1) (b := 48) (d := 256) v5 (fun _ r n => f 5 r n)) (h6 : E3 (a := 1) (b := 48) (d := 256) v6 (fun _ r n => f 6 r n)) (h7 : E3 (a := 1) (b := 48) (d := 256) v7 (fun _ r n => f 7 r n)) :
    E2 (a := 48) (b := 256) (k0_pay3 v0 v1 v2 v3 v4 v5 v6 v7) (total f) := fun y => by
  unfold k0_pay3
  pointwise
  rw [h0 _, h1 _, h2 _, h3 _, h4 _, h5 _, h6 _, h7 _, total, Fin.sum_univ_eight]
  rfl

theorem grad {x0 : Vec Ideal S8x48x256 .f32} {x1 x2 x3 : Vec Ideal S48x256 .f32} {f : ℕ → ℕ → ℕ → EReal} (h : E3 (a := 8) (b := 48) (d := 256) x0 f) : E2 (a := 48) (b := 256) (k0_pay5 x0 x1 x2 x3) (total f) := by
  unfold k0_pay5
  exact sum_apply (plane h 0 _) (plane h 1 _) (plane h 2 _) (plane h 3 _) (plane h 4 _) (plane h 5 _) (plane h 6 _) (plane h 7 _)

theorem first_apply (v0 v1 v2 v3 v4 v5 v6 v7 : Vec Ideal S1x48x256 .f32) (u : Vec Ideal S48x256 .f32) (y : S48x256.Idx) : k0_pay4 v0 v1 v2 v3 v4 v5 v6 v7 u y = first (u y) (k0_pay3 v0 v1 v2 v3 v4 v5 v6 v7 y) := by
  unfold k0_pay4
  generalize k0_pay3 v0 v1 v2 v3 v4 v5 v6 v7 = g
  pointwise
  rfl

theorem moment {x0 : Vec Ideal S8x48x256 .f32} {x1 x2 x3 : Vec Ideal S48x256 .f32} {f : ℕ → ℕ → ℕ → EReal} {M : ℕ → ℕ → EReal} (h : E3 (a := 8) (b := 48) (d := 256) x0 f) (h2 : E2 (a := 48) (b := 256) x2 M) :
    E2 (a := 48) (b := 256) (k0_pay6 x0 x1 x2 x3) (fun r n => first (M r n) (total f r n)) := fun y => by
  have e := grad (x1 := x1) (x2 := x2) (x3 := x3) h y
  unfold k0_pay5 at e
  unfold k0_pay6
  rw [first_apply, e, View.ld_unit_lit _ _ (by decide), h2 y]

theorem second_apply (g v : Vec Ideal S48x256 .f32) (y : S48x256.Idx) : k0_pay1 g v y = second (v y) (g y) := by
  unfold k0_pay1
  pointwise
  rfl

theorem change_apply (g u v w : Vec Ideal S48x256 .f32) (y : S48x256.Idx) : k0_pay2 g u v w y = change (w y) (u y) (k0_pay1 g v y) := by
  unfold k0_pay2
  generalize k0_pay1 g v = z
  pointwise
  rfl

/-- What the kernel leaves in its four results, entry by entry. -/
theorem arr_g : (dats m 0 c).arrAt 4 cfg0.N = (fun y : S48x256.Idx => total (P m c) (y 0).val (y 1).val) := by
  refine (dats m 0 c).arrAt_eq_of_covers 4 _ (by decide +kernel) fun t hf y => ?_
  have a := at4 t
  blk_simp
  rw [after0_4]
  unfold out0_4
  rw [View.canon_cons_unit_lit _ _ _ (by decide)]
  refine (grad (blk_p m c t) y).trans ?_
  rw [a.1, a.2, Nat.zero_mul, Nat.zero_add, Nat.zero_add]

theorem arr_d : (dats m 0 c).arrAt 5 cfg0.N = (fun y : S48x256.Idx => change (W m c (y 0).val (y 1).val) (first (M m c (y 0).val (y 1).val) (total (P m c) (y 0).val (y 1).val)) (second (N m c (y 0).val (y 1).val) (total (P m c) (y 0).val (y 1).val))) := by
  refine (dats m 0 c).arrAt_eq_of_covers 5 _ (by decide +kernel) fun t hf y => ?_
  have a := at5 t
  blk_simp
  rw [after0_5]
  unfold out0_5
  rw [View.canon_cons_unit_lit _ _ _ (by decide), View.ld_unit_lit _ _ (by decide), View.ld_unit_lit _ _ (by decide)]
  refine (change_apply _ _ _ _ y).trans ?_
  rw [second_apply, grad (blk_p m c t) y, moment (blk_p m c t) (blk_m m c t) y, blk_w m c t y, blk_n m c t y]
  rw [a.1, a.2, Nat.zero_mul, Nat.zero_add, Nat.zero_add]

theorem arr_m : (dats m 0 c).arrAt 6 cfg0.N = (fun y : S48x256.Idx => first (M m c (y 0).val (y 1).val) (total (P m c) (y 0).val (y 1).val)) := by
  refine (dats m 0 c).arrAt_eq_of_covers 6 _ (by decide +kernel) fun t hf y => ?_
  have a := at6 t
  blk_simp
  rw [after0_6]
  unfold out0_6
  rw [View.canon_cons_unit_lit _ _ _ (by decide)]
  refine (moment (blk_p m c t) (blk_m m c t) y).trans ?_
  rw [a.1, a.2, Nat.zero_mul, Nat.zero_add, Nat.zero_add]

theorem arr_v : (dats m 0 c).arrAt 7 cfg0.N = (fun y : S48x256.Idx => second (N m c (y 0).val (y 1).val) (total (P m c) (y 0).val (y 1).val)) := by
  refine (dats m 0 c).arrAt_eq_of_covers 7 _ (by decide +kernel) fun t hf y => ?_
  have a := at7 t
  blk_simp
  rw [after0_7]
  unfold out0_7
  rw [View.canon_cons_unit_lit _ _ _ (by decide), View.ld_unit_lit _ _ (by decide)]
  refine (second_apply _ _ y).trans ?_
  rw [grad (blk_p m c t) y, blk_n m c t y]
  rw [a.1, a.2, Nat.zero_mul, Nat.zero_add, Nat.zero_add]

end Cert.Proof.AdamShard

/-! ## The plain step -/

namespace Cert.Proof.AdamShardPlain

open Cert.Reference21Ideal Cert.Reference21Ideal.Gen
open Idealize.ShloMosaic Idealize.ShloMosaic.TcCoe Idealize.ShloMosaic.Tactic
open Cert.Proof.Sheet
open Cert.Proof.Adam (total first second change)

/-- The sum of the parts, the moments, the change, as expressions of arrays. -/
def sum (p : FVec Ideal S8x48x256 .f32) : FVec Ideal S48x256 .f32 := Host.reduceAdd p (constant S_ .f32 0x00000000#32) reducesTo_S8x48x256_S48x256_d0 h_S_
def const (w : BitVec 32) : FVec Ideal S48x256 .f32 := broadcastInDim S48x256 ![] bcast_S_S48x256 (constant S_ .f32 w)
def newM (g u : FVec Ideal S48x256 .f32) : FVec Ideal S48x256 .f32 := addf (mulf (const 0x3F666666#32) u) (mulf (const 0x3DCCCCCD#32) g)
def newV (g v : FVec Ideal S48x256 .f32) : FVec Ideal S48x256 .f32 := addf (mulf (const 0x3F7FBE77#32) v) (mulf (const 0x3A83126F#32) (mulf g g))
def delta (w u v : FVec Ideal S48x256 .f32) : FVec Ideal S48x256 .f32 :=
  mulf (const 0xBA83126F#32) (addf (Host.divf (Host.divf u (const 0x3F26BD02#32)) (addf (Host.sqrt (Host.divf v (const 0x3C231ACC#32))) (const 0x322BCC77#32))) (mulf (const 0x3C23D70A#32) w))

theorem sum_apply {p : FVec Ideal S8x48x256 .f32} {f : ℕ → ℕ → ℕ → EReal} (h : E3 (a := 8) (b := 48) (d := 256) p f) : E2 (a := 48) (b := 256) (sum p) (total f) := fun y => by
  unfold sum
  pointwise
  exact Finset.sum_congr rfl fun k _ => h _

theorem newM_apply (g u : FVec Ideal S48x256 .f32) (y : S48x256.Idx) : newM g u y = first (u y) (g y) := by
  unfold newM const
  pointwise
  rfl

theorem newV_apply (g v : FVec Ideal S48x256 .f32) (y : S48x256.Idx) : newV g v y = second (v y) (g y) := by
  unfold newV const
  pointwise
  rfl

theorem delta_apply (w u v : FVec Ideal S48x256 .f32) (y : S48x256.Idx) : delta w u v y = change (w y) (u y) (v y) := by
  unfold delta const
  pointwise
  rfl

/-- The kernel's gradient, change of the weights and new moments are the plain ones. -/
theorem algebraic : Cert.algebraic_Kernel21Ideal_Reference21Ideal (hKernel21Ideal := Cert.Kernel21Ideal.Gen.facts) (hReference21Ideal := Cert.Reference21Ideal.Gen.facts) := by
  intro m g m' g' _ hm
  refine ⟨fun c => (Cert.Kernel21Ideal.Gen.dats m 0 c).arrAt 4 Cert.Kernel21Ideal.cfg0.N, fun c => (Cert.Kernel21Ideal.Gen.dats m 0 c).arrAt 5 Cert.Kernel21Ideal.cfg0.N,
    fun c => (Cert.Kernel21Ideal.Gen.dats m 0 c).arrAt 6 Cert.Kernel21Ideal.cfg0.N, fun c => (Cert.Kernel21Ideal.Gen.dats m 0 c).arrAt 7 Cert.Kernel21Ideal.cfg0.N, Cert.Kernel21Ideal.Value.run_blocks m g,
    (θ_run Cert.Reference21Ideal.defs _ _).mono (fun r h c => ?_) (Cert.Reference21Ideal.Value.run m' g')⟩
  obtain ⟨r0, r1, r2, r3, rest⟩ := h c
  obtain ⟨h0, h1, h2, h3⟩ := hm c
  rw [h0] at r0
  rw [h0, h1, h2, h3] at r1
  rw [h0, h2] at r2
  rw [h0, h3] at r3
  have e := sum_apply (e3_ent (a := 8) (b := 48) (d := 256) (m ((c.tc : Thread Cert.Kernel21Ideal.nD Cert.Kernel21Ideal.τ).loc Cert.Kernel21Ideal.main_arg0)))
  have hW := e2_ent (a := 48) (b := 256) (m ((c.tc : Thread Cert.Kernel21Ideal.nD Cert.Kernel21Ideal.τ).loc Cert.Kernel21Ideal.main_arg1))
  have hM := e2_ent (a := 48) (b := 256) (m ((c.tc : Thread Cert.Kernel21Ideal.nD Cert.Kernel21Ideal.τ).loc Cert.Kernel21Ideal.main_arg2))
  have hN := e2_ent (a := 48) (b := 256) (m ((c.tc : Thread Cert.Kernel21Ideal.nD Cert.Kernel21Ideal.τ).loc Cert.Kernel21Ideal.main_arg3))
  refine ⟨r0.trans ?_, r1.trans ?_, r2.trans ?_, r3.trans ?_, rest⟩
  · exact Eq.trans (funext e) (AdamShard.arr_g m c).symm
  · exact Eq.trans (funext fun y => (delta_apply _ (newM (sum _) _) (newV (sum _) _) y).trans (by rw [newM_apply, newV_apply, e y, hW y, hM y, hN y])) (AdamShard.arr_d m c).symm
  · exact Eq.trans (funext fun y => (newM_apply (sum _) _ y).trans (by rw [e y, hM y])) (AdamShard.arr_m m c).symm
  · exact Eq.trans (funext fun y => (newV_apply (sum _) _ y).trans (by rw [e y, hN y])) (AdamShard.arr_v m c).symm

end Cert.Proof.AdamShardPlain

end
-- ==== Proof.Loss.lean ====
module

public import proofs.«01_k».proof.Proof.Rms
public import proofs.«01_k».proof.Proof.Runs
public import proofs.«01_k».proof.Proof.Sheet
public import Idealize.ShloMosaic.Lib.KernelVsHost
public import Idealize.ShloMosaic.Lib.Pipeline.ReadBack
public import proofs.«01_k».proof.Proof.Gen.Kernel22Ideal.Value
public import proofs.«01_k».proof.Proof.Gen.Reference22Ideal.Run
public import proofs.«01_k».proof.Defs

@[expose] public section

set_option maxRecDepth 16384

noncomputable section

namespace Cert.Proof.Loss

open Cert.Kernel22Ideal Cert.Kernel22Ideal.Gen
open Idealize.ShloMosaic Idealize.ShloMosaic.TcCoe Idealize.ShloMosaic.Tactic
open Idealize.SL.Sem
open Cert.Proof.Rms (mean mean_eq word_n sq_nonneg out_of_sum)
open Cert.Proof.Sheet (E2 ent2 e2_ent)
open Finset (range)

/-! ## The loss and its gradient, a number at a time -/

/-- What the programs' words stand for. -/
theorem word_half : Ideal.ofBits .f32 0x3F000000#32 = ((1 / 2 : ℝ) : EReal) := by
  simp [Ideal.ofBits, Ideal.ieee, -EReal.coe_mul]
  norm_num

theorem word_two : Ideal.ofBits .f32 0x40000000#32 = ((2 : ℝ) : EReal) := by
  simp [Ideal.ofBits, Ideal.ieee, -EReal.coe_mul]
  norm_num

theorem word_inv : Ideal.ofBits .f32 0x3A000000#32 = ((1 / 2048 : ℝ) : EReal) := by
  simp [Ideal.ofBits, Ideal.ieee, -EReal.coe_mul]
  norm_num

theorem word_half_inv : Ideal.ofBits .f32 0x39800000#32 = ((1 / 4096 : ℝ) : EReal) := by
  simp [Ideal.ofBits, Ideal.ieee, -EReal.coe_mul]
  norm_num

/-- An entry's difference from the target; the first 128 rows have no target. -/
def gap (H T : ℕ → ℕ → EReal) (r n : ℕ) : EReal := H (128 + r) n - T r n

/-- A row's sum of squared differences. -/
def row (H T : ℕ → ℕ → EReal) (r : ℕ) : EReal := ∑ n : Fin 2048, gap H T r n.val * gap H T r n.val

/-- An entry of the gradient. -/
def grade (H T : ℕ → ℕ → EReal) (r n : ℕ) : EReal := if r < 128 then 0 else gap H T (r - 128) n * Ideal.ofBits .f32 0x3A000000#32

/-- The loss as the kernel sums it. -/
def loss (H T : ℕ → ℕ → EReal) : EReal := Ideal.ofBits .f32 0x39800000#32 * ∑ r ∈ range 4096, row H T r

theorem scale_sum (n : ℕ) {w : ℝ} (h : 0 ≤ w) (f : ℕ → EReal) : ∑ r ∈ range n, (w : EReal) * f r = (w : EReal) * ∑ r ∈ range n, f r := by
  rw [Finset.sum_range, Finset.sum_range, out_of_sum (by exact_mod_cast h) (EReal.coe_ne_top w)]

/-- Half the sum of the rows' means is the loss. -/
theorem loss_eq (H T : ℕ → ℕ → EReal) : Ideal.ofBits .f32 0x3F000000#32 * ∑ r ∈ range 4096, mean (row H T r) = loss H T := by
  rw [loss, word_half, word_half_inv, Finset.sum_congr rfl fun r _ => (mean_eq (row H T r)).trans (mul_comm _ _), scale_sum 4096 (by norm_num), ← mul_assoc, ← EReal.coe_mul]
  norm_num

/-- The derivative's factors are one factor. -/
theorem grade_eq (x : EReal) : Ideal.div (Ideal.ofBits .f32 0x3F000000#32) (Ideal.ofBits .f32 0x45000000#32) * (Ideal.ofBits .f32 0x40000000#32 * x) = x * Ideal.ofBits .f32 0x3A000000#32 := by
  rw [word_half, word_n, word_two, word_inv, Ideal.div_coe (by norm_num), ← mul_assoc, ← EReal.coe_mul, ← EReal.coe_mul, mul_comm x]
  norm_num

/-! ## What a block's operations compute -/

theorem gap_apply {v w : Vec Ideal S128x2048 .f32} {f : ℕ → ℕ → EReal} {g : ℕ → ℕ → EReal} (hv : E2 (a := 128) (b := 2048) v f) (hw : E2 (a := 128) (b := 2048) w g) :
    E2 (a := 128) (b := 2048) (k0_pay4 v w) (fun r n => f r n - g r n) := fun y => by
  unfold k0_pay4
  pointwise
  rw [hv _, hw _]

theorem grade_apply (v w : Vec Ideal S128x2048 .f32) (y : S128x2048.Idx) : k0_pay5 v w y = k0_pay4 v w y * Ideal.ofBits .f32 0x3A000000#32 := by
  unfold k0_pay5
  generalize k0_pay4 v w = z
  pointwise

theorem cast_apply (v w : Vec Ideal S128x2048 .f32) (y : S128x2048.Idx) : k0_pay6 v w y = k0_pay5 v w y := by
  unfold k0_pay6
  generalize k0_pay5 v w = z
  pointwise

theorem add_apply {v w : Vec Ideal S128x2048 .f32} {d : ℕ → ℕ → EReal} (h : E2 (a := 128) (b := 2048) (k0_pay4 v w) d) (u : Vec Ideal S8x128 .f32) (j : S8x128.Idx) :
    k0_pay7 v w u j = u j + Ideal.ofBits .f32 0x39800000#32 * ∑ r ∈ range 128, ∑ n : Fin 2048, d r n.val * d r n.val := by
  unfold k0_pay7
  generalize k0_pay4 v w = z at h
  pointwise
  rw [Finset.sum_range]
  congr 2
  exact Finset.sum_congr rfl fun r _ => Finset.sum_congr rfl fun n _ => by
    rw [h _]
    rfl

theorem zero_apply (y : S128x2048.Idx) : k0_pay1 (F := Ideal) y = 0 := by
  unfold k0_pay1
  pointwise

theorem zero_cast_apply (y : S128x2048.Idx) : k0_pay2 (F := Ideal) y = 0 := by
  unfold k0_pay2
  pointwise

theorem zero_loss_apply (y : S8x128.Idx) : k0_pay3 (F := Ideal) y = 0 := by
  unfold k0_pay3
  pointwise

/-! ## The loss and its gradient: the kernel's arrays -/

variable (m : (ℓ : Loc nD τ sig) → Buf (Elt Ideal) ℓ) (c : Dev nD)

theorem at0 : ∀ t : Fin cfg0.N, (cfg0.win 0).index t 0 = t.val ∧ (cfg0.win 0).index t 1 = 0 := by decide +kernel
theorem at1 : ∀ t : Fin cfg0.N, (cfg0.win 1).index t 0 = t.val - 1 ∧ (cfg0.win 1).index t 1 = 0 := by decide +kernel
theorem at2 : ∀ t : Fin cfg0.N, (cfg0.win 2).index t 0 = t.val ∧ (cfg0.win 2).index t 1 = 0 := by decide +kernel
theorem at3 : ∀ t : Fin cfg0.N, (cfg0.win 3).index t 0 = t.val ∧ (cfg0.win 3).index t 1 = 0 := by decide +kernel
theorem at4 : ∀ t : Fin cfg0.N, (cfg0.win 4).index t 0 = 0 ∧ (cfg0.win 4).index t 1 = 0 := by decide +kernel

/-- The arguments' entries: the last layer's rows and the targets. -/
abbrev H : ℕ → ℕ → EReal := ent2 (a := 4224) (b := 2048) (m ((c.tc : Thread nD τ).loc main_arg0))
abbrev T : ℕ → ℕ → EReal := ent2 (a := 4096) (b := 2048) (m ((c.tc : Thread nD τ).loc main_arg1))

theorem blk_h (t : Fin cfg0.N) : E2 (a := 128) (b := 2048) (iblk m c 0 t) (fun r n => H m c (128 * t.val + r) n) := by
  intro y
  unfold iblk
  rw [show V m c (Pipeline.arrRef spec0 0) = m ((c.tc : Thread nD τ).loc main_arg0) from V_main_arg0 m c]
  refine (e2_ent (a := 4224) (b := 2048) (m ((c.tc : Thread nD τ).loc main_arg0)) (((cfg0.win 0).blk t).view.emb y)).trans ?_
  have := at0 t
  blk_simp
  rw [this.1, this.2]
  congr 1 <;> omega

theorem blk_t (t : Fin cfg0.N) : E2 (a := 128) (b := 2048) (iblk m c 1 t) (fun r n => T m c (128 * (t.val - 1) + r) n) := by
  intro y
  unfold iblk
  rw [show V m c (Pipeline.arrRef spec0 1) = m ((c.tc : Thread nD τ).loc main_arg1) from V_main_arg1 m c]
  refine (e2_ent (a := 4096) (b := 2048) (m ((c.tc : Thread nD τ).loc main_arg1)) (((cfg0.win 1).blk t).view.emb y)).trans ?_
  have := at1 t
  blk_simp
  rw [this.1, this.2]
  congr 1 <;> omega

/-- After the first step a block holds the differences of its rows. -/
theorem block (t : Fin cfg0.N) (h : 1 ≤ t.val) : E2 (a := 128) (b := 2048) (k0_pay4 (iblk m c 0 t) (iblk m c 1 t)) (fun r n => gap (H m c) (T m c) (128 * (t.val - 1) + r) n) := fun y => by
  refine (gap_apply (blk_h m c t) (blk_t m c t) y).trans ?_
  show H m c (128 * t.val + (y 0).val) _ - _ = H m c (128 + (128 * (t.val - 1) + (y 0).val)) _ - _
  rw [show 128 * t.val + (y 0).val = 128 + (128 * (t.val - 1) + (y 0).val) by omega]

/-- What every step writes of the gradient. -/
theorem out_grade (t : Fin cfg0.N) (y : S128x2048.Idx) : (outsAt0 m c t.val t.isLt).1 y = grade (H m c) (T m c) (128 * t.val + (y 0).val) (y 1).val := by
  have hy : (y 0).val < 128 := (y 0).isLt
  have ht : t.val < 33 := t.isLt
  by_cases h : t.val % 33 = 0
  · rw [outsAt0_A m c t h (by omega)]
    frame_out
    rw [zero_apply, grade, if_pos (by omega)]
  · rw [outsAt0_B m c t h (by omega)]
    frame_out
    rw [grade_apply, block m c t (by omega) y, grade, if_neg (by omega), show 128 * t.val + (y 0).val - 128 = 128 * (t.val - 1) + (y 0).val by omega]

theorem out_cast (t : Fin cfg0.N) (y : S128x2048.Idx) : (outsAt0 m c t.val t.isLt).2.1 y = grade (H m c) (T m c) (128 * t.val + (y 0).val) (y 1).val := by
  have hy : (y 0).val < 128 := (y 0).isLt
  have ht : t.val < 33 := t.isLt
  by_cases h : t.val % 33 = 0
  · rw [outsAt0_A m c t h (by omega)]
    frame_out
    rw [zero_cast_apply, grade, if_pos (by omega)]
  · rw [outsAt0_B m c t h (by omega)]
    frame_out
    rw [cast_apply, grade_apply, block m c t (by omega) y, grade, if_neg (by omega), show 128 * t.val + (y 0).val - 128 = 128 * (t.val - 1) + (y 0).val by omega]

/-- What the kernel leaves in its first result, entry by entry. -/
theorem arr_grade : (dats m 0 c).arrAt 2 cfg0.N = (fun y : S4224x2048.Idx => grade (H m c) (T m c) (y 0).val (y 1).val) := by
  refine (dats m 0 c).arrAt_eq_of_covers 2 _ (by decide +kernel) fun t hf y => ?_
  have a := at2 t
  blk_simp
  rw [after0_2]
  refine (out_grade m c t y).trans ?_
  rw [a.1, a.2, mul_comm t.val, Nat.zero_mul, Nat.zero_add]

/-- The second result is the first, cast. -/
theorem arr_cast : (dats m 0 c).arrAt 3 cfg0.N = (fun y : S4224x2048.Idx => grade (H m c) (T m c) (y 0).val (y 1).val) := by
  refine (dats m 0 c).arrAt_eq_of_covers 3 _ (by decide +kernel) fun t hf y => ?_
  have a := at3 t
  blk_simp
  rw [after0_3]
  refine (out_cast m c t y).trans ?_
  rw [a.1, a.2, mul_comm t.val, Nat.zero_mul, Nat.zero_add]

/-- What a step adds to the loss. -/
def step (H T : ℕ → ℕ → EReal) (t : ℕ) (j : S8x128.Idx) : EReal :=
  if t = 0 then 0 else Ideal.ofBits .f32 0x39800000#32 * ∑ r ∈ range 128, row H T (128 * (t - 1) + r)

/-- The running loss. -/
theorem acc (t : Fin cfg0.N) (j : S8x128.Idx) :
    (outsAt0 m c t.val t.isLt).2.2 j = 0 + ∑ s ∈ range (t.val % 33 + 1), step (H m c) (T m c) (33 * (t.val / 33) + s) j := by
  refine Pipeline.eq_sum_of_reset_step_apply (fun n h => (outsAt0 m c n h).2.2) 33 (fun _ => 0) (step (H m c) (T m c)) (fun t h j => ?_) (fun t h j => ?_) t j
  · have : t.val < 33 := t.isLt
    rw [outsAt0_A m c t h (by omega)]
    frame_out
    rw [zero_loss_apply, step, if_pos (by omega), add_zero]
  · rw [outsAt0_B m c t h (by omega)]
    frame_out
    rw [add_apply (block m c t (by omega)), step, if_neg (by omega)]
    rfl

/-- What the kernel leaves in its third result: the loss in every place. -/
theorem arr_loss : (dats m 0 c).arrAt 4 cfg0.N = (fun y : S8x128.Idx => loss (H m c) (T m c)) := by
  refine (dats m 0 c).arrAt_eq_of_covers 4 _ (by decide +kernel) fun t hf y => ?_
  have hr : t.val % 33 = 32 := (flush0_4 t).mp hf
  have : t.val < 33 := t.isLt
  blk_simp
  rw [after0_4]
  refine (acc m c t y).trans ?_
  rw [hr, zero_add, show t.val / 33 = 0 by omega, Finset.sum_range_succ', loss, show (4096 : ℕ) = 32 * 128 from rfl, ← Runs.sum_runs _ 128 32]
  rw [show step (H m c) (T m c) (33 * 0 + 0) y = 0 from if_pos rfl, add_zero]
  rw [word_half_inv, ← scale_sum 32 (by norm_num)]
  refine Finset.sum_congr rfl fun s _ => ?_
  rw [step, if_neg (by omega), word_half_inv, show 33 * 0 + (s + 1) - 1 = s by omega]

end Cert.Proof.Loss

/-! ## The plain loss and its derivative -/

namespace Cert.Proof.LossPlain

open Cert.Reference22Ideal Cert.Reference22Ideal.Gen
open Idealize.ShloMosaic Idealize.ShloMosaic.TcCoe Idealize.ShloMosaic.Tactic
open Cert.Proof.Rms (mean word_n)
open Cert.Proof.Sheet (E2 ent2 e2_ent)
open Cert.Proof.Loss (gap row grade loss loss_eq grade_eq)
open Finset (range)

/-- The differences from the targets. -/
def err (h : FVec Ideal S4224x2048 .f32) (t : FVec Ideal S4096x2048 .f32) : FVec Ideal S4096x2048 .f32 :=
  subf (extractStridedSlice S4096x2048 ![128, 0] h slices_S4224x2048_S4096x2048_128_0) t

/-- Their squares' means, row by row, and half those means' sum. -/
def total (e : FVec Ideal S4096x2048 .f32) : FVec Ideal S4096 .f32 :=
  Host.divf (Host.reduceAdd (mulf e e) (constant S_ .f32 0x00000000#32) reducesTo_S4096x2048_S4096_d1 h_S_) (broadcastInDim S4096 ![] bcast_S_S4096 (constant S_ .f32 0x45000000#32))
def half (z : FVec Ideal S4096 .f32) : FVec Ideal S8x128 .f32 :=
  broadcastInDim S8x128 ![] bcast_S_S8x128 (mulf (constant S_ .f32 0x3F000000#32) (Host.reduceAdd z (constant S_ .f32 0x00000000#32) reducesTo_S4096_S_d0 h_S_))

/-- The derivative of half the sum of the rows' means, at the rows that have a target. -/
def back (e : FVec Ideal S4096x2048 .f32) : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32))))
    (mulf (broadcastInDim S4096x2048 ![] bcast_S_S4096x2048 (constant S_ .f32 0x40000000#32)) e)

/-- Zeros in place of the rows that have none. -/
def padded (z : FVec Ideal S4096x2048 .f32) : FVec Ideal S4224x2048 .f32 :=
  pad S4224x2048 ![128, 0] ![0, 0] ![0, 0] z (constant S_ .f32 0x00000000#32) pads_S4096x2048_S4224x2048_12800_000 h_S_

variable {h : FVec Ideal S4224x2048 .f32} {t : FVec Ideal S4096x2048 .f32} {X Y : ℕ → ℕ → EReal}

theorem err_apply (hh : E2 (a := 4224) (b := 2048) h X) (ht : E2 (a := 4096) (b := 2048) t Y) : E2 (a := 4096) (b := 2048) (err h t) (gap X Y) := fun y => by
  unfold err
  pointwise
  rw [hh _, ht _]
  rfl

theorem total_apply {e : FVec Ideal S4096x2048 .f32} (he : E2 (a := 4096) (b := 2048) e (gap X Y)) (y : S4096.Idx) : total e y = mean (row X Y (y 0).val) := by
  unfold total
  pointwise
  rw [mean, row]
  congr 1
  exact Finset.sum_congr rfl fun k _ => by
    rw [he _]
    rfl

theorem half_apply {z : FVec Ideal S4096 .f32} {f : ℕ → EReal} (hz : ∀ i, z i = f (i 0).val) (y : S8x128.Idx) : half z y = Ideal.ofBits .f32 0x3F000000#32 * ∑ r ∈ range 4096, f r := by
  unfold half
  pointwise
  rw [Finset.sum_range]
  congr 1
  exact Finset.sum_congr rfl fun k _ => hz _

theorem back_apply {e : FVec Ideal S4096x2048 .f32} (he : E2 (a := 4096) (b := 2048) e (gap X Y)) :
    E2 (a := 4096) (b := 2048) (back e) (fun r n => gap X Y r n * Ideal.ofBits .f32 0x3A000000#32) := fun y => by
  unfold back
  pointwise
  rw [he y]
  exact grade_eq _

theorem padded_apply {z : FVec Ideal S4096x2048 .f32} (hz : E2 (a := 4096) (b := 2048) z (fun r n => gap X Y r n * Ideal.ofBits .f32 0x3A000000#32)) :
    E2 (a := 4224) (b := 2048) (padded z) (grade X Y) := fun y => by
  unfold padded
  by_cases hy : (y 0).val < 128
  · refine (pad_apply_of_not_inside _ _ _ z _ pads_S4096x2048_S4224x2048_12800_000 h_S_ y (0 : Fin 2) fun hn => ?_).trans ?_
    · exact absurd (show 128 ≤ (y 0).val from hn.1) (by omega)
    · rw [grade, if_pos hy]
      exact Ideal.ofBits_zero_f32
  · have hy2 : (y 0).val < 4224 := (y 0).isLt
    refine (pad_apply_of_inside _ _ _ z _ pads_S4096x2048_S4224x2048_12800_000 h_S_ y (ix2 ⟨(y 0).val - 128, by omega⟩ ⟨(y 1).val, (y 1).isLt⟩) fun a => ?_).trans ((hz _).trans ?_)
    · refine Fin.cases ?_ (fun b => Fin.cases ?_ (fun b => b.elim0) b) a
      · show (y 0).val = 128 + ((y 0).val - 128) * (0 + 1)
        omega
      · show (y 1).val = 0 + (y 1).val * (0 + 1)
        omega
    · rw [grade, if_neg hy]
      rfl

theorem cut_apply (z : FVec Ideal S4224x2048 .f32) (y : S4224x2048.Idx) : (truncf .bf16 z bitsLt_bf16_f32 : FVec Ideal S4224x2048 .bf16) y = z y := by
  pointwise

/-- The kernel's loss and its gradient are the plain ones. -/
theorem algebraic : Cert.algebraic_Kernel22Ideal_Reference22Ideal (hKernel22Ideal := Cert.Kernel22Ideal.Gen.facts) (hReference22Ideal := Cert.Reference22Ideal.Gen.facts) := by
  intro m g m' g' _ hm
  refine ⟨fun c => (Cert.Kernel22Ideal.Gen.dats m 0 c).arrAt 2 Cert.Kernel22Ideal.cfg0.N, fun c => (Cert.Kernel22Ideal.Gen.dats m 0 c).arrAt 3 Cert.Kernel22Ideal.cfg0.N,
    fun c => (Cert.Kernel22Ideal.Gen.dats m 0 c).arrAt 4 Cert.Kernel22Ideal.cfg0.N, Cert.Kernel22Ideal.Value.run_blocks m g,
    (θ_run Cert.Reference22Ideal.defs _ _).mono (fun r h c => ?_) (Cert.Reference22Ideal.Value.run m' g')⟩
  obtain ⟨r0, r1, r2, rest⟩ := h c
  obtain ⟨h0, h1⟩ := hm c
  rw [h0, h1] at r0 r1 r2
  have e := err_apply (e2_ent (a := 4224) (b := 2048) (m ((c.tc : Thread Cert.Kernel22Ideal.nD Cert.Kernel22Ideal.τ).loc Cert.Kernel22Ideal.main_arg0))) (e2_ent (a := 4096) (b := 2048) (m ((c.tc : Thread Cert.Kernel22Ideal.nD Cert.Kernel22Ideal.τ).loc Cert.Kernel22Ideal.main_arg1)))
  have d := padded_apply (back_apply e)
  refine ⟨r0.trans ?_, r1.trans ?_, r2.trans ?_, rest⟩
  · exact Eq.trans (funext d) (Loss.arr_grade m c).symm
  · exact Eq.trans (funext fun y => (cut_apply _ y).trans (d y)) (Loss.arr_cast m c).symm
  · exact Eq.trans (funext fun y => (half_apply (total_apply e) y).trans (loss_eq _ _)) (Loss.arr_loss m c).symm

end Cert.Proof.LossPlain

end
-- ==== Proof.GateLogits.lean ====
module

public import proofs.«01_k».proof.Proof.Sheet
public import proofs.«01_k».proof.Proof.Gen.Kernel23Ideal.Value
public import proofs.«01_k».proof.Proof.Gen.Reference23Ideal.Run
public import proofs.«01_k».proof.Defs

@[expose] public section

set_option maxRecDepth 16384

noncomputable section

namespace Cert.Proof.GateLogits

open Cert.Kernel23Ideal Cert.Kernel23Ideal.Gen
open Idealize.ShloMosaic Idealize.ShloMosaic.TcCoe Idealize.ShloMosaic.Tactic
open Idealize.SL.Sem
open Cert.Proof.Sheet

/-! ## The forget gate's product: the kernel's array -/

variable (m : (ℓ : Loc nD τ sig) → Buf (Elt Ideal) ℓ) (c : Dev nD)

theorem at0 : ∀ t : Fin cfg0.N, (cfg0.win 0).index t 0 = t.val ∧ (cfg0.win 0).index t 1 = 0 := by decide +kernel
theorem at1 : ∀ t : Fin cfg0.N, (cfg0.win 1).index t 0 = 0 ∧ (cfg0.win 1).index t 1 = 0 ∧ (cfg0.win 1).index t 2 = 0 := by decide +kernel
theorem at2 : ∀ t : Fin cfg0.N, (cfg0.win 2).index t 0 = t.val ∧ (cfg0.win 2).index t 1 = 0 := by decide +kernel

/-- The arguments' entries. -/
abbrev A := ent2 (a := 4224) (b := 2048) (m ((c.tc : Thread nD τ).loc main_arg0))
abbrev B := ent3 (a := 1) (b := 2048) (d := 128) (m ((c.tc : Thread nD τ).loc main_arg1))

theorem blk_a (t : Fin cfg0.N) : E2 (a := 1056) (b := 2048) (iblk m c 0 t) (fun r d => A m c (1056 * t.val + r) d) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  have h0 : (y 0).val < 1056 := (y 0).isLt
  blk_simp
  rw [this.1, this.2]
  congr 1 <;> omega

theorem blk_b (t : Fin cfg0.N) : E3 (a := 1) (b := 2048) (d := 128) (iblk m c 1 t) (fun _ d n => B m c 0 d n) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

/-- One block: the product of a row with a column. -/
theorem pay_apply {v0 : Vec Ideal S1056x2048 .bf16} {v1 : Vec Ideal S1x2048x128 .bf16} {f : ℕ → ℕ → EReal} {g : ℕ → ℕ → ℕ → EReal}
    (h0 : E2 (a := 1056) (b := 2048) v0 f) (h1 : E3 (a := 1) (b := 2048) (d := 128) v1 g) (y : S1056x128.Idx) :
    k0_pay1 v0 v1 y = ∑ k : Fin 2048, f (y 0).val k.val * g 0 k.val (y 1).val := by
  unfold k0_pay1
  pointwise
  refine Finset.sum_congr rfl fun k _ => ?_
  rw [h0 _, h1 _]
  rfl

/-- What the kernel leaves in its result, entry by entry. -/
theorem arr : (dats m 0 c).arrAt 2 cfg0.N = (fun y : S4224x128.Idx => ∑ k : Fin 2048, A m c (y 0).val k.val * B m c 0 k.val (y 1).val) := by
  refine (dats m 0 c).arrAt_eq_of_covers 2 _ (by decide +kernel) fun t hf y => ?_
  have a := at2 t
  have h0 : (y 0).val < 1056 := (y 0).isLt
  have h1 : (y 1).val < 128 := (y 1).isLt
  blk_simp
  rw [after0_2]
  unfold out0_2
  rw [View.canon_cons_unit_lit _ _ _ (by decide), View.ld_unit_lit _ _ (by decide), View.ld_unit_lit _ _ (by decide)]
  refine (pay_apply (blk_a m c t) (blk_b m c t) y).trans ?_
  rw [a.1, a.2, Nat.mul_comm 1056, Nat.zero_mul, Nat.zero_add]

end Cert.Proof.GateLogits

/-! ## The plain product -/

namespace Cert.Proof.GateLogitsPlain

open Cert.Reference23Ideal Cert.Reference23Ideal.Gen
open Idealize.ShloMosaic Idealize.ShloMosaic.TcCoe Idealize.ShloMosaic.Tactic
open Cert.Proof.Sheet

/-- The plain product as one expression of its arguments. -/
def plain (a : FVec Ideal S4224x2048 .bf16) (b : FVec Ideal S1x2048x128 .bf16) : FVec Ideal S4224x128 .f32 :=
  Host.dotGeneral dot_S4224x2048_S2048x128_S4224x128_1_0_0_1_n_n none (extf .f32 a bitsLt_bf16_f32) (extf .f32 (shapeCast _ b shapeCasts_S1x2048x128_S2048x128) bitsLt_bf16_f32)

/-- The plain product, entry by entry. -/
theorem want {a : FVec Ideal S4224x2048 .bf16} {b : FVec Ideal S1x2048x128 .bf16} {A : ℕ → ℕ → EReal} {B : ℕ → ℕ → ℕ → EReal}
    (ha : E2 (a := 4224) (b := 2048) a A) (hb : E3 (a := 1) (b := 2048) (d := 128) b B) :
    plain a b = (fun y : S4224x128.Idx => ∑ k : Fin 2048, A (y 0).val k.val * B 0 k.val (y 1).val) := by
  funext y
  unfold plain
  pointwise
  refine Finset.sum_congr rfl fun k _ => ?_
  rw [ha _, hb _]
  rfl

/-- The kernel's product for the forget gate is the plain one. -/
theorem algebraic : Cert.algebraic_Kernel23Ideal_Reference23Ideal (hKernel23Ideal := Cert.Kernel23Ideal.Gen.facts) (hReference23Ideal := Cert.Reference23Ideal.Gen.facts) := by
  intro m g m' g' hp hm
  refine ⟨fun c => (Cert.Kernel23Ideal.Gen.dats m 0 c).arrAt 2 Cert.Kernel23Ideal.cfg0.N, Cert.Kernel23Ideal.Value.run_blocks m g,
    (θ_run Cert.Reference23Ideal.defs _ _).mono (fun r h c => ?_) (Cert.Reference23Ideal.Value.run m' g')⟩
  obtain ⟨r0, rest⟩ := h c
  refine ⟨r0.trans ?_, rest⟩
  obtain ⟨h0, h1⟩ := hm c
  rw [h0, h1]
  refine Eq.trans ?_ (GateLogits.arr m c).symm
  exact want (e2_ent _) (e3_ent _)

end Cert.Proof.GateLogitsPlain

end
-- ==== Proof.GateWeight.lean ====
module

public import proofs.«01_k».proof.Proof.Sheet
public import proofs.«01_k».proof.Proof.Gen.Kernel24Ideal.Value
public import proofs.«01_k».proof.Proof.Gen.Reference24Ideal.Run
public import proofs.«01_k».proof.Defs

@[expose] public section

set_option maxRecDepth 16384

noncomputable section

namespace Cert.Proof.GateWeight

open Cert.Kernel24Ideal Cert.Kernel24Ideal.Gen
open Idealize.ShloMosaic Idealize.ShloMosaic.TcCoe Idealize.ShloMosaic.Tactic
open Idealize.SL.Sem
open Cert.Proof.Sheet

/-! ## The gradient of the forget gate's weights: the kernel's array -/

variable (m : (ℓ : Loc nD τ sig) → Buf (Elt Ideal) ℓ) (c : Dev nD)

theorem at0 : ∀ t : Fin cfg0.N, (cfg0.win 0).index t 0 = 0 ∧ (cfg0.win 0).index t 1 = 0 := by decide +kernel
theorem at1 : ∀ t : Fin cfg0.N, (cfg0.win 1).index t 0 = 0 ∧ (cfg0.win 1).index t 1 = 0 ∧ (cfg0.win 1).index t 2 = t.val := by decide +kernel
theorem at2 : ∀ t : Fin cfg0.N, (cfg0.win 2).index t 0 = 0 ∧ (cfg0.win 2).index t 1 = 0 ∧ (cfg0.win 2).index t 2 = t.val := by decide +kernel

/-- The arguments' entries. -/
abbrev A := ent2 (a := 4224) (b := 128) (m ((c.tc : Thread nD τ).loc main_arg0))
abbrev D := ent2 (a := 4224) (b := 2048) (m ((c.tc : Thread nD τ).loc main_arg1))

/-- The array the kernel fetches its second operand from: the second argument, with a leading axis of size one. -/
theorem from1 : V m c main_v0 = shapeCast _ (m ((c.tc : Thread nD τ).loc main_arg1)) shapeCasts_S4224x2048_S1x4224x2048 := by
  unfold V hostOps0
  after_results_simp <;> rfl

theorem from1_apply : E3 (a := 1) (b := 4224) (d := 2048) (V m c main_v0) (fun _ r n => D m c r n) := by
  rw [from1 m c]
  exact lead (e2_ent _) _

theorem blk_a (t : Fin cfg0.N) : E2 (a := 4224) (b := 128) (iblk m c 0 t) (fun r d => A m c r d) := by
  intro y
  unfold iblk
  rw [show V m c (Pipeline.arrRef spec0 0) = m ((c.tc : Thread nD τ).loc main_arg0) from V_main_arg0 m c]
  refine (e2_ent (m ((c.tc : Thread nD τ).loc main_arg0)) (((cfg0.win 0).blk t).view.emb y)).trans ?_
  have := at0 t
  blk_simp
  rw [this.1, this.2]
  congr 1 <;> omega

theorem blk_d (t : Fin cfg0.N) : E3 (a := 1) (b := 4224) (d := 1024) (iblk m c 1 t) (fun _ r n => D m c r (1024 * t.val + n)) := by
  intro y
  unfold iblk
  refine (from1_apply m c (((cfg0.win 1).blk t).view.emb y)).trans ?_
  have := at1 t
  blk_simp
  rw [this.2.1, this.2.2]
  congr 1 <;> omega

/-- One block: each entry is the sum over the rows. -/
theorem pay_apply {v0 : Vec Ideal S4224x128 .bf16} {v1 : Vec Ideal S1x4224x1024 .bf16} {f : ℕ → ℕ → EReal} {g : ℕ → ℕ → ℕ → EReal}
    (h0 : E2 (a := 4224) (b := 128) v0 f) (h1 : E3 (a := 1) (b := 4224) (d := 1024) v1 g) (y : S1x128x1024.Idx) :
    k0_pay1 v0 v1 y = ∑ r : Fin 4224, f r.val (y 1).val * g 0 r.val (y 2).val := by
  unfold k0_pay1
  pointwise
  exact Finset.sum_congr rfl fun k _ => by rw [h0 _, h1 _]; rfl

/-- What the kernel leaves in its result, entry by entry. -/
theorem arr : (dats m 0 c).arrAt 2 cfg0.N = (fun y : S1x128x2048.Idx => ∑ r : Fin 4224, A m c r.val (y 1).val * D m c r.val (y 2).val) := by
  refine (dats m 0 c).arrAt_eq_of_covers 2 _ (by decide +kernel) fun t hf y => ?_
  have a := at2 t
  have h0 : (y 0).val < 1 := (y 0).isLt
  blk_simp
  rw [after0_2]
  unfold out0_2
  rw [View.canon_cons_unit_lit _ _ _ (by decide), View.ld_unit_lit _ _ (by decide), View.ld_unit_lit _ _ (by decide)]
  refine (pay_apply (blk_a m c t) (blk_d m c t) y).trans ?_
  rw [a.2.1, a.2.2]
  exact Finset.sum_congr rfl fun k _ => by congr 2 <;> omega

end Cert.Proof.GateWeight

/-! ## The plain product -/

namespace Cert.Proof.GateWeightPlain

open Cert.Reference24Ideal Cert.Reference24Ideal.Gen
open Idealize.ShloMosaic Idealize.ShloMosaic.TcCoe Idealize.ShloMosaic.Tactic
open Cert.Proof.Sheet

/-- The plain gradient as one expression of its arguments. -/
def plain (a : FVec Ideal S4224x128 .bf16) (d : FVec Ideal S4224x2048 .bf16) : FVec Ideal S1x128x2048 .f32 :=
  broadcastInDim S1x128x2048 ![1, 2] bcast_S128x2048_S1x128x2048_1_2 (transpose S128x2048 [1, 0] (transpose S2048x128 [1, 0] (Host.dotGeneral dot_S4224x128_S4224x2048_S128x2048_0_0_1_1_n_n none (extf .f32 a bitsLt_bf16_f32) (extf .f32 d bitsLt_bf16_f32)) transposes_S128x2048_S2048x128_1_0) transposes_S2048x128_S128x2048_1_0)

/-- The plain gradient, entry by entry. -/
theorem want {a : FVec Ideal S4224x128 .bf16} {d : FVec Ideal S4224x2048 .bf16} {A D : ℕ → ℕ → EReal}
    (ha : E2 (a := 4224) (b := 128) a A) (hd : E2 (a := 4224) (b := 2048) d D) :
    plain a d = (fun y : S1x128x2048.Idx => ∑ r : Fin 4224, A r.val (y 1).val * D r.val (y 2).val) := by
  funext y
  unfold plain
  pointwise
  refine Finset.sum_congr rfl fun k _ => ?_
  rw [ha _, hd _]
  rfl

/-- The kernel's gradient of the forget gate's weights is the plain one. -/
theorem algebraic : Cert.algebraic_Kernel24Ideal_Reference24Ideal (hKernel24Ideal := Cert.Kernel24Ideal.Gen.facts) (hReference24Ideal := Cert.Reference24Ideal.Gen.facts) := by
  intro m g m' g' hp hm
  refine ⟨fun c => (Cert.Kernel24Ideal.Gen.dats m 0 c).arrAt 2 Cert.Kernel24Ideal.cfg0.N, Cert.Kernel24Ideal.Value.run_blocks m g,
    (θ_run Cert.Reference24Ideal.defs _ _).mono (fun r h c => ?_) (Cert.Reference24Ideal.Value.run m' g')⟩
  obtain ⟨r0, rest⟩ := h c
  refine ⟨r0.trans ?_, rest⟩
  obtain ⟨h0, h1⟩ := hm c
  rw [h0, h1]
  refine Eq.trans ?_ (GateWeight.arr m c).symm
  exact want (e2_ent _) (e2_ent _)

end Cert.Proof.GateWeightPlain

end
-- ==== Proof.GateInput.lean ====
module

public import proofs.«01_k».proof.Proof.Sheet
public import proofs.«01_k».proof.Proof.Gen.Kernel25Ideal.Value
public import proofs.«01_k».proof.Proof.Gen.Reference25Ideal.Run
public import proofs.«01_k».proof.Defs

@[expose] public section

set_option maxRecDepth 16384

noncomputable section

namespace Cert.Proof.GateInput

open Cert.Kernel25Ideal Cert.Kernel25Ideal.Gen
open Idealize.ShloMosaic Idealize.ShloMosaic.TcCoe Idealize.ShloMosaic.Tactic
open Idealize.SL.Sem
open Cert.Proof.Sheet

/-! ## The gradient of the input of the forget gate's product: the kernel's array -/

variable (m : (ℓ : Loc nD τ sig) → Buf (Elt Ideal) ℓ) (c : Dev nD)

theorem at0 : ∀ t : Fin cfg0.N, (cfg0.win 0).index t 0 = 0 ∧ (cfg0.win 0).index t 1 = t.val / 2 ∧ (cfg0.win 0).index t 2 = 0 := by decide +kernel
theorem at1 : ∀ t : Fin cfg0.N, (cfg0.win 1).index t 0 = 0 ∧ (cfg0.win 1).index t 1 = t.val % 2 ∧ (cfg0.win 1).index t 2 = 0 := by decide +kernel
theorem at2 : ∀ t : Fin cfg0.N, (cfg0.win 2).index t 0 = t.val / 2 ∧ (cfg0.win 2).index t 1 = t.val % 2 := by decide +kernel

/-- The arguments' entries. -/
abbrev D := ent2 (a := 4224) (b := 128) (m ((c.tc : Thread nD τ).loc main_arg0))
abbrev B := ent3 (a := 1) (b := 2048) (d := 128) (m ((c.tc : Thread nD τ).loc main_arg1))

/-- The array the kernel fetches its first operand from: the first argument, with a leading axis of size one. -/
theorem from0 : V m c main_v0 = shapeCast _ (m ((c.tc : Thread nD τ).loc main_arg0)) shapeCasts_S4224x128_S1x4224x128 := by
  unfold V hostOps0
  after_results_simp <;> rfl

theorem from0_apply : E3 (a := 1) (b := 4224) (d := 128) (V m c main_v0) (fun _ r n => D m c r n) := by
  rw [from0 m c]
  exact lead (e2_ent _) _

theorem blk_d (t : Fin cfg0.N) : E3 (a := 1) (b := 1056) (d := 128) (iblk m c 0 t) (fun _ r k => D m c (1056 * (t.val / 2) + r) k) := by
  intro y
  unfold iblk
  refine (from0_apply m c (((cfg0.win 0).blk t).view.emb y)).trans ?_
  have := at0 t
  blk_simp
  rw [this.2.1, this.2.2]
  congr 1 <;> omega

theorem blk_b (t : Fin cfg0.N) : E3 (a := 1) (b := 1024) (d := 128) (iblk m c 1 t) (fun _ n k => B m c 0 (1024 * (t.val % 2) + n) k) := by
  intro y
  unfold iblk
  rw [show V m c (Pipeline.arrRef spec0 1) = m ((c.tc : Thread nD τ).loc main_arg1) from V_main_arg1 m c]
  refine (e3_ent (m ((c.tc : Thread nD τ).loc main_arg1)) (((cfg0.win 1).blk t).view.emb y)).trans ?_
  have := at1 t
  have h0 : (y 0).val < 1 := (y 0).isLt
  blk_simp
  rw [this.1, this.2.1, this.2.2]
  congr 1 <;> omega

/-- One block: the product of a row with a row of the weight. -/
theorem pay_apply {v0 : Vec Ideal S1x1056x128 .bf16} {v2 : Vec Ideal S1x1024x128 .bf16} {f g : ℕ → ℕ → ℕ → EReal}
    (h0 : E3 (a := 1) (b := 1056) (d := 128) v0 f) (h2 : E3 (a := 1) (b := 1024) (d := 128) v2 g) (y : S1056x1024.Idx) :
    k0_pay1 v0 v2 y = ∑ k : Fin 128, f 0 (y 0).val k.val * g 0 (y 1).val k.val := by
  unfold k0_pay1
  pointwise
  exact Finset.sum_congr rfl fun k _ => by rw [h0 _, h2 _]; rfl

/-- What the kernel leaves in its result, entry by entry. -/
theorem arr : (dats m 0 c).arrAt 2 cfg0.N = (fun y : S4224x2048.Idx => ∑ k : Fin 128, D m c (y 0).val k.val * B m c 0 (y 1).val k.val) := by
  refine (dats m 0 c).arrAt_eq_of_covers 2 _ (by decide +kernel) fun t hf y => ?_
  have a := at2 t
  blk_simp
  rw [after0_2]
  unfold out0_2
  rw [View.canon_cons_unit_lit _ _ _ (by decide), View.ld_unit_lit _ _ (by decide), View.ld_unit_lit _ _ (by decide)]
  refine (pay_apply (blk_d m c t) (blk_b m c t) y).trans ?_
  rw [a.1, a.2, mul_comm (t.val / 2), mul_comm (t.val % 2)]

end Cert.Proof.GateInput

/-! ## The plain product -/

namespace Cert.Proof.GateInputPlain

open Cert.Reference25Ideal Cert.Reference25Ideal.Gen
open Idealize.ShloMosaic Idealize.ShloMosaic.TcCoe Idealize.ShloMosaic.Tactic
open Cert.Proof.Sheet

/-- The plain product as one expression of its arguments. -/
def plain (d : FVec Ideal S4224x128 .bf16) (b : FVec Ideal S1x2048x128 .bf16) : FVec Ideal S4224x2048 .f32 :=
  Host.dotGeneral dot_S4224x128_S2048x128_S4224x2048_1_1_0_0_n_n none (extf .f32 d bitsLt_bf16_f32) (extf .f32 (shapeCast _ b shapeCasts_S1x2048x128_S2048x128) bitsLt_bf16_f32)

/-- The plain product, entry by entry. -/
theorem want {d : FVec Ideal S4224x128 .bf16} {b : FVec Ideal S1x2048x128 .bf16} {D : ℕ → ℕ → EReal} {B : ℕ → ℕ → ℕ → EReal}
    (hd : E2 (a := 4224) (b := 128) d D) (hb : E3 (a := 1) (b := 2048) (d := 128) b B) :
    plain d b = (fun y : S4224x2048.Idx => ∑ k : Fin 128, D (y 0).val k.val * B 0 (y 1).val k.val) := by
  funext y
  unfold plain
  pointwise
  refine Finset.sum_congr rfl fun k _ => ?_
  rw [hd _, hb _]
  rfl

/-- The kernel's gradient of the input of the forget gate's product is the plain one. -/
theorem algebraic : Cert.algebraic_Kernel25Ideal_Reference25Ideal (hKernel25Ideal := Cert.Kernel25Ideal.Gen.facts) (hReference25Ideal := Cert.Reference25Ideal.Gen.facts) := by
  intro m g m' g' hp hm
  refine ⟨fun c => (Cert.Kernel25Ideal.Gen.dats m 0 c).arrAt 2 Cert.Kernel25Ideal.cfg0.N, Cert.Kernel25Ideal.Value.run_blocks m g,
    (θ_run Cert.Reference25Ideal.defs _ _).mono (fun r h c => ?_) (Cert.Reference25Ideal.Value.run m' g')⟩
  obtain ⟨r0, rest⟩ := h c
  refine ⟨r0.trans ?_, rest⟩
  obtain ⟨h0, h1⟩ := hm c
  rw [h0, h1]
  refine Eq.trans ?_ (GateInput.arr m c).symm
  exact want (e2_ent _) (e3_ent _)

end Cert.Proof.GateInputPlain

end
-- ==== Proof.lean ====
/- The proof of the certificate's claim, assembled from the modules under Proof/. -/
module

public import proofs.«01_k».proof.Defs
public import proofs.«01_k».proof.Proof.Frame
public import proofs.«01_k».proof.Proof.BitsFrame
public import proofs.«01_k».proof.Proof.Gen.Pre_finite
public import proofs.«01_k».proof.Proof.Rest
public import proofs.«01_k».proof.Proof.Meet
public import proofs.«01_k».proof.Proof.Gen.ReferenceIdeal.Run
public import proofs.«01_k».proof.Proof.Gen.Kernel2.Frame
public import proofs.«01_k».proof.Proof.Wgu
public import proofs.«01_k».proof.Proof.Gen.Kernel3.Frame
public import proofs.«01_k».proof.Proof.Wdown
public import proofs.«01_k».proof.Proof.Gen.Kernel4.Frame
public import proofs.«01_k».proof.Proof.Dgu
public import proofs.«01_k».proof.Proof.Gen.Kernel5.Frame
public import proofs.«01_k».proof.Proof.Gen.Pre_finite5
public import proofs.«01_k».proof.Proof.Swiglu
public import proofs.«01_k».proof.Proof.Gen.Kernel6.Frame
public import proofs.«01_k».proof.Proof.Gen.Pre_finite6
public import proofs.«01_k».proof.Proof.Dswiglu
public import proofs.«01_k».proof.Proof.Gen.Kernel7.Frame
public import proofs.«01_k».proof.Proof.Down
public import proofs.«01_k».proof.Proof.Gen.Kernel8.Frame
public import proofs.«01_k».proof.Proof.Conv
public import proofs.«01_k».proof.Proof.Gen.Kernel9.Frame
public import proofs.«01_k».proof.Proof.Win
public import proofs.«01_k».proof.Proof.Gen.Kernel10.Frame
public import proofs.«01_k».proof.Proof.Din
public import proofs.«01_k».proof.Proof.Gen.Kernel11.Frame
public import proofs.«01_k».proof.Proof.Wout
public import proofs.«01_k».proof.Proof.Gen.Kernel12.Frame
public import proofs.«01_k».proof.Proof.Out
public import proofs.«01_k».proof.Proof.Gen.Kernel13.Frame
public import proofs.«01_k».proof.Proof.Query
public import proofs.«01_k».proof.Proof.Gen.Kernel14.Frame
public import proofs.«01_k».proof.Proof.Dsq
public import proofs.«01_k».proof.Proof.Gen.Kernel15.Frame
public import proofs.«01_k».proof.Proof.Keyval
public import proofs.«01_k».proof.Proof.Gen.Kernel16.Frame
public import proofs.«01_k».proof.Proof.Wkv
public import proofs.«01_k».proof.Proof.Gen.Kernel17.Frame
public import proofs.«01_k».proof.Proof.Dkv
public import proofs.«01_k».proof.Proof.Gen.Kernel18.Frame
public import proofs.«01_k».proof.Proof.Dnorm
public import proofs.«01_k».proof.Proof.Gen.Kernel19.Frame
public import proofs.«01_k».proof.Proof.Norm
public import proofs.«01_k».proof.Proof.Gen.Kernel20.Frame
public import proofs.«01_k».proof.Proof.Adam
public import proofs.«01_k».proof.Proof.Gen.Kernel21.Frame
public import proofs.«01_k».proof.Proof.AdamShard
public import proofs.«01_k».proof.Proof.Gen.Kernel22.Frame
public import proofs.«01_k».proof.Proof.Loss
public import proofs.«01_k».proof.Proof.Gen.Kernel23.Frame
public import proofs.«01_k».proof.Proof.GateLogits
public import proofs.«01_k».proof.Proof.Gen.Kernel24.Frame
public import proofs.«01_k».proof.Proof.GateWeight
public import proofs.«01_k».proof.Proof.Gen.Kernel25.Frame
public import proofs.«01_k».proof.Proof.GateInput

@[expose] public section

noncomputable section

namespace Cert.Proof

open Idealize.ShloMosaic Idealize.SL.Sem

/-! The reference programs run and leave their arguments as they were. -/

theorem frame_r2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_r3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_r4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_r5 : Cert.quiescent_Reference5Ideal (hReference5Ideal := Cert.Reference5Ideal.Gen.facts) := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem frame_r6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_r7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_r8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_r9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_r10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_r11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_r12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_r13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_r14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

theorem frame_r15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_r16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

theorem frame_r17 : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_r18 : Cert.quiescent_Reference18Ideal (hReference18Ideal := Cert.Reference18Ideal.Gen.facts) := fun m ρ _ =>
  (θ_run Cert.Reference18Ideal.defs _ _).mono (fun r h => ⟨fun c => (h c).2.2.2, sem_eq_zero_of_no_sems (by decide) r.2⟩)
    (Cert.Reference18Ideal.Value.run (F := Ideal) m ρ)

theorem frame_r19 : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

theorem frame_r20 : Cert.quiescent_Reference20Ideal (hReference20Ideal := Cert.Reference20Ideal.Gen.facts) := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

theorem frame_r21 : Cert.quiescent_Reference21Ideal (hReference21Ideal := Cert.Reference21Ideal.Gen.facts) := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

theorem frame_r22 : Cert.quiescent_Reference22Ideal (hReference22Ideal := Cert.Reference22Ideal.Gen.facts) := fun m ρ _ =>
  (θ_run Cert.Reference22Ideal.defs _ _).mono (fun r h => ⟨fun c => (h c).2.2.2, sem_eq_zero_of_no_sems (by decide) r.2⟩)
    (Cert.Reference22Ideal.Value.run (F := Ideal) m ρ)

theorem frame_r23 : Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)

theorem frame_r24 : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)

theorem frame_r25 : Cert.quiescent_Reference25Ideal (hReference25Ideal := Cert.Reference25Ideal.Gen.facts) := fun m ρ _ =>
  (θ_run Cert.Reference25Ideal.defs _ _).mono (fun r h => ⟨fun c => (h c).2, sem_eq_zero_of_no_sems (by decide) r.2⟩)
    (Cert.Reference25Ideal.Value.run (F := Ideal) m ρ)

/-- The frames, with and without finite arguments, the ledgers of the replaced constants, and for every call the equality of its results. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Pre_finite.Gen.facts, Cert.Pre_finite5.Gen.facts, Cert.Pre_finite6.Gen.facts,
    fun m ρ _ => Attn.frame m ρ,
    fun m ρ _ => AttnIdeal.frame m ρ,
    fun m ρ _ => AttnIdeal.frame m ρ,
    Attn.frame_ri,
    fun m ρ _ => Attn.frame_ri m ρ trivial,
    fun m ρ _ => Cert.Kernel2.Gen.frame m ρ,
    fun m ρ _ => Cert.Kernel2Ideal.Gen.frame m ρ,
    frame_r2,
    fun m ρ _ => Cert.Kernel3.Gen.frame m ρ,
    fun m ρ _ => Cert.Kernel3Ideal.Gen.frame m ρ,
    frame_r3,
    fun m ρ _ => Cert.Kernel4.Gen.frame m ρ,
    fun m ρ _ => Cert.Kernel4Ideal.Gen.frame m ρ,
    frame_r4,
    fun m ρ _ => Cert.Kernel5.Gen.frame m ρ,
    fun m ρ _ => Cert.Kernel5Ideal.Gen.frame m ρ,
    fun m ρ _ => Cert.Kernel5Ideal.Gen.frame m ρ,
    frame_r5,
    fun m ρ _ => frame_r5 m ρ trivial,
    fun m ρ _ => Cert.Kernel6.Gen.frame m ρ,
    fun m ρ _ => Cert.Kernel6Ideal.Gen.frame m ρ,
    fun m ρ _ => Cert.Kernel6Ideal.Gen.frame m ρ,
    frame_r6,
    fun m ρ _ => frame_r6 m ρ trivial,
    fun m ρ _ => Cert.Kernel7.Gen.frame m ρ,
    fun m ρ _ => Cert.Kernel7Ideal.Gen.frame m ρ,
    frame_r7,
    fun m ρ _ => Cert.Kernel8.Gen.frame m ρ,
    fun m ρ _ => Cert.Kernel8Ideal.Gen.frame m ρ,
    frame_r8,
    fun m ρ _ => Cert.Kernel9.Gen.frame m ρ,
    fun m ρ _ => Cert.Kernel9Ideal.Gen.frame m ρ,
    frame_r9,
    fun m ρ _ => Cert.Kernel10.Gen.frame m ρ,
    fun m ρ _ => Cert.Kernel10Ideal.Gen.frame m ρ,
    frame_r10,
    fun m ρ _ => Cert.Kernel11.Gen.frame m ρ,
    fun m ρ _ => Cert.Kernel11Ideal.Gen.frame m ρ,
    frame_r11,
    fun m ρ _ => Cert.Kernel12.Gen.frame m ρ,
    fun m ρ _ => Cert.Kernel12Ideal.Gen.frame m ρ,
    frame_r12,
    fun m ρ _ => Cert.Kernel13.Gen.frame m ρ,
    fun m ρ _ => Cert.Kernel13Ideal.Gen.frame m ρ,
    frame_r13,
    fun m ρ _ => Cert.Kernel14.Gen.frame m ρ,
    fun m ρ _ => Cert.Kernel14Ideal.Gen.frame m ρ,
    frame_r14,
    fun m ρ _ => Cert.Kernel15.Gen.frame m ρ,
    fun m ρ _ => Cert.Kernel15Ideal.Gen.frame m ρ,
    frame_r15,
    fun m ρ _ => Cert.Kernel16.Gen.frame m ρ,
    fun m ρ _ => Cert.Kernel16Ideal.Gen.frame m ρ,
    frame_r16,
    fun m ρ _ => Cert.Kernel17.Gen.frame m ρ,
    fun m ρ _ => Cert.Kernel17Ideal.Gen.frame m ρ,
    frame_r17,
    fun m ρ _ => Cert.Kernel18.Gen.frame m ρ,
    fun m ρ _ => Cert.Kernel18Ideal.Gen.frame m ρ,
    frame_r18,
    fun m ρ _ => Cert.Kernel19.Gen.frame m ρ,
    fun m ρ _ => Cert.Kernel19Ideal.Gen.frame m ρ,
    frame_r19,
    fun m ρ _ => Cert.Kernel20.Gen.frame m ρ,
    fun m ρ _ => Cert.Kernel20Ideal.Gen.frame m ρ,
    frame_r20,
    fun m ρ _ => Cert.Kernel21.Gen.frame m ρ,
    fun m ρ _ => Cert.Kernel21Ideal.Gen.frame m ρ,
    frame_r21,
    fun m ρ _ => Cert.Kernel22.Gen.frame m ρ,
    fun m ρ _ => Cert.Kernel22Ideal.Gen.frame m ρ,
    frame_r22,
    fun m ρ _ => Cert.Kernel23.Gen.frame m ρ,
    fun m ρ _ => Cert.Kernel23Ideal.Gen.frame m ρ,
    frame_r23,
    fun m ρ _ => Cert.Kernel24.Gen.frame m ρ,
    fun m ρ _ => Cert.Kernel24Ideal.Gen.frame m ρ,
    frame_r24,
    fun m ρ _ => Cert.Kernel25.Gen.frame m ρ,
    fun m ρ _ => Cert.Kernel25Ideal.Gen.frame m ρ,
    frame_r25,
    Attn.preserves,
    Meet.algebraic,
    trivial,
    WguPlain.algebraic,
    trivial,
    WdownPlain.algebraic,
    trivial,
    DguPlain.algebraic,
    trivial,
    SwigluPlain.algebraic,
    trivial,
    DswigluPlain.algebraic,
    trivial,
    DownPlain.algebraic,
    trivial,
    ConvPlain.algebraic,
    trivial,
    WinPlain.algebraic,
    trivial,
    DinPlain.algebraic,
    trivial,
    WoutPlain.algebraic,
    trivial,
    OutPlain.algebraic,
    trivial,
    QueryPlain.algebraic,
    trivial,
    DsqPlain.algebraic,
    trivial,
    KeyvalPlain.algebraic,
    trivial,
    WkvPlain.algebraic,
    trivial,
    DkvPlain.algebraic,
    trivial,
    DnormPlain.algebraic,
    trivial,
    NormPlain.algebraic,
    trivial,
    AdamPlain.algebraic,
    trivial,
    AdamShardPlain.algebraic,
    trivial,
    LossPlain.algebraic,
    trivial,
    GateLogitsPlain.algebraic,
    trivial,
    GateWeightPlain.algebraic,
    trivial,
    GateInputPlain.algebraic⟩

end Cert.Proof

end
